-- ==== Defs.lean ====
def Pre_Kernel [hPre_slots_in_range : Cert.Pre_slots_in_range.Facts] (m : (ℓ : Loc Cert.Kernel.nD Cert.Kernel.τ Cert.Kernel.sig) → Buf (Elt Bits) ℓ) : Prop :=
  ∀ c : Dev Cert.Kernel.nD,
    (Cert.Pre_slots_in_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_slots_in_range : Cert.Pre_slots_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_slots_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_slots_in_range : Cert.Pre_slots_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_slots_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Reference [hPre_slots_in_range : Cert.Pre_slots_in_range.Facts] (m : (ℓ : Loc Cert.Reference.nD Cert.Reference.τ Cert.Reference.sig) → Buf (Elt Bits) ℓ) : Prop :=
  ∀ c : Dev Cert.Reference.nD,
    (Cert.Pre_slots_in_range.fn (F := Bits) (m ((c.tc : Thread Cert.Reference.nD Cert.Reference.τ).loc Cert.Reference.main_arg0)) (m ((c.tc : Thread Cert.Reference.nD Cert.Reference.τ).loc Cert.Reference.main_arg1))) = (fun _ => 1#1)

def Pre_Kernel2 [hPre_blocks_in_range : Cert.Pre_blocks_in_range.Facts] (m : (ℓ : Loc Cert.Kernel2.nD Cert.Kernel2.τ Cert.Kernel2.sig) → Buf (Elt Bits) ℓ) : Prop :=
  ∀ c : Dev Cert.Kernel2.nD,
    (Cert.Pre_blocks_in_range.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5))) = (fun _ => 1#1)

def Pre_Kernel2Ideal [hPre_blocks_in_range : Cert.Pre_blocks_in_range.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_blocks_in_range.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))) = (fun _ => 1#1)

def Pre_Reference2Ideal [hPre_blocks_in_range : Cert.Pre_blocks_in_range.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_blocks_in_range.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite_rows [hPre_finite_rows : Cert.Pre_finite_rows.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite_rows.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1))) = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_finite_rows [hPre_finite_rows : Cert.Pre_finite_rows.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite_rows.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1))) = (fun _ => 1#1)

def quiescent_Kernel [hKernel : Cert.Kernel.Facts] [hPre_slots_in_range : Cert.Pre_slots_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_slots_in_range : Cert.Pre_slots_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] [hPre_slots_in_range : Cert.Pre_slots_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Reference [hReference : Cert.Reference.Facts] [hPre_slots_in_range : Cert.Pre_slots_in_range.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def quiescent_Kernel2 [hKernel2 : Cert.Kernel2.Facts] [hPre_blocks_in_range : Cert.Pre_blocks_in_range.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] [hPre_blocks_in_range : Cert.Pre_blocks_in_range.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] [hPre_blocks_in_range : Cert.Pre_blocks_in_range.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Kernel7Ideal_pre_finite_rows [hKernel7Ideal : Cert.Kernel7Ideal.Facts] [hPre_finite_rows : Cert.Pre_finite_rows.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite_rows m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Reference7Ideal_pre_finite_rows [hReference7Ideal : Cert.Reference7Ideal.Facts] [hPre_finite_rows : Cert.Pre_finite_rows.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_finite_rows m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_slots_in_range : Cert.Pre_slots_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def bitexact_Kernel_Reference [hKernel : Cert.Kernel.Facts] [hReference : Cert.Reference.Facts] [hPre_slots_in_range : Cert.Pre_slots_in_range.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)) →
    ∃ (v0 : (c : Dev Cert.Kernel.nD) → Buf (Elt Bits) ((c.tc : Thread Cert.Kernel.nD Cert.Kernel.τ).loc Cert.Kernel.main_v3)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v3) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v6) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1))

def preserves_Kernel2_Kernel2Ideal : Prop :=
  IdealRules.bf16_pair.Statement Cert.Kernel2Ideal.S1024x512 Cert.Kernel2Ideal.S512x512
  ∧ IdealRules.bf16_pair.SelectZeroStatement Cert.Kernel2Ideal.S512x512
  ∧ IdealRules.bf16_pack.Statement Cert.Kernel2Ideal.S512x512

def algebraic_Kernel2Ideal_Reference2Ideal [hKernel2Ideal : Cert.Kernel2Ideal.Facts] [hReference2Ideal : Cert.Reference2Ideal.Facts] [hPre_blocks_in_range : Cert.Pre_blocks_in_range.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v49) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v31) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v30) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v9_0)) (v1 : (c : Dev Cert.Kernel5Ideal.nD) → Buf (Elt Ideal) ((c.tc : Thread Cert.Kernel5Ideal.nD Cert.Kernel5Ideal.τ).loc Cert.Kernel5Ideal.main_v9_1)) (v2 : (c : Dev Cert.Kernel5Ideal.nD) → Buf (Elt Ideal) ((c.tc : Thread Cert.Kernel5Ideal.nD Cert.Kernel5Ideal.τ).loc Cert.Kernel5Ideal.main_v9_2)) (v3 : (c : Dev Cert.Kernel5Ideal.nD) → Buf (Elt Ideal) ((c.tc : Thread Cert.Kernel5Ideal.nD Cert.Kernel5Ideal.τ).loc Cert.Kernel5Ideal.main_v9_3)) (v4 : (c : Dev Cert.Kernel5Ideal.nD) → Buf (Elt Ideal) ((c.tc : Thread Cert.Kernel5Ideal.nD Cert.Kernel5Ideal.τ).loc Cert.Kernel5Ideal.main_v9_4)) (v5 : (c : Dev Cert.Kernel5Ideal.nD) → Buf (Elt Ideal) ((c.tc : Thread Cert.Kernel5Ideal.nD Cert.Kernel5Ideal.τ).loc Cert.Kernel5Ideal.main_v9_5)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v9_0) = v0 c
          ∧ r.2.mem ((c.tc : Thread Cert.Kernel5Ideal.nD Cert.Kernel5Ideal.τ).loc Cert.Kernel5Ideal.main_v9_1) = v1 c
          ∧ r.2.mem ((c.tc : Thread Cert.Kernel5Ideal.nD Cert.Kernel5Ideal.τ).loc Cert.Kernel5Ideal.main_v9_2) = v2 c
          ∧ r.2.mem ((c.tc : Thread Cert.Kernel5Ideal.nD Cert.Kernel5Ideal.τ).loc Cert.Kernel5Ideal.main_v9_3) = v3 c
          ∧ r.2.mem ((c.tc : Thread Cert.Kernel5Ideal.nD Cert.Kernel5Ideal.τ).loc Cert.Kernel5Ideal.main_v9_4) = v4 c
          ∧ r.2.mem ((c.tc : Thread Cert.Kernel5Ideal.nD Cert.Kernel5Ideal.τ).loc Cert.Kernel5Ideal.main_v9_5) = v5 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v1) = v0 c
          ∧ r.2.mem ((c.tc : Thread Cert.Reference5Ideal.nD Cert.Reference5Ideal.τ).loc Cert.Reference5Ideal.main_v2) = v1 c
          ∧ r.2.mem ((c.tc : Thread Cert.Reference5Ideal.nD Cert.Reference5Ideal.τ).loc Cert.Reference5Ideal.main_v8) = v2 c
          ∧ r.2.mem ((c.tc : Thread Cert.Reference5Ideal.nD Cert.Reference5Ideal.τ).loc Cert.Reference5Ideal.main_v11) = v3 c
          ∧ r.2.mem ((c.tc : Thread Cert.Reference5Ideal.nD Cert.Reference5Ideal.τ).loc Cert.Reference5Ideal.main_v12) = v4 c
          ∧ r.2.mem ((c.tc : Thread Cert.Reference5Ideal.nD Cert.Reference5Ideal.τ).loc Cert.Reference5Ideal.main_v15) = v5 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v47) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5))

def preserves_Kernel7_Kernel7Ideal : Prop :=
  IdealRules.bf16_pair.Statement Cert.Kernel7Ideal.S2048x512 Cert.Kernel7Ideal.S1024x512
  ∧ IdealRules.bf16_pack.Statement Cert.Kernel7Ideal.S1024x512

def algebraic_Kernel7Ideal_Reference7Ideal_pre_finite_rows [hKernel7Ideal : Cert.Kernel7Ideal.Facts] [hReference7Ideal : Cert.Reference7Ideal.Facts] [hPre_finite_rows : Cert.Pre_finite_rows.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_finite_rows m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v2_0)) (v1 : (c : Dev Cert.Kernel7Ideal.nD) → Buf (Elt Ideal) ((c.tc : Thread Cert.Kernel7Ideal.nD Cert.Kernel7Ideal.τ).loc Cert.Kernel7Ideal.main_v2_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2_0) = v0 c
          ∧ r.2.mem ((c.tc : Thread Cert.Kernel7Ideal.nD Cert.Kernel7Ideal.τ).loc Cert.Kernel7Ideal.main_v2_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v14) = v0 c
          ∧ r.2.mem ((c.tc : Thread Cert.Reference7Ideal.nD Cert.Reference7Ideal.τ).loc Cert.Reference7Ideal.main_v21) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def Claim : Prop :=
  ∃ (hKernel : Cert.Kernel.Facts) (hKernelIdeal : Cert.KernelIdeal.Facts) (hReferenceIdeal : Cert.ReferenceIdeal.Facts) (hReference : Cert.Reference.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_slots_in_range : Cert.Pre_slots_in_range.Facts) (hPre_blocks_in_range : Cert.Pre_blocks_in_range.Facts) (hPre_finite_rows : Cert.Pre_finite_rows.Facts),
    quiescent_Kernel (hKernel := hKernel) (hPre_slots_in_range := hPre_slots_in_range)
    ∧ quiescent_KernelIdeal (hKernelIdeal := hKernelIdeal) (hPre_slots_in_range := hPre_slots_in_range)
    ∧ quiescent_ReferenceIdeal (hReferenceIdeal := hReferenceIdeal) (hPre_slots_in_range := hPre_slots_in_range)
    ∧ quiescent_Reference (hReference := hReference) (hPre_slots_in_range := hPre_slots_in_range)
    ∧ quiescent_Kernel2 (hKernel2 := hKernel2) (hPre_blocks_in_range := hPre_blocks_in_range)
    ∧ quiescent_Kernel2Ideal (hKernel2Ideal := hKernel2Ideal) (hPre_blocks_in_range := hPre_blocks_in_range)
    ∧ quiescent_Reference2Ideal (hReference2Ideal := hReference2Ideal) (hPre_blocks_in_range := hPre_blocks_in_range)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Kernel7Ideal_pre_finite_rows (hKernel7Ideal := hKernel7Ideal) (hPre_finite_rows := hPre_finite_rows)
    ∧ quiescent_Reference7Ideal (hReference7Ideal := hReference7Ideal)
    ∧ quiescent_Reference7Ideal_pre_finite_rows (hReference7Ideal := hReference7Ideal) (hPre_finite_rows := hPre_finite_rows)
    ∧ preserves_Kernel_KernelIdeal
    ∧ algebraic_KernelIdeal_ReferenceIdeal (hKernelIdeal := hKernelIdeal) (hReferenceIdeal := hReferenceIdeal) (hPre_slots_in_range := hPre_slots_in_range)
    ∧ bitexact_Kernel_Reference (hKernel := hKernel) (hReference := hReference) (hPre_slots_in_range := hPre_slots_in_range)
    ∧ preserves_Kernel2_Kernel2Ideal
    ∧ algebraic_Kernel2Ideal_Reference2Ideal (hKernel2Ideal := hKernel2Ideal) (hReference2Ideal := hReference2Ideal) (hPre_blocks_in_range := hPre_blocks_in_range)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal_pre_finite_rows (hKernel7Ideal := hKernel7Ideal) (hReference7Ideal := hReference7Ideal) (hPre_finite_rows := hPre_finite_rows)
-- ==== Pre_blocks_in_range.lean ====
abbrev S270336x512 : Shape := ⟨2, ![270336, 512]⟩
abbrev S264 : Shape := ⟨1, ![264]⟩
abbrev S8x1024x3584 : Shape := ⟨3, ![8, 1024, 3584]⟩
abbrev S8x3584x1024 : Shape := ⟨3, ![8, 3584, 1024]⟩
abbrev S_ : Shape := ⟨0, ![]⟩

class Facts : Prop where
  bcast_S_S264 : S_.BroadcastsInDim S264 (![] : Fin 0 → Fin S264.rank)

variable [Facts]

def fn {F : FTy → Type} [FloatOps F] (main_arg0 : FVec F S270336x512 .bf16) (main_arg1 : IVec S264 32) (main_arg2 : IVec S264 32) (main_arg3 : FVec F S8x1024x3584 .bf16) (main_arg4 : FVec F S8x1024x3584 .bf16) (main_arg5 : FVec F S8x3584x1024 .bf16) : IVec S264 1 :=
  let main_c : IVec S_ 32 := constantI S_ 32 0#32
  let main_v0 : IVec S264 32 := broadcastInDim S264 ![] bcast_S_S264 main_c
  let main_v1 : IVec S264 1 := cmpi .sge main_arg1 main_v0
  let main_c_0 : IVec S_ 32 := constantI S_ 32 8#32
  let main_v2 : IVec S264 32 := broadcastInDim S264 ![] bcast_S_S264 main_c_0
  let main_v3 : IVec S264 1 := cmpi .slt main_arg1 main_v2
  let main_v4 : IVec S264 1 := andi main_v1 main_v3
  main_v4
-- ==== Pre_finite_rows.lean ====
abbrev S65536x1024 : Shape := ⟨2, ![65536, 1024]⟩
abbrev S1024x8 : Shape := ⟨2, ![1024, 8]⟩
abbrev S_ : Shape := ⟨0, ![]⟩

class Facts : Prop where
  bcast_S_S65536x1024 : S_.BroadcastsInDim S65536x1024 (![] : Fin 0 → Fin S65536x1024.rank)
  bcast_S_S1024x8 : S_.BroadcastsInDim S1024x8 (![] : Fin 0 → Fin S1024x8.rank)
  reducesTo_S1024x8_S_d0_1 : S1024x8.ReducesTo [0, 1] S_
  h_S_ : 0 < S_.numel

variable [Facts]

def fn {F : FTy → Type} [FloatOps F] (main_arg0 : FVec F S65536x1024 .f32) (main_arg1 : FVec F S1024x8 .f32) : IVec S65536x1024 1 :=
  let main_v0 : FVec F S65536x1024 .f32 := Host.absf main_arg0
  let main_cst : FVec F S_ .f32 := constant S_ .f32 0x7F800000#32
  let main_v1 : FVec F S65536x1024 .f32 := broadcastInDim S65536x1024 ![] bcast_S_S65536x1024 main_cst
  let main_v2 : IVec S65536x1024 1 := cmpf .olt main_v0 main_v1
  let main_v3 : FVec F S1024x8 .f32 := Host.absf main_arg1
  let main_cst_0 : FVec F S_ .f32 := constant S_ .f32 0x7F800000#32
  let main_v4 : FVec F S1024x8 .f32 := broadcastInDim S1024x8 ![] bcast_S_S1024x8 main_cst_0
  let main_v5 : IVec S1024x8 1 := cmpf .olt main_v3 main_v4
  let main_c : IVec S_ 1 := constantI S_ 1 1#1
  let main_v6 : IVec S_ 1 := (fun x v => Host.reduce IntOp.andi x v reducesTo_S1024x8_S_d0_1 h_S_) main_v5 main_c
  let main_v7 : IVec S65536x1024 1 := broadcastInDim S65536x1024 ![] bcast_S_S65536x1024 main_v6
  let main_v8 : IVec S65536x1024 1 := andi main_v2 main_v7
  main_v8
-- ==== Pre_slots_in_range.lean ====
abbrev S135168x512 : Shape := ⟨2, ![135168, 512]⟩
abbrev S65536 : Shape := ⟨1, ![65536]⟩
abbrev S_ : Shape := ⟨0, ![]⟩

class Facts : Prop where
  bcast_S_S65536 : S_.BroadcastsInDim S65536 (![] : Fin 0 → Fin S65536.rank)

variable [Facts]

def fn {F : FTy → Type} [FloatOps F] (main_arg0 : IVec S135168x512 32) (main_arg1 : IVec S65536 32) : IVec S65536 1 :=
  let main_c : IVec S_ 32 := constantI S_ 32 0#32
  let main_v0 : IVec S65536 32 := broadcastInDim S65536 ![] bcast_S_S65536 main_c
  let main_v1 : IVec S65536 1 := cmpi .sge main_arg1 main_v0
  let main_c_0 : IVec S_ 32 := constantI S_ 32 135168#32
  let main_v2 : IVec S65536 32 := broadcastInDim S65536 ![] bcast_S_S65536 main_c_0
  let main_v3 : IVec S65536 1 := cmpi .slt main_arg1 main_v2
  let main_v4 : IVec S65536 1 := andi main_v1 main_v3
  main_v4
-- ==== Kernel.lean ====
abbrev S135168x512 : Shape := ⟨2, ![135168, 512]⟩
abbrev S65536 : Shape := ⟨1, ![65536]⟩
abbrev S1024x64 : Shape := ⟨2, ![1024, 64]⟩
abbrev S_ : Shape := ⟨0, ![]⟩
abbrev S1024x128 : Shape := ⟨2, ![1024, 128]⟩
abbrev S65536x512 : Shape := ⟨2, ![65536, 512]⟩
abbrev S2x1x128 : Shape := ⟨3, ![2, 1, 128]⟩
abbrev S2 : Shape := ⟨1, ![2]⟩
abbrev S2x64x512 : Shape := ⟨3, ![2, 64, 512]⟩
abbrev S1x1x128 : Shape := ⟨3, ![1, 1, 128]⟩
abbrev S1x128 : Shape := ⟨2, ![1, 128]⟩
abbrev S1 : Shape := ⟨1, ![1]⟩
abbrev S1x64x512 : Shape := ⟨3, ![1, 64, 512]⟩
abbrev S64x512 : Shape := ⟨2, ![64, 512]⟩
abbrev S64x128 : Shape := ⟨2, ![64, 128]⟩
abbrev S1x64 : Shape := ⟨2, ![1, 64]⟩
abbrev S64 : Shape := ⟨1, ![64]⟩
abbrev S135168x128 : Shape := ⟨2, ![135168, 128]⟩

abbrev nBuf : Table → Nat
  | .hbm => 7
  | .local .scVector .vmem => 2
  | _ => 0

abbrev bufTy : (tb : Table) → Fin (nBuf tb) → BufTy
  | .hbm, ⟨0, _⟩ => ⟨S135168x512, .i32⟩
  | .hbm, ⟨1, _⟩ => ⟨S65536, .i32⟩
  | .hbm, ⟨2, _⟩ => ⟨S1024x64, .i32⟩
  | .hbm, ⟨3, _⟩ => ⟨S_, .i32⟩
  | .hbm, ⟨4, _⟩ => ⟨S1024x64, .i32⟩
  | .hbm, ⟨5, _⟩ => ⟨S1024x128, .i32⟩
  | .hbm, ⟨6, _⟩ => ⟨S65536x512, .i32⟩
  | .local .scVector .vmem, ⟨0, _⟩ => ⟨S2x1x128, .i32⟩
  | .local .scVector .vmem, ⟨1, _⟩ => ⟨S2x64x512, .i32⟩
  | _, _ => ⟨S135168x512, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 8 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | _ => false

abbrev sig : RefSig :=
  ofTables nBuf rfl bufTy 4 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_arg0_scv : Ref sig .scVector := ⟨.hbm, 0, rfl⟩
abbrev main_v2_scv : Ref sig .scVector := ⟨.hbm, 5, rfl⟩
abbrev main_v3_scv : Ref sig .scVector := ⟨.hbm, 6, rfl⟩
abbrev cc0_scoped0 : Ref sig .scVector := ⟨.vmem, 0, rfl⟩
abbrev cc0_scoped2 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 : Fin 3 → Nat :=
  let c0_i32_27_r0 : BitVec 32 := 0#32
  let c2_i32_28_r0 : BitVec 32 := 2#32
  let v34_r0 : BitVec 32 := Scalar.remui c0_i32_27_r0 c2_i32_28_r0
  let c0_i32_31_r0 : BitVec 32 := 0#32
  let c0_i32_32_r0 : BitVec 32 := 0#32
  ![v34_r0.toNat, 0, 0]
def k0_off2 (i : grid0.Coords) : Fin 2 → Nat :=
  let c1_i32_30_r0 : BitVec 32 := 1#32
  let c0_i32_29_r0 : BitVec 32 := 0#32
  let c0_i32_2_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v7_r0 : BitVec 32 := Scalar.addi c0_i32_2_r0 v4
  let v35_r0 : BitVec 32 := Scalar.addi c0_i32_29_r0 v7_r0
  let v36_r0 : BitVec 32 := Scalar.muli c1_i32_30_r0 v35_r0
  let c0_i32_33_r0 : BitVec 32 := 0#32
  ![v36_r0.toNat, 0]
def k0_off3 : Fin 1 → Nat :=
  let c0_i32_27_r0 : BitVec 32 := 0#32
  let c2_i32_28_r0 : BitVec 32 := 2#32
  let v34_r0 : BitVec 32 := Scalar.remui c0_i32_27_r0 c2_i32_28_r0
  ![v34_r0.toNat]
@[reducible] def k0_t1_loop : Scf.Loop 32 :=
  let c0_i32_44_r0 : BitVec 32 := 0#32
  let c32_i32_r0 : BitVec 32 := 32#32
  let v46_r0 : BitVec 32 := Scalar.addi c0_i32_44_r0 c32_i32_r0
  let c1_i32_45_r0 : BitVec 32 := 1#32
  ⟨c0_i32_44_r0, v46_r0, c1_i32_45_r0⟩
def k0_off4 (arg6_r0 : BitVec 32) : Fin 3 → Nat :=
  let c2_i32_155_r0 : BitVec 32 := 2#32
  let v212_r0 : BitVec 32 := Scalar.remui arg6_r0 c2_i32_155_r0
  let c0_i32_158_r0 : BitVec 32 := 0#32
  let c0_i32_159_r0 : BitVec 32 := 0#32
  ![v212_r0.toNat, 0, 0]
def k0_cond1 (i : grid0.Coords) (k0_t1 : Fin k0_t1_loop.trips) (arg10_r0 : BitVec 32) (arg11_r0 : BitVec 32) : BitVec 1 :=
  let c0_i32_87_r0 : BitVec 32 := 0#32
  let v102_r0 : BitVec 32 := Scalar.addi arg10_r0 c0_i32_87_r0
  let c512_i32_112_r0 : BitVec 32 := 512#32
  let v134_r0 : BitVec 32 := Scalar.muli v102_r0 c512_i32_112_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v103_r0 : BitVec 32 := Scalar.addi arg11_r0 v4
  let v135_r0 : BitVec 32 := Scalar.addi v134_r0 v103_r0
  let true_97_r0 : BitVec 1 := 1#1
  let c1_i32_96_r0 : BitVec 32 := 1#32
  let v114_r0 : BitVec 32 := Scalar.addi arg11_r0 c1_i32_96_r0
  let v115_r0 : BitVec 32 := Scalar.select true_97_r0 v114_r0 arg11_r0
  let c16_i32_98_r0 : BitVec 32 := 16#32
  let v116_r0 : BitVec 1 := Scalar.cmpi .eq v115_r0 c16_i32_98_r0
  let c1_i32_100_r0 : BitVec 32 := 1#32
  let v118_r0 : BitVec 32 := Scalar.addi arg10_r0 c1_i32_100_r0
  let v119_r0 : BitVec 32 := Scalar.select v116_r0 v118_r0 arg10_r0
  let c2_i32_101_r0 : BitVec 32 := 2#32
  let v120_r0 : BitVec 1 := Scalar.cmpi .eq v119_r0 c2_i32_101_r0
  let c0_i32_102_r0 : BitVec 32 := 0#32
  let v121_r0 : BitVec 32 := Scalar.select v120_r0 c0_i32_102_r0 v119_r0
  let c0_i32_103_r0 : BitVec 32 := 0#32
  let v122_r0 : BitVec 32 := Scalar.addi v121_r0 c0_i32_103_r0
  let c512_i32_113_r0 : BitVec 32 := 512#32
  let v136_r0 : BitVec 32 := Scalar.muli v122_r0 c512_i32_113_r0
  let c0_i32_99_r0 : BitVec 32 := 0#32
  let v117_r0 : BitVec 32 := Scalar.select v116_r0 c0_i32_99_r0 v115_r0
  let v123_r0 : BitVec 32 := Scalar.addi v117_r0 v4
  let v137_r0 : BitVec 32 := Scalar.addi v136_r0 v123_r0
  let v138_r0 : BitVec 1 := Scalar.cmpi .ne v135_r0 v137_r0
  let c0_i32_44_r0 : BitVec 32 := 0#32
  let c1_i32_45_r0 : BitVec 32 := 1#32
  let arg5_r0 : BitVec 32 := Scf.iv c0_i32_44_r0 c1_i32_45_r0 k0_t1
  let c31_i32_114_r0 : BitVec 32 := 31#32
  let v139_r0 : BitVec 1 := Scalar.cmpi .sge arg5_r0 c31_i32_114_r0
  let true_115_r0 : BitVec 1 := 1#1
  let v140_r0 : BitVec 1 := Scalar.xori v139_r0 true_115_r0
  let v141_r0 : BitVec 1 := Scalar.andi v138_r0 v140_r0
  let true_116_r0 : BitVec 1 := 1#1
  let v142_r0 : BitVec 1 := Scalar.andi v141_r0 true_116_r0
  let v143_r0 : BitVec 32 := Scalar.extui v142_r0
  let c0_i32_117_r0 : BitVec 32 := 0#32
  let v144_r0 : BitVec 1 := Scalar.cmpi .ne v143_r0 c0_i32_117_r0
  v144_r0

def k0_off5 (i : grid0.Coords) (arg10_r0 : BitVec 32) (arg11_r0 : BitVec 32) : Fin 2 → Nat :=
  let c1_i32_157_r0 : BitVec 32 := 1#32
  let true_97_r0 : BitVec 1 := 1#1
  let c1_i32_96_r0 : BitVec 32 := 1#32
  let v114_r0 : BitVec 32 := Scalar.addi arg11_r0 c1_i32_96_r0
  let v115_r0 : BitVec 32 := Scalar.select true_97_r0 v114_r0 arg11_r0
  let c16_i32_98_r0 : BitVec 32 := 16#32
  let v116_r0 : BitVec 1 := Scalar.cmpi .eq v115_r0 c16_i32_98_r0
  let c1_i32_100_r0 : BitVec 32 := 1#32
  let v118_r0 : BitVec 32 := Scalar.addi arg10_r0 c1_i32_100_r0
  let v119_r0 : BitVec 32 := Scalar.select v116_r0 v118_r0 arg10_r0
  let c2_i32_101_r0 : BitVec 32 := 2#32
  let v120_r0 : BitVec 1 := Scalar.cmpi .eq v119_r0 c2_i32_101_r0
  let c0_i32_102_r0 : BitVec 32 := 0#32
  let v121_r0 : BitVec 32 := Scalar.select v120_r0 c0_i32_102_r0 v119_r0
  let c0_i32_103_r0 : BitVec 32 := 0#32
  let v122_r0 : BitVec 32 := Scalar.addi v121_r0 c0_i32_103_r0
  let c512_i32_156_r0 : BitVec 32 := 512#32
  let v213_r0 : BitVec 32 := Scalar.muli v122_r0 c512_i32_156_r0
  let c0_i32_99_r0 : BitVec 32 := 0#32
  let v117_r0 : BitVec 32 := Scalar.select v116_r0 c0_i32_99_r0 v115_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v123_r0 : BitVec 32 := Scalar.addi v117_r0 v4
  let v214_r0 : BitVec 32 := Scalar.addi v213_r0 v123_r0
  let v215_r0 : BitVec 32 := Scalar.muli c1_i32_157_r0 v214_r0
  let c0_i32_160_r0 : BitVec 32 := 0#32
  ![v215_r0.toNat, 0]
def k0_off6 (arg6_r0 : BitVec 32) : Fin 1 → Nat :=
  let c2_i32_155_r0 : BitVec 32 := 2#32
  let v212_r0 : BitVec 32 := Scalar.remui arg6_r0 c2_i32_155_r0
  ![v212_r0.toNat]
def k0_off7 (arg7_r0 : BitVec 32) : Fin 3 → Nat :=
  let c2_i32_157_r0 : BitVec 32 := 2#32
  let v215_r0 : BitVec 32 := Scalar.remui arg7_r0 c2_i32_157_r0
  let c0_i32_158_r0 : BitVec 32 := 0#32
  let c0_i32_159_r0 : BitVec 32 := 0#32
  ![v215_r0.toNat, 0, 0]
def k0_cond2 (i : grid0.Coords) (k0_t1 : Fin k0_t1_loop.trips) (arg10_r0 : BitVec 32) (arg11_r0 : BitVec 32) : BitVec 1 :=
  let c0_i32_87_r0 : BitVec 32 := 0#32
  let v102_r0 : BitVec 32 := Scalar.addi arg10_r0 c0_i32_87_r0
  let c512_i32_112_r0 : BitVec 32 := 512#32
  let v134_r0 : BitVec 32 := Scalar.muli v102_r0 c512_i32_112_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v103_r0 : BitVec 32 := Scalar.addi arg11_r0 v4
  let v135_r0 : BitVec 32 := Scalar.addi v134_r0 v103_r0
  let true_89_r0 : BitVec 1 := 1#1
  let c1_i32_88_r0 : BitVec 32 := 1#32
  let v104_r0 : BitVec 32 := Scalar.subi arg11_r0 c1_i32_88_r0
  let v105_r0 : BitVec 32 := Scalar.select true_89_r0 v104_r0 arg11_r0
  let c_m1_i32_90_r0 : BitVec 32 := 4294967295#32
  let v106_r0 : BitVec 1 := Scalar.cmpi .eq v105_r0 c_m1_i32_90_r0
  let c1_i32_92_r0 : BitVec 32 := 1#32
  let v108_r0 : BitVec 32 := Scalar.subi arg10_r0 c1_i32_92_r0
  let v109_r0 : BitVec 32 := Scalar.select v106_r0 v108_r0 arg10_r0
  let c_m1_i32_93_r0 : BitVec 32 := 4294967295#32
  let v110_r0 : BitVec 1 := Scalar.cmpi .eq v109_r0 c_m1_i32_93_r0
  let c1_i32_94_r0 : BitVec 32 := 1#32
  let v111_r0 : BitVec 32 := Scalar.select v110_r0 c1_i32_94_r0 v109_r0
  let c0_i32_95_r0 : BitVec 32 := 0#32
  let v112_r0 : BitVec 32 := Scalar.addi v111_r0 c0_i32_95_r0
  let c512_i32_124_r0 : BitVec 32 := 512#32
  let v156_r0 : BitVec 32 := Scalar.muli v112_r0 c512_i32_124_r0
  let c15_i32_91_r0 : BitVec 32 := 15#32
  let v107_r0 : BitVec 32 := Scalar.select v106_r0 c15_i32_91_r0 v105_r0
  let v113_r0 : BitVec 32 := Scalar.addi v107_r0 v4
  let v157_r0 : BitVec 32 := Scalar.addi v156_r0 v113_r0
  let v158_r0 : BitVec 1 := Scalar.cmpi .ne v135_r0 v157_r0
  let c0_i32_44_r0 : BitVec 32 := 0#32
  let c1_i32_45_r0 : BitVec 32 := 1#32
  let arg5_r0 : BitVec 32 := Scf.iv c0_i32_44_r0 c1_i32_45_r0 k0_t1
  let c0_i32_86_r0 : BitVec 32 := 0#32
  let v100_r0 : BitVec 1 := Scalar.cmpi .eq arg5_r0 c0_i32_86_r0
  let v159_r0 : BitVec 1 := Scalar.ori v158_r0 v100_r0
  let c0_i32_125_r0 : BitVec 32 := 0#32
  let v160_r0 : BitVec 1 := Scalar.cmpi .sge arg5_r0 c0_i32_125_r0
  let v161_r0 : BitVec 1 := Scalar.andi v159_r0 v160_r0
  let v162_r0 : BitVec 32 := Scalar.extui v161_r0
  let c0_i32_126_r0 : BitVec 32 := 0#32
  let v163_r0 : BitVec 1 := Scalar.cmpi .ne v162_r0 c0_i32_126_r0
  v163_r0

def k0_off8 (i : grid0.Coords) (arg10_r0 : BitVec 32) (arg11_r0 : BitVec 32) : Fin 2 → Nat :=
  let c1_i32_156_r0 : BitVec 32 := 1#32
  let c0_i32_87_r0 : BitVec 32 := 0#32
  let v102_r0 : BitVec 32 := Scalar.addi arg10_r0 c0_i32_87_r0
  let c512_i32_155_r0 : BitVec 32 := 512#32
  let v212_r0 : BitVec 32 := Scalar.muli v102_r0 c512_i32_155_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v103_r0 : BitVec 32 := Scalar.addi arg11_r0 v4
  let v213_r0 : BitVec 32 := Scalar.addi v212_r0 v103_r0
  let v214_r0 : BitVec 32 := Scalar.muli c1_i32_156_r0 v213_r0
  let c0_i32_160_r0 : BitVec 32 := 0#32
  ![v214_r0.toNat, 0]
def k0_off9 (arg7_r0 : BitVec 32) : Fin 1 → Nat :=
  let c2_i32_157_r0 : BitVec 32 := 2#32
  let v215_r0 : BitVec 32 := Scalar.remui arg7_r0 c2_i32_157_r0
  ![v215_r0.toNat]
def k0_off10 (arg8_r0 : BitVec 32) : Fin 3 → Nat :=
  let c2_i32_131_r0 : BitVec 32 := 2#32
  let v173_r0 : BitVec 32 := Scalar.remui arg8_r0 c2_i32_131_r0
  let c0_i32_155_r1 : BitVec 32 := 0#32
  let c0_i32_156_r1 : BitVec 32 := 0#32
  ![v173_r0.toNat, 0, 0]

def k0_chk2 (arg8_r0 : BitVec 32) : Prop :=
  (∀ a, (k0_off10 arg8_r0) a + S1x64x512.size a ≤ S2x64x512.size a)
theorem k0_off10_inb : ∀ (arg8_r0 : BitVec 32) (k0_hw2 : k0_chk2 arg8_r0), ∀ a, (k0_off10 arg8_r0) a + S1x64x512.size a ≤ S2x64x512.size a := fun arg8_r0 k0_hw2 => k0_hw2

def k0_off11 (arg7_r0 : BitVec 32) : Fin 3 → Nat :=
  let c2_i32_130_r0 : BitVec 32 := 2#32
  let v172_r0 : BitVec 32 := Scalar.remui arg7_r0 c2_i32_130_r0
  let c0_i32_159_r1 : BitVec 32 := 0#32
  let c0_i32_160_r1 : BitVec 32 := 0#32
  ![v172_r0.toNat, 0, 0]

def k0_chk3 (arg7_r0 : BitVec 32) : Prop :=
  (∀ a, (k0_off11 arg7_r0) a + S1x1x128.size a ≤ S2x1x128.size a)
theorem k0_off11_inb : ∀ (arg7_r0 : BitVec 32) (k0_hw3 : k0_chk3 arg7_r0), ∀ a, (k0_off11 arg7_r0) a + S1x1x128.size a ≤ S2x1x128.size a := fun arg7_r0 k0_hw3 => k0_hw3

def k0_off12 (arg8_r0 : BitVec 32) : Fin 3 → Nat :=
  let c2_i32_155_r0 : BitVec 32 := 2#32
  let v212_r0 : BitVec 32 := Scalar.remui arg8_r0 c2_i32_155_r0
  let c0_i32_158_r0 : BitVec 32 := 0#32
  let c0_i32_159_r0 : BitVec 32 := 0#32
  ![v212_r0.toNat, 0, 0]
def k0_cond5 (i : grid0.Coords) (k0_t1 : Fin k0_t1_loop.trips) (arg10_r0 : BitVec 32) (arg11_r0 : BitVec 32) : BitVec 1 :=
  let c0_i32_87_r0 : BitVec 32 := 0#32
  let v102_r0 : BitVec 32 := Scalar.addi arg10_r0 c0_i32_87_r0
  let c512_i32_120_r0 : BitVec 32 := 512#32
  let v148_r0 : BitVec 32 := Scalar.muli v102_r0 c512_i32_120_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v103_r0 : BitVec 32 := Scalar.addi arg11_r0 v4
  let v149_r0 : BitVec 32 := Scalar.addi v148_r0 v103_r0
  let true_97_r0 : BitVec 1 := 1#1
  let c1_i32_96_r0 : BitVec 32 := 1#32
  let v114_r0 : BitVec 32 := Scalar.addi arg11_r0 c1_i32_96_r0
  let v115_r0 : BitVec 32 := Scalar.select true_97_r0 v114_r0 arg11_r0
  let c16_i32_98_r0 : BitVec 32 := 16#32
  let v116_r0 : BitVec 1 := Scalar.cmpi .eq v115_r0 c16_i32_98_r0
  let c1_i32_100_r0 : BitVec 32 := 1#32
  let v118_r0 : BitVec 32 := Scalar.addi arg10_r0 c1_i32_100_r0
  let v119_r0 : BitVec 32 := Scalar.select v116_r0 v118_r0 arg10_r0
  let c2_i32_101_r0 : BitVec 32 := 2#32
  let v120_r0 : BitVec 1 := Scalar.cmpi .eq v119_r0 c2_i32_101_r0
  let c0_i32_102_r0 : BitVec 32 := 0#32
  let v121_r0 : BitVec 32 := Scalar.select v120_r0 c0_i32_102_r0 v119_r0
  let c0_i32_103_r0 : BitVec 32 := 0#32
  let v122_r0 : BitVec 32 := Scalar.addi v121_r0 c0_i32_103_r0
  let c512_i32_121_r0 : BitVec 32 := 512#32
  let v150_r0 : BitVec 32 := Scalar.muli v122_r0 c512_i32_121_r0
  let c0_i32_99_r0 : BitVec 32 := 0#32
  let v117_r0 : BitVec 32 := Scalar.select v116_r0 c0_i32_99_r0 v115_r0
  let v123_r0 : BitVec 32 := Scalar.addi v117_r0 v4
  let v151_r0 : BitVec 32 := Scalar.addi v150_r0 v123_r0
  let v179_r0 : BitVec 1 := Scalar.cmpi .ne v149_r0 v151_r0
  let c0_i32_44_r0 : BitVec 32 := 0#32
  let c1_i32_45_r0 : BitVec 32 := 1#32
  let arg5_r0 : BitVec 32 := Scf.iv c0_i32_44_r0 c1_i32_45_r0 k0_t1
  let c31_i32_r0 : BitVec 32 := 31#32
  let v101_r0 : BitVec 1 := Scalar.cmpi .eq arg5_r0 c31_i32_r0
  let v180_r0 : BitVec 1 := Scalar.ori v179_r0 v101_r0
  let v181_r0 : BitVec 32 := Scalar.extui v180_r0
  let c0_i32_137_r0 : BitVec 32 := 0#32
  let v182_r0 : BitVec 1 := Scalar.cmpi .ne v181_r0 c0_i32_137_r0
  v182_r0

def k0_off13 (i : grid0.Coords) (arg10_r0 : BitVec 32) (arg11_r0 : BitVec 32) : Fin 2 → Nat :=
  let c64_i32_157_r0 : BitVec 32 := 64#32
  let c0_i32_87_r0 : BitVec 32 := 0#32
  let v102_r0 : BitVec 32 := Scalar.addi arg10_r0 c0_i32_87_r0
  let c512_i32_156_r0 : BitVec 32 := 512#32
  let v213_r0 : BitVec 32 := Scalar.muli v102_r0 c512_i32_156_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v103_r0 : BitVec 32 := Scalar.addi arg11_r0 v4
  let v214_r0 : BitVec 32 := Scalar.addi v213_r0 v103_r0
  let v215_r0 : BitVec 32 := Scalar.muli c64_i32_157_r0 v214_r0
  let c0_i32_160_r0 : BitVec 32 := 0#32
  ![v215_r0.toNat, 0]
def k0_off14 (arg8_r0 : BitVec 32) : Fin 1 → Nat :=
  let c2_i32_155_r0 : BitVec 32 := 2#32
  let v212_r0 : BitVec 32 := Scalar.remui arg8_r0 c2_i32_155_r0
  ![v212_r0.toNat]
def k0_off15 (arg9_r0 : BitVec 32) : Fin 3 → Nat :=
  let c2_i32_155_r0 : BitVec 32 := 2#32
  let v212_r0 : BitVec 32 := Scalar.remui arg9_r0 c2_i32_155_r0
  let c0_i32_158_r0 : BitVec 32 := 0#32
  let c0_i32_159_r0 : BitVec 32 := 0#32
  ![v212_r0.toNat, 0, 0]
def k0_cond7 (i : grid0.Coords) (k0_t1 : Fin k0_t1_loop.trips) (arg10_r0 : BitVec 32) (arg11_r0 : BitVec 32) : BitVec 1 :=
  let c0_i32_87_r0 : BitVec 32 := 0#32
  let v102_r0 : BitVec 32 := Scalar.addi arg10_r0 c0_i32_87_r0
  let c512_i32_120_r0 : BitVec 32 := 512#32
  let v148_r0 : BitVec 32 := Scalar.muli v102_r0 c512_i32_120_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v103_r0 : BitVec 32 := Scalar.addi arg11_r0 v4
  let v149_r0 : BitVec 32 := Scalar.addi v148_r0 v103_r0
  let true_89_r0 : BitVec 1 := 1#1
  let c1_i32_88_r0 : BitVec 32 := 1#32
  let v104_r0 : BitVec 32 := Scalar.subi arg11_r0 c1_i32_88_r0
  let v105_r0 : BitVec 32 := Scalar.select true_89_r0 v104_r0 arg11_r0
  let c_m1_i32_90_r0 : BitVec 32 := 4294967295#32
  let v106_r0 : BitVec 1 := Scalar.cmpi .eq v105_r0 c_m1_i32_90_r0
  let c1_i32_92_r0 : BitVec 32 := 1#32
  let v108_r0 : BitVec 32 := Scalar.subi arg10_r0 c1_i32_92_r0
  let v109_r0 : BitVec 32 := Scalar.select v106_r0 v108_r0 arg10_r0
  let c_m1_i32_93_r0 : BitVec 32 := 4294967295#32
  let v110_r0 : BitVec 1 := Scalar.cmpi .eq v109_r0 c_m1_i32_93_r0
  let c1_i32_94_r0 : BitVec 32 := 1#32
  let v111_r0 : BitVec 32 := Scalar.select v110_r0 c1_i32_94_r0 v109_r0
  let c0_i32_95_r0 : BitVec 32 := 0#32
  let v112_r0 : BitVec 32 := Scalar.addi v111_r0 c0_i32_95_r0
  let c512_i32_127_r0 : BitVec 32 := 512#32
  let v164_r0 : BitVec 32 := Scalar.muli v112_r0 c512_i32_127_r0
  let c15_i32_91_r0 : BitVec 32 := 15#32
  let v107_r0 : BitVec 32 := Scalar.select v106_r0 c15_i32_91_r0 v105_r0
  let v113_r0 : BitVec 32 := Scalar.addi v107_r0 v4
  let v165_r0 : BitVec 32 := Scalar.addi v164_r0 v113_r0
  let v192_r0 : BitVec 1 := Scalar.cmpi .ne v149_r0 v165_r0
  let c0_i32_44_r0 : BitVec 32 := 0#32
  let c1_i32_45_r0 : BitVec 32 := 1#32
  let arg5_r0 : BitVec 32 := Scf.iv c0_i32_44_r0 c1_i32_45_r0 k0_t1
  let c0_i32_86_r0 : BitVec 32 := 0#32
  let v100_r0 : BitVec 1 := Scalar.cmpi .eq arg5_r0 c0_i32_86_r0
  let true_143_r0 : BitVec 1 := 1#1
  let v193_r0 : BitVec 1 := Scalar.xori v100_r0 true_143_r0
  let v194_r0 : BitVec 1 := Scalar.andi v192_r0 v193_r0
  let v195_r0 : BitVec 32 := Scalar.extui v194_r0
  let c0_i32_144_r0 : BitVec 32 := 0#32
  let v196_r0 : BitVec 1 := Scalar.cmpi .ne v195_r0 c0_i32_144_r0
  v196_r0

def k0_off16 (i : grid0.Coords) (arg10_r0 : BitVec 32) (arg11_r0 : BitVec 32) : Fin 2 → Nat :=
  let c64_i32_157_r0 : BitVec 32 := 64#32
  let true_89_r0 : BitVec 1 := 1#1
  let c1_i32_88_r0 : BitVec 32 := 1#32
  let v104_r0 : BitVec 32 := Scalar.subi arg11_r0 c1_i32_88_r0
  let v105_r0 : BitVec 32 := Scalar.select true_89_r0 v104_r0 arg11_r0
  let c_m1_i32_90_r0 : BitVec 32 := 4294967295#32
  let v106_r0 : BitVec 1 := Scalar.cmpi .eq v105_r0 c_m1_i32_90_r0
  let c1_i32_92_r0 : BitVec 32 := 1#32
  let v108_r0 : BitVec 32 := Scalar.subi arg10_r0 c1_i32_92_r0
  let v109_r0 : BitVec 32 := Scalar.select v106_r0 v108_r0 arg10_r0
  let c_m1_i32_93_r0 : BitVec 32 := 4294967295#32
  let v110_r0 : BitVec 1 := Scalar.cmpi .eq v109_r0 c_m1_i32_93_r0
  let c1_i32_94_r0 : BitVec 32 := 1#32
  let v111_r0 : BitVec 32 := Scalar.select v110_r0 c1_i32_94_r0 v109_r0
  let c0_i32_95_r0 : BitVec 32 := 0#32
  let v112_r0 : BitVec 32 := Scalar.addi v111_r0 c0_i32_95_r0
  let c512_i32_156_r0 : BitVec 32 := 512#32
  let v213_r0 : BitVec 32 := Scalar.muli v112_r0 c512_i32_156_r0
  let c15_i32_91_r0 : BitVec 32 := 15#32
  let v107_r0 : BitVec 32 := Scalar.select v106_r0 c15_i32_91_r0 v105_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v113_r0 : BitVec 32 := Scalar.addi v107_r0 v4
  let v214_r0 : BitVec 32 := Scalar.addi v213_r0 v113_r0
  let v215_r0 : BitVec 32 := Scalar.muli c64_i32_157_r0 v214_r0
  let c0_i32_160_r0 : BitVec 32 := 0#32
  ![v215_r0.toNat, 0]
def k0_off17 (arg9_r0 : BitVec 32) : Fin 1 → Nat :=
  let c2_i32_155_r0 : BitVec 32 := 2#32
  let v212_r0 : BitVec 32 := Scalar.remui arg9_r0 c2_i32_155_r0
  ![v212_r0.toNat]

def k0_chk1 (i : grid0.Coords) (k0_t1 : Fin k0_t1_loop.trips) (arg6_r0 : BitVec 32) (arg7_r0 : BitVec 32) (arg8_r0 : BitVec 32) (arg9_r0 : BitVec 32) (arg10_r0 : BitVec 32) (arg11_r0 : BitVec 32) : Prop :=
  (∀ (k0_h1 : k0_cond1 i k0_t1 arg10_r0 arg11_r0 = 1#1), ∀ a, (k0_off4 arg6_r0) a + S1x1x128.size a ≤ S2x1x128.size a) ∧
  (∀ (k0_h1 : k0_cond1 i k0_t1 arg10_r0 arg11_r0 = 1#1), ∀ a, (k0_off5 i arg10_r0 arg11_r0) a + S1x128.size a ≤ S1024x128.size a) ∧
  (∀ (k0_h1 : k0_cond1 i k0_t1 arg10_r0 arg11_r0 = 1#1), ∀ a, (k0_off6 arg6_r0) a + S1.size a ≤ S2.size a) ∧
  (∀ (k0_h2 : k0_cond2 i k0_t1 arg10_r0 arg11_r0 = 1#1), ∀ a, (k0_off7 arg7_r0) a + S1x1x128.size a ≤ S2x1x128.size a) ∧
  (∀ (k0_h2 : k0_cond2 i k0_t1 arg10_r0 arg11_r0 = 1#1), ∀ a, (k0_off8 i arg10_r0 arg11_r0) a + S1x128.size a ≤ S1024x128.size a) ∧
  (∀ (k0_h2 : k0_cond2 i k0_t1 arg10_r0 arg11_r0 = 1#1), ∀ a, (k0_off9 arg7_r0) a + S1.size a ≤ S2.size a) ∧
  (∀ (k0_h5 : k0_cond5 i k0_t1 arg10_r0 arg11_r0 = 1#1), ∀ a, (k0_off12 arg8_r0) a + S1x64x512.size a ≤ S2x64x512.size a) ∧
  (∀ (k0_h5 : k0_cond5 i k0_t1 arg10_r0 arg11_r0 = 1#1), ∀ a, (k0_off13 i arg10_r0 arg11_r0) a + S64x512.size a ≤ S65536x512.size a) ∧
  (∀ (k0_h5 : k0_cond5 i k0_t1 arg10_r0 arg11_r0 = 1#1), ∀ a, (k0_off14 arg8_r0) a + S1.size a ≤ S2.size a) ∧
  (∀ (k0_h7 : k0_cond7 i k0_t1 arg10_r0 arg11_r0 = 1#1), ∀ a, (k0_off15 arg9_r0) a + S1x64x512.size a ≤ S2x64x512.size a) ∧
  (∀ (k0_h7 : k0_cond7 i k0_t1 arg10_r0 arg11_r0 = 1#1), ∀ a, (k0_off16 i arg10_r0 arg11_r0) a + S64x512.size a ≤ S65536x512.size a) ∧
  (∀ (k0_h7 : k0_cond7 i k0_t1 arg10_r0 arg11_r0 = 1#1), ∀ a, (k0_off17 arg9_r0) a + S1.size a ≤ S2.size a)
theorem k0_off4_inb : ∀ (i : grid0.Coords) (k0_t1 : Fin k0_t1_loop.trips) (arg6_r0 : BitVec 32) (arg7_r0 : BitVec 32) (arg8_r0 : BitVec 32) (arg9_r0 : BitVec 32) (arg10_r0 : BitVec 32) (arg11_r0 : BitVec 32) (k0_hw1 : k0_chk1 i k0_t1 arg6_r0 arg7_r0 arg8_r0 arg9_r0 arg10_r0 arg11_r0), ∀ (k0_h1 : k0_cond1 i k0_t1 arg10_r0 arg11_r0 = 1#1), ∀ a, (k0_off4 arg6_r0) a + S1x1x128.size a ≤ S2x1x128.size a := fun i k0_t1 arg6_r0 arg7_r0 arg8_r0 arg9_r0 arg10_r0 arg11_r0 k0_hw1 k0_h1 => k0_hw1.1 k0_h1
theorem k0_off5_inb : ∀ (i : grid0.Coords) (k0_t1 : Fin k0_t1_loop.trips) (arg6_r0 : BitVec 32) (arg7_r0 : BitVec 32) (arg8_r0 : BitVec 32) (arg9_r0 : BitVec 32) (arg10_r0 : BitVec 32) (arg11_r0 : BitVec 32) (k0_hw1 : k0_chk1 i k0_t1 arg6_r0 arg7_r0 arg8_r0 arg9_r0 arg10_r0 arg11_r0), ∀ (k0_h1 : k0_cond1 i k0_t1 arg10_r0 arg11_r0 = 1#1), ∀ a, (k0_off5 i arg10_r0 arg11_r0) a + S1x128.size a ≤ S1024x128.size a := fun i k0_t1 arg6_r0 arg7_r0 arg8_r0 arg9_r0 arg10_r0 arg11_r0 k0_hw1 k0_h1 => k0_hw1.2.1 k0_h1
theorem k0_off6_inb : ∀ (i : grid0.Coords) (k0_t1 : Fin k0_t1_loop.trips) (arg6_r0 : BitVec 32) (arg7_r0 : BitVec 32) (arg8_r0 : BitVec 32) (arg9_r0 : BitVec 32) (arg10_r0 : BitVec 32) (arg11_r0 : BitVec 32) (k0_hw1 : k0_chk1 i k0_t1 arg6_r0 arg7_r0 arg8_r0 arg9_r0 arg10_r0 arg11_r0), ∀ (k0_h1 : k0_cond1 i k0_t1 arg10_r0 arg11_r0 = 1#1), ∀ a, (k0_off6 arg6_r0) a + S1.size a ≤ S2.size a := fun i k0_t1 arg6_r0 arg7_r0 arg8_r0 arg9_r0 arg10_r0 arg11_r0 k0_hw1 k0_h1 => k0_hw1.2.2.1 k0_h1
theorem k0_off7_inb : ∀ (i : grid0.Coords) (k0_t1 : Fin k0_t1_loop.trips) (arg6_r0 : BitVec 32) (arg7_r0 : BitVec 32) (arg8_r0 : BitVec 32) (arg9_r0 : BitVec 32) (arg10_r0 : BitVec 32) (arg11_r0 : BitVec 32) (k0_hw1 : k0_chk1 i k0_t1 arg6_r0 arg7_r0 arg8_r0 arg9_r0 arg10_r0 arg11_r0), ∀ (k0_h2 : k0_cond2 i k0_t1 arg10_r0 arg11_r0 = 1#1), ∀ a, (k0_off7 arg7_r0) a + S1x1x128.size a ≤ S2x1x128.size a := fun i k0_t1 arg6_r0 arg7_r0 arg8_r0 arg9_r0 arg10_r0 arg11_r0 k0_hw1 k0_h2 => k0_hw1.2.2.2.1 k0_h2
theorem k0_off8_inb : ∀ (i : grid0.Coords) (k0_t1 : Fin k0_t1_loop.trips) (arg6_r0 : BitVec 32) (arg7_r0 : BitVec 32) (arg8_r0 : BitVec 32) (arg9_r0 : BitVec 32) (arg10_r0 : BitVec 32) (arg11_r0 : BitVec 32) (k0_hw1 : k0_chk1 i k0_t1 arg6_r0 arg7_r0 arg8_r0 arg9_r0 arg10_r0 arg11_r0), ∀ (k0_h2 : k0_cond2 i k0_t1 arg10_r0 arg11_r0 = 1#1), ∀ a, (k0_off8 i arg10_r0 arg11_r0) a + S1x128.size a ≤ S1024x128.size a := fun i k0_t1 arg6_r0 arg7_r0 arg8_r0 arg9_r0 arg10_r0 arg11_r0 k0_hw1 k0_h2 => k0_hw1.2.2.2.2.1 k0_h2
theorem k0_off9_inb : ∀ (i : grid0.Coords) (k0_t1 : Fin k0_t1_loop.trips) (arg6_r0 : BitVec 32) (arg7_r0 : BitVec 32) (arg8_r0 : BitVec 32) (arg9_r0 : BitVec 32) (arg10_r0 : BitVec 32) (arg11_r0 : BitVec 32) (k0_hw1 : k0_chk1 i k0_t1 arg6_r0 arg7_r0 arg8_r0 arg9_r0 arg10_r0 arg11_r0), ∀ (k0_h2 : k0_cond2 i k0_t1 arg10_r0 arg11_r0 = 1#1), ∀ a, (k0_off9 arg7_r0) a + S1.size a ≤ S2.size a := fun i k0_t1 arg6_r0 arg7_r0 arg8_r0 arg9_r0 arg10_r0 arg11_r0 k0_hw1 k0_h2 => k0_hw1.2.2.2.2.2.1 k0_h2
theorem k0_off12_inb : ∀ (i : grid0.Coords) (k0_t1 : Fin k0_t1_loop.trips) (arg6_r0 : BitVec 32) (arg7_r0 : BitVec 32) (arg8_r0 : BitVec 32) (arg9_r0 : BitVec 32) (arg10_r0 : BitVec 32) (arg11_r0 : BitVec 32) (k0_hw1 : k0_chk1 i k0_t1 arg6_r0 arg7_r0 arg8_r0 arg9_r0 arg10_r0 arg11_r0), ∀ (k0_h5 : k0_cond5 i k0_t1 arg10_r0 arg11_r0 = 1#1), ∀ a, (k0_off12 arg8_r0) a + S1x64x512.size a ≤ S2x64x512.size a := fun i k0_t1 arg6_r0 arg7_r0 arg8_r0 arg9_r0 arg10_r0 arg11_r0 k0_hw1 k0_h5 => k0_hw1.2.2.2.2.2.2.1 k0_h5
theorem k0_off13_inb : ∀ (i : grid0.Coords) (k0_t1 : Fin k0_t1_loop.trips) (arg6_r0 : BitVec 32) (arg7_r0 : BitVec 32) (arg8_r0 : BitVec 32) (arg9_r0 : BitVec 32) (arg10_r0 : BitVec 32) (arg11_r0 : BitVec 32) (k0_hw1 : k0_chk1 i k0_t1 arg6_r0 arg7_r0 arg8_r0 arg9_r0 arg10_r0 arg11_r0), ∀ (k0_h5 : k0_cond5 i k0_t1 arg10_r0 arg11_r0 = 1#1), ∀ a, (k0_off13 i arg10_r0 arg11_r0) a + S64x512.size a ≤ S65536x512.size a := fun i k0_t1 arg6_r0 arg7_r0 arg8_r0 arg9_r0 arg10_r0 arg11_r0 k0_hw1 k0_h5 => k0_hw1.2.2.2.2.2.2.2.1 k0_h5
theorem k0_off14_inb : ∀ (i : grid0.Coords) (k0_t1 : Fin k0_t1_loop.trips) (arg6_r0 : BitVec 32) (arg7_r0 : BitVec 32) (arg8_r0 : BitVec 32) (arg9_r0 : BitVec 32) (arg10_r0 : BitVec 32) (arg11_r0 : BitVec 32) (k0_hw1 : k0_chk1 i k0_t1 arg6_r0 arg7_r0 arg8_r0 arg9_r0 arg10_r0 arg11_r0), ∀ (k0_h5 : k0_cond5 i k0_t1 arg10_r0 arg11_r0 = 1#1), ∀ a, (k0_off14 arg8_r0) a + S1.size a ≤ S2.size a := fun i k0_t1 arg6_r0 arg7_r0 arg8_r0 arg9_r0 arg10_r0 arg11_r0 k0_hw1 k0_h5 => k0_hw1.2.2.2.2.2.2.2.2.1 k0_h5
theorem k0_off15_inb : ∀ (i : grid0.Coords) (k0_t1 : Fin k0_t1_loop.trips) (arg6_r0 : BitVec 32) (arg7_r0 : BitVec 32) (arg8_r0 : BitVec 32) (arg9_r0 : BitVec 32) (arg10_r0 : BitVec 32) (arg11_r0 : BitVec 32) (k0_hw1 : k0_chk1 i k0_t1 arg6_r0 arg7_r0 arg8_r0 arg9_r0 arg10_r0 arg11_r0), ∀ (k0_h7 : k0_cond7 i k0_t1 arg10_r0 arg11_r0 = 1#1), ∀ a, (k0_off15 arg9_r0) a + S1x64x512.size a ≤ S2x64x512.size a := fun i k0_t1 arg6_r0 arg7_r0 arg8_r0 arg9_r0 arg10_r0 arg11_r0 k0_hw1 k0_h7 => k0_hw1.2.2.2.2.2.2.2.2.2.1 k0_h7
theorem k0_off16_inb : ∀ (i : grid0.Coords) (k0_t1 : Fin k0_t1_loop.trips) (arg6_r0 : BitVec 32) (arg7_r0 : BitVec 32) (arg8_r0 : BitVec 32) (arg9_r0 : BitVec 32) (arg10_r0 : BitVec 32) (arg11_r0 : BitVec 32) (k0_hw1 : k0_chk1 i k0_t1 arg6_r0 arg7_r0 arg8_r0 arg9_r0 arg10_r0 arg11_r0), ∀ (k0_h7 : k0_cond7 i k0_t1 arg10_r0 arg11_r0 = 1#1), ∀ a, (k0_off16 i arg10_r0 arg11_r0) a + S64x512.size a ≤ S65536x512.size a := fun i k0_t1 arg6_r0 arg7_r0 arg8_r0 arg9_r0 arg10_r0 arg11_r0 k0_hw1 k0_h7 => k0_hw1.2.2.2.2.2.2.2.2.2.2.1 k0_h7
theorem k0_off17_inb : ∀ (i : grid0.Coords) (k0_t1 : Fin k0_t1_loop.trips) (arg6_r0 : BitVec 32) (arg7_r0 : BitVec 32) (arg8_r0 : BitVec 32) (arg9_r0 : BitVec 32) (arg10_r0 : BitVec 32) (arg11_r0 : BitVec 32) (k0_hw1 : k0_chk1 i k0_t1 arg6_r0 arg7_r0 arg8_r0 arg9_r0 arg10_r0 arg11_r0), ∀ (k0_h7 : k0_cond7 i k0_t1 arg10_r0 arg11_r0 = 1#1), ∀ a, (k0_off17 arg9_r0) a + S1.size a ≤ S2.size a := fun i k0_t1 arg6_r0 arg7_r0 arg8_r0 arg9_r0 arg10_r0 arg11_r0 k0_hw1 k0_h7 => k0_hw1.2.2.2.2.2.2.2.2.2.2.2 k0_h7

def k0_off18 (v47_3_r0 : BitVec 32) : Fin 3 → Nat :=
  let c2_i32_79_r0 : BitVec 32 := 2#32
  let v88_r0 : BitVec 32 := Scalar.remui v47_3_r0 c2_i32_79_r0
  let c0_i32_80_r0 : BitVec 32 := 0#32
  let c0_i32_81_r0 : BitVec 32 := 0#32
  ![v88_r0.toNat, 0, 0]

def k0_off19 (i : grid0.Coords) (v47_5_r0 : BitVec 32) (v47_4_r0 : BitVec 32) : Fin 2 → Nat :=
  let c64_i32_r0 : BitVec 32 := 64#32
  let true_48_r0 : BitVec 1 := 1#1
  let c1_i32_47_r0 : BitVec 32 := 1#32
  let v48_r0 : BitVec 32 := Scalar.subi v47_5_r0 c1_i32_47_r0
  let v49_r0 : BitVec 32 := Scalar.select true_48_r0 v48_r0 v47_5_r0
  let c_m1_i32_49_r0 : BitVec 32 := 4294967295#32
  let v50_r0 : BitVec 1 := Scalar.cmpi .eq v49_r0 c_m1_i32_49_r0
  let c1_i32_51_r0 : BitVec 32 := 1#32
  let v52_r0 : BitVec 32 := Scalar.subi v47_4_r0 c1_i32_51_r0
  let v53_r0 : BitVec 32 := Scalar.select v50_r0 v52_r0 v47_4_r0
  let c_m1_i32_52_r0 : BitVec 32 := 4294967295#32
  let v54_r0 : BitVec 1 := Scalar.cmpi .eq v53_r0 c_m1_i32_52_r0
  let c1_i32_53_r0 : BitVec 32 := 1#32
  let v55_r0 : BitVec 32 := Scalar.select v54_r0 c1_i32_53_r0 v53_r0
  let c0_i32_54_r0 : BitVec 32 := 0#32
  let v56_r0 : BitVec 32 := Scalar.addi v55_r0 c0_i32_54_r0
  let c512_i32_r0 : BitVec 32 := 512#32
  let v89_r0 : BitVec 32 := Scalar.muli v56_r0 c512_i32_r0
  let c15_i32_50_r0 : BitVec 32 := 15#32
  let v51_r0 : BitVec 32 := Scalar.select v50_r0 c15_i32_50_r0 v49_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c16_i32_0 : BitVec 32 := 16#32
  let v4 : BitVec 32 := Scalar.muli v3 c16_i32_0
  let v57_r0 : BitVec 32 := Scalar.addi v51_r0 v4
  let v90_r0 : BitVec 32 := Scalar.addi v89_r0 v57_r0
  let v91_r0 : BitVec 32 := Scalar.muli c64_i32_r0 v90_r0
  let c0_i32_82_r0 : BitVec 32 := 0#32
  ![v91_r0.toNat, 0]

def k0_chk5 (i : grid0.Coords) (v47_5_r0 : BitVec 32) (v47_4_r0 : BitVec 32) : Prop :=
  (∀ a, (k0_off19 i v47_5_r0 v47_4_r0) a + S64x512.size a ≤ S65536x512.size a)
theorem k0_off19_inb : ∀ (i : grid0.Coords) (v47_5_r0 : BitVec 32) (v47_4_r0 : BitVec 32) (k0_hw5 : k0_chk5 i v47_5_r0 v47_4_r0), ∀ a, (k0_off19 i v47_5_r0 v47_4_r0) a + S64x512.size a ≤ S65536x512.size a := fun i v47_5_r0 v47_4_r0 k0_hw5 => k0_hw5

def k0_off20 (v47_3_r0 : BitVec 32) : Fin 1 → Nat :=
  let c2_i32_79_r0 : BitVec 32 := 2#32
  let v88_r0 : BitVec 32 := Scalar.remui v47_3_r0 c2_i32_79_r0
  ![v88_r0.toNat]
def k0_off21 (v47_3_r0 : BitVec 32) : Fin 3 → Nat :=
  let c2_i32_79_r0 : BitVec 32 := 2#32
  let v88_r0 : BitVec 32 := Scalar.remui v47_3_r0 c2_i32_79_r0
  let c0_i32_84_r0 : BitVec 32 := 0#32
  let c0_i32_85_r0 : BitVec 32 := 0#32
  ![v88_r0.toNat, 0, 0]

def k0_chk4 (v47_3_r0 : BitVec 32) : Prop :=
  (∀ a, (k0_off18 v47_3_r0) a + S1x64x512.size a ≤ S2x64x512.size a) ∧
  (∀ a, (k0_off20 v47_3_r0) a + S1.size a ≤ S2.size a) ∧
  (∀ a, (k0_off21 v47_3_r0) a + S1x64x512.size a ≤ S2x64x512.size a)
theorem k0_off18_inb : ∀ (v47_3_r0 : BitVec 32) (k0_hw4 : k0_chk4 v47_3_r0), ∀ a, (k0_off18 v47_3_r0) a + S1x64x512.size a ≤ S2x64x512.size a := fun v47_3_r0 k0_hw4 => k0_hw4.1
theorem k0_off20_inb : ∀ (v47_3_r0 : BitVec 32) (k0_hw4 : k0_chk4 v47_3_r0), ∀ a, (k0_off20 v47_3_r0) a + S1.size a ≤ S2.size a := fun v47_3_r0 k0_hw4 => k0_hw4.2.1
theorem k0_off21_inb : ∀ (v47_3_r0 : BitVec 32) (k0_hw4 : k0_chk4 v47_3_r0), ∀ a, (k0_off21 v47_3_r0) a + S1x64x512.size a ≤ S2x64x512.size a := fun v47_3_r0 k0_hw4 => k0_hw4.2.2

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== Reference.lean ====
abbrev S135168x512 : Shape := ⟨2, ![135168, 512]⟩
abbrev S65536 : Shape := ⟨1, ![65536]⟩
abbrev S_ : Shape := ⟨0, ![]⟩
abbrev S65536x1 : Shape := ⟨2, ![65536, 1]⟩
abbrev S65536x512 : Shape := ⟨2, ![65536, 512]⟩

abbrev nBuf : Space → Nat
  | .hbm => 11
  | .vmem => 0
  | .smem => 0
  | _ => 0

abbrev bufTy : (tb : Table) → Fin (tcTables nBuf tb) → BufTy
  | .hbm, ⟨0, _⟩ => ⟨S135168x512, .i32⟩
  | .hbm, ⟨1, _⟩ => ⟨S65536, .i32⟩
  | .hbm, ⟨2, _⟩ => ⟨S_, .i32⟩
  | .hbm, ⟨3, _⟩ => ⟨S65536, .i32⟩
  | .hbm, ⟨4, _⟩ => ⟨S65536, .i1⟩
  | .hbm, ⟨5, _⟩ => ⟨S_, .i32⟩
  | .hbm, ⟨6, _⟩ => ⟨S65536, .i32⟩
  | .hbm, ⟨7, _⟩ => ⟨S65536, .i32⟩
  | .hbm, ⟨8, _⟩ => ⟨S65536, .i32⟩
  | .hbm, ⟨9, _⟩ => ⟨S65536x1, .i32⟩
  | .hbm, ⟨10, _⟩ => ⟨S65536x512, .i32⟩
  | _, _ => ⟨S135168x512, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Kernel2.lean ====
abbrev S270336x512 : Shape := ⟨2, ![270336, 512]⟩
abbrev S264 : Shape := ⟨1, ![264]⟩
abbrev S8x1024x3584 : Shape := ⟨3, ![8, 1024, 3584]⟩
abbrev S8x3584x1024 : Shape := ⟨3, ![8, 3584, 1024]⟩
abbrev S1024x512 : Shape := ⟨2, ![1024, 512]⟩
abbrev S1x1024x3584 : Shape := ⟨3, ![1, 1024, 3584]⟩
abbrev S1 : Shape := ⟨1, ![1]⟩
abbrev S1x3584x1024 : Shape := ⟨3, ![1, 3584, 1024]⟩
abbrev S512x1024 : Shape := ⟨2, ![512, 1024]⟩
abbrev S512x512 : Shape := ⟨2, ![512, 512]⟩
abbrev S1x512x256 : Shape := ⟨3, ![1, 512, 256]⟩
abbrev S512x256 : Shape := ⟨2, ![512, 256]⟩
abbrev S1x256x1024 : Shape := ⟨3, ![1, 256, 1024]⟩
abbrev S256x1024 : Shape := ⟨2, ![256, 1024]⟩

abbrev nBuf : Space → Nat
  | .hbm => 5
  | .vmem => 8
  | .smem => 2
  | _ => 0

abbrev bufTy : (tb : Table) → Fin (tcTables nBuf tb) → BufTy
  | .hbm, ⟨0, _⟩ => ⟨S270336x512, .bf16⟩
  | .hbm, ⟨1, _⟩ => ⟨S8x1024x3584, .bf16⟩
  | .hbm, ⟨2, _⟩ => ⟨S8x1024x3584, .bf16⟩
  | .hbm, ⟨3, _⟩ => ⟨S8x3584x1024, .bf16⟩
  | .hbm, ⟨4, _⟩ => ⟨S270336x512, .bf16⟩
  | .local _ .vmem, ⟨0, _⟩ => ⟨S1024x512, .bf16⟩
  | .local _ .vmem, ⟨1, _⟩ => ⟨S1024x512, .bf16⟩
  | .local _ .vmem, ⟨2, _⟩ => ⟨S1x1024x3584, .bf16⟩
  | .local _ .vmem, ⟨3, _⟩ => ⟨S1x1024x3584, .bf16⟩
  | .local _ .vmem, ⟨4, _⟩ => ⟨S1x3584x1024, .bf16⟩
  | .local _ .vmem, ⟨5, _⟩ => ⟨S1024x512, .bf16⟩
  | .local _ .vmem, ⟨6, _⟩ => ⟨S1024x512, .bf16⟩
  | .local _ .vmem, ⟨7, _⟩ => ⟨S512x1024, .f32⟩
  | .local _ .smem, ⟨0, _⟩ => ⟨S264, .i32⟩
  | .local _ .smem, ⟨1, _⟩ => ⟨S264, .i32⟩
  | _, _ => ⟨S270336x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg1 : Ref sig .tc := ⟨.smem, 0, rfl⟩
abbrev main_arg2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [BitOps F]

abbrev grid0 : Pipeline.Grid := ⟨1, ![264], ![false]⟩

abbrev pre0 : Pipeline.Prefetch sig := ⟨2, ![main_arg1.idx, main_arg2.idx], fun | 0 => main_arg1.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (v1 : BitVec 32) : BitVec 1 :=
  let c0_i32 : BitVec 32 := 0#32
  let v2 : BitVec 1 := Scalar.cmpi .sgt v1 c0_i32
  let v3 : BitVec 32 := Scalar.extui v2
  let c0_i32_0 : BitVec 32 := 0#32
  let v4 : BitVec 1 := Scalar.cmpi .ne v3 c0_i32_0
  v4

def k0_cond2 (v1 : BitVec 32) : BitVec 1 :=
  let c0_i32_1 : BitVec 32 := 0#32
  let v5 : BitVec 1 := Scalar.cmpi .sle v1 c0_i32_1
  let v6 : BitVec 32 := Scalar.extui v5
  let c0_i32_2 : BitVec 32 := 0#32
  let v7 : BitVec 1 := Scalar.cmpi .ne v6 c0_i32_2
  v7

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S264.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S264) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S264.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S264) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S264.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S264) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024x3584 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024x3584 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x3584x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Kernel2Ideal.lean ====
variable {F : FTy → Type} [FloatOps F]
-- ==== Reference2Ideal.lean ====
abbrev S270336x512 : Shape := ⟨2, ![270336, 512]⟩
abbrev S264 : Shape := ⟨1, ![264]⟩
abbrev S8x1024x3584 : Shape := ⟨3, ![8, 1024, 3584]⟩
abbrev S8x3584x1024 : Shape := ⟨3, ![8, 3584, 1024]⟩
abbrev S264x512x2x512 : Shape := ⟨4, ![264, 512, 2, 512]⟩
abbrev S264x512x1x512 : Shape := ⟨4, ![264, 512, 1, 512]⟩
abbrev S264x512x512 : Shape := ⟨3, ![264, 512, 512]⟩
abbrev S264x512x1024 : Shape := ⟨3, ![264, 512, 1024]⟩
abbrev S512 : Shape := ⟨1, ![512]⟩
abbrev S1x512x1 : Shape := ⟨3, ![1, 512, 1]⟩
abbrev S264x1x1 : Shape := ⟨3, ![264, 1, 1]⟩
abbrev S264x512x1 : Shape := ⟨3, ![264, 512, 1]⟩
abbrev S_ : Shape := ⟨0, ![]⟩
abbrev S264x1 : Shape := ⟨2, ![264, 1]⟩
abbrev S264x1024x3584 : Shape := ⟨3, ![264, 1024, 3584]⟩
abbrev S264x3584x1024 : Shape := ⟨3, ![264, 3584, 1024]⟩
abbrev S264x512x3584 : Shape := ⟨3, ![264, 512, 3584]⟩

abbrev nBuf : Space → Nat
  | .hbm => 74
  | .vmem => 0
  | .smem => 0
  | _ => 0

abbrev bufTy : (tb : Table) → Fin (tcTables nBuf tb) → BufTy
  | .hbm, ⟨0, _⟩ => ⟨S270336x512, .bf16⟩
  | .hbm, ⟨1, _⟩ => ⟨S264, .i32⟩
  | .hbm, ⟨2, _⟩ => ⟨S264, .i32⟩
  | .hbm, ⟨3, _⟩ => ⟨S8x1024x3584, .bf16⟩
  | .hbm, ⟨4, _⟩ => ⟨S8x1024x3584, .bf16⟩
  | .hbm, ⟨5, _⟩ => ⟨S8x3584x1024, .bf16⟩
  | .hbm, ⟨6, _⟩ => ⟨S270336x512, .f32⟩
  | .hbm, ⟨7, _⟩ => ⟨S264x512x2x512, .f32⟩
  | .hbm, ⟨8, _⟩ => ⟨S264x512x1x512, .f32⟩
  | .hbm, ⟨9, _⟩ => ⟨S264x512x512, .f32⟩
  | .hbm, ⟨10, _⟩ => ⟨S264x512x1x512, .f32⟩
  | .hbm, ⟨11, _⟩ => ⟨S264x512x512, .f32⟩
  | .hbm, ⟨12, _⟩ => ⟨S264x512x1024, .f32⟩
  | .hbm, ⟨13, _⟩ => ⟨S512, .i32⟩
  | .hbm, ⟨14, _⟩ => ⟨S1x512x1, .i32⟩
  | .hbm, ⟨15, _⟩ => ⟨S264x1x1, .i32⟩
  | .hbm, ⟨16, _⟩ => ⟨S264x512x1, .i32⟩
  | .hbm, ⟨17, _⟩ => ⟨S264x512x1, .i32⟩
  | .hbm, ⟨18, _⟩ => ⟨S264x512x1, .i1⟩
  | .hbm, ⟨19, _⟩ => ⟨S_, .f32⟩
  | .hbm, ⟨20, _⟩ => ⟨S_, .f32⟩
  | .hbm, ⟨21, _⟩ => ⟨S264x512x1024, .i1⟩
  | .hbm, ⟨22, _⟩ => ⟨S264x512x1024, .f32⟩
  | .hbm, ⟨23, _⟩ => ⟨S264x512x1024, .f32⟩
  | .hbm, ⟨24, _⟩ => ⟨S8x1024x3584, .f32⟩
  | .hbm, ⟨25, _⟩ => ⟨S_, .i32⟩
  | .hbm, ⟨26, _⟩ => ⟨S264, .i32⟩
  | .hbm, ⟨27, _⟩ => ⟨S264, .i1⟩
  | .hbm, ⟨28, _⟩ => ⟨S_, .i32⟩
  | .hbm, ⟨29, _⟩ => ⟨S264, .i32⟩
  | .hbm, ⟨30, _⟩ => ⟨S264, .i32⟩
  | .hbm, ⟨31, _⟩ => ⟨S264, .i32⟩
  | .hbm, ⟨32, _⟩ => ⟨S264x1, .i32⟩
  | .hbm, ⟨33, _⟩ => ⟨S264x1024x3584, .f32⟩
  | .hbm, ⟨34, _⟩ => ⟨S8x1024x3584, .f32⟩
  | .hbm, ⟨35, _⟩ => ⟨S_, .i32⟩
  | .hbm, ⟨36, _⟩ => ⟨S264, .i32⟩
  | .hbm, ⟨37, _⟩ => ⟨S264, .i1⟩
  | .hbm, ⟨38, _⟩ => ⟨S_, .i32⟩
  | .hbm, ⟨39, _⟩ => ⟨S264, .i32⟩
  | .hbm, ⟨40, _⟩ => ⟨S264, .i32⟩
  | .hbm, ⟨41, _⟩ => ⟨S264, .i32⟩
  | .hbm, ⟨42, _⟩ => ⟨S264x1, .i32⟩
  | .hbm, ⟨43, _⟩ => ⟨S264x1024x3584, .f32⟩
  | .hbm, ⟨44, _⟩ => ⟨S8x3584x1024, .f32⟩
  | .hbm, ⟨45, _⟩ => ⟨S_, .i32⟩
  | .hbm, ⟨46, _⟩ => ⟨S264, .i32⟩
  | .hbm, ⟨47, _⟩ => ⟨S264, .i1⟩
  | .hbm, ⟨48, _⟩ => ⟨S_, .i32⟩
  | .hbm, ⟨49, _⟩ => ⟨S264, .i32⟩
  | .hbm, ⟨50, _⟩ => ⟨S264, .i32⟩
  | .hbm, ⟨51, _⟩ => ⟨S264, .i32⟩
  | .hbm, ⟨52, _⟩ => ⟨S264x1, .i32⟩
  | .hbm, ⟨53, _⟩ => ⟨S264x3584x1024, .f32⟩
  | .hbm, ⟨54, _⟩ => ⟨S264x512x3584, .f32⟩
  | .hbm, ⟨55, _⟩ => ⟨S264x512x3584, .f32⟩
  | .hbm, ⟨56, _⟩ => ⟨S264x512x3584, .f32⟩
  | .hbm, ⟨57, _⟩ => ⟨S_, .f32⟩
  | .hbm, ⟨58, _⟩ => ⟨S264x512x3584, .f32⟩
  | .hbm, ⟨59, _⟩ => ⟨S264x512x3584, .f32⟩
  | .hbm, ⟨60, _⟩ => ⟨S_, .f32⟩
  | .hbm, ⟨61, _⟩ => ⟨S264x512x3584, .f32⟩
  | .hbm, ⟨62, _⟩ => ⟨S264x512x3584, .f32⟩
  | .hbm, ⟨63, _⟩ => ⟨S264x512x3584, .f32⟩
  | .hbm, ⟨64, _⟩ => ⟨S264x512x3584, .f32⟩
  | .hbm, ⟨65, _⟩ => ⟨S264x512x3584, .f32⟩
  | .hbm, ⟨66, _⟩ => ⟨S264x512x1024, .f32⟩
  | .hbm, ⟨67, _⟩ => ⟨S264x512x512, .f32⟩
  | .hbm, ⟨68, _⟩ => ⟨S264x512x512, .f32⟩
  | .hbm, ⟨69, _⟩ => ⟨S264x512x1x512, .f32⟩
  | .hbm, ⟨70, _⟩ => ⟨S264x512x1x512, .f32⟩
  | .hbm, ⟨71, _⟩ => ⟨S264x512x2x512, .f32⟩
  | .hbm, ⟨72, _⟩ => ⟨S270336x512, .f32⟩
  | .hbm, ⟨73, _⟩ => ⟨S270336x512, .bf16⟩
  | _, _ => ⟨S270336x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_v13 : Ref sig .tc := ⟨.hbm, 23, rfl⟩
abbrev main_v14 : Ref sig .tc := ⟨.hbm, 24, rfl⟩
abbrev main_c : Ref sig .tc := ⟨.hbm, 25, rfl⟩
abbrev main_v15 : Ref sig .tc := ⟨.hbm, 26, rfl⟩
abbrev main_v16 : Ref sig .tc := ⟨.hbm, 27, rfl⟩
abbrev main_c_0 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c_1 : Ref sig .tc := ⟨.hbm, 35, rfl⟩
abbrev main_v23 : Ref sig .tc := ⟨.hbm, 36, rfl⟩
abbrev main_v24 : Ref sig .tc := ⟨.hbm, 37, rfl⟩
abbrev main_c_2 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c_3 : Ref sig .tc := ⟨.hbm, 45, rfl⟩
abbrev main_v31 : Ref sig .tc := ⟨.hbm, 46, rfl⟩
abbrev main_v32 : Ref sig .tc := ⟨.hbm, 47, rfl⟩
abbrev main_c_4 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_call1_v0 : Ref sig .tc := ⟨.hbm, 55, rfl⟩
abbrev main_call1_v1 : Ref sig .tc := ⟨.hbm, 56, rfl⟩
abbrev main_call1_cst : Ref sig .tc := ⟨.hbm, 57, rfl⟩
abbrev main_call1_v2 : Ref sig .tc := ⟨.hbm, 58, rfl⟩
abbrev main_call1_v3 : Ref sig .tc := ⟨.hbm, 59, rfl⟩
abbrev main_call1_cst_0 : Ref sig .tc := ⟨.hbm, 60, rfl⟩
abbrev main_call1_v4 : Ref sig .tc := ⟨.hbm, 61, rfl⟩
abbrev main_call1_v5 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩

abbrev nD : Nat := 1
abbrev τ : Topo := Topo.v7x

variable {F : FTy → Type} [FloatOps F]
-- ==== Kernel3.lean ====
abbrev S65536x1024 : Shape := ⟨2, ![65536, 1024]⟩
abbrev S1024x2816 : Shape := ⟨2, ![1024, 2816]⟩
abbrev S2816x1024 : Shape := ⟨2, ![2816, 1024]⟩
abbrev S1024 : Shape := ⟨1, ![1024]⟩
abbrev S1x1024 : Shape := ⟨2, ![1, 1024]⟩
abbrev S512x1024 : Shape := ⟨2, ![512, 1024]⟩
abbrev S1024x256 : Shape := ⟨2, ![1024, 256]⟩
abbrev S512x256 : Shape := ⟨2, ![512, 256]⟩
abbrev S256x1024 : Shape := ⟨2, ![256, 1024]⟩
abbrev S512 : Shape := ⟨1, ![512]⟩
abbrev S512x1 : Shape := ⟨2, ![512, 1]⟩

abbrev nBuf : Space → Nat
  | .hbm => 12
  | .vmem => 10
  | .smem => 0
  | _ => 0

abbrev bufTy : (tb : Table) → Fin (tcTables nBuf tb) → BufTy
  | .hbm, ⟨0, _⟩ => ⟨S65536x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S1024, .f32⟩
  | .hbm, ⟨5, _⟩ => ⟨S1024, .f32⟩
  | .hbm, ⟨6, _⟩ => ⟨S1024x2816, .bf16⟩
  | .hbm, ⟨7, _⟩ => ⟨S1024x2816, .bf16⟩
  | .hbm, ⟨8, _⟩ => ⟨S2816x1024, .bf16⟩
  | .hbm, ⟨9, _⟩ => ⟨S1x1024, .f32⟩
  | .hbm, ⟨10, _⟩ => ⟨S1x1024, .f32⟩
  | .hbm, ⟨11, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S1024x2816, .bf16⟩
  | .local _ .vmem, ⟨3, _⟩ => ⟨S1024x2816, .bf16⟩
  | .local _ .vmem, ⟨4, _⟩ => ⟨S2816x1024, .bf16⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2816 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference3Ideal.lean ====
abbrev S65536x1024 : Shape := ⟨2, ![65536, 1024]⟩
abbrev S1024x2816 : Shape := ⟨2, ![1024, 2816]⟩
abbrev S2816x1024 : Shape := ⟨2, ![2816, 1024]⟩
abbrev S1024 : Shape := ⟨1, ![1024]⟩
abbrev S_ : Shape := ⟨0, ![]⟩
abbrev S65536x2816 : Shape := ⟨2, ![65536, 2816]⟩
abbrev S65536 : Shape := ⟨1, ![65536]⟩
abbrev S65536x1 : Shape := ⟨2, ![65536, 1]⟩
abbrev S1x1024 : Shape := ⟨2, ![1, 1024]⟩

abbrev nBuf : Space → Nat
  | .hbm => 52
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S1024, .f32⟩
  | .hbm, ⟨5, _⟩ => ⟨S1024, .f32⟩
  | .hbm, ⟨6, _⟩ => ⟨S_, .f32⟩
  | .hbm, ⟨7, _⟩ => ⟨S65536x1024, .f32⟩
  | .hbm, ⟨8, _⟩ => ⟨S65536x1024, .f32⟩
  | .hbm, ⟨9, _⟩ => ⟨S65536x2816, .f32⟩
  | .hbm, ⟨10, _⟩ => ⟨S65536x2816, .f32⟩
  | .hbm, ⟨11, _⟩ => ⟨S65536x2816, .f32⟩
  | .hbm, ⟨12, _⟩ => ⟨S_, .f32⟩
  | .hbm, ⟨13, _⟩ => ⟨S65536x2816, .f32⟩
  | .hbm, ⟨14, _⟩ => ⟨S65536x2816, .f32⟩
  | .hbm, ⟨15, _⟩ => ⟨S_, .f32⟩
  | .hbm, ⟨16, _⟩ => ⟨S65536x2816, .f32⟩
  | .hbm, ⟨17, _⟩ => ⟨S65536x2816, .f32⟩
  | .hbm, ⟨18, _⟩ => ⟨S65536x2816, .f32⟩
  | .hbm, ⟨19, _⟩ => ⟨S65536x2816, .f32⟩
  | .hbm, ⟨20, _⟩ => ⟨S65536x2816, .f32⟩
  | .hbm, ⟨21, _⟩ => ⟨S65536x1024, .f32⟩
  | .hbm, ⟨22, _⟩ => ⟨S65536x1024, .f32⟩
  | .hbm, ⟨23, _⟩ => ⟨S_, .f32⟩
  | .hbm, ⟨24, _⟩ => ⟨S65536, .f32⟩
  | .hbm, ⟨25, _⟩ => ⟨S65536x1, .f32⟩
  | .hbm, ⟨26, _⟩ => ⟨S_, .f32⟩
  | .hbm, ⟨27, _⟩ => ⟨S65536x1, .f32⟩
  | .hbm, ⟨28, _⟩ => ⟨S65536x1, .f32⟩
  | .hbm, ⟨29, _⟩ => ⟨S65536x1024, .f32⟩
  | .hbm, ⟨30, _⟩ => ⟨S65536x1024, .f32⟩
  | .hbm, ⟨31, _⟩ => ⟨S65536x1024, .f32⟩
  | .hbm, ⟨32, _⟩ => ⟨S_, .f32⟩
  | .hbm, ⟨33, _⟩ => ⟨S65536, .f32⟩
  | .hbm, ⟨34, _⟩ => ⟨S65536x1, .f32⟩
  | .hbm, ⟨35, _⟩ => ⟨S_, .f32⟩
  | .hbm, ⟨36, _⟩ => ⟨S65536x1, .f32⟩
  | .hbm, ⟨37, _⟩ => ⟨S65536x1, .f32⟩
  | .hbm, ⟨38, _⟩ => ⟨S65536x1024, .f32⟩
  | .hbm, ⟨39, _⟩ => ⟨S65536x1024, .f32⟩
  | .hbm, ⟨40, _⟩ => ⟨S_, .f32⟩
  | .hbm, ⟨41, _⟩ => ⟨S65536x1, .f32⟩
  | .hbm, ⟨42, _⟩ => ⟨S65536x1, .f32⟩
  | .hbm, ⟨43, _⟩ => ⟨S65536x1, .f32⟩
  | .hbm, ⟨44, _⟩ => ⟨S65536x1024, .f32⟩
  | .hbm, ⟨45, _⟩ => ⟨S65536x1024, .f32⟩
  | .hbm, ⟨46, _⟩ => ⟨S1x1024, .f32⟩
  | .hbm, ⟨47, _⟩ => ⟨S65536x1024, .f32⟩
  | .hbm, ⟨48, _⟩ => ⟨S65536x1024, .f32⟩
  | .hbm, ⟨49, _⟩ => ⟨S1x1024, .f32⟩
  | .hbm, ⟨50, _⟩ => ⟨S65536x1024, .f32⟩
  | .hbm, ⟨51, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_0 : Ref sig .tc := ⟨.hbm, 23, rfl⟩
abbrev main_v8 : Ref sig .tc := ⟨.hbm, 24, rfl⟩
abbrev main_v9 : Ref sig .tc := ⟨.hbm, 25, rfl⟩
abbrev main_cst_1 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_cst_2 : Ref sig .tc := ⟨.hbm, 32, rfl⟩
abbrev main_v15 : Ref sig .tc := ⟨.hbm, 33, rfl⟩
abbrev main_v16 : Ref sig .tc := ⟨.hbm, 34, rfl⟩
abbrev main_cst_3 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_cst_4 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩

abbrev nD : Nat := 1
abbrev τ : Topo := Topo.v7x

variable {F : FTy → Type} [FloatOps F]
-- ==== Kernel4.lean ====
abbrev S65536x1024 : Shape := ⟨2, ![65536, 1024]⟩
abbrev S65536x512 : Shape := ⟨2, ![65536, 512]⟩
abbrev S1024x1024 : Shape := ⟨2, ![1024, 1024]⟩
abbrev S1024 : Shape := ⟨1, ![1024]⟩
abbrev S1x1024 : Shape := ⟨2, ![1, 1024]⟩
abbrev S1024x512 : Shape := ⟨2, ![1024, 512]⟩
abbrev S512x1024 : Shape := ⟨2, ![512, 1024]⟩
abbrev S1024x1 : Shape := ⟨2, ![1024, 1]⟩

abbrev nBuf : Space → Nat
  | .hbm => 10
  | .vmem => 11
  | .smem => 0
  | _ => 0

abbrev bufTy : (tb : Table) → Fin (tcTables nBuf tb) → BufTy
  | .hbm, ⟨0, _⟩ => ⟨S65536x1024, .f32⟩
  | .hbm, ⟨1, _⟩ => ⟨S65536x512, .bf16⟩
  | .hbm, ⟨2, _⟩ => ⟨S65536x512, .bf16⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S1024x1024, .bf16⟩
  | .hbm, ⟨7, _⟩ => ⟨S1x1024, .f32⟩
  | .hbm, ⟨8, _⟩ => ⟨S1x1024, .f32⟩
  | .hbm, ⟨9, _⟩ => ⟨S65536x1024, .f32⟩
  | .local _ .vmem, ⟨0, _⟩ => ⟨S1024x1024, .f32⟩
  | .local _ .vmem, ⟨1, _⟩ => ⟨S1024x1024, .f32⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x1024, .bf16⟩
  | .local _ .vmem, ⟨7, _⟩ => ⟨S1x1024, .f32⟩
  | .local _ .vmem, ⟨8, _⟩ => ⟨S1x1024, .f32⟩
  | .local _ .vmem, ⟨9, _⟩ => ⟨S1024x1024, .f32⟩
  | .local _ .vmem, ⟨10, _⟩ => ⟨S1024x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference4Ideal.lean ====
abbrev S65536x1024 : Shape := ⟨2, ![65536, 1024]⟩
abbrev S65536x512 : Shape := ⟨2, ![65536, 512]⟩
abbrev S1024x1024 : Shape := ⟨2, ![1024, 1024]⟩
abbrev S1024 : Shape := ⟨1, ![1024]⟩
abbrev S_ : Shape := ⟨0, ![]⟩
abbrev S65536 : Shape := ⟨1, ![65536]⟩
abbrev S65536x1 : Shape := ⟨2, ![65536, 1]⟩
abbrev S1x1024 : Shape := ⟨2, ![1, 1024]⟩

abbrev nBuf : Space → Nat
  | .hbm => 43
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S65536x512, .bf16⟩
  | .hbm, ⟨2, _⟩ => ⟨S65536x512, .bf16⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S65536x512, .f32⟩
  | .hbm, ⟨7, _⟩ => ⟨S65536x512, .f32⟩
  | .hbm, ⟨8, _⟩ => ⟨S65536x1024, .f32⟩
  | .hbm, ⟨9, _⟩ => ⟨S65536x1024, .f32⟩
  | .hbm, ⟨10, _⟩ => ⟨S_, .f32⟩
  | .hbm, ⟨11, _⟩ => ⟨S65536x1024, .f32⟩
  | .hbm, ⟨12, _⟩ => ⟨S65536x1024, .f32⟩
  | .hbm, ⟨13, _⟩ => ⟨S65536x1024, .f32⟩
  | .hbm, ⟨14, _⟩ => ⟨S_, .f32⟩
  | .hbm, ⟨15, _⟩ => ⟨S65536, .f32⟩
  | .hbm, ⟨16, _⟩ => ⟨S65536x1, .f32⟩
  | .hbm, ⟨17, _⟩ => ⟨S_, .f32⟩
  | .hbm, ⟨18, _⟩ => ⟨S65536x1, .f32⟩
  | .hbm, ⟨19, _⟩ => ⟨S65536x1, .f32⟩
  | .hbm, ⟨20, _⟩ => ⟨S65536x1024, .f32⟩
  | .hbm, ⟨21, _⟩ => ⟨S65536x1024, .f32⟩
  | .hbm, ⟨22, _⟩ => ⟨S65536x1024, .f32⟩
  | .hbm, ⟨23, _⟩ => ⟨S_, .f32⟩
  | .hbm, ⟨24, _⟩ => ⟨S65536, .f32⟩
  | .hbm, ⟨25, _⟩ => ⟨S65536x1, .f32⟩
  | .hbm, ⟨26, _⟩ => ⟨S_, .f32⟩
  | .hbm, ⟨27, _⟩ => ⟨S65536x1, .f32⟩
  | .hbm, ⟨28, _⟩ => ⟨S65536x1, .f32⟩
  | .hbm, ⟨29, _⟩ => ⟨S65536x1024, .f32⟩
  | .hbm, ⟨30, _⟩ => ⟨S65536x1024, .f32⟩
  | .hbm, ⟨31, _⟩ => ⟨S_, .f32⟩
  | .hbm, ⟨32, _⟩ => ⟨S65536x1, .f32⟩
  | .hbm, ⟨33, _⟩ => ⟨S65536x1, .f32⟩
  | .hbm, ⟨34, _⟩ => ⟨S65536x1, .f32⟩
  | .hbm, ⟨35, _⟩ => ⟨S65536x1024, .f32⟩
  | .hbm, ⟨36, _⟩ => ⟨S65536x1024, .f32⟩
  | .hbm, ⟨37, _⟩ => ⟨S1x1024, .f32⟩
  | .hbm, ⟨38, _⟩ => ⟨S65536x1024, .f32⟩
  | .hbm, ⟨39, _⟩ => ⟨S65536x1024, .f32⟩
  | .hbm, ⟨40, _⟩ => ⟨S1x1024, .f32⟩
  | .hbm, ⟨41, _⟩ => ⟨S65536x1024, .f32⟩
  | .hbm, ⟨42, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩

abbrev nD : Nat := 1
abbrev τ : Topo := Topo.v7x

variable {F : FTy → Type} [FloatOps F]
-- ==== Kernel5.lean ====
abbrev S65536x1024 : Shape := ⟨2, ![65536, 1024]⟩
abbrev S1024x3600 : Shape := ⟨2, ![1024, 3600]⟩
abbrev S1024x2064 : Shape := ⟨2, ![1024, 2064]⟩
abbrev S_ : Shape := ⟨0, ![]⟩
abbrev S1024x112 : Shape := ⟨2, ![1024, 112]⟩
abbrev S1024x2176 : Shape := ⟨2, ![1024, 2176]⟩
abbrev S1024x1024 : Shape := ⟨2, ![1024, 1024]⟩
abbrev S1024x512 : Shape := ⟨2, ![1024, 512]⟩
abbrev S512x1024 : Shape := ⟨2, ![512, 1024]⟩
abbrev S65536x1536 : Shape := ⟨2, ![65536, 1536]⟩
abbrev S65536x512 : Shape := ⟨2, ![65536, 512]⟩
abbrev S65536x128 : Shape := ⟨2, ![65536, 128]⟩
abbrev S8x512x8192 : Shape := ⟨3, ![8, 512, 8192]⟩
abbrev S512x1536 : Shape := ⟨2, ![512, 1536]⟩
abbrev S512x512 : Shape := ⟨2, ![512, 512]⟩
abbrev S512x128 : Shape := ⟨2, ![512, 128]⟩
abbrev S1x512x512 : Shape := ⟨3, ![1, 512, 512]⟩
abbrev S1024x1536 : Shape := ⟨2, ![1024, 1536]⟩
abbrev S1024x128 : Shape := ⟨2, ![1024, 128]⟩

abbrev nBuf : Space → Nat
  | .hbm => 18
  | .vmem => 17
  | .smem => 0
  | _ => 0

abbrev bufTy : (tb : Table) → Fin (tcTables nBuf tb) → BufTy
  | .hbm, ⟨0, _⟩ => ⟨S65536x1024, .f32⟩
  | .hbm, ⟨1, _⟩ => ⟨S1024x3600, .f32⟩
  | .hbm, ⟨2, _⟩ => ⟨S1024x2064, .f32⟩
  | .hbm, ⟨3, _⟩ => ⟨S_, .f32⟩
  | .hbm, ⟨4, _⟩ => ⟨S1024x112, .f32⟩
  | .hbm, ⟨5, _⟩ => ⟨S1024x2176, .f32⟩
  | .hbm, ⟨6, _⟩ => ⟨S1024x2176, .bf16⟩
  | .hbm, ⟨7, _⟩ => ⟨S1024x1024, .f32⟩
  | .hbm, ⟨8, _⟩ => ⟨S1024x1024, .bf16⟩
  | .hbm, ⟨9, _⟩ => ⟨S1024x512, .f32⟩
  | .hbm, ⟨10, _⟩ => ⟨S512x1024, .f32⟩
  | .hbm, ⟨11, _⟩ => ⟨S512x1024, .bf16⟩
  | .hbm, ⟨12, _⟩ => ⟨S65536x1536, .f32⟩
  | .hbm, ⟨13, _⟩ => ⟨S65536x512, .f32⟩
  | .hbm, ⟨14, _⟩ => ⟨S65536x128, .f32⟩
  | .hbm, ⟨15, _⟩ => ⟨S65536x512, .bf16⟩
  | .hbm, ⟨16, _⟩ => ⟨S65536x512, .bf16⟩
  | .hbm, ⟨17, _⟩ => ⟨S8x512x8192, .bf16⟩
  | .local _ .vmem, ⟨0, _⟩ => ⟨S512x1024, .f32⟩
  | .local _ .vmem, ⟨1, _⟩ => ⟨S512x1024, .f32⟩
  | .local _ .vmem, ⟨2, _⟩ => ⟨S1024x2176, .bf16⟩
  | .local _ .vmem, ⟨3, _⟩ => ⟨S1024x1024, .bf16⟩
  | .local _ .vmem, ⟨4, _⟩ => ⟨S512x1024, .bf16⟩
  | .local _ .vmem, ⟨5, _⟩ => ⟨S512x1536, .f32⟩
  | .local _ .vmem, ⟨6, _⟩ => ⟨S512x1536, .f32⟩
  | .local _ .vmem, ⟨7, _⟩ => ⟨S512x512, .f32⟩
  | .local _ .vmem, ⟨8, _⟩ => ⟨S512x512, .f32⟩
  | .local _ .vmem, ⟨9, _⟩ => ⟨S512x128, .f32⟩
  | .local _ .vmem, ⟨10, _⟩ => ⟨S512x128, .f32⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S1x512x512, .bf16⟩
  | .local _ .vmem, ⟨16, _⟩ => ⟨S1x512x512, .bf16⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9_0 : Ref sig .tc := ⟨.hbm, 12, rfl⟩
abbrev main_v9_1 : Ref sig .tc := ⟨.hbm, 13, rfl⟩
abbrev main_v9_2 : Ref sig .tc := ⟨.hbm, 14, rfl⟩
abbrev main_v9_3 : Ref sig .tc := ⟨.hbm, 15, rfl⟩
abbrev main_v9_4 : Ref sig .tc := ⟨.hbm, 16, rfl⟩
abbrev main_v9_5 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2176 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference5Ideal.lean ====
abbrev S65536x1024 : Shape := ⟨2, ![65536, 1024]⟩
abbrev S1024x3600 : Shape := ⟨2, ![1024, 3600]⟩
abbrev S65536x3600 : Shape := ⟨2, ![65536, 3600]⟩
abbrev S65536x1536 : Shape := ⟨2, ![65536, 1536]⟩
abbrev S65536x512 : Shape := ⟨2, ![65536, 512]⟩
abbrev S65536x16 : Shape := ⟨2, ![65536, 16]⟩
abbrev S_ : Shape := ⟨0, ![]⟩
abbrev S65536x112 : Shape := ⟨2, ![65536, 112]⟩
abbrev S65536x128 : Shape := ⟨2, ![65536, 128]⟩
abbrev S8x8192x512 : Shape := ⟨3, ![8, 8192, 512]⟩
abbrev S8x512x8192 : Shape := ⟨3, ![8, 512, 8192]⟩

abbrev nBuf : Space → Nat
  | .hbm => 20
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1024x3600, .f32⟩
  | .hbm, ⟨2, _⟩ => ⟨S65536x3600, .f32⟩
  | .hbm, ⟨3, _⟩ => ⟨S65536x1536, .f32⟩
  | .hbm, ⟨4, _⟩ => ⟨S65536x512, .f32⟩
  | .hbm, ⟨5, _⟩ => ⟨S65536x16, .f32⟩
  | .hbm, ⟨6, _⟩ => ⟨S65536x512, .f32⟩
  | .hbm, ⟨7, _⟩ => ⟨S65536x512, .f32⟩
  | .hbm, ⟨8, _⟩ => ⟨S65536x512, .f32⟩
  | .hbm, ⟨9, _⟩ => ⟨S_, .f32⟩
  | .hbm, ⟨10, _⟩ => ⟨S65536x112, .f32⟩
  | .hbm, ⟨11, _⟩ => ⟨S65536x128, .f32⟩
  | .hbm, ⟨12, _⟩ => ⟨S_, .f32⟩
  | .hbm, ⟨13, _⟩ => ⟨S65536x512, .f32⟩
  | .hbm, ⟨14, _⟩ => ⟨S65536x512, .f32⟩
  | .hbm, ⟨15, _⟩ => ⟨S65536x512, .bf16⟩
  | .hbm, ⟨16, _⟩ => ⟨S65536x512, .bf16⟩
  | .hbm, ⟨17, _⟩ => ⟨S8x8192x512, .f32⟩
  | .hbm, ⟨18, _⟩ => ⟨S8x512x8192, .f32⟩
  | .hbm, ⟨19, _⟩ => ⟨S8x512x8192, .bf16⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩

abbrev nD : Nat := 1
abbrev τ : Topo := Topo.v7x

variable {F : FTy → Type} [FloatOps F]
-- ==== Kernel6.lean ====
abbrev S65536x1024 : Shape := ⟨2, ![65536, 1024]⟩
abbrev S65536x512 : Shape := ⟨2, ![65536, 512]⟩
abbrev S65536x128 : Shape := ⟨2, ![65536, 128]⟩
abbrev S1024 : Shape := ⟨1, ![1024]⟩
abbrev S1x1024 : Shape := ⟨2, ![1, 1024]⟩
abbrev S1024x1024 : Shape := ⟨2, ![1024, 1024]⟩
abbrev S1024x512 : Shape := ⟨2, ![1024, 512]⟩
abbrev S1024x128 : Shape := ⟨2, ![1024, 128]⟩
abbrev S1024x1 : Shape := ⟨2, ![1024, 1]⟩

abbrev nBuf : Space → Nat
  | .hbm => 9
  | .vmem => 12
  | .smem => 0
  | _ => 0

abbrev bufTy : (tb : Table) → Fin (tcTables nBuf tb) → BufTy
  | .hbm, ⟨0, _⟩ => ⟨S65536x1024, .f32⟩
  | .hbm, ⟨1, _⟩ => ⟨S65536x512, .i32⟩
  | .hbm, ⟨2, _⟩ => ⟨S65536x512, .i32⟩
  | .hbm, ⟨3, _⟩ => ⟨S65536x128, .f32⟩
  | .hbm, ⟨4, _⟩ => ⟨S1024, .f32⟩
  | .hbm, ⟨5, _⟩ => ⟨S1024, .f32⟩
  | .hbm, ⟨6, _⟩ => ⟨S1x1024, .f32⟩
  | .hbm, ⟨7, _⟩ => ⟨S1x1024, .f32⟩
  | .hbm, ⟨8, _⟩ => ⟨S65536x1024, .f32⟩
  | .local _ .vmem, ⟨0, _⟩ => ⟨S1024x1024, .f32⟩
  | .local _ .vmem, ⟨1, _⟩ => ⟨S1024x1024, .f32⟩
  | .local _ .vmem, ⟨2, _⟩ => ⟨S1024x512, .i32⟩
  | .local _ .vmem, ⟨3, _⟩ => ⟨S1024x512, .i32⟩
  | .local _ .vmem, ⟨4, _⟩ => ⟨S1024x512, .i32⟩
  | .local _ .vmem, ⟨5, _⟩ => ⟨S1024x512, .i32⟩
  | .local _ .vmem, ⟨6, _⟩ => ⟨S1024x128, .f32⟩
  | .local _ .vmem, ⟨7, _⟩ => ⟨S1024x128, .f32⟩
  | .local _ .vmem, ⟨8, _⟩ => ⟨S1x1024, .f32⟩
  | .local _ .vmem, ⟨9, _⟩ => ⟨S1x1024, .f32⟩
  | .local _ .vmem, ⟨10, _⟩ => ⟨S1024x1024, .f32⟩
  | .local _ .vmem, ⟨11, _⟩ => ⟨S1024x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference6Ideal.lean ====
abbrev S65536x1024 : Shape := ⟨2, ![65536, 1024]⟩
abbrev S65536x512 : Shape := ⟨2, ![65536, 512]⟩
abbrev S65536x128 : Shape := ⟨2, ![65536, 128]⟩
abbrev S1024 : Shape := ⟨1, ![1024]⟩
abbrev S65536x1 : Shape := ⟨2, ![65536, 1]⟩
abbrev S65536x512x2 : Shape := ⟨3, ![65536, 512, 2]⟩
abbrev S65536x512x1 : Shape := ⟨3, ![65536, 512, 1]⟩
abbrev S_ : Shape := ⟨0, ![]⟩
abbrev S65536 : Shape := ⟨1, ![65536]⟩
abbrev S1x1024 : Shape := ⟨2, ![1, 1024]⟩

abbrev nBuf : Space → Nat
  | .hbm => 60
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S65536x512, .i32⟩
  | .hbm, ⟨2, _⟩ => ⟨S65536x512, .i32⟩
  | .hbm, ⟨3, _⟩ => ⟨S65536x128, .f32⟩
  | .hbm, ⟨4, _⟩ => ⟨S1024, .f32⟩
  | .hbm, ⟨5, _⟩ => ⟨S1024, .f32⟩
  | .hbm, ⟨6, _⟩ => ⟨S65536x1, .f32⟩
  | .hbm, ⟨7, _⟩ => ⟨S65536x512x2, .bf16⟩
  | .hbm, ⟨8, _⟩ => ⟨S65536x512x2, .f32⟩
  | .hbm, ⟨9, _⟩ => ⟨S65536x512x1, .f32⟩
  | .hbm, ⟨10, _⟩ => ⟨S65536x512, .f32⟩
  | .hbm, ⟨11, _⟩ => ⟨S65536x512x1, .f32⟩
  | .hbm, ⟨12, _⟩ => ⟨S65536x512, .f32⟩
  | .hbm, ⟨13, _⟩ => ⟨S65536x1024, .f32⟩
  | .hbm, ⟨14, _⟩ => ⟨S65536x1024, .f32⟩
  | .hbm, ⟨15, _⟩ => ⟨S65536x1024, .f32⟩
  | .hbm, ⟨16, _⟩ => ⟨S65536x1, .f32⟩
  | .hbm, ⟨17, _⟩ => ⟨S65536x512x2, .bf16⟩
  | .hbm, ⟨18, _⟩ => ⟨S65536x512x2, .f32⟩
  | .hbm, ⟨19, _⟩ => ⟨S65536x512x1, .f32⟩
  | .hbm, ⟨20, _⟩ => ⟨S65536x512, .f32⟩
  | .hbm, ⟨21, _⟩ => ⟨S65536x512x1, .f32⟩
  | .hbm, ⟨22, _⟩ => ⟨S65536x512, .f32⟩
  | .hbm, ⟨23, _⟩ => ⟨S65536x1024, .f32⟩
  | .hbm, ⟨24, _⟩ => ⟨S65536x1024, .f32⟩
  | .hbm, ⟨25, _⟩ => ⟨S65536x1024, .f32⟩
  | .hbm, ⟨26, _⟩ => ⟨S65536x1024, .f32⟩
  | .hbm, ⟨27, _⟩ => ⟨S_, .f32⟩
  | .hbm, ⟨28, _⟩ => ⟨S65536x1024, .f32⟩
  | .hbm, ⟨29, _⟩ => ⟨S65536x1024, .f32⟩
  | .hbm, ⟨30, _⟩ => ⟨S65536x1024, .f32⟩
  | .hbm, ⟨31, _⟩ => ⟨S_, .f32⟩
  | .hbm, ⟨32, _⟩ => ⟨S65536, .f32⟩
  | .hbm, ⟨33, _⟩ => ⟨S65536x1, .f32⟩
  | .hbm, ⟨34, _⟩ => ⟨S_, .f32⟩
  | .hbm, ⟨35, _⟩ => ⟨S65536x1, .f32⟩
  | .hbm, ⟨36, _⟩ => ⟨S65536x1, .f32⟩
  | .hbm, ⟨37, _⟩ => ⟨S65536x1024, .f32⟩
  | .hbm, ⟨38, _⟩ => ⟨S65536x1024, .f32⟩
  | .hbm, ⟨39, _⟩ => ⟨S65536x1024, .f32⟩
  | .hbm, ⟨40, _⟩ => ⟨S_, .f32⟩
  | .hbm, ⟨41, _⟩ => ⟨S65536, .f32⟩
  | .hbm, ⟨42, _⟩ => ⟨S65536x1, .f32⟩
  | .hbm, ⟨43, _⟩ => ⟨S_, .f32⟩
  | .hbm, ⟨44, _⟩ => ⟨S65536x1, .f32⟩
  | .hbm, ⟨45, _⟩ => ⟨S65536x1, .f32⟩
  | .hbm, ⟨46, _⟩ => ⟨S65536x1024, .f32⟩
  | .hbm, ⟨47, _⟩ => ⟨S65536x1024, .f32⟩
  | .hbm, ⟨48, _⟩ => ⟨S_, .f32⟩
  | .hbm, ⟨49, _⟩ => ⟨S65536x1, .f32⟩
  | .hbm, ⟨50, _⟩ => ⟨S65536x1, .f32⟩
  | .hbm, ⟨51, _⟩ => ⟨S65536x1, .f32⟩
  | .hbm, ⟨52, _⟩ => ⟨S65536x1024, .f32⟩
  | .hbm, ⟨53, _⟩ => ⟨S65536x1024, .f32⟩
  | .hbm, ⟨54, _⟩ => ⟨S1x1024, .f32⟩
  | .hbm, ⟨55, _⟩ => ⟨S65536x1024, .f32⟩
  | .hbm, ⟨56, _⟩ => ⟨S65536x1024, .f32⟩
  | .hbm, ⟨57, _⟩ => ⟨S1x1024, .f32⟩
  | .hbm, ⟨58, _⟩ => ⟨S65536x1024, .f32⟩
  | .hbm, ⟨59, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_0 : Ref sig .tc := ⟨.hbm, 31, rfl⟩
abbrev main_v24 : Ref sig .tc := ⟨.hbm, 32, rfl⟩
abbrev main_v25 : Ref sig .tc := ⟨.hbm, 33, rfl⟩
abbrev main_cst_1 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_2 : Ref sig .tc := ⟨.hbm, 40, rfl⟩
abbrev main_v31 : Ref sig .tc := ⟨.hbm, 41, rfl⟩
abbrev main_v32 : Ref sig .tc := ⟨.hbm, 42, rfl⟩
abbrev main_cst_3 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_cst_4 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩

abbrev nD : Nat := 1
abbrev τ : Topo := Topo.v7x

variable {F : FTy → Type} [FloatOps F]
-- ==== Kernel7.lean ====
abbrev S65536x1024 : Shape := ⟨2, ![65536, 1024]⟩
abbrev S1024x8 : Shape := ⟨2, ![1024, 8]⟩
abbrev S_ : Shape := ⟨0, ![]⟩
abbrev S1024x120 : Shape := ⟨2, ![1024, 120]⟩
abbrev S1024x128 : Shape := ⟨2, ![1024, 128]⟩
abbrev S65536x128 : Shape := ⟨2, ![65536, 128]⟩
abbrev S131072x512 : Shape := ⟨2, ![131072, 512]⟩
abbrev S1024x1024 : Shape := ⟨2, ![1024, 1024]⟩
abbrev S2048x512 : Shape := ⟨2, ![2048, 512]⟩
abbrev S1024x512 : Shape := ⟨2, ![1024, 512]⟩
abbrev S1024 : Shape := ⟨1, ![1024]⟩
abbrev S1024x1 : Shape := ⟨2, ![1024, 1]⟩

abbrev nBuf : Space → Nat
  | .hbm => 7
  | .vmem => 7
  | .smem => 0
  | _ => 0

abbrev bufTy : (tb : Table) → Fin (tcTables nBuf tb) → BufTy
  | .hbm, ⟨0, _⟩ => ⟨S65536x1024, .f32⟩
  | .hbm, ⟨1, _⟩ => ⟨S1024x8, .f32⟩
  | .hbm, ⟨2, _⟩ => ⟨S_, .f32⟩
  | .hbm, ⟨3, _⟩ => ⟨S1024x120, .f32⟩
  | .hbm, ⟨4, _⟩ => ⟨S1024x128, .f32⟩
  | .hbm, ⟨5, _⟩ => ⟨S65536x128, .f32⟩
  | .hbm, ⟨6, _⟩ => ⟨S131072x512, .bf16⟩
  | .local _ .vmem, ⟨0, _⟩ => ⟨S1024x1024, .f32⟩
  | .local _ .vmem, ⟨1, _⟩ => ⟨S1024x1024, .f32⟩
  | .local _ .vmem, ⟨2, _⟩ => ⟨S1024x128, .f32⟩
  | .local _ .vmem, ⟨3, _⟩ => ⟨S1024x128, .f32⟩
  | .local _ .vmem, ⟨4, _⟩ => ⟨S1024x128, .f32⟩
  | .local _ .vmem, ⟨5, _⟩ => ⟨S2048x512, .bf16⟩
  | .local _ .vmem, ⟨6, _⟩ => ⟨S2048x512, .bf16⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [BitOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Kernel7Ideal.lean ====
variable {F : FTy → Type} [FloatOps F]
-- ==== Reference7Ideal.lean ====
abbrev S65536x1024 : Shape := ⟨2, ![65536, 1024]⟩
abbrev S1024x8 : Shape := ⟨2, ![1024, 8]⟩
abbrev S65536x8 : Shape := ⟨2, ![65536, 8]⟩
abbrev S65536x2 : Shape := ⟨2, ![65536, 2]⟩
abbrev S_ : Shape := ⟨0, ![]⟩
abbrev S65536 : Shape := ⟨1, ![65536]⟩
abbrev S65536x1 : Shape := ⟨2, ![65536, 1]⟩
abbrev S65536x124 : Shape := ⟨2, ![65536, 124]⟩
abbrev S65536x128 : Shape := ⟨2, ![65536, 128]⟩
abbrev S65536x512 : Shape := ⟨2, ![65536, 512]⟩
abbrev S65536x1x512 : Shape := ⟨3, ![65536, 1, 512]⟩
abbrev S65536x2x512 : Shape := ⟨3, ![65536, 2, 512]⟩
abbrev S131072x512 : Shape := ⟨2, ![131072, 512]⟩

abbrev nBuf : Space → Nat
  | .hbm => 30
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1024x8, .f32⟩
  | .hbm, ⟨2, _⟩ => ⟨S65536x8, .f32⟩
  | .hbm, ⟨3, _⟩ => ⟨S65536x2, .f32⟩
  | .hbm, ⟨4, _⟩ => ⟨S65536x2, .i32⟩
  | .hbm, ⟨5, _⟩ => ⟨S_, .f32⟩
  | .hbm, ⟨6, _⟩ => ⟨S65536, .f32⟩
  | .hbm, ⟨7, _⟩ => ⟨S_, .f32⟩
  | .hbm, ⟨8, _⟩ => ⟨S65536, .f32⟩
  | .hbm, ⟨9, _⟩ => ⟨S65536, .f32⟩
  | .hbm, ⟨10, _⟩ => ⟨S65536x1, .f32⟩
  | .hbm, ⟨11, _⟩ => ⟨S65536x2, .f32⟩
  | .hbm, ⟨12, _⟩ => ⟨S65536x2, .f32⟩
  | .hbm, ⟨13, _⟩ => ⟨S65536x2, .f32⟩
  | .hbm, ⟨14, _⟩ => ⟨S_, .f32⟩
  | .hbm, ⟨15, _⟩ => ⟨S65536, .f32⟩
  | .hbm, ⟨16, _⟩ => ⟨S65536x1, .f32⟩
  | .hbm, ⟨17, _⟩ => ⟨S65536x2, .f32⟩
  | .hbm, ⟨18, _⟩ => ⟨S65536x2, .f32⟩
  | .hbm, ⟨19, _⟩ => ⟨S65536x2, .f32⟩
  | .hbm, ⟨20, _⟩ => ⟨S_, .f32⟩
  | .hbm, ⟨21, _⟩ => ⟨S65536x124, .f32⟩
  | .hbm, ⟨22, _⟩ => ⟨S65536x128, .f32⟩
  | .hbm, ⟨23, _⟩ => ⟨S65536x512, .f32⟩
  | .hbm, ⟨24, _⟩ => ⟨S65536x512, .f32⟩
  | .hbm, ⟨25, _⟩ => ⟨S65536x1x512, .f32⟩
  | .hbm, ⟨26, _⟩ => ⟨S65536x1x512, .f32⟩
  | .hbm, ⟨27, _⟩ => ⟨S65536x2x512, .f32⟩
  | .hbm, ⟨28, _⟩ => ⟨S131072x512, .f32⟩
  | .hbm, ⟨29, _⟩ => ⟨S131072x512, .bf16⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_values : Ref sig .tc := ⟨.hbm, 3, rfl⟩
abbrev main_indices : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩

abbrev nD : Nat := 1
abbrev τ : Topo := Topo.v7x

variable {F : FTy → Type} [FloatOps F]
-- ==== Proof.Words.lean ====
/-
  The words of the gather's software pipeline. A subcore runs 32 trips; before trip `t` the loop carries six counters
  (`carr t`), and every window of the trip — the slot of the index ring, the slot of the output ring, the row of the
  index table, the block of the result — is at offsets computed from those counters. Each is stated here in closed form.
-/
module

public import proofs.«01_k».proof.Proof.Gen.KernelIdeal.Skeleton

@[expose] public section

noncomputable section

namespace Cert.Proof.Gather

open Cert.KernelIdeal Cert.KernelIdeal.Gen
open Idealize.ShloMosaic

/-- The loop runs 32 trips. -/
theorem trips_eq : k0_t1_loop.trips = 32 := by decide +kernel

/-- The block of 64 rows that subcore `i` works on at trip `t`. -/
def blk (i : grid0.Coords) (t : ℕ) : ℕ := 512 * (t / 16 % 2) + 16 * ((i 1).val + 16 * (i 0).val) + t % 16

theorem blk_lt (i : grid0.Coords) (t : ℕ) : blk i t < 1024 := by
  have h0 : (i 0).val < 2 := (i 0).isLt
  have h1 : (i 1).val < 16 := (i 1).isLt
  unfold blk; omega

/-- The slot of a ring of two used at trip `t`. -/
def slot (t : ℕ) : Fin 2 := ⟨t % 2, by omega⟩

/-- The counters the loop carries before trip `t`. -/
def carr (t : ℕ) : BitVec 32 × BitVec 32 × BitVec 32 × BitVec 32 × BitVec 32 × BitVec 32 :=
  (BitVec.ofNat 32 (min (t + 1) 32), BitVec.ofNat 32 t, BitVec.ofNat 32 t, BitVec.ofNat 32 (t - 1),
    BitVec.ofNat 32 (t / 16 % 2), BitVec.ofNat 32 (t % 16))

/-- The subcore's first block, as the program computes it. -/
abbrev base (i : grid0.Coords) : BitVec 32 :=
  Scalar.muli (Scalar.addi (Scalar.addi 0#32 (Scalar.muli (BitVec.ofNat 32 (i 1).val) 1#32)) (Scalar.muli (BitVec.ofNat 32 (i 0).val) 16#32)) 16#32

section Trip

theorem off4_eq : ∀ t : Fin k0_t1_loop.trips, t.val < 31 → k0_off4 (carr t.val).1 = ![(slot (t.val + 1)).val, 0, 0] := by decide +kernel
theorem off6_eq : ∀ t : Fin k0_t1_loop.trips, t.val < 31 → k0_off6 (carr t.val).1 = ![(slot (t.val + 1)).val] := by decide +kernel
theorem off7_eq : ∀ t : Fin k0_t1_loop.trips, k0_off7 (carr t.val).2.1 = ![(slot t.val).val, 0, 0] := by decide +kernel
theorem off9_eq : ∀ t : Fin k0_t1_loop.trips, k0_off9 (carr t.val).2.1 = ![(slot t.val).val] := by decide +kernel
theorem off10_eq : ∀ t : Fin k0_t1_loop.trips, k0_off10 (carr t.val).2.2.1 = ![(slot t.val).val, 0, 0] := by decide +kernel
theorem off11_eq : ∀ t : Fin k0_t1_loop.trips, k0_off11 (carr t.val).2.1 = ![(slot t.val).val, 0, 0] := by decide +kernel
theorem off12_eq : ∀ t : Fin k0_t1_loop.trips, k0_off12 (carr t.val).2.2.1 = ![(slot t.val).val, 0, 0] := by decide +kernel
theorem off14_eq : ∀ t : Fin k0_t1_loop.trips, k0_off14 (carr t.val).2.2.1 = ![(slot t.val).val] := by decide +kernel
theorem off15_eq : ∀ t : Fin k0_t1_loop.trips, 0 < t.val → k0_off15 (carr t.val).2.2.2.1 = ![(slot (t.val - 1)).val, 0, 0] := by decide +kernel
theorem off17_eq : ∀ t : Fin k0_t1_loop.trips, 0 < t.val → k0_off17 (carr t.val).2.2.2.1 = ![(slot (t.val - 1)).val] := by decide +kernel
theorem off5_eq : ∀ (i : grid0.Coords) (t : Fin k0_t1_loop.trips), t.val < 31 →
    k0_off5 i (carr t.val).2.2.2.2.1 (carr t.val).2.2.2.2.2 = ![blk i (t.val + 1), 0] := by decide +kernel
theorem off8_eq : ∀ (i : grid0.Coords) (t : Fin k0_t1_loop.trips),
    k0_off8 i (carr t.val).2.2.2.2.1 (carr t.val).2.2.2.2.2 = ![blk i t.val, 0] := by decide +kernel
theorem off13_eq : ∀ (i : grid0.Coords) (t : Fin k0_t1_loop.trips),
    k0_off13 i (carr t.val).2.2.2.2.1 (carr t.val).2.2.2.2.2 = ![64 * blk i t.val, 0] := by decide +kernel
theorem off16_eq : ∀ (i : grid0.Coords) (t : Fin k0_t1_loop.trips), 0 < t.val →
    k0_off16 i (carr t.val).2.2.2.2.1 (carr t.val).2.2.2.2.2 = ![64 * blk i (t.val - 1), 0] := by decide +kernel
theorem cond1_eq : ∀ (i : grid0.Coords) (t : Fin k0_t1_loop.trips),
    k0_cond1 i t (carr t.val).2.2.2.2.1 (carr t.val).2.2.2.2.2 = 1#1 ↔ t.val < 31 := by decide +kernel
theorem cond2_eq : ∀ (i : grid0.Coords) (t : Fin k0_t1_loop.trips),
    k0_cond2 i t (carr t.val).2.2.2.2.1 (carr t.val).2.2.2.2.2 = 1#1 := by decide +kernel
theorem cond5_eq : ∀ (i : grid0.Coords) (t : Fin k0_t1_loop.trips),
    k0_cond5 i t (carr t.val).2.2.2.2.1 (carr t.val).2.2.2.2.2 = 1#1 := by decide +kernel
theorem cond7_eq : ∀ (i : grid0.Coords) (t : Fin k0_t1_loop.trips),
    k0_cond7 i t (carr t.val).2.2.2.2.1 (carr t.val).2.2.2.2.2 = 1#1 ↔ 0 < t.val := by decide +kernel

theorem chk1_ok : ∀ (i : grid0.Coords) (t : Fin k0_t1_loop.trips),
    k0_chk1 i t (carr t.val).1 (carr t.val).2.1 (carr t.val).2.2.1 (carr t.val).2.2.2.1 (carr t.val).2.2.2.2.1 (carr t.val).2.2.2.2.2 := by decide +kernel
theorem chk2_ok : ∀ t : Fin k0_t1_loop.trips, k0_chk2 (carr t.val).2.2.1 := by decide +kernel
theorem chk3_ok : ∀ t : Fin k0_t1_loop.trips, k0_chk3 (carr t.val).2.1 := by decide +kernel

end Trip

/-! ## After the loop -/

theorem chk4_ok : k0_chk4 (carr 32).2.2.2.1 := by decide +kernel
theorem chk5_ok : ∀ i : grid0.Coords, k0_chk5 i (carr 32).2.2.2.2.2 (carr 32).2.2.2.2.1 := by decide +kernel
theorem off19_eq : ∀ i : grid0.Coords, k0_off19 i (carr 32).2.2.2.2.2 (carr 32).2.2.2.2.1 = ![64 * blk i 31, 0] := by decide +kernel
theorem off20_eq : k0_off20 (carr 32).2.2.2.1 = ![(slot 31).val] := by decide +kernel
theorem off21_eq : k0_off21 (carr 32).2.2.2.1 = ![(slot 31).val, 0, 0] := by decide +kernel

end Cert.Proof.Gather

end
-- ==== Proof.Cells.lean ====
/-
  The gather's windows and what they hold. A subcore keeps two rings of two slots, one for rows of the index table and
  one for blocks of the result; here are the slots, the rows and the blocks as views of their buffers, the contents a
  block ends at, and the set-up of the launch (the program as the launch theorem sees it, its resource algebra).
-/
module

public import proofs.«01_k».proof.Proof.Words
public import proofs.«01_k».proof.Proof.Gen.KernelIdeal
public import Idealize.ShloMosaic.Lib.SparseCore.Quiescent
public import Idealize.ShloMosaic.Lib.SparseCore.Ops
public import Idealize.ShloMosaic.Lib.SparseCore.Stream
public import Idealize.ShloMosaic.Lib.SparseCore.FromWhole
public import Idealize.ShloMosaic.Lib.SparseCore.Scatter
public import Idealize.ShloMosaic.Lib.StableHlo.Run
public import Idealize.ShloMosaic.Lib.Pipeline.Kit
public import Idealize.ShloMosaic.Lib.Tactic

@[expose] public section

noncomputable section

namespace Cert.Proof.Gather

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- What the launch theorem asks of the four handshake semaphores and of the buffers' owners. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds and the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The buffers, and the windows of them -/

abbrev yV : Memref sig .scVector .hbm S135168x512 .i32 := Memref.whole main_arg0_scv
abbrev iV : Memref sig .scVector .hbm S1024x128 .i32 := Memref.whole main_v2_scv
abbrev oV : Memref sig .scVector .hbm S65536x512 .i32 := Memref.whole main_v3_scv
abbrev aI : Memref sig .scVector .vmem S2x1x128 .i32 := Memref.whole cc0_scoped0
abbrev aO : Memref sig .scVector .vmem S2x64x512 .i32 := Memref.whole cc0_scoped2

theorem inbI (p : Fin 2) : ∀ a, (![p.val, 0, 0] : Fin 3 → ℕ) a + S1x1x128.size a ≤ S2x1x128.size a := by revert p; decide
theorem inbO (p : Fin 2) : ∀ a, (![p.val, 0, 0] : Fin 3 → ℕ) a + S1x64x512.size a ≤ S2x64x512.size a := by revert p; decide
theorem inbS (p : Fin 2) : ∀ a, (![p.val] : Fin 1 → ℕ) a + S1.size a ≤ S2.size a := by revert p; decide
theorem inbR (b : Fin 1024) : ∀ a, (![b.val, 0] : Fin 2 → ℕ) a + S1x128.size a ≤ S1024x128.size a := by
  intro a; have := b.isLt
  match a with
  | 0 => show b.val + 1 ≤ 1024; omega
  | 1 => show 0 + 128 ≤ 128; omega
theorem inbB (b : Fin 1024) : ∀ a, (![64 * b.val, 0] : Fin 2 → ℕ) a + S64x512.size a ≤ S65536x512.size a := by
  intro a; have := b.isLt
  match a with
  | 0 => show 64 * b.val + 64 ≤ 65536; omega
  | 1 => show 0 + 512 ≤ 512; omega

/-- Slot `p` of the index ring, as one row. -/
abbrev slotI (p : Fin 2) : Memref sig .scVector .vmem S1x128 .i32 :=
  (aI.slice (Rect.unit (s := S2x1x128) ![p.val, 0, 0] S1x1x128.size (inbI p)) (fun _ => rfl)).squeeze S1x128 squeezes_S1x1x128_S1x128
/-- Slot `p` of the output ring, as one block. -/
abbrev slotO (p : Fin 2) : Memref sig .scVector .vmem S64x512 .i32 :=
  (aO.slice (Rect.unit (s := S2x64x512) ![p.val, 0, 0] S1x64x512.size (inbO p)) (fun _ => rfl)).squeeze S64x512 squeezes_S1x64x512_S64x512
/-- Row `b` of the index table. -/
abbrev iRow (b : Fin 1024) : Memref sig .scVector .hbm S1x128 .i32 :=
  iV.slice (Rect.unit (s := S1024x128) ![b.val, 0] S1x128.size (inbR b)) (fun _ => rfl)
/-- Block `b` of the result: its rows `64 b` to `64 b + 63`. -/
abbrev oBlk (b : Fin 1024) : Memref sig .scVector .hbm S64x512 .i32 :=
  oV.slice (Rect.unit (s := S65536x512) ![64 * b.val, 0] S64x512.size (inbB b)) (fun _ => rfl)
/-- The semaphores of the two rings' slots. -/
abbrev semI (p : Fin 2) : DmaSem sig := ((cc0_scoped1.slice (Rect.unit (s := S2) ![p.val] S1.size (inbS p))).squeeze S_ squeezes_S1_S_).sem
abbrev semO (p : Fin 2) : DmaSem sig := ((cc0_scoped3.slice (Rect.unit (s := S2) ![p.val] S1.size (inbS p))).squeeze S_ squeezes_S1_S_).sem

/-! ## The contents -/

def yIx (r : Fin 135168) (k : Fin 512) : S135168x512.Idx := fun | 0 => r | 1 => k | ⟨_ + 2, h⟩ => absurd h (Nat.not_lt.2 (Nat.le_add_left _ _))
def iIx (b : Fin 1024) (j : Fin 128) : S1024x128.Idx := fun | 0 => b | 1 => j | ⟨_ + 2, h⟩ => absurd h (Nat.not_lt.2 (Nat.le_add_left _ _))

/-- The row a word names. -/
def rowAt (w : BitVec 32) : Fin 135168 := ⟨w.toNat % 135168, Nat.mod_lt _ (by decide)⟩

section Contents

variable (Y : S135168x512.Idx → BitVec 32) (I : S1024x128.Idx → BitVec 32)

/-- What block `b` of the result ends at: row `x 0` is the row of `Y` that word `x 0` of row `b` of the table names. -/
def blkVal (b : Fin 1024) (x : S64x512.Idx) : BitVec 32 :=
  Y (yIx (rowAt (I (iIx b ⟨(x 0).val, lt_of_lt_of_le (x 0).isLt (show 64 ≤ 128 by decide)⟩))) (x 1))

/-- What the result ends at. -/
def resVal (i : S65536x512.Idx) : BitVec 32 :=
  Y (yIx (rowAt (I (iIx ⟨(i 0).val / 64, by have : (i 0).val < 65536 := (i 0).isLt; omega⟩ ⟨(i 0).val % 64, by omega⟩))) (i 1))

/-- Every word of the table's first 64 columns names a row of `Y`. -/
def TableOK : Prop := ∀ (b : Fin 1024) (j : Fin 128), j.val < 64 → (I (iIx b j)).toNat < 135168

/-- Of block `b`, the result at the block's own coordinates. -/
theorem resVal_emb (b : Fin 1024) (x : S64x512.Idx) : resVal Y I ((oBlk b).view.emb x) = blkVal Y I b x := by
  have h0 : (x 0).val < 64 := (x 0).isLt
  have e0 : (((oBlk b).view.emb x) 0).val = 64 * b.val + (x 0).val := by
    show 64 * b.val + 1 * (x 0).val = _; omega
  have e1 : (((oBlk b).view.emb x) 1) = x 1 := Fin.ext (by show 0 + 1 * (x 1).val = _; omega)
  unfold resVal blkVal
  rw [e1]
  congr 3
  congr 1
  · congr 1 <;> apply Fin.ext
    · show (((oBlk b).view.emb x) 0).val / 64 = b.val; omega
    · show (((oBlk b).view.emb x) 0).val % 64 = (x 0).val; omega

end Contents

end Cert.Proof.Gather
-- ==== Proof.Steps.lean ====
/-
  The transfers of one trip, one lemma each: a row of the index table fetched into a slot of the index ring and its wait;
  the gather of one column window of the output slot and its wait; a block written out of its slot and its wait. Each
  says what the subcore holds before and after, the program's own offsets given by equations.
-/
module

public import proofs.«01_k».proof.Proof.Cells

@[expose] public section

noncomputable section

namespace Cert.Proof.Gather

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

abbrev cV (L : grid0.Coords) : Fin τ.nSC := (L 0).castLE hcore0
abbrev jV (L : grid0.Coords) : Fin τ.nSub := (L 1).castLE hsub0

section Steps

variable (d : Dev nD) (L : grid0.Coords)
variable (Y : S135168x512.Idx → BitVec 32) (I : S1024x128.Idx → BitVec 32)

/-- The subcore the task runs on. -/
abbrev thr : Thread nD τ := V d (cV L) (jV L)

/-- What the subcore has recorded of its waits: those it began with, and waits for its own transfers. -/
def owing (O : CellTallies nD τ sig (HIx 1)) (W : Waits sig (HIx 1)) : sProp 𝕄 :=
  iprop(∃ W', ⌜∀ p ∈ W', p ∈ W ∨ p.2 = none⌝ ∗ owes (thr d L) O W')

/-- The subcore's share `q` of the index table. -/
def tbl (q : PosShare TreeShare) : sProp 𝕄 := (iV).view.loc (thr d L) ↦{q} I
/-- The subcore's share `q` of the array gathered from. -/
def src (q : PosShare TreeShare) : sProp 𝕄 := (yV).view.loc (thr d L) ↦{q} Y

/-- Slot `p` of the index ring at any contents. -/
def anyI (p : Fin 2) : sProp 𝕄 := iprop(∃ f : Buf (Elt F) ((slotI p).view.loc (thr d L)), (slotI p).view.loc (thr d L) ↦[(slotI p).view.set]{fullShare} f)
/-- Slot `p` of the index ring holding row `b` of the table. -/
def hasI (b : Fin 1024) (p : Fin 2) : sProp 𝕄 :=
  iprop(∃ f : Buf (Elt F) ((slotI p).view.loc (thr d L)), ⌜∀ x, (slotI p).view.read (Elt F) f x = I (iIx b (x 1))⌝
    ∗ (slotI p).view.loc (thr d L) ↦[(slotI p).view.set]{fullShare} f)
/-- Row `b` of the table on its way to slot `p`. -/
def busyI (q : PosShare TreeShare) (b : Fin 1024) (p : Fin 2) : sProp 𝕄 :=
  Transfers.Flight countersEmb (thr d L) (.dma (semI p)) (default : HIx 1) (slotI p).view.dmaCredit iprop(hasI d L I b p ∗ tbl d L I q)

/-- Slot `p` of the output ring at any contents. -/
def anyO (p : Fin 2) : sProp 𝕄 := iprop(∃ f : Buf (Elt F) ((slotO p).view.loc (thr d L)), (slotO p).view.loc (thr d L) ↦[(slotO p).view.set]{fullShare} f)
/-- Slot `p` of the output ring whose first `n` columns hold those of block `b` of the result. -/
def colsO (b : Fin 1024) (p : Fin 2) (n : ℕ) : sProp 𝕄 :=
  iprop(∃ f : Buf (Elt F) ((slotO p).view.loc (thr d L)), ⌜∀ x : S64x512.Idx, (x 1).val < n → (slotO p).view.read (Elt F) f x = blkVal Y I b x⌝
    ∗ (slotO p).view.loc (thr d L) ↦[(slotO p).view.set]{fullShare} f)

/-- Block `b` of the result array at contents `f`. -/
def blkAt (b : Fin 1024) (f : S65536x512.Idx → BitVec 32) : sProp 𝕄 :=
  (oBlk b).view.loc (thr d L) ↦[(oBlk b).view.set]{fullShare} f
/-- Slot `p` on its way to block `b` of the result. -/
def busyO (b : Fin 1024) (p : Fin 2) : sProp 𝕄 :=
  Transfers.Flight countersEmb (thr d L) (.dma (semO p)) (default : HIx 1) (oBlk b).view.dmaCredit iprop(blkAt d L b (resVal Y I) ∗ anyO d L p)

/-- A column window of the output slot on its way. -/
def busyG (q : PosShare TreeShare) (s : DmaSem sig) (b : Fin 1024) (p : Fin 2) (n N : ℕ) : sProp 𝕄 :=
  Transfers.Flight countersEmb (thr d L) (.dma s) (default : HIx 1) N iprop(hasI d L I b p ∗ colsO d L Y I b p n ∗ src d L Y q)

variable {α : Type} {O : CellTallies nD τ sig (HIx 1)} {W : Waits sig (HIx 1)}

omit [FloatOps F] in
/-- A row as read off the table. -/
theorem read_iRow (b : Fin 1024) (x : S1x128.Idx) : (iRow b).view.read (Elt F) I x = I (iIx b (x 1)) := by
  rw [View.read_apply, cast_eq]
  congr 1
  funext a
  match a with
  | 0 => exact Fin.ext (by have : (x 0).val < 1 := (x 0).isLt
                           show b.val + 1 * (x 0).val = b.val; omega)
  | 1 => exact Fin.ext (by show 0 + 1 * (x 1).val = (x 1).val; omega)

/-- A row of the table sent to a slot of the index ring. -/
theorem startI (q : PosShare TreeShare) (b : Fin 1024) (p : Fin 2) {offI : Fin 3 → ℕ} {offR : Fin 2 → ℕ} {offS : Fin 1 → ℕ}
    (hI : offI = ![p.val, 0, 0]) (hR : offR = ![b.val, 0]) (hS : offS = ![p.val]) {i1 : ∀ a, offI a + S1x1x128.size a ≤ S2x1x128.size a}
    {i2 : ∀ a, offR a + S1x128.size a ≤ S1024x128.size a} {i3 : ∀ a, offS a + S1.size a ≤ S2.size a} {h1 h2 h3}
    {k : PUnit → Prog (TpuEff nD τ sig (Elt F) Λ₀ (.scVector (cV L) (jV L))) α} {Q : α → sProp 𝕄} :
    iprop(anyI d L p ∗ tbl d L I q ∗ semVal (thr d L, .dma (semI p)) 0)
      ⊢ iprop((busyI d L I q b p -∗ wp frame (wpE (defs₀ (F := F)) 𝒱₀ (thr d L) none) Set.univ (k ⟨⟩) Q)
        -∗ wp frame (wpE (defs₀ (F := F)) 𝒱₀ (thr d L) none) Set.univ
          (.op (.enqueueDmaAs (iV.slice (Rect.unit (s := S1024x128) offR S1x128.size i2) (fun _ => rfl))
            (.here ((aI.slice (Rect.unit (s := S2x1x128) offI S1x1x128.size i1) (fun _ => rfl)).squeeze S1x128 squeezes_S1x1x128_S1x128)) .same
            (.dma ((cc0_scoped1.slice (Rect.unit (s := S2) offS S1.size i3)).squeeze S_ squeezes_S1_S_).sem) h1 h2 h3) k) Q) := by
  subst hI hR hS
  unfold anyI tbl
  iintro ⟨⟨%f, Hs⟩, Ht, Hv⟩ Hk
  iapply (Transfers.wp_dmaFromWhole countersEmb 𝒱₀ (thr d L) none (default : HIx 1) (slotI p).view.dmaCredit (src := iRow b) (dst := slotI p)
    (sm := .dma (semI p)) (via := .same) (q := q) (fs := I) (fd := f) rfl (View.dmaCredit_pos _ (by decide)) (Finset.Subset.refl _)) $$ [Hs Ht Hv]
  · isplitl [Ht]; · iexact Ht
    isplitl [Hs]; · iexact Hs
    iexact Hv
  iintro Hf
  iapply Hk
  unfold busyI
  iapply (Transfers.Flight_mono countersEmb (thr d L) ?_) $$ Hf
  unfold hasI tbl
  iintro ⟨Hs, Ht⟩
  isplitl [Hs]
  · iexists _; isplitr
    swap; · iexact Hs
    ipureintro; intro x
    exact (congrFun (View.read_write_univ _ _) x).trans (read_iRow (F := F) I b x)
  iexact Ht

/-- The wait for it. -/
theorem waitI (q : PosShare TreeShare) (b : Fin 1024) (p : Fin 2) {offI : Fin 3 → ℕ} {offR : Fin 2 → ℕ} {offS : Fin 1 → ℕ}
    (hI : offI = ![p.val, 0, 0]) (hR : offR = ![b.val, 0]) (hS : offS = ![p.val]) {i1 : ∀ a, offI a + S1x1x128.size a ≤ S2x1x128.size a}
    {i2 : ∀ a, offR a + S1x128.size a ≤ S1024x128.size a} {i3 : ∀ a, offS a + S1.size a ≤ S2.size a} {h1 h2}
    {k : PUnit → Prog (TpuEff nD τ sig (Elt F) Λ₀ (.scVector (cV L) (jV L))) α} {Q : α → sProp 𝕄} :
    iprop(busyI d L I q b p ∗ owing d L O W ∗ Transfers.MayWaits (thr d L) (default : HIx 1) O)
      ⊢ iprop((iprop(hasI d L I b p ∗ tbl d L I q ∗ semVal (thr d L, .dma (semI p)) 0 ∗ owing d L O W)
          -∗ wp frame (wpE (defs₀ (F := F)) 𝒱₀ (thr d L) none) Set.univ (k ⟨⟩) Q)
        -∗ wp frame (wpE (defs₀ (F := F)) 𝒱₀ (thr d L) none) Set.univ
          (.op (.waitDma2 ((cc0_scoped1.slice (Rect.unit (s := S2) offS S1.size i3)).squeeze S_ squeezes_S1_S_).sem
            (iV.slice (Rect.unit (s := S1024x128) offR S1x128.size i2) (fun _ => rfl))
            ((aI.slice (Rect.unit (s := S2x1x128) offI S1x1x128.size i1) (fun _ => rfl)).squeeze S1x128 squeezes_S1x1x128_S1x128) h1 h2) k) Q) := by
  subst hI hR hS
  unfold owing busyI
  iintro ⟨Hf, ⟨%W', %hW, HO⟩, Hm⟩ Hk
  iapply (Transfers.wp_waitLocalO countersEmb 𝒱₀ (thr d L) none (default : HIx 1) (sem := semI p) (dstw := slotI p) (srcw := iRow b) (rfl : (slotI p).view.dmaCredit = _)) $$ [Hf HO Hm]
  · isplitl [Hf]; · iexact Hf
    isplitl [HO]; · iexact HO
    iapply (Transfers.MayWaits.elim (SemLoc.dma (semI p))) $$ Hm
  iintro ⟨⟨Hs, Ht⟩, Hv, HO⟩
  iapply Hk
  isplitl [Hs]; · iexact Hs
  isplitl [Ht]; · iexact Ht
  isplitl [Hv]; · iexact Hv
  iexists _; isplitr
  swap; · iexact HO
  ipureintro; intro p hp
  rcases Finset.mem_insert.mp hp with hp | hp
  · exact .inr (hp ▸ rfl)
  · exact hW p hp

/-- A full output slot sent to its block of the result. -/
theorem startO (b : Fin 1024) (p : Fin 2) (f₀ : S65536x512.Idx → BitVec 32) {offO : Fin 3 → ℕ} {offB : Fin 2 → ℕ} {offS : Fin 1 → ℕ}
    (hO : offO = ![p.val, 0, 0]) (hB : offB = ![64 * b.val, 0]) (hS : offS = ![p.val]) {i1 : ∀ a, offO a + S1x64x512.size a ≤ S2x64x512.size a}
    {i2 : ∀ a, offB a + S64x512.size a ≤ S65536x512.size a} {i3 : ∀ a, offS a + S1.size a ≤ S2.size a} {h1 h2 h3}
    {k : PUnit → Prog (TpuEff nD τ sig (Elt F) Λ₀ (.scVector (cV L) (jV L))) α} {Q : α → sProp 𝕄} :
    iprop(colsO d L Y I b p 512 ∗ blkAt d L b f₀ ∗ semVal (thr d L, .dma (semO p)) 0)
      ⊢ iprop((busyO d L Y I b p -∗ wp frame (wpE (defs₀ (F := F)) 𝒱₀ (thr d L) none) Set.univ (k ⟨⟩) Q)
        -∗ wp frame (wpE (defs₀ (F := F)) 𝒱₀ (thr d L) none) Set.univ
          (.op (.enqueueDmaAs ((aO.slice (Rect.unit (s := S2x64x512) offO S1x64x512.size i1) (fun _ => rfl)).squeeze S64x512 squeezes_S1x64x512_S64x512)
            (.here (oV.slice (Rect.unit (s := S65536x512) offB S64x512.size i2) (fun _ => rfl))) .same
            (.dma ((cc0_scoped3.slice (Rect.unit (s := S2) offS S1.size i3)).squeeze S_ squeezes_S1_S_).sem) h1 h2 h3) k) Q) := by
  subst hO hB hS
  unfold colsO blkAt
  iintro ⟨⟨%f, %hf, Hs⟩, Ho, Hv⟩ Hk
  iapply (Transfers.wp_dmaLocal countersEmb 𝒱₀ (thr d L) none (default : HIx 1) (oBlk b).view.dmaCredit (src := slotO p) (dst := oBlk b)
    (sm := .dma (semO p)) (via := .same) (q := fullShare) (fs := f) (fd := f₀) rfl (View.dmaCredit_pos _ (by decide)) (Finset.Subset.refl _)) $$ [Hs Ho Hv]
  · isplitl [Hs]; · iexact Hs
    isplitl [Ho]; · iexact Ho
    iexact Hv
  iintro Hf
  iapply Hk
  unfold busyO
  iapply (Transfers.Flight_mono countersEmb (thr d L) ?_) $$ Hf
  unfold blkAt anyO
  iintro ⟨Ho, Hs⟩
  isplitl [Ho]
  · iapply (Entails.of_eq (pointsTo_congr ?_)) $$ Ho
    intro i hi
    obtain ⟨x, -, rfl⟩ := Finset.mem_map.mp hi
    rw [View.write_emb_of_mem _ _ (Finset.mem_univ x), cast_eq]
    exact (hf x (x 1).isLt).trans (resVal_emb Y I b x).symm
  iexists _; iexact Hs

/-- The wait for it. -/
theorem waitO (b : Fin 1024) (p : Fin 2) {offO : Fin 3 → ℕ} {offB : Fin 2 → ℕ} {offS : Fin 1 → ℕ}
    (hO : offO = ![p.val, 0, 0]) (hB : offB = ![64 * b.val, 0]) (hS : offS = ![p.val]) {i1 : ∀ a, offO a + S1x64x512.size a ≤ S2x64x512.size a}
    {i2 : ∀ a, offB a + S64x512.size a ≤ S65536x512.size a} {i3 : ∀ a, offS a + S1.size a ≤ S2.size a} {h1 h2}
    {k : PUnit → Prog (TpuEff nD τ sig (Elt F) Λ₀ (.scVector (cV L) (jV L))) α} {Q : α → sProp 𝕄} :
    iprop(busyO d L Y I b p ∗ owing d L O W ∗ Transfers.MayWaits (thr d L) (default : HIx 1) O)
      ⊢ iprop((iprop(blkAt d L b (resVal Y I) ∗ anyO d L p ∗ semVal (thr d L, .dma (semO p)) 0 ∗ owing d L O W)
          -∗ wp frame (wpE (defs₀ (F := F)) 𝒱₀ (thr d L) none) Set.univ (k ⟨⟩) Q)
        -∗ wp frame (wpE (defs₀ (F := F)) 𝒱₀ (thr d L) none) Set.univ
          (.op (.waitDma2 ((cc0_scoped3.slice (Rect.unit (s := S2) offS S1.size i3)).squeeze S_ squeezes_S1_S_).sem
            ((aO.slice (Rect.unit (s := S2x64x512) offO S1x64x512.size i1) (fun _ => rfl)).squeeze S64x512 squeezes_S1x64x512_S64x512)
            (oV.slice (Rect.unit (s := S65536x512) offB S64x512.size i2) (fun _ => rfl)) h1 h2) k) Q) := by
  subst hO hB hS
  unfold owing busyO
  iintro ⟨Hf, ⟨%W', %hW, HO⟩, Hm⟩ Hk
  iapply (Transfers.wp_waitLocalO countersEmb 𝒱₀ (thr d L) none (default : HIx 1) (sem := semO p) (dstw := oBlk b) (srcw := slotO p) (rfl : (oBlk b).view.dmaCredit = _)) $$ [Hf HO Hm]
  · isplitl [Hf]; · iexact Hf
    isplitl [HO]; · iexact HO
    iapply (Transfers.MayWaits.elim (SemLoc.dma (semO p))) $$ Hm
  iintro ⟨⟨Hs, Ht⟩, Hv, HO⟩
  iapply Hk
  isplitl [Hs]; · iexact Hs
  isplitl [Ht]; · iexact Ht
  isplitl [Hv]; · iexact Hv
  iexists _; isplitr
  swap; · iexact HO
  ipureintro; intro p hp
  rcases Finset.mem_insert.mp hp with hp | hp
  · exact .inr (hp ▸ rfl)
  · exact hW p hp

end Steps

end Cert.Proof.Gather
-- ==== Proof.Column.lean ====
/-
  One column window of the gather: the stream that fetches, for each of the 64 words of an index slot, 128 columns of the
  row the word names into the output slot, and its wait.
-/
module

public import proofs.«01_k».proof.Proof.Steps

@[expose] public section

noncomputable section

namespace Cert.Proof.Gather

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-- The 64 words of slot `p` of the index ring that name rows. -/
abbrev offsM (p : Fin 2) : Memref sig .scVector .vmem S64 .i32 :=
  ((slotI p).slice (Rect.unit (s := S1x128) ![0, 0] S1x64.size inb_S1x128_S1x64_0_0) (fun _ => rfl)).squeeze S64 squeezes_S1x64_S64

theorem inbY (c : Fin 385) : ∀ a, (![0, c.val] : Fin 2 → ℕ) a + S135168x128.size a ≤ S135168x512.size a := by
  intro a; have := c.isLt
  match a with
  | 0 => show 0 + 135168 ≤ 135168; omega
  | 1 => show c.val + 128 ≤ 512; omega
theorem inbW (c : Fin 385) : ∀ a, (![0, c.val] : Fin 2 → ℕ) a + S64x128.size a ≤ S64x512.size a := by
  intro a; have := c.isLt
  match a with
  | 0 => show 0 + 64 ≤ 64; omega
  | 1 => show c.val + 128 ≤ 512; omega

/-- Columns `c` to `c + 127` of the array gathered from. -/
abbrev colY (c : Fin 385) : Memref sig .scVector .hbm S135168x128 .i32 :=
  (yV.slice (Rect.unit (s := S135168x512) ![0, c.val] S135168x128.size (inbY c)) (fun _ => rfl)).slice
    (Rect.unit (s := S135168x128) ![0, 0] S135168x128.size inb_S135168x128_S135168x128_0_0) (fun _ => rfl)
/-- Columns `c` to `c + 127` of slot `p` of the output ring. -/
abbrev colO (p : Fin 2) (c : Fin 385) : Memref sig .scVector .vmem S64x128 .i32 :=
  (slotO p).slice (Rect.unit (s := S64x512) ![0, c.val] S64x128.size (inbW c)) (fun _ => rfl)

/-- What a column window's stream pays its semaphore. -/
def credG : ℕ := (colO 0 0).view.dmaCredit

theorem unsqueeze (x : S64.Idx) : ((Shape.reshapeEquiv (s := S1x64) (s' := S64) squeezes_S1x64_S64.numel_eq x) 1).val = (x 0).val := by
  revert x; decide +kernel
theorem list_val (k : Fin S64.numel) : ((S64.rowMajor.symm k) 0).val = k.val := by
  revert k; decide +kernel

variable (I : S1024x128.Idx → BitVec 32) (Y : S135168x512.Idx → BitVec 32) (d : Dev nD) (L : grid0.Coords)

/-- The words of a slot that holds row `b` of the table. -/
theorem read_offs (b : Fin 1024) (p : Fin 2) (f : Buf (Elt F) ((slotI p).view.loc (thr d L)))
    (hf : ∀ x, (slotI p).view.read (Elt F) f x = I (iIx b (x 1))) (x : S64.Idx) :
    (offsM p).view.read (Elt F) f x = I (iIx b ⟨(x 0).val, lt_of_lt_of_le (x 0).isLt (show 64 ≤ 128 by decide)⟩) := by
  refine (hf ((Rect.unit (s := S1x128) ![0, 0] S1x64.size inb_S1x128_S1x64_0_0).emb
    (Shape.reshapeEquiv (s := S1x64) (s' := S64) squeezes_S1x64_S64.numel_eq x))).trans ?_
  congr 2
  apply Fin.ext
  show 0 + 1 * ((Shape.reshapeEquiv (s := S1x64) (s' := S64) squeezes_S1x64_S64.numel_eq x) 1).val = (x 0).val
  rw [unsqueeze]; omega

/-- The words name rows. -/
theorem offs_lt (hI : TableOK I) (b : Fin 1024) (p : Fin 2) (f : Buf (Elt F) ((slotI p).view.loc (thr d L)))
    (hf : ∀ x, (slotI p).view.read (Elt F) f x = I (iIx b (x 1))) (x : S64.Idx) :
    ((offsM p).view.read (Elt F) f x).toNat < S135168x128.size gathers_S135168x128_S64x128.axis := by
  rw [read_offs I d L b p f hf x]
  exact hI b _ (x 0).isLt

/-- What a column window's stream delivers: its columns of the block. -/
theorem payload_eq (hI : TableOK I) (b : Fin 1024) (p : Fin 2) (c : Fin 385) (f : Buf (Elt F) ((slotI p).view.loc (thr d L)))
    (hf : ∀ x, (slotI p).view.read (Elt F) f x = I (iIx b (x 1))) (hn : S64.numel = S64x128.size gathers_S135168x128_S64x128.axis') (x : S64x128.Idx) :
    SparseCore.gatherPayload (F := F) (e := .i32) gathers_S135168x128_S64x128 ((colY c).view.read (Elt F) Y)
        (SparseCore.rows ((offsM p).view.read (Elt F) f) hn (offs_lt I d L hI b p f hf)) x
      = blkVal Y I b ((Rect.unit (s := S64x512) ![0, c.val] S64x128.size (inbW c)).emb x) := by
  unfold SparseCore.gatherPayload blkVal
  rw [View.read_apply, cast_eq]
  congr 1
  funext a
  match a with
  | 0 =>
    apply Fin.ext
    show 0 + 1 * (0 + 1 * (gathers_S135168x128_S64x128.idx (SparseCore.rows ((offsM p).view.read (Elt F) f) hn (offs_lt I d L hI b p f hf)) x 0).val) = _
    have hidx := congrArg Fin.val (Shape.Gathers.idx_axis gathers_S135168x128_S64x128 (SparseCore.rows ((offsM p).view.read (Elt F) f) hn (offs_lt I d L hI b p f hf)) x)
    refine (show 0 + 1 * (0 + 1 * (gathers_S135168x128_S64x128.idx (SparseCore.rows ((offsM p).view.read (Elt F) f) hn (offs_lt I d L hI b p f hf)) x 0).val)
      = (gathers_S135168x128_S64x128.idx (SparseCore.rows ((offsM p).view.read (Elt F) f) hn (offs_lt I d L hI b p f hf)) x 0).val by omega).trans (hidx.trans ?_)
    unfold SparseCore.rows
    show ((offsM p).view.read (Elt F) f _).toNat = (rowAt _).val
    rw [read_offs I d L b p f hf]
    unfold rowAt
    have e : ∀ (j j' : Fin 128), j.val = j'.val → j.val < 64 → (I (iIx b j)).toNat = (I (iIx b j')).toNat % 135168 := by
      intro j j' h h'
      obtain rfl : j = j' := Fin.ext h
      exact (Nat.mod_eq_of_lt (hI b j h')).symm
    refine e _ _ ?_ ?_
    · show ((S64.rowMajor.symm _) 0).val = 0 + 1 * (x 0).val
      rw [list_val, Nat.zero_add, Nat.one_mul]; rfl
    · exact ((S64.rowMajor.symm _) 0).isLt
  | 1 =>
    apply Fin.ext
    show c.val + 1 * (0 + 1 * (gathers_S135168x128_S64x128.idx (SparseCore.rows ((offsM p).view.read (Elt F) f) hn (offs_lt I d L hI b p f hf)) x 1).val) = c.val + 1 * (x 1).val
    rw [Shape.Gathers.idx_of_ne _ _ _ _ (by decide)]
    show c.val + 1 * (0 + 1 * (x 1).val) = c.val + 1 * (x 1).val
    omega

/-- The slot after a column window's stream: 128 more of its columns are the block's. -/
theorem cols_step (b : Fin 1024) (p : Fin 2) (c : Fin 385) (f : Buf (Elt F) ((slotO p).view.loc (thr d L))) (w : S64x128.Idx → Elt F .i32)
    (hf : ∀ x : S64x512.Idx, (x 1).val < c.val → (slotO p).view.read (Elt F) f x = blkVal Y I b x)
    (hw : ∀ x : S64x128.Idx, w x = blkVal Y I b ((Rect.unit (s := S64x512) ![0, c.val] S64x128.size (inbW c)).emb x)) :
    ∀ x : S64x512.Idx, (x 1).val < c.val + 128 →
      (slotO p).view.read (Elt F) ((colO p c).view.write (Elt F) f w Finset.univ) x = blkVal Y I b x := by
  intro x hx
  by_cases h : (x 1).val < c.val
  · refine Eq.trans (View.read_slice_write_of_not_mem (v := (slotO p).view) (Rect.unit (s := S64x512) ![0, c.val] S64x128.size (inbW c)) f w Finset.univ ?_) (hf x h)
    intro hm
    obtain ⟨y, -, rfl⟩ := Finset.mem_map.mp hm
    have : c.val + 1 * (y 1).val < c.val := h
    omega
  · let y : S64x128.Idx := fun | 0 => x 0 | 1 => ⟨(x 1).val - c.val, show _ < 128 by omega⟩ | ⟨_ + 2, h⟩ => absurd h (Nat.not_lt.2 (Nat.le_add_left _ _))
    have hy : (Rect.unit (s := S64x512) ![0, c.val] S64x128.size (inbW c)).emb y = x := by
      funext a
      match a with
      | 0 => exact Fin.ext (by show 0 + 1 * (x 0).val = (x 0).val; omega)
      | 1 => exact Fin.ext (by show c.val + 1 * ((x 1).val - c.val) = (x 1).val; omega)
    rw [← hy]
    exact (View.read_slice_write_emb (v := (slotO p).view) (Rect.unit (s := S64x512) ![0, c.val] S64x128.size (inbW c)) f w (Finset.mem_univ y)).trans (hw y)

variable [FloatOps F]

theorem rowsCred : ∑ j, ((colO 0 0).slice (S64x128.rowRect gathers_S135168x128_S64x128.axis' j) (S64x128.stride_rowRect gathers_S135168x128_S64x128.axis' j)).view.dmaCredit
    = credG := by decide +kernel

variable {α : Type} {O : CellTallies nD τ sig (HIx 1)} {W : Waits sig (HIx 1)}

/-- A column window's stream issued. -/
theorem startG (hI : TableOK I) (q : PosShare TreeShare) (s : DmaSem sig) (b : Fin 1024) (p : Fin 2) (c : Fin 385) {offO offI : Fin 3 → ℕ}
    (hO : offO = ![p.val, 0, 0]) (hS : offI = ![p.val, 0, 0]) {i1 : ∀ a, offO a + S1x64x512.size a ≤ S2x64x512.size a}
    {i2 : ∀ a, offI a + S1x1x128.size a ≤ S2x1x128.size a} {i3 i4 h0 h1 h2 h3 h4 h5}
    {k : PUnit → Prog (TpuEff nD τ sig (Elt F) Λ₀ (.scVector (cV L) (jV L))) α} {Q : α → sProp 𝕄} :
    iprop(hasI d L I b p ∗ colsO d L Y I b p c.val ∗ src d L Y q ∗ semVal (thr d L, .dma s) 0)
      ⊢ iprop((busyG d L Y I q s b p (c.val + 128) credG -∗ wp frame (wpE (defs₀ (F := F)) 𝒱₀ (thr d L) none) Set.univ (k ⟨⟩) Q)
        -∗ wp frame (wpE (defs₀ (F := F)) 𝒱₀ (thr d L) none) Set.univ
          ((SparseCore.enqueueIndirectGather (p := .scVector (cV L) (jV L)) (s₀ := S135168x128) (s := S64x128) (si := S64) h0
            ((yV.slice (Rect.unit (s := S135168x512) ![0, c.val] S135168x128.size i3) (fun _ => rfl)).slice
              (Rect.unit (s := S135168x128) ![0, 0] S135168x128.size inb_S135168x128_S135168x128_0_0) (fun _ => rfl))
            (((aO.slice (Rect.unit (s := S2x64x512) offO S1x64x512.size i1) (fun _ => rfl)).squeeze S64x512 squeezes_S1x64x512_S64x512).slice
              (Rect.unit (s := S64x512) ![0, c.val] S64x128.size i4) (fun _ => rfl))
            gathers_S135168x128_S64x128
            ((((aI.slice (Rect.unit (s := S2x1x128) offI S1x1x128.size i2) (fun _ => rfl)).squeeze S1x128 squeezes_S1x1x128_S1x128).slice
              (Rect.unit (s := S1x128) ![0, 0] S1x64.size inb_S1x128_S1x64_0_0) (fun _ => rfl)).squeeze S64 squeezes_S1x64_S64)
            h1 s h2 h3 h4 h5 : Prog (TpuEff nD τ sig (Elt F) Λ₀ (.scVector (cV L) (jV L))) PUnit) >>= k) Q) := by
  subst hO hS
  unfold hasI colsO src
  iintro ⟨⟨%fi, %hfi, Hi⟩, ⟨%fo, %hfo, Ho⟩, Hy, Hv⟩ Hk
  ihave ⟨Hy1, Hy2⟩ := ((pointsTo_split_subset (Finset.subset_univ (colY c).view.set)).1) $$ Hy
  have hso : (colO p c).view.set ⊆ (slotO p).view.set := View.set_slice_subset _ _
  have hsi : (offsM p).view.set ⊆ (slotI p).view.set := by
    refine (Finset.Subset.trans (subset_of_eq (View.set_reshape _ _)) (View.set_slice_subset _ _))
  ihave ⟨Ho1, Ho2⟩ := ((pointsTo_split_subset hso).1) $$ Ho
  ihave ⟨Hi1, Hi2⟩ := ((pointsTo_split_subset hsi).1) $$ Hi
  iapply (SparseCore.wp_indirectGatherLocal countersEmb 𝒱₀ (thr d L) none (src := colY c) (dst := colO p c) (offs := offsM p) (hg := gathers_S135168x128_S64x128) (default : HIx 1)
      credG rowsCred (by decide) (offs_lt I d L hI b p fi hfi)) $$ [Hy1 Ho1 Hi1 Hv]
  · isplitl [Hy1]; · iexact Hy1
    isplitl [Ho1]; · iexact Ho1
    isplitl [Hi1]; · iexact Hi1
    iexact Hv
  iintro Hf
  iapply Hk
  unfold busyG
  ihave Hf' := (Transfers.Flight_frame countersEmb (thr d L)) $$ [Hy2 Ho2 Hi2 Hf]
  · isplitl [Hy2 Ho2 Hi2]
    swap; · iexact Hf
    icombine Hy2 Ho2 Hi2 as H
    iexact H
  iapply (Transfers.Flight_mono countersEmb (thr d L) ?_) $$ Hf'
  unfold hasI colsO src
  iintro ⟨⟨Hy2, Ho2, Hi2⟩, Ho1, Hy1, Hi1⟩
  isplitl [Hi1 Hi2]
  · iexists fi; isplitr
    · ipureintro; exact hfi
    iapply ((pointsTo_split_subset hsi).2)
    isplitl [Hi1]; · iexact Hi1
    iexact Hi2
  isplitl [Ho1 Ho2]
  · iexists _; isplitr
    · ipureintro
      exact cols_step I Y d L b p c fo _ hfo (payload_eq I Y d L hI b p c fi hfi h1)
    iapply ((pointsTo_split_subset hso).2)
    isplitl [Ho1]; · iexact Ho1
    iapply (Entails.of_eq (SparseCore.pointsTo_rest_write (c := thr d L) (v := (colO p c).view) _ _)) $$ Ho2
  iapply ((pointsTo_split_subset (Finset.subset_univ (colY c).view.set)).2)
  isplitl [Hy1]; · iexact Hy1
  iexact Hy2

/-- The wait for it. -/
theorem waitG (q : PosShare TreeShare) (s : DmaSem sig) (b : Fin 1024) (p : Fin 2) (c : Fin 385) (n : ℕ) {offO : Fin 3 → ℕ}
    (hO : offO = ![p.val, 0, 0]) {i1 : ∀ a, offO a + S1x64x512.size a ≤ S2x64x512.size a} {i3 i4 h1 h2}
    {k : PUnit → Prog (TpuEff nD τ sig (Elt F) Λ₀ (.scVector (cV L) (jV L))) α} {Q : α → sProp 𝕄} :
    iprop(busyG d L Y I q s b p n credG ∗ owing d L O W ∗ Transfers.MayWaits (thr d L) (default : HIx 1) O)
      ⊢ iprop((iprop((hasI d L I b p ∗ colsO d L Y I b p n ∗ src d L Y q) ∗ semVal (thr d L, .dma s) 0 ∗ owing d L O W)
          -∗ wp frame (wpE (defs₀ (F := F)) 𝒱₀ (thr d L) none) Set.univ (k ⟨⟩) Q)
        -∗ wp frame (wpE (defs₀ (F := F)) 𝒱₀ (thr d L) none) Set.univ
          (.op (.waitDma2 s
            ((yV.slice (Rect.unit (s := S135168x512) ![0, c.val] S135168x128.size i3) (fun _ => rfl)).slice
              (Rect.unit (s := S135168x128) ![0, 0] S135168x128.size inb_S135168x128_S135168x128_0_0) (fun _ => rfl))
            (((aO.slice (Rect.unit (s := S2x64x512) offO S1x64x512.size i1) (fun _ => rfl)).squeeze S64x512 squeezes_S1x64x512_S64x512).slice
              (Rect.unit (s := S64x512) ![0, c.val] S64x128.size i4) (fun _ => rfl)) h1 h2) k) Q) := by
  subst hO
  unfold owing busyG
  iintro ⟨Hf, ⟨%W', %hW, HO⟩, Hm⟩ Hk
  iapply (Transfers.wp_waitLocalO countersEmb 𝒱₀ (thr d L) none (default : HIx 1) (sem := s) (dstw := colO p c) (srcw := colY c) (rfl : (colO p c).view.dmaCredit = credG)) $$ [Hf HO Hm]
  · isplitl [Hf]; · iexact Hf
    isplitl [HO]; · iexact HO
    iapply (Transfers.MayWaits.elim (SemLoc.dma s)) $$ Hm
  iintro ⟨HD, Hv, HO⟩
  iapply Hk
  isplitl [HD]; · iexact HD
  isplitl [Hv]; · iexact Hv
  iexists _; isplitr
  swap; · iexact HO
  ipureintro; intro p hp
  rcases Finset.mem_insert.mp hp with hp | hp
  · exact .inr (hp ▸ rfl)
  · exact hW p hp

end Cert.Proof.Gather
-- ==== Proof.Trip.lean ====
/-
  One trip of the gather's loop, and the invariant the loop keeps: the row of the table for trip `t` on its way to its
  slot, the block of trip `t - 1` on its way to the result, the blocks before it written and those after it as they were.
-/
module

public import proofs.«01_k».proof.Proof.Column

@[expose] public section

noncomputable section

namespace Cert.Proof.Gather

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- The block a subcore works on at trip `t`. -/
def bk (L : grid0.Coords) (t : ℕ) : Fin 1024 := ⟨blk L t, blk_lt L t⟩

section Trip

variable (I : S1024x128.Idx → BitVec 32) (Y : S135168x512.Idx → BitVec 32) (f₀ : S65536x512.Idx → BitVec 32) (d : Dev nD) (L : grid0.Coords)
variable (qy qi : PosShare TreeShare) (O : CellTallies nD τ sig (HIx 1)) (W : Waits sig (HIx 1))

/-- The half of the subcore's share of the table that goes with a slot of the index ring. -/
def half (p : Fin 2) : PosShare TreeShare := if p = 0 then qi.left else qi.right

/-- A slot of the index ring at rest. -/
def freeI (p : Fin 2) : sProp 𝕄 := iprop(anyI d L p ∗ tbl d L I (half qi p) ∗ semVal (thr d L, .dma (semI p)) 0)
/-- A slot of the output ring at rest. -/
def freeO (p : Fin 2) : sProp 𝕄 := iprop(anyO d L p ∗ semVal (thr d L, .dma (semO p)) 0)

/-- The index slot of trip `t`: its row on its way, or at rest past the last trip. -/
def headI (t : ℕ) : sProp 𝕄 := if t < 32 then busyI d L I (half qi (slot t)) (bk L t) (slot t) else freeI I d L qi (slot t)
/-- The output slot of trip `t - 1`: its block on its way, or at rest before the first trip. -/
def tailO (t : ℕ) : sProp 𝕄 := if 0 < t then busyO d L Y I (bk L (t - 1)) (slot (t + 1)) else freeO d L (slot (t + 1))
/-- The cells of the four column windows' streams, at zero. -/
def cellsG : sProp 𝕄 :=
  iprop(semVal (thr d L, .dma cc0_scoped4.sem) 0 ∗ semVal (thr d L, .dma cc0_scoped5.sem) 0
    ∗ semVal (thr d L, .dma cc0_scoped6.sem) 0 ∗ semVal (thr d L, .dma cc0_scoped7.sem) 0)

/-- What the loop holds before trip `t`. -/
def inv (t : ℕ) (acc : BitVec 32 × BitVec 32 × BitVec 32 × BitVec 32 × BitVec 32 × BitVec 32) : sProp 𝕄 :=
  iprop(⌜acc = carr t⌝ ∗ headI I d L qi t ∗ freeI I d L qi (slot (t + 1)) ∗ freeO d L (slot t) ∗ tailO I Y d L t
    ∗ (bigSep (Finset.Ico t 32) fun u => blkAt d L (bk L u) f₀) ∗ (bigSep (Finset.range (t - 1)) fun u => blkAt d L (bk L u) (resVal Y I))
    ∗ src d L Y qy ∗ cellsG d L ∗ owing d L O W)

/-- The program of trip `t`. -/
abbrev tripProg (t : Fin k0_t1_loop.trips) :
    Prog (TpuEff nD τ sig (Elt F) Λ₀ (.scVector (cV L) (jV L))) (BitVec 32 × BitVec 32 × BitVec 32 × BitVec 32 × BitVec 32 × BitVec 32) :=
  k0_t1_body (F := F) L yV (Memref.isWhole_whole _) iV (Memref.isWhole_whole _) oV (Memref.isWhole_whole _) aI (Memref.isWhole_whole _)
    cc0_scoped1 aO (Memref.isWhole_whole _) cc0_scoped3 cc0_scoped4 cc0_scoped5 cc0_scoped6 cc0_scoped7 (base L) 0#32 0#32 0#32 t
    ((carr t.val).1, (carr t.val).2.1, (carr t.val).2.2.1, (carr t.val).2.2.2.1, (carr t.val).2.2.2.2.1, (carr t.val).2.2.2.2.2)

theorem slot_succ_pred (t : ℕ) (h : 0 < t) : slot (t - 1) = slot (t + 1) := by
  unfold slot; ext; dsimp only; omega

theorem slot_add_two (t : ℕ) : slot (t + 1 + 1) = slot t := by
  unfold slot; ext; dsimp only; omega

theorem slot_ne (t : ℕ) : slot (t + 1) ≠ slot t := by
  unfold slot; intro h; have := congrArg Fin.val h; dsimp only at this; omega

/-- What the second part of the trip hands on. -/
def words2 (c1 w5 : BitVec 32) (w100 : BitVec 1) (w102 w103 w112 w113 w122 w123 : BitVec 32) :
    Σ' (_ : BitVec 32) (_ : BitVec 32) (_ : BitVec 32) (_ : BitVec 32) (_ : BitVec 32) (_ : BitVec 32) (_ : BitVec 32), BitVec 1 :=
  let a := Scalar.addi (Scalar.muli w102 512#32) w103
  let b := Scalar.addi (Scalar.muli w122 512#32) w123
  let c := Scalar.addi (Scalar.muli w112 512#32) w113
  ⟨a, b, Scalar.select (Scalar.andi (Scalar.andi (Scalar.cmpi .ne a b) (Scalar.xori (Scalar.cmpi .sge w5 31#32) 1#1)) 1#1) (Scalar.addi c1 1#32) c1,
    a, b, c, c, Scalar.andi (Scalar.ori (Scalar.cmpi .ne a c) w100) (Scalar.cmpi .sge w5 0#32)⟩

set_option maxHeartbeats 4000000 in
/-- The second part of a trip: the next trip's row is asked for, and this trip's has come. -/
theorem part2 (t : Fin k0_t1_loop.trips) (hw : k0_chk1 L t (carr t.val).1 (carr t.val).2.1 (carr t.val).2.2.1 (carr t.val).2.2.2.1 (carr t.val).2.2.2.2.1 (carr t.val).2.2.2.2.2)
    (w5 : BitVec 32) (w100 : BitVec 1) (w102 w103 w112 w113 w122 w123 w127 w129 : BitVec 32) (w130 : BitVec 1) {α : Type}
    {k : _ → Prog (TpuEff nD τ sig (Elt F) Λ₀ (.scVector (cV L) (jV L))) α} {Q : α → sProp 𝕄} :
    iprop(headI I d L qi t.val ∗ freeI I d L qi (slot (t.val + 1)) ∗ owing d L O W ∗ Transfers.MayWaits (thr d L) (default : HIx 1) O)
      ⊢ iprop((iprop(hasI d L I (bk L t.val) (slot t.val) ∗ tbl d L I (half qi (slot t.val)) ∗ semVal (thr d L, .dma (semI (slot t.val))) 0
            ∗ headI I d L qi (t.val + 1) ∗ owing d L O W)
          -∗ wp frame (wpE (defs₀ (F := F)) 𝒱₀ (thr d L) none) Set.univ (k (words2 (carr t.val).1 w5 w100 w102 w103 w112 w113 w122 w123)) Q)
        -∗ wp frame (wpE (defs₀ (F := F)) 𝒱₀ (thr d L) none) Set.univ
          (k0_part2_skel (F := F) L yV (Memref.isWhole_whole _) iV (Memref.isWhole_whole _) oV (Memref.isWhole_whole _) aI (Memref.isWhole_whole _)
            cc0_scoped1 aO (Memref.isWhole_whole _) cc0_scoped3 cc0_scoped4 cc0_scoped5 cc0_scoped6 cc0_scoped7 (base L) t
            (carr t.val).1 (carr t.val).2.1 (carr t.val).2.2.1 (carr t.val).2.2.2.1 (carr t.val).2.2.2.2.1 (carr t.val).2.2.2.2.2
            hw w5 w100 w102 w103 w112 w113 w122 w123 w127 w129 w130 >>= k) Q) := by
  have ht : t.val < 32 := lt_of_lt_of_eq t.isLt trips_eq
  have h2 := cond2_eq L t
  unfold k0_part2_skel
  by_cases h : t.val < 31
  · have h1 := (cond1_eq L t).2 h
    simp only [dif_pos h1, dif_pos h2, bind_assoc, pure_bind, Prog.bind_lift]
    unfold headI freeI
    rw [if_pos ht, if_pos (by omega : t.val + 1 < 32)]
    iintro ⟨Hh, ⟨Ha, Ht, Hv⟩, HO, Hm⟩ Hk
    iapply (startI d L I (half qi (slot (t.val + 1))) (bk L (t.val + 1)) (slot (t.val + 1)) (off4_eq t h) (off5_eq L t h) (off6_eq t h)) $$ [Ha Ht Hv]
    · iframe
    iintro Hn
    iapply (waitI d L I (half qi (slot t.val)) (bk L t.val) (slot t.val) (off7_eq t) (off8_eq L t) (off9_eq t)) $$ [Hh HO Hm]
    · iframe
    iintro ⟨Hi, Ht, Hv, HO⟩
    iapply Hk
    iframe
  · have h1 := fun h1 => h ((cond1_eq L t).1 h1)
    simp only [dif_neg h1, dif_pos h2, bind_assoc, pure_bind, Prog.bind_lift]
    unfold headI
    rw [if_pos ht, if_neg (by omega : ¬ t.val + 1 < 32)]
    iintro ⟨Hh, Hf, HO, Hm⟩ Hk
    iapply (waitI d L I (half qi (slot t.val)) (bk L t.val) (slot t.val) (off7_eq t) (off8_eq L t) (off9_eq t)) $$ [Hh HO Hm]
    · iframe
    iintro ⟨Hi, Ht, Hv, HO⟩
    iapply Hk
    iframe

/-- One column window: the rows the index slot names are streamed into it, and waited for. -/
theorem windowG (hI : TableOK I) (s : DmaSem sig) (b : Fin 1024) (p : Fin 2) (c : Fin 385) {n m : ℕ} (hn : n = c.val) (hm : m = c.val + 128) {offC : Fin 2 → ℕ} (hC : offC = ![0, c.val])
    {offO offI offP : Fin 3 → ℕ} (hO : offO = ![p.val, 0, 0]) (hP : offP = ![p.val, 0, 0]) (hS : offI = ![p.val, 0, 0])
    {i1 : ∀ a, offO a + S1x64x512.size a ≤ S2x64x512.size a} {i1' : ∀ a, offP a + S1x64x512.size a ≤ S2x64x512.size a}
    {i2 : ∀ a, offI a + S1x1x128.size a ≤ S2x1x128.size a} {i3 i4 h0 h1 h2 h3 h4 h5 h6 h7} {α : Type}
    {k : PUnit → Prog (TpuEff nD τ sig (Elt F) Λ₀ (.scVector (cV L) (jV L))) α} {Q : α → sProp 𝕄} :
    iprop(hasI d L I b p ∗ colsO d L Y I b p n ∗ src d L Y qy ∗ semVal (thr d L, .dma s) 0 ∗ owing d L O W ∗ Transfers.MayWaits (thr d L) (default : HIx 1) O)
      ⊢ iprop((iprop(hasI d L I b p ∗ colsO d L Y I b p m ∗ src d L Y qy ∗ semVal (thr d L, .dma s) 0 ∗ owing d L O W)
          -∗ wp frame (wpE (defs₀ (F := F)) 𝒱₀ (thr d L) none) Set.univ (k ⟨⟩) Q)
        -∗ wp frame (wpE (defs₀ (F := F)) 𝒱₀ (thr d L) none) Set.univ
          ((SparseCore.enqueueIndirectGather (p := .scVector (cV L) (jV L)) (s₀ := S135168x128) (s := S64x128) (si := S64) h0
            ((yV.slice (Rect.unit (s := S135168x512) offC S135168x128.size i3) (fun _ => rfl)).slice
              (Rect.unit (s := S135168x128) ![0, 0] S135168x128.size inb_S135168x128_S135168x128_0_0) (fun _ => rfl))
            (((aO.slice (Rect.unit (s := S2x64x512) offO S1x64x512.size i1) (fun _ => rfl)).squeeze S64x512 squeezes_S1x64x512_S64x512).slice
              (Rect.unit (s := S64x512) offC S64x128.size i4) (fun _ => rfl))
            gathers_S135168x128_S64x128
            ((((aI.slice (Rect.unit (s := S2x1x128) offI S1x1x128.size i2) (fun _ => rfl)).squeeze S1x128 squeezes_S1x1x128_S1x128).slice
              (Rect.unit (s := S1x128) ![0, 0] S1x64.size inb_S1x128_S1x64_0_0) (fun _ => rfl)).squeeze S64 squeezes_S1x64_S64)
            h1 s h2 h3 h4 h5 : Prog (TpuEff nD τ sig (Elt F) Λ₀ (.scVector (cV L) (jV L))) PUnit) >>= fun _ => (SparseCore.waitIndirectGather (p := .scVector (cV L) (jV L)) (s' := S135168x128) (s := S64x128) s
            ((yV.slice (Rect.unit (s := S135168x512) offC S135168x128.size i3) (fun _ => rfl)).slice
              (Rect.unit (s := S135168x128) ![0, 0] S135168x128.size inb_S135168x128_S135168x128_0_0) (fun _ => rfl))
            (((aO.slice (Rect.unit (s := S2x64x512) offP S1x64x512.size i1') (fun _ => rfl)).squeeze S64x512 squeezes_S1x64x512_S64x512).slice
              (Rect.unit (s := S64x512) offC S64x128.size i4) (fun _ => rfl)) h6 h7 : Prog (TpuEff nD τ sig (Elt F) Λ₀ (.scVector (cV L) (jV L))) PUnit) >>= k) Q) := by
  subst hn hm hC
  iintro ⟨Hi, Hc, Hy, Hv, HO, #Hm⟩ Hk
  iapply (startG I Y d L hI qy s b p c hO hS) $$ [Hi Hc Hy Hv]
  · iframe
  iintro Hg
  simp only [SparseCore.waitIndirectGather, Prog.bind_op, Prog.bind_ret]
  iapply (waitG I Y d L qy s b p c (c.val + 128) hP) $$ [Hg HO]
  · iframe; iexact Hm
  iintro ⟨⟨Hi, Hc, Hy⟩, Hv, HO⟩
  iapply Hk
  iframe

theorem anyO_cols (b : Fin 1024) (p : Fin 2) : (anyO d L p : sProp 𝕄) ⊢ colsO d L Y I b p 0 := by
  unfold anyO colsO
  iintro ⟨%f, H⟩
  iexists f
  iframe
  ipureintro
  intro x hx
  omega

theorem hasI_any (b : Fin 1024) (p : Fin 2) : (hasI d L I b p : sProp 𝕄) ⊢ anyI d L p := by
  unfold anyI hasI
  iintro ⟨%f, -, H⟩
  iexists f
  iexact H

set_option maxHeartbeats 4000000 in
/-- The third, fourth and fifth parts of a trip: the four column windows of the output slot are filled. -/
theorem part345 (hI : TableOK I) (t : Fin k0_t1_loop.trips) (hw3 : k0_chk3 (carr t.val).2.1) (hw2 : k0_chk2 (carr t.val).2.2.1) (w169 : BitVec 1) {α : Type}
    {k : _ → Prog (TpuEff nD τ sig (Elt F) Λ₀ (.scVector (cV L) (jV L))) α} {Q : α → sProp 𝕄} :
    iprop(hasI d L I (bk L t.val) (slot t.val) ∗ anyO d L (slot t.val) ∗ src d L Y qy ∗ cellsG d L ∗ owing d L O W ∗ Transfers.MayWaits (thr d L) (default : HIx 1) O)
      ⊢ iprop((iprop(anyI d L (slot t.val) ∗ colsO d L Y I (bk L t.val) (slot t.val) 512 ∗ src d L Y qy ∗ cellsG d L ∗ owing d L O W)
          -∗ wp frame (wpE (defs₀ (F := F)) 𝒱₀ (thr d L) none) Set.univ (k ⟨⟩) Q)
        -∗ wp frame (wpE (defs₀ (F := F)) 𝒱₀ (thr d L) none) Set.univ
          (k0_part3_skel (F := F) L yV (Memref.isWhole_whole _) iV (Memref.isWhole_whole _) oV (Memref.isWhole_whole _) aI (Memref.isWhole_whole _)
              cc0_scoped1 aO (Memref.isWhole_whole _) cc0_scoped3 cc0_scoped4 cc0_scoped5 cc0_scoped6 cc0_scoped7 (carr t.val).2.1 (carr t.val).2.2.1 hw3 hw2 w169
            >>= fun _ => k0_part4_skel (F := F) L yV (Memref.isWhole_whole _) iV (Memref.isWhole_whole _) oV (Memref.isWhole_whole _) aI (Memref.isWhole_whole _)
              cc0_scoped1 aO (Memref.isWhole_whole _) cc0_scoped3 cc0_scoped4 cc0_scoped5 cc0_scoped6 cc0_scoped7 (carr t.val).2.1 (carr t.val).2.2.1 hw3 hw2
            >>= fun _ => k0_part5_skel (F := F) L yV (Memref.isWhole_whole _) iV (Memref.isWhole_whole _) oV (Memref.isWhole_whole _) aI (Memref.isWhole_whole _)
              cc0_scoped1 aO (Memref.isWhole_whole _) cc0_scoped3 cc0_scoped4 cc0_scoped5 cc0_scoped6 cc0_scoped7 (carr t.val).2.1 (carr t.val).2.2.1 hw3 hw2
            >>= k) Q) := by
  unfold k0_part3_skel k0_part4_skel k0_part5_skel cellsG
  simp only [bind_assoc, pure_bind, ite_self]
  iintro ⟨Hi, Ho, Hy, ⟨Hv0, Hv1, Hv2, Hv3⟩, HO, #Hm⟩ Hk
  ihave Hc := (anyO_cols I Y d L (bk L t.val) (slot t.val)) $$ Ho
  iapply (windowG I Y d L qy O W hI cc0_scoped4.sem (bk L t.val) (slot t.val) ⟨0, by omega⟩ (n := 0) (m := 128) rfl rfl rfl (off10_eq t) (off10_eq t) (off11_eq t)) $$ [Hi Hc Hy Hv0 HO]
  · iframe; iexact Hm
  iintro ⟨Hi, Hc, Hy, Hv0, HO⟩
  iapply (windowG I Y d L qy O W hI cc0_scoped5.sem (bk L t.val) (slot t.val) ⟨128, by omega⟩ (n := 128) (m := 256) rfl rfl rfl (off10_eq t) (off10_eq t) (off11_eq t)) $$ [Hi Hc Hy Hv1 HO]
  · iframe; iexact Hm
  iintro ⟨Hi, Hc, Hy, Hv1, HO⟩
  iapply (windowG I Y d L qy O W hI cc0_scoped6.sem (bk L t.val) (slot t.val) ⟨256, by omega⟩ (n := 256) (m := 384) rfl rfl rfl (off10_eq t) (off10_eq t) (off11_eq t)) $$ [Hi Hc Hy Hv2 HO]
  · iframe; iexact Hm
  iintro ⟨Hi, Hc, Hy, Hv2, HO⟩
  iapply (windowG I Y d L qy O W hI cc0_scoped7.sem (bk L t.val) (slot t.val) ⟨384, by omega⟩ (n := 384) (m := 512) rfl rfl rfl (off10_eq t) (off10_eq t) (off11_eq t)) $$ [Hi Hc Hy Hv3 HO]
  · iframe; iexact Hm
  iintro ⟨Hi, Hc, Hy, Hv3, HO⟩
  ihave Ha := (hasI_any I d L (bk L t.val) (slot t.val)) $$ Hi
  iapply Hk
  iframe

/-- The block written by the trip before `t`, if there is one. -/
def doneO (t : ℕ) : sProp 𝕄 := if 0 < t then blkAt d L (bk L (t - 1)) (resVal Y I) else iprop(emp)

/-- What the last part of the trip hands on. -/
def words6 (c2 c3 c4 c5 c6 : BitVec 32) (w100 w101 : BitVec 1) (w135 w137 w149 w151 w165 : BitVec 32) :
    Σ' (_ : BitVec 32) (_ : BitVec 32) (_ : BitVec 32) (_ : BitVec 32) (_ : BitVec 32), BitVec 1 :=
  let e := Scalar.cmpi .eq (Scalar.select 1#1 (Scalar.addi c6 1#32) c6) 16#32
  let f := Scalar.select e (Scalar.addi c5 1#32) c5
  ⟨Scalar.select (Scalar.andi (Scalar.ori (Scalar.cmpi .ne w149 w151) w101) 1#1) (Scalar.addi c3 1#32) c3,
    Scalar.select (Scalar.andi (Scalar.andi (Scalar.cmpi .ne w149 w165) (Scalar.xori w100 1#1)) 1#1) (Scalar.addi c4 1#32) c4,
    Scalar.select (Scalar.ori (Scalar.cmpi .ne w135 w137) w101) (Scalar.addi c2 1#32) c2,
    Scalar.select e 0#32 (Scalar.select 1#1 (Scalar.addi c6 1#32) c6), f, Scalar.cmpi .eq f 2#32⟩

set_option maxHeartbeats 4000000 in
/-- The last part of a trip: this trip's block is sent out, and the one before it has arrived. -/
theorem part6 (t : Fin k0_t1_loop.trips) (hw : k0_chk1 L t (carr t.val).1 (carr t.val).2.1 (carr t.val).2.2.1 (carr t.val).2.2.2.1 (carr t.val).2.2.2.2.1 (carr t.val).2.2.2.2.2)
    (w100 w101 : BitVec 1) (w102 w103 w112 w113 w135 w137 w149 w151 w157 w165 : BitVec 32) {α : Type}
    {k : _ → Prog (TpuEff nD τ sig (Elt F) Λ₀ (.scVector (cV L) (jV L))) α} {Q : α → sProp 𝕄} :
    iprop(colsO d L Y I (bk L t.val) (slot t.val) 512 ∗ semVal (thr d L, .dma (semO (slot t.val))) 0 ∗ tailO I Y d L t.val ∗ blkAt d L (bk L t.val) f₀
        ∗ owing d L O W ∗ Transfers.MayWaits (thr d L) (default : HIx 1) O)
      ⊢ iprop((iprop(tailO I Y d L (t.val + 1) ∗ freeO d L (slot (t.val + 1)) ∗ doneO I Y d L t.val ∗ owing d L O W)
          -∗ wp frame (wpE (defs₀ (F := F)) 𝒱₀ (thr d L) none) Set.univ
            (k (words6 (carr t.val).2.1 (carr t.val).2.2.1 (carr t.val).2.2.2.1 (carr t.val).2.2.2.2.1 (carr t.val).2.2.2.2.2 w100 w101 w135 w137 w149 w151 w165)) Q)
        -∗ wp frame (wpE (defs₀ (F := F)) 𝒱₀ (thr d L) none) Set.univ
          (k0_part6_skel (F := F) L yV (Memref.isWhole_whole _) iV (Memref.isWhole_whole _) oV (Memref.isWhole_whole _) aI (Memref.isWhole_whole _)
            cc0_scoped1 aO (Memref.isWhole_whole _) cc0_scoped3 cc0_scoped4 cc0_scoped5 cc0_scoped6 cc0_scoped7 t
            (carr t.val).1 (carr t.val).2.1 (carr t.val).2.2.1 (carr t.val).2.2.2.1 (carr t.val).2.2.2.2.1 (carr t.val).2.2.2.2.2
            hw w100 w101 w102 w103 w112 w113 w135 w137 w149 w151 w157 w165 >>= k) Q) := by
  have h5 := cond5_eq L t
  unfold k0_part6_skel
  by_cases h : 0 < t.val
  · have h7 := (cond7_eq L t).2 h
    simp only [dif_pos h5, dif_pos h7, bind_assoc, pure_bind, Prog.bind_lift, ite_self]
    unfold tailO doneO freeO
    rw [if_pos h, if_pos h, if_pos (Nat.succ_pos _), slot_add_two, Nat.add_sub_cancel]
    iintro ⟨Hc, Hv, Ht, Hb, HO, Hm⟩ Hk
    iapply (startO d L Y I (bk L t.val) (slot t.val) f₀ (off12_eq t) (off13_eq L t) (off14_eq t)) $$ [Hc Hb Hv]
    · iframe
    iintro Hn
    iapply (waitO d L Y I (bk L (t.val - 1)) (slot (t.val + 1)) ((off15_eq t h).trans (by rw [slot_succ_pred t.val h])) (off16_eq L t h)
      ((off17_eq t h).trans (by rw [slot_succ_pred t.val h]))) $$ [Ht HO Hm]
    · iframe
    iintro ⟨Hb, Ha, Hv, HO⟩
    iapply Hk
    iframe
  · have h7 := fun h7 => h ((cond7_eq L t).1 h7)
    simp only [dif_pos h5, dif_neg h7, bind_assoc, pure_bind, Prog.bind_lift, ite_self]
    unfold tailO doneO
    rw [if_neg h, if_neg h, if_pos (Nat.succ_pos _), slot_add_two, Nat.add_sub_cancel]
    iintro ⟨Hc, Hv, Ht, Hb, HO, Hm⟩ Hk
    iapply (startO d L Y I (bk L t.val) (slot t.val) f₀ (off12_eq t) (off13_eq L t) (off14_eq t)) $$ [Hc Hb Hv]
    · iframe
    iintro Hn
    iapply Hk
    iframe

theorem blocks_take {t : ℕ} (h : t < 32) (f : S65536x512.Idx → BitVec 32) :
    (bigSep (Finset.Ico t 32) fun u => blkAt d L (bk L u) f : sProp 𝕄) = iprop(blkAt d L (bk L t) f ∗ bigSep (Finset.Ico (t + 1) 32) fun u => blkAt d L (bk L u) f) := by
  have hs : Finset.Ico t 32 = insert t (Finset.Ico (t + 1) 32) := by ext x; simp only [Finset.mem_insert, Finset.mem_Ico]; omega
  rw [hs, bigSep_insert (by simp)]
  rfl

theorem blocks_put (t : ℕ) :
    iprop(doneO I Y d L t ∗ bigSep (Finset.range (t - 1)) fun u => blkAt d L (bk L u) (resVal Y I))
      ⊢ (bigSep (Finset.range (t + 1 - 1)) fun u => blkAt d L (bk L u) (resVal Y I) : sProp 𝕄) := by
  unfold doneO
  rcases t with _ | t
  · iintro ⟨-, H⟩; iexact H
  · rw [if_pos (Nat.succ_pos _), Nat.add_sub_cancel, Nat.add_sub_cancel, Finset.range_add_one, bigSep_insert (by simp)]
    exact .rfl

/-- The counters a trip leaves, as the program computes them. -/
def next (L : grid0.Coords) (t : Fin k0_t1_loop.trips) : BitVec 32 × BitVec 32 × BitVec 32 × BitVec 32 × BitVec 32 × BitVec 32 :=
  let c := carr t.val
  let w5 := Scf.iv 0#32 1#32 t
  let w100 := Scalar.cmpi .eq w5 0#32
  let w101 := Scalar.cmpi .eq w5 31#32
  let w102 := Scalar.addi c.2.2.2.2.1 0#32
  let w103 := Scalar.addi c.2.2.2.2.2 (base L)
  let w105 := Scalar.select 1#1 (Scalar.subi c.2.2.2.2.2 1#32) c.2.2.2.2.2
  let w106 := Scalar.cmpi .eq w105 4294967295#32
  let w109 := Scalar.select w106 (Scalar.subi c.2.2.2.2.1 1#32) c.2.2.2.2.1
  let w112 := Scalar.addi (Scalar.select (Scalar.cmpi .eq w109 4294967295#32) 1#32 w109) 0#32
  let w113 := Scalar.addi (Scalar.select w106 15#32 w105) (base L)
  let w115 := Scalar.select 1#1 (Scalar.addi c.2.2.2.2.2 1#32) c.2.2.2.2.2
  let w116 := Scalar.cmpi .eq w115 16#32
  let w119 := Scalar.select w116 (Scalar.addi c.2.2.2.2.1 1#32) c.2.2.2.2.1
  let w122 := Scalar.addi (Scalar.select (Scalar.cmpi .eq w119 2#32) 0#32 w119) 0#32
  let w123 := Scalar.addi (Scalar.select w116 0#32 w115) (base L)
  let x := words2 c.1 w5 w100 w102 w103 w112 w113 w122 w123
  let y := words6 c.2.1 c.2.2.1 c.2.2.2.1 c.2.2.2.2.1 c.2.2.2.2.2 w100 w101 x.1 x.2.1 x.2.2.2.1 x.2.2.2.2.1 x.2.2.2.2.2.2.1
  (x.2.2.1, y.2.2.1, y.1, y.2.1, Scalar.select y.2.2.2.2.2 0#32 y.2.2.2.2.1, y.2.2.2.1)

theorem next_eq : ∀ (L : grid0.Coords) (t : Fin k0_t1_loop.trips), next L t = carr (t.val + 1) := by decide +kernel

set_option maxHeartbeats 4000000 in
/-- A trip keeps the invariant. -/
theorem trip (hI : TableOK I) (t : Fin k0_t1_loop.trips) :
    iprop(inv I Y f₀ d L qy qi O W t.val (carr t.val) ∗ Transfers.MayWaits (thr d L) (default : HIx 1) O)
      ⊢ wp frame (wpE (defs₀ (F := F)) 𝒱₀ (thr d L) none) Set.univ (tripProg (F := F) L t) (inv I Y f₀ d L qy qi O W (t.val + 1)) := by
  have ht : t.val < 32 := lt_of_lt_of_eq t.isLt trips_eq
  unfold tripProg k0_t1_body
  simp only [k0_part1_eq_skeleton, k0_part2_eq_skeleton, k0_part3_eq_skeleton, k0_part4_eq_skeleton, k0_part5_eq_skeleton, k0_part6_eq_skeleton]
  unfold k0_part1_skel
  simp only [bind_assoc, pure_bind, Prog.bind_lift]
  unfold inv
  rw [show (freeO d L (slot t.val) : sProp 𝕄) = iprop(anyO d L (slot t.val) ∗ semVal (thr d L, .dma (semO (slot t.val))) 0) from rfl]
  iintro ⟨⟨-, Hh, Hf, ⟨Ha, Hv⟩, Ht, Hb, Hd, Hy, HG, HO⟩, #Hm⟩
  iapply (wp_assume 𝒱₀ (thr d L) none Set.univ (chk3_ok t))
  iapply (wp_assume 𝒱₀ (thr d L) none Set.univ (chk2_ok t))
  iapply (wp_assume 𝒱₀ (thr d L) none Set.univ (chk1_ok L t))
  iapply (part2 I d L qi O W t (chk1_ok L t)) $$ [Hh Hf HO]
  · iframe; iexact Hm
  iintro ⟨Hi, Htb, Hvi, Hh, HO⟩
  iapply (part345 I Y d L qy O W hI t (chk3_ok t) (chk2_ok t)) $$ [Hi Ha Hy HG HO]
  · iframe; iexact Hm
  iintro ⟨Hi, Hc, Hy, HG, HO⟩
  ihave ⟨Hb0, Hb⟩ := (Entails.of_eq (blocks_take d L ht f₀)) $$ Hb
  iapply (part6 I Y f₀ d L O W t (chk1_ok L t)) $$ [Hc Hv Ht Hb0 HO]
  · iframe; iexact Hm
  iintro ⟨Ht, Hfo, Hd0, HO⟩
  rw [wp_pure]
  imodintro
  ihave Hd := (blocks_put I Y d L t.val) $$ [Hd0 Hd]
  · iframe
  rw [slot_add_two]
  isplitr
  · ipureintro; exact next_eq L t
  unfold freeI
  iframe

end Trip

end Cert.Proof.Gather
-- ==== Proof.Tile.lean ====
/-
  The task of one subcore: the first row is asked for, the loop's 32 trips are run, the last block is waited for. From
  the subcore's shares of the array and of the table and from its 32 blocks, the blocks come back holding the result.
-/
module

public import proofs.«01_k».proof.Proof.Trip

@[expose] public section

noncomputable section

namespace Cert.Proof.Gather

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

section Tile

variable (I : S1024x128.Idx → BitVec 32) (Y : S135168x512.Idx → BitVec 32) (f₀ : S65536x512.Idx → BitVec 32) (d : Dev nD) (L : grid0.Coords)
variable (qy qi : PosShare TreeShare) (O : CellTallies nD τ sig (HIx 1)) (W : Waits sig (HIx 1))

/-- The invariant with the right to wait kept beside it. -/
def invM (t : ℕ) (acc : BitVec 32 × BitVec 32 × BitVec 32 × BitVec 32 × BitVec 32 × BitVec 32) : sProp 𝕄 :=
  iprop(inv I Y f₀ d L qy qi O W t acc ∗ Transfers.MayWaits (thr d L) (default : HIx 1) O)

/-- A trip from any counters that are those of the trip. -/
theorem tripM (hI : TableOK I) (w7 w27 w29 : BitVec 32) (t : Fin k0_t1_loop.trips)
    (acc : BitVec 32 × BitVec 32 × BitVec 32 × BitVec 32 × BitVec 32 × BitVec 32) :
    invM I Y f₀ d L qy qi O W t.val acc
      ⊢ wp frame (wpE (defs₀ (F := F)) 𝒱₀ (thr d L) none) Set.univ
          (k0_t1_body (F := F) L yV (Memref.isWhole_whole _) iV (Memref.isWhole_whole _) oV (Memref.isWhole_whole _) aI (Memref.isWhole_whole _)
            cc0_scoped1 aO (Memref.isWhole_whole _) cc0_scoped3 cc0_scoped4 cc0_scoped5 cc0_scoped6 cc0_scoped7 (base L) w7 w27 w29 t acc)
          (invM I Y f₀ d L qy qi O W (t.val + 1)) := by
  by_cases h : acc = carr t.val
  · subst h
    unfold invM
    iintro ⟨Hi, #Hm⟩
    iapply (wp_frame_r frame (wpE (defs₀ (F := F)) 𝒱₀ (thr d L) none))
    isplitl [Hi]
    · iapply (trip I Y f₀ d L qy qi O W hI t) $$ [Hi]
      iframe; iexact Hm
    iexact Hm
  · unfold invM inv
    iintro ⟨⟨%h', -⟩, -⟩
    exact absurd h' h

/-- The subcore's blocks, each at `f`. -/
def blks (f : S65536x512.Idx → BitVec 32) : sProp 𝕄 := bigSep (Finset.range 32) fun t => blkAt d L (bk L t) f

/-- What a subcore's rings hold at rest: their slots at any contents, and the slots' cells at zero. -/
def rings : sProp 𝕄 :=
  iprop(anyI d L 0 ∗ anyI d L 1 ∗ anyO d L 0 ∗ anyO d L 1 ∗ semVal (thr d L, .dma (semI 0)) 0 ∗ semVal (thr d L, .dma (semI 1)) 0
    ∗ semVal (thr d L, .dma (semO 0)) 0 ∗ semVal (thr d L, .dma (semO 1)) 0 ∗ cellsG d L)

omit [FloatOps F] in
theorem tbl_half : (tbl d L I qi : sProp 𝕄) = iprop(tbl d L I (half qi 0) ∗ tbl d L I (half qi 1)) := by
  unfold tbl half
  rw [if_pos rfl, if_neg (by decide)]
  exact BI.Entails.antisymm (pointsTo_share (PosShare.mem_left_op_right qi)).1 (pointsTo_share (PosShare.mem_left_op_right qi)).2

omit [FloatOps F] in
theorem blks_start : (blks d L f₀ : sProp 𝕄) = bigSep (Finset.Ico 0 32) fun u => blkAt d L (bk L u) f₀ := by
  unfold blks; rw [Finset.range_eq_Ico]

set_option maxHeartbeats 4000000 in
/-- The task. -/
theorem task (hI : TableOK I) :
    iprop(rings d L ∗ src d L Y qy ∗ tbl d L I qi ∗ blks d L f₀ ∗ owing d L O W ∗ Transfers.MayWaits (thr d L) (default : HIx 1) O)
      ⊢ wp frame (wpE (defs₀ (F := F)) 𝒱₀ (thr d L) none) Set.univ
          (cc0_moe_gather (F := F) L yV (Memref.isWhole_whole _) iV (Memref.isWhole_whole _) oV (Memref.isWhole_whole _) aI (Memref.isWhole_whole _)
            cc0_scoped1 aO (Memref.isWhole_whole _) cc0_scoped3 cc0_scoped4 cc0_scoped5 cc0_scoped6 cc0_scoped7)
          fun _ => iprop(rings d L ∗ src d L Y qy ∗ tbl d L I qi ∗ blks d L (resVal Y I) ∗ owing d L O W) := by
  rw [cc0_moe_gather_eq_skeleton, tbl_half, blks_start]
  unfold cc0_moe_gather_skel
  simp only [k0_part7_eq_skeleton, k0_part8_eq_skeleton, k0_part9_eq_skeleton]
  unfold k0_part7_skel k0_part8_skel k0_part9_skel rings
  simp only [bind_assoc, pure_bind, Prog.bind_lift, Prog.bind_op]
  iintro ⟨⟨Ha0, Ha1, Ho0, Ho1, Hi0, Hi1, Hs0, Hs1, HG⟩, Hy, ⟨Ht0, Ht1⟩, Hb, HO, #Hm⟩
  iapply (startI d L I (half qi 0) (bk L 0) 0 k0_off1_eq
    ((k0_off2_eq L).trans (congrArg (fun n : ℕ => ![n, 0]) (by show _ = blk L 0; unfold blk; omega))) k0_off3_eq) $$ [Ha0 Ht0 Hi0]
  · iframe
  iintro Hn
  iapply (Scf.wp_for_bind frame (wpE (defs₀ (F := F)) 𝒱₀ (thr d L) none) Set.univ _ _ _ k0_t1_ok _ _ (invM I Y f₀ d L qy qi O W)
    (fun t acc => tripM I Y f₀ d L qy qi O W hI _ _ _ t acc)) $$ [Hn Ha1 Ht1 Hi1 Ho0 Hs0 Ho1 Hs1 HG Hy Hb HO]
  · unfold invM inv headI tailO freeI freeO
    rw [if_pos (by decide : 0 < 32), if_neg (by decide : ¬ 0 < 0), show Finset.range (0 - 1) = ∅ from rfl, bigSep_empty]
    isplitl
    swap; · iexact Hm
    isplitr
    · ipureintro; decide
    isplitl [Hn]; · iexact Hn
    isplitl [Ha1 Ht1 Hi1]
    · isplitl [Ha1]; · iexact Ha1
      isplitl [Ht1]; · iexact Ht1
      iexact Hi1
    isplitl [Ho0 Hs0]
    · isplitl [Ho0]; · iexact Ho0
      iexact Hs0
    isplitl [Ho1 Hs1]
    · isplitl [Ho1]; · iexact Ho1
      iexact Hs1
    isplitl [Hb]; · iexact Hb
    isplitr; · iempintro
    iframe
  iintro %acc Hinv
  rw [show Scf.trips k0_t1_loop.lb k0_t1_loop.ub k0_t1_loop.st = 32 from trips_eq]
  by_cases h : acc = carr 32
  swap
  · unfold invM inv
    icases Hinv with ⟨⟨%h', -⟩, -⟩
    exact absurd h' h
  subst h
  unfold invM inv headI tailO freeI freeO
  rw [if_neg (by decide : ¬ 32 < 32), if_pos (by decide : 0 < 32)]
  icases Hinv with ⟨⟨-, ⟨Ha0, Ht0, Hi0⟩, ⟨Ha1, Ht1, Hi1⟩, ⟨Ho0, Hs0⟩, Hn, -, Hb, Hy, HG, HO⟩, -⟩
  iapply (wp_assume 𝒱₀ (thr d L) none Set.univ (chk5_ok L))
  iapply (wp_assume 𝒱₀ (thr d L) none Set.univ chk4_ok)
  simp only [bind_assoc, pure_bind, Prog.bind_lift, Prog.bind_op]
  iapply (waitO d L Y I (bk L 31) 1 off21_eq (off19_eq L) off20_eq) $$ [Hn HO]
  · isplitl [Hn]; · iexact Hn
    isplitl [HO]; · iexact HO
    iexact Hm
  iintro ⟨Hb31, Ho1, Hs1, HO⟩
  rw [wp_pure]
  imodintro
  unfold blks
  rw [show Finset.range 32 = insert 31 (Finset.range (32 - 1)) by decide, SparseCore.bigSep_insert' (by decide)]
  isplitl [Ha0 Ha1 Ho0 Ho1 Hi0 Hi1 Hs0 Hs1 HG]
  · isplitl [Ha0]; · iexact Ha0
    isplitl [Ha1]; · iexact Ha1
    isplitl [Ho0]; · iexact Ho0
    isplitl [Ho1]; · iexact Ho1
    isplitl [Hi0]; · iexact Hi0
    isplitl [Hi1]; · iexact Hi1
    isplitl [Hs0]; · iexact Hs0
    isplitl [Hs1]; · iexact Hs1
    iexact HG
  isplitl [Hy]; · iexact Hy
  isplitl [Ht0 Ht1]
  · isplitl [Ht0]; · iexact Ht0
    iexact Ht1
  isplitl [Hb Hb31]
  · isplitl [Hb31] <;> iassumption
  iexact HO

/-! ## The rings out of the subcore's own buffers and cells -/

theorem mem_slotI (p : Fin 2) (i : S2x1x128.Idx) : i ∈ (slotI p).view.set ↔ i 0 = p := by
  show i ∈ (((View.whole (cc0_scoped0 : Ref sig .scVector)).slice (Rect.unit (s := S2x1x128) ![p.val, 0, 0] S1x1x128.size (inbI p))).reshape S1x128 squeezes_S1x1x128_S1x128.numel_eq).set ↔ _
  rw [View.set_reshape, View.set_slice_whole]
  refine (Rect.mem_set_unit (s := S2x1x128)).trans ⟨fun h => ?_, fun h a => ?_⟩
  · have := h 0
    simp only [Matrix.cons_val_zero] at this
    have h1 : S1x1x128.size 0 = 1 := rfl
    exact Fin.ext (by omega)
  · subst h
    match a with
    | 0 => exact ⟨le_refl _, Nat.lt_succ_self _⟩
    | 1 => exact ⟨Nat.zero_le _, lt_of_lt_of_eq (i 1).isLt rfl⟩
    | 2 => exact ⟨Nat.zero_le _, lt_of_lt_of_eq (i 2).isLt rfl⟩

theorem mem_slotO (p : Fin 2) (i : S2x64x512.Idx) : i ∈ (slotO p).view.set ↔ i 0 = p := by
  show i ∈ (((View.whole (cc0_scoped2 : Ref sig .scVector)).slice (Rect.unit (s := S2x64x512) ![p.val, 0, 0] S1x64x512.size (inbO p))).reshape S64x512 squeezes_S1x64x512_S64x512.numel_eq).set ↔ _
  rw [View.set_reshape, View.set_slice_whole]
  refine (Rect.mem_set_unit (s := S2x64x512)).trans ⟨fun h => ?_, fun h a => ?_⟩
  · have := h 0
    simp only [Matrix.cons_val_zero] at this
    have h1 : S1x64x512.size 0 = 1 := rfl
    exact Fin.ext (by omega)
  · subst h
    match a with
    | 0 => exact ⟨le_refl _, Nat.lt_succ_self _⟩
    | 1 => exact ⟨Nat.zero_le _, lt_of_lt_of_eq (i 1).isLt rfl⟩
    | 2 => exact ⟨Nat.zero_le _, lt_of_lt_of_eq (i 2).isLt rfl⟩

/-- A block of the result is the rows whose number over 64 is the block's. -/
theorem mem_oBlk (b : Fin 1024) (i : S65536x512.Idx) : i ∈ (oBlk b).view.set ↔ (i 0).val / 64 = b.val := by
  show i ∈ ((View.whole (main_v3_scv : Ref sig .scVector)).slice (Rect.unit (s := S65536x512) ![64 * b.val, 0] S64x512.size (inbB b))).set ↔ _
  rw [View.set_slice_whole]
  refine (Rect.mem_set_unit (s := S65536x512)).trans ⟨fun h => ?_, fun h a => ?_⟩
  · have := h 0
    simp only [Matrix.cons_val_zero] at this
    have h1 : S64x512.size 0 = 64 := rfl
    omega
  · match a with
    | 0 =>
      show 64 * b.val ≤ (i 0).val ∧ (i 0).val < 64 * b.val + 64
      omega
    | 1 => exact ⟨Nat.zero_le _, lt_of_lt_of_eq (i 1).isLt rfl⟩

/-- Two sets told apart by a coordinate of two values are the whole and are disjoint. -/
theorem two_sets {α : Type} [Fintype α] [DecidableEq α] (A : Fin 2 → Finset α) (g : α → Fin 2) (h : ∀ p i, i ∈ A p ↔ g i = p) :
    A 0 ∪ A 1 = Finset.univ ∧ Disjoint (A 0) (A 1) := by
  constructor
  · ext i
    simp only [Finset.mem_union, h, Finset.mem_univ, iff_true]
    omega
  · rw [Finset.disjoint_left]
    intro i h0 h1
    rw [h] at h0 h1
    omega

omit [FloatOps F] in
theorem ringI_split : (iprop(∃ f, (thr d L).loc cc0_scoped0 ↦{fullShare} f) : sProp 𝕄) ⊢ iprop(anyI d L 0 ∗ anyI d L 1) := by
  have h := two_sets (fun p => (slotI p).view.set) (fun i : S2x1x128.Idx => i 0) mem_slotI
  unfold anyI
  iintro ⟨%f, H⟩
  ihave H := (Entails.of_eq (show ((thr d L).loc cc0_scoped0 ↦{fullShare} f : sProp 𝕄)
    = (thr d L).loc cc0_scoped0 ↦[(slotI 0).view.set ∪ (slotI 1).view.set]{fullShare} f from by rw [h.1])) $$ H
  icases (pointsTo_union h.2).1 $$ H with ⟨H0, H1⟩
  isplitl [H0]
  · iexists f; iexact H0
  · iexists f; iexact H1

omit [FloatOps F] in
theorem ringI_join : iprop(anyI d L 0 ∗ anyI d L 1) ⊢ (iprop(∃ f, (thr d L).loc cc0_scoped0 ↦{fullShare} f) : sProp 𝕄) := by
  have h := two_sets (fun p => (slotI p).view.set) (fun i : S2x1x128.Idx => i 0) mem_slotI
  unfold anyI
  iintro ⟨⟨%f, H0⟩, %g, H1⟩
  ihave H := (pointsTo_join (ℓ := (thr d L).loc cc0_scoped0) (q := fullShare) (f := f) (g := g) h.2) $$ [H0 H1]
  · isplitl [H0] <;> iassumption
  rw [h.1]
  iexists _; iexact H

omit [FloatOps F] in
/-- The index ring is its two slots. -/
theorem ringI : (iprop(∃ f, (thr d L).loc cc0_scoped0 ↦{fullShare} f) : sProp 𝕄) = iprop(anyI d L 0 ∗ anyI d L 1) :=
  BI.Entails.antisymm (ringI_split d L) (ringI_join d L)

omit [FloatOps F] in
theorem ringO_split : (iprop(∃ f, (thr d L).loc cc0_scoped2 ↦{fullShare} f) : sProp 𝕄) ⊢ iprop(anyO d L 0 ∗ anyO d L 1) := by
  have h := two_sets (fun p => (slotO p).view.set) (fun i : S2x64x512.Idx => i 0) mem_slotO
  unfold anyO
  iintro ⟨%f, H⟩
  ihave H := (Entails.of_eq (show ((thr d L).loc cc0_scoped2 ↦{fullShare} f : sProp 𝕄)
    = (thr d L).loc cc0_scoped2 ↦[(slotO 0).view.set ∪ (slotO 1).view.set]{fullShare} f from by rw [h.1])) $$ H
  icases (pointsTo_union h.2).1 $$ H with ⟨H0, H1⟩
  isplitl [H0]
  · iexists f; iexact H0
  · iexists f; iexact H1

omit [FloatOps F] in
theorem ringO_join : iprop(anyO d L 0 ∗ anyO d L 1) ⊢ (iprop(∃ f, (thr d L).loc cc0_scoped2 ↦{fullShare} f) : sProp 𝕄) := by
  have h := two_sets (fun p => (slotO p).view.set) (fun i : S2x64x512.Idx => i 0) mem_slotO
  unfold anyO
  iintro ⟨⟨%f, H0⟩, %g, H1⟩
  ihave H := (pointsTo_join (ℓ := (thr d L).loc cc0_scoped2) (q := fullShare) (f := f) (g := g) h.2) $$ [H0 H1]
  · isplitl [H0] <;> iassumption
  rw [h.1]
  iexists _; iexact H

omit [FloatOps F] in
/-- The output ring is its two slots. -/
theorem ringO : (iprop(∃ f, (thr d L).loc cc0_scoped2 ↦{fullShare} f) : sProp 𝕄) = iprop(anyO d L 0 ∗ anyO d L 1) :=
  BI.Entails.antisymm (ringO_split d L) (ringO_join d L)

/-- The eight cells of the task. -/
def cellOf : Fin 8 → DmaSem sig := ![semI 0, semI 1, semO 0, semO 1, cc0_scoped4.sem, cc0_scoped5.sem, cc0_scoped6.sem, cc0_scoped7.sem]
def cells8 : Finset (GSem nD τ sig) := Finset.univ.image fun k : Fin 8 => (thr d L, .dma (cellOf k))

theorem cellOf_inj : Function.Injective cellOf := by decide
theorem cellOf_scoped : ∀ k : Fin 8, (SemLoc.dma (cellOf k) : SemLoc sig).isScoped .scVector = true := by decide

omit [FloatOps F] in
/-- The eight cells, one by one. -/
theorem cells8_eq : (bigSep (cells8 d L) fun g => semVal g 0 : sProp 𝕄)
    = iprop(semVal (thr d L, .dma (semI 0)) 0 ∗ semVal (thr d L, .dma (semI 1)) 0
        ∗ semVal (thr d L, .dma (semO 0)) 0 ∗ semVal (thr d L, .dma (semO 1)) 0 ∗ cellsG d L) := by
  unfold cells8 cellsG
  rw [bigSep_image_of_injOn (fun a _ b _ e => cellOf_inj (SemLoc.dma.inj (Prod.mk.inj e).2)),
    show (Finset.univ : Finset (Fin 8)) = {0, 1, 2, 3, 4, 5, 6, 7} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]
  rfl

omit [FloatOps F] in
/-- The subcore's cells are these eight and the rest. -/
theorem ownSems0_V : (ownSems0 (thr d L) : sProp 𝕄)
    = iprop((semVal (thr d L, .dma (semI 0)) 0 ∗ semVal (thr d L, .dma (semI 1)) 0
        ∗ semVal (thr d L, .dma (semO 0)) 0 ∗ semVal (thr d L, .dma (semO 1)) 0 ∗ cellsG d L)
      ∗ bigSep (ownCells (thr d L) \ cells8 d L) fun g => semVal g 0) := by
  unfold SparseCore.Cfg.ownSems0
  rw [SparseCore.bigSep_sdiff_split' (t := cells8 d L) (by
    intro g hg
    obtain ⟨k, -, rfl⟩ := Finset.mem_image.mp hg
    exact mem_ownCells.mpr ⟨rfl, cellOf_scoped k⟩), cells8_eq]

omit [FloatOps F] in
/-- The two rings are among the subcore's own buffers: they are them and the rest. -/
theorem ownBufs_V :
    (ownBufs (thr d L) : sProp 𝕄)
      = iprop((anyI d L 0 ∗ anyI d L 1) ∗ (anyO d L 0 ∗ anyO d L 1)
          ∗ bigSep (((ownRefs (τ := τ) (.scVector (cV L) (jV L))).erase ((Proc.scVector (cV L) (jV L)).devRef cc0_scoped0)).erase
              ((Proc.scVector (cV L) (jV L)).devRef cc0_scoped2))
              fun b => iprop(∃ f, ((d, b) : Loc nD τ sig) ↦{fullShare} f)) := by
  rw [← ringI, ← ringO]
  unfold SparseCore.Cfg.ownBufs
  refine (SparseCore.bigSep_erase' (SparseCore.Cfg.mem_ownRefs_of_owner (p := Proc.scVector (cV L) (jV L))
    (b := (Proc.scVector (cV L) (jV L)).devRef cc0_scoped0) rfl)).trans ?_
  rw [SparseCore.bigSep_erase' (Finset.mem_erase.mpr ⟨fun e => absurd (Proc.devRef_injective _ e) (show (cc0_scoped2 : Ref sig .scVector) ≠ cc0_scoped0 by decide),
    SparseCore.Cfg.mem_ownRefs_of_owner (p := Proc.scVector (cV L) (jV L)) (b := (Proc.scVector (cV L) (jV L)).devRef cc0_scoped2) rfl⟩)]

/-- The task from what the launch hands a subcore. -/
theorem tile_body (hF : (K (F := F)).Facts) (hI : TableOK I) (hO : ∀ g, O g none = 0) :
    iprop(levAts (K (F := F)).L (K (F := F)).lev ∗ emp ∗ (src d L Y qy ∗ tbl d L I qi ∗ blks d L f₀)
        ∗ scopedBufs (thr d L) ∗ scopedSems0 (thr d L) ∗ owes (thr d L) O W)
      ⊢ wp frame (wpE (defs₀ (F := F)) 𝒱₀ (thr d L) none) Set.univ
          (cc0_moe_gather (F := F) L yV (Memref.isWhole_whole _) iV (Memref.isWhole_whole _) oV (Memref.isWhole_whole _) aI (Memref.isWhole_whole _)
            cc0_scoped1 aO (Memref.isWhole_whole _) cc0_scoped3 cc0_scoped4 cc0_scoped5 cc0_scoped6 cc0_scoped7)
          fun _ => iprop((src d L Y qy ∗ tbl d L I qi ∗ blks d L (resVal Y I)) ∗ scopedBufs (thr d L) ∗ scopedSems0 (thr d L)
            ∗ ∃ W', ⌜∀ p ∈ W', p ∈ W ∨ p.2 = none⌝ ∗ owes (thr d L) O W') := by
  rw [(K (F := F)).scopedBufs_V hF d (cV L) (jV L), SparseCore.Cfg.scopedSems0_V (Val := Elt F) d (cV L) (jV L), ownSems0_V, ownBufs_V]
  iintro ⟨#Hlv, -, ⟨Hy, Ht, Hb⟩, ⟨⟨Ha0, Ha1⟩, ⟨Ho0, Ho1⟩, Hbufs⟩, ⟨⟨Hi0, Hi1, Hs0, Hs1, HG⟩, Hsems⟩, HO⟩
  ihave #Hm := (show levAts (K (F := F)).L (K (F := F)).lev ⊢ Transfers.MayWaits (thr d L) (default : HIx 1) O from
    (K (F := F)).mayWaits_none (thr := thr d L) hO) $$ Hlv
  iapply (wp_wand frame (wpE (defs₀ (F := F)) 𝒱₀ (thr d L) none)) $$ [Ha0 Ha1 Ho0 Ho1 Hi0 Hi1 Hs0 Hs1 HG Hy Ht Hb HO]
  · iapply (task I Y f₀ d L qy qi O W hI) $$ [Ha0 Ha1 Ho0 Ho1 Hi0 Hi1 Hs0 Hs1 HG Hy Ht Hb HO]
    unfold rings owing
    iframe
    isplitl [HO]
    · iexists W; iframe; ipureintro; exact fun p hp => .inl hp
    iexact Hm
  unfold rings owing
  iintro %_ ⟨⟨Ha0, Ha1, Ho0, Ho1, Hi0, Hi1, Hs0, Hs1, HG⟩, Hy, Ht, Hb, HO⟩
  iframe

end Tile

end Cert.Proof.Gather
-- ==== Proof.Launch.lean ====
/-
  The launch of the gather: what the handshakes carry (each subcore its share of the array and of the table and its 32
  blocks of the result), the subcores' obligation, the TensorCore's program (the table made from the list of rows, then
  the call), and the run: the arguments end as they began and the result holds the rows the list names.
-/
module

public import proofs.«01_k».proof.Proof.Tile
public import Idealize.ShloMosaic.Lib.ShareLeaves

@[expose] public section

noncomputable section

namespace Cert.Proof.Gather

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.ShareLeaves (leaf pointsTo_leaves)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.TcCoe

variable {F : FTy → Type}

local notation "𝕄" => MT nD τ sig (HIx 1) (Elt F) ℕ UU ℕ

abbrev yLoc (d : Dev nD) : Loc nD τ sig := (SparseCore.T d : Thread nD τ).loc main_arg0
abbrev xLoc (d : Dev nD) : Loc nD τ sig := (SparseCore.T d : Thread nD τ).loc main_arg1
abbrev tLoc (d : Dev nD) : Loc nD τ sig := (SparseCore.T d : Thread nD τ).loc main_v2
abbrev oLoc (d : Dev nD) : Loc nD τ sig := (SparseCore.T d : Thread nD τ).loc main_v3

/-- The table of rows: the list as 1024 rows of 64, each padded with 64 zeros. -/
def table (x : S65536.Idx → BitVec 32) : S1024x128.Idx → BitVec 32 :=
  concatenate S1024x128 1 [⟨S1024x64, shapeCast S1024x64 x shapeCasts_S65536_S1024x64⟩,
    ⟨S1024x64, broadcastInDim S1024x64 ![] bcast_S_S1024x64 (constantI S_ 32 0#32)⟩] concatenates_S1024x64_S1024x64_S1024x128_d1

variable (m : (ℓ : Loc nD τ sig) → Buf (Elt F) ℓ) (ρ : Dev nD → PrngReg)

/-- The array, the table and the result of device `d`. -/
def Yd (d : Dev nD) : S135168x512.Idx → BitVec 32 := m (yLoc d)
def Id (d : Dev nD) : S1024x128.Idx → BitVec 32 := table (m (xLoc d))
def Od (d : Dev nD) : S65536x512.Idx → BitVec 32 := m (oLoc d)

/-! ## What the handshakes carry -/

def coordsV (c : Fin (grid0.bound 0)) (s : Fin (grid0.bound 1)) : grid0.Coords :=
  fun | 0 => c | 1 => s | ⟨_ + 2, h⟩ => absurd h (Nat.not_lt.2 (Nat.le_add_left _ _))

/-- Subcore `s` of core `c`. -/
abbrev cd (c : Fin 2) (s : Fin 16) : grid0.Coords := coordsV c s

/-- A subcore's share of what all subcores read. -/
def shr (c : Fin 2) (s : Fin 16) : PosShare TreeShare := leaf 4 (leaf 1 fullShare c) s

/-- What subcore `s` of core `c` is handed, its blocks at `f`. -/
def part (d : Dev nD) (c : Fin 2) (s : Fin 16) (f : S65536x512.Idx → BitVec 32) : sProp 𝕄 :=
  iprop(src d (cd c s) (Yd m d) (shr c s) ∗ tbl d (cd c s) (Id m d) (shr c s) ∗ blks d (cd c s) f)

/-- What core `c` is handed: what its subcores are. -/
def corePart (d : Dev nD) (c : Fin 2) (f : S65536x512.Idx → BitVec 32) : sProp 𝕄 := bigSep Finset.univ fun s : Fin 16 => part m d c s f

instance part_storable (d : Dev nD) (c : Fin 2) (s : Fin 16) (f : S65536x512.Idx → BitVec 32) : BI.Storable (upEmb : UEmb _ 𝕄) (part m d c s f) := by
  unfold part src tbl blks blkAt; infer_instance
instance corePart_storable (d : Dev nD) (c : Fin 2) (f : S65536x512.Idx → BitVec 32) : BI.Storable (upEmb : UEmb _ 𝕄) (corePart m d c f) := by
  unfold corePart; infer_instance

attribute [irreducible] part corePart

theorem nCore_zero : (K (F := F)).nCore 0 = 2 := rfl
theorem nSub_zero : (K (F := F)).nSub 0 = 16 := rfl

/-- The one call takes each subcore its part with its blocks as they were, and brings it back with them at the result. -/
def P : (K (F := F)).Pay (nD := nD) (Val := Elt F) (Name := ℕ) (U := UU) where
  st := fun q d c => match q with | 0 => corePart m d (Fin.cast nCore_zero c) (Od m d)
  dn := fun q d c => match q with | 0 => corePart m d (Fin.cast nCore_zero c) (resVal (Yd m d) (Id m d))
  go := fun q d c i => match q with | 0 => part m d (Fin.cast nCore_zero c) (Fin.cast nSub_zero i) (Od m d)
  td := fun q d c i => match q with | 0 => part m d (Fin.cast nCore_zero c) (Fin.cast nSub_zero i) (resVal (Yd m d) (Id m d))
  x := fun _ _ => iprop(emp)

instance P_storable : (P (F := F) m).IsStorable where
  st q d c := match q with | 0 => corePart_storable m d _ _
  dn q d c := match q with | 0 => corePart_storable m d _ _
  go q d c i := match q with | 0 => part_storable m d _ _ _
  td q d c i := match q with | 0 => part_storable m d _ _ _

/-- What the proof asks of the launch memory: every word of the list names a row. -/
def PreOK : Prop := ∀ d : Dev nD, TableOK (Id m d)

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
theorem bigSep_cores (Φ : Fin 2 → sProp 𝕄) :
    (bigSep Finset.univ fun i : Fin ((K (F := F)).nCore 0) => Φ (Fin.cast nCore_zero i)) = bigSep Finset.univ Φ :=
  bigSep_congr fun _ _ => congrArg Φ (Fin.ext rfl)

/-- A core's part is its subcores' parts, before and after. -/
theorem split_self (A B : sProp 𝕄) : A ⊢ |={Set.univ}=> iprop(A ∗ (B -∗ B)) := by
  iintro H; imodintro
  isplitl [H]; · iexact H
  iintro H; iexact H

/-- A core's part over the machine's subcores. -/
theorem core_tasks (d : Dev nD) (c : Fin 2) (f : S65536x512.Idx → BitVec 32) :
    (bigSep Finset.univ fun i : Fin ((K (F := F)).nSub 0) => part m d c (Fin.cast nSub_zero i) f) = corePart m d c f :=
  (bigSep_tasks (F := F) (fun i => part m d c i f)).trans (by unfold corePart; rfl)

theorem P_st (d : Dev nD) (c : Fin ((K (F := F)).nCore 0)) : (P m).st 0 d c = corePart m d (Fin.cast nCore_zero c) (Od m d) := rfl
theorem P_dn (d : Dev nD) (c : Fin ((K (F := F)).nCore 0)) : (P m).dn 0 d c = corePart m d (Fin.cast nCore_zero c) (resVal (Yd m d) (Id m d)) := rfl
theorem P_go (d : Dev nD) (c : Fin ((K (F := F)).nCore 0)) (i : Fin ((K (F := F)).nSub 0)) :
    (P m).go 0 d c i = part m d (Fin.cast nCore_zero c) (Fin.cast nSub_zero i) (Od m d) := rfl
theorem P_td (d : Dev nD) (c : Fin ((K (F := F)).nCore 0)) (i : Fin ((K (F := F)).nSub 0)) :
    (P m).td 0 d c i = part m d (Fin.cast nCore_zero c) (Fin.cast nSub_zero i) (resVal (Yd m d) (Id m d)) := rfl

theorem vecSplit : (K (F := F)).VecSplit' (P m) 0 := by
  intro d c
  show corePart m d (Fin.cast nCore_zero c) (Od m d) ⊢ |={Set.univ}=> iprop(
      (bigSep Finset.univ fun i : Fin ((K (F := F)).nSub 0) => part m d (Fin.cast nCore_zero c) (Fin.cast nSub_zero i) (Od m d))
      ∗ ((bigSep Finset.univ fun i : Fin ((K (F := F)).nSub 0) => part m d (Fin.cast nCore_zero c) (Fin.cast nSub_zero i) (resVal (Yd m d) (Id m d)))
          -∗ corePart m d (Fin.cast nCore_zero c) (resVal (Yd m d) (Id m d))))
  rw [core_tasks, core_tasks]
  exact split_self _ _

/-! ## The parts are the arrays -/

theorem src_eq (d : Dev nD) (L : grid0.Coords) (f : S135168x512.Idx → BitVec 32) (q : PosShare TreeShare) : (src d L f q : sProp 𝕄) = (yLoc d ↦{q} f) := rfl
theorem tbl_eq (d : Dev nD) (L : grid0.Coords) (f : S1024x128.Idx → BitVec 32) (q : PosShare TreeShare) : (tbl d L f q : sProp 𝕄) = (tLoc d ↦{q} f) := rfl

/-- A whole points-to is the subcores' shares of it. -/
theorem shares {ℓ : Loc nD τ sig} (f : Buf (Elt F) ℓ) :
    (ℓ ↦{fullShare} f : sProp 𝕄) = bigSep Finset.univ fun c : Fin 2 => bigSep Finset.univ fun s : Fin 16 => ℓ ↦{shr c s} f := by
  refine (pointsTo_leaves Finset.univ f 1 fullShare).trans ?_
  show (bigSep (Finset.univ : Finset (Fin 2)) fun c => _) = _
  refine bigSep_congr fun c _ => ?_
  exact pointsTo_leaves Finset.univ f 4 (leaf 1 fullShare c)

theorem y_parts (d : Dev nD) (f : S135168x512.Idx → BitVec 32) :
    (yLoc d ↦{fullShare} f : sProp 𝕄) = bigSep Finset.univ fun c : Fin 2 => bigSep Finset.univ fun s : Fin 16 => src d (cd c s) f (shr c s) := by
  simp only [src_eq]
  exact shares (ℓ := yLoc d) f
theorem t_parts (d : Dev nD) (f : S1024x128.Idx → BitVec 32) :
    (tLoc d ↦{fullShare} f : sProp 𝕄) = bigSep Finset.univ fun c : Fin 2 => bigSep Finset.univ fun s : Fin 16 => tbl d (cd c s) f (shr c s) := by
  simp only [tbl_eq]
  exact shares (ℓ := tLoc d) f

/-- The elements of block `bk` of subcore `s` of core `c` at trip `t`. -/
def blkSet (x : Fin 2 × Fin 16 × Fin 32) : Finset S65536x512.Idx := (oBlk (bk (cd x.1 x.2.1) x.2.2.val)).view.set

theorem mem_blkSet (x : Fin 2 × Fin 16 × Fin 32) (i : S65536x512.Idx) :
    i ∈ blkSet x ↔ (i 0).val / 64 = 512 * (x.2.2.val / 16 % 2) + 16 * (x.2.1.val + 16 * x.1.val) + x.2.2.val % 16 :=
  mem_oBlk _ i

theorem blkSet_disjoint : ∀ x ∈ (Finset.univ : Finset (Fin 2 × Fin 16 × Fin 32)), ∀ y ∈ (Finset.univ : Finset (Fin 2 × Fin 16 × Fin 32)), x ≠ y → Disjoint (blkSet x) (blkSet y) := by
  rintro ⟨c, s, t⟩ - ⟨c', s', t'⟩ - h
  rw [Finset.disjoint_left]
  intro i h1 h2
  rw [mem_blkSet] at h1 h2
  apply h
  dsimp only at h1 h2
  have := c.isLt; have := c'.isLt; have := s.isLt; have := s'.isLt; have := t.isLt; have := t'.isLt
  refine Prod.ext (Fin.ext ?_) (Prod.ext (Fin.ext ?_) (Fin.ext ?_)) <;> dsimp only <;> omega

theorem blkSet_cover : (Finset.univ : Finset (Fin 2 × Fin 16 × Fin 32)).biUnion blkSet = Finset.univ := by
  ext i
  simp only [Finset.mem_biUnion, Finset.mem_univ, true_and, iff_true]
  have hi : (i 0).val < 65536 := (i 0).isLt
  refine ⟨(⟨(i 0).val / 64 / 256 % 2, by omega⟩, ⟨(i 0).val / 64 / 16 % 16, by omega⟩, ⟨(i 0).val / 64 % 16 + 16 * ((i 0).val / 64 / 512), by omega⟩), ?_⟩
  rw [mem_blkSet]
  dsimp only
  omega

theorem o_parts (d : Dev nD) (f : S65536x512.Idx → BitVec 32) :
    (oLoc d ↦{fullShare} f : sProp 𝕄) = bigSep Finset.univ fun c : Fin 2 => bigSep Finset.univ fun s : Fin 16 => blks d (cd c s) f := by
  have e : (oLoc d ↦{fullShare} f : sProp 𝕄) = bigSep Finset.univ fun x : Fin 2 × Fin 16 × Fin 32 => oLoc d ↦[blkSet x]{fullShare} f := by
    rw [← pointsTo_biUnion Finset.univ (ℓ := oLoc d) blkSet blkSet_disjoint, blkSet_cover]; try rfl
  rw [e, bigSep_univ_prod]
  refine bigSep_congr fun c _ => ?_
  rw [bigSep_univ_prod]
  refine bigSep_congr fun s _ => ?_
  unfold blks
  rw [show Finset.range 32 = (Finset.univ : Finset (Fin 32)).map Fin.valEmbedding by decide, bigSep_map]
  rfl

/-- The cores' parts are the array, the table and the result. -/
theorem parts_eq (d : Dev nD) (f : S65536x512.Idx → BitVec 32) :
    (bigSep Finset.univ fun c : Fin 2 => corePart m d c f : sProp 𝕄)
      = iprop((yLoc d ↦{fullShare} Yd m d) ∗ (tLoc d ↦{fullShare} Id m d) ∗ oLoc d ↦{fullShare} f) := by
  rw [y_parts, t_parts, o_parts]
  simp only [corePart, part, bigSep_sep']

theorem st0_eq (d : Dev nD) : (bigSep Finset.univ fun c : Fin ((K (F := F)).nCore 0) => (P m).st 0 d c)
    = iprop((yLoc d ↦{fullShare} Yd m d) ∗ (tLoc d ↦{fullShare} Id m d) ∗ oLoc d ↦{fullShare} Od m d) := by
  simp only [P_st]
  exact (bigSep_cores (F := F) fun c => corePart m d c (Od m d)).trans (parts_eq m d _)
theorem dn0_eq (d : Dev nD) : (bigSep Finset.univ fun c : Fin ((K (F := F)).nCore 0) => (P m).dn 0 d c)
    = iprop((yLoc d ↦{fullShare} Yd m d) ∗ (tLoc d ↦{fullShare} Id m d) ∗ oLoc d ↦{fullShare} resVal (Yd m d) (Id m d)) := by
  simp only [P_dn]
  exact (bigSep_cores (F := F) fun c => corePart m d c (resVal (Yd m d) (Id m d))).trans (parts_eq m d _)

/-! ## The subcores' obligation -/

variable [FloatOps F]

theorem defs₀_vector (c : Fin τ.nSC) (s : Fin τ.nSub) :
    defs₀ (F := F) (.scVector c s) 0 ()
      = SparseCore.onTile hcore0 hsub0 (fun c s => cc0_moe_gather (F := F) (coordsV c s) yV (Memref.isWhole_whole _) iV (Memref.isWhole_whole _) oV (Memref.isWhole_whole _) aI (Memref.isWhole_whole _)
            cc0_scoped1 aO (Memref.isWhole_whole _) cc0_scoped3 cc0_scoped4 cc0_scoped5 cc0_scoped6 cc0_scoped7) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  iframe
  iexists W'
  iframe
  ipureintro; exact fun p hp => (hW' p hp).imp_right Or.inl

set_option maxRecDepth 16384 in
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector, P_go, P_td, part, part]; simp only [SparseCore.onTile, hci, and_self, ↓reduceDIte]
  exact (tile_body (Id m d) (Yd m d) (Od m d) d (coordsV ⟨_, hci.1⟩ ⟨_, hci.2⟩) _ _ O W hF (hpre d) hO).trans (wp_mono frame _ _ fun _ => obl_post)

/-! ## The launch element of the certificate's ghost state -/

def u₀ : UU := (initOf (K (F := F)).hsCells (K (F := F)).hsToks, 1)

omit [FloatOps F] in
theorem emp_all {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [emp_all]; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), emp_all]
  iempintro

/-! ## The TensorCore's program -/

/-- The lines before the call: they make the table. -/
def ops : List (HloOp τ sig (Elt F)) :=
  [StableHlo.reshape main_arg1 main_v0 (rfl : (.i32 : EltTy) = .i32) shapeCasts_S65536_S1024x64,
   StableHlo.nullary main_c (constantI S_ 32 0#32),
   StableHlo.unary main_c main_v1 (broadcastInDim S1024x64 ![] bcast_S_S1024x64 : (⟨S_, .i32⟩ : BufTy).Contents (Elt F) → (⟨S1024x64, .i32⟩ : BufTy).Contents (Elt F)),
   StableHlo.binary main_v0 main_v1 main_v2 ((fun a b => concatenate S1024x128 1 [⟨S1024x64, a⟩, ⟨S1024x64, b⟩] concatenates_S1024x64_S1024x64_S1024x128_d1) : (⟨S1024x64, .i32⟩ : BufTy).Contents (Elt F) → (⟨S1024x64, .i32⟩ : BufTy).Contents (Elt F) → (⟨S1024x128, .i32⟩ : BufTy).Contents (Elt F))]

/-- The buffers of the program's values. -/
def bufs : Finset (DevRef τ sig) := (StableHlo.tcRefs τ sig).filter fun b => ¬ b.isScoped

omit [FloatOps F] in
theorem held_start (d : Dev nD) (W : Valuation τ sig (Elt F)) :
    (unscopedBufs d (fun b => W b) : sProp 𝕄) = StableHlo.held (d.tc : Thread nD τ) bufs W := by
  unfold unscopedBufs StableHlo.held bufs StableHlo.tcRefs
  rw [Finset.filter_map, bigSep_map]
  rfl

omit [FloatOps F] in
/-- The buffers one by one. -/
theorem held_each (d : Dev nD) (W : Valuation τ sig (Elt F)) : (StableHlo.held (d.tc : Thread nD τ) bufs W : sProp 𝕄)
    = iprop((yLoc d ↦{fullShare} W main_arg0) ∗ (xLoc d ↦{fullShare} W main_arg1)
      ∗ (((SparseCore.T d : Thread nD τ).loc main_v0) ↦{fullShare} W main_v0) ∗ (((SparseCore.T d : Thread nD τ).loc main_c) ↦{fullShare} W main_c)
      ∗ (((SparseCore.T d : Thread nD τ).loc main_v1) ↦{fullShare} W main_v1) ∗ (tLoc d ↦{fullShare} W main_v2) ∗ (oLoc d ↦{fullShare} W main_v3)) := by
  unfold StableHlo.held
  rw [bigSep_eq_bigSepL_of_eq [Proc.devRef .tc main_arg0, Proc.devRef .tc main_arg1, Proc.devRef .tc main_v0, Proc.devRef .tc main_c, Proc.devRef .tc main_v1,
    Proc.devRef .tc main_v2, Proc.devRef .tc main_v3] (by decide) (by decide)]
  rfl

abbrev V₀ (d : Dev nD) : Valuation τ sig (Elt F) := fun b => m ((d : Dev nD), b)

theorem after_arg0 (d : Dev nD) : StableHlo.after (ops (F := F)) (V₀ m d) main_arg0 = Yd m d := by unfold ops; after_results; rfl
theorem after_arg1 (d : Dev nD) : StableHlo.after (ops (F := F)) (V₀ m d) main_arg1 = m (xLoc d) := by unfold ops; after_results
theorem after_v3 (d : Dev nD) : StableHlo.after (ops (F := F)) (V₀ m d) main_v3 = Od m d := by unfold ops; after_results; rfl
theorem after_v2 (d : Dev nD) : StableHlo.after (ops (F := F)) (V₀ m d) main_v2 = Id m d := by
  unfold ops; after_results; try rfl

theorem main_eq (d : Dev nD) : main (F := F) d = StableHlo.seq ops >>= fun _ => (sc (F := F)).run d 0 := by
  simp only [main, ops, StableHlo.seq, bind_assoc, pure_bind, bind_pure]
  try rfl

theorem ops_bufs : ∀ op ∈ ops (F := F), op.bufs ⊆ bufs := by
  intro op h
  simp only [ops, List.mem_cons, List.not_mem_nil, or_false] at h
  rcases h with rfl | rfl | rfl | rfl
  · show ({Proc.devRef .tc main_arg1, Proc.devRef .tc main_v0} : Finset (DevRef τ sig)) ⊆ bufs; decide
  · show ({Proc.devRef .tc main_c} : Finset (DevRef τ sig)) ⊆ bufs; decide
  · show ({Proc.devRef .tc main_c, Proc.devRef .tc main_v1} : Finset (DevRef τ sig)) ⊆ bufs; decide
  · show ({Proc.devRef .tc main_v0, Proc.devRef .tc main_v1, Proc.devRef .tc main_v2} : Finset (DevRef τ sig)) ⊆ bufs; decide
theorem ops_fresh : ∀ op ∈ ops (F := F), op.fresh = ∅ := by
  intro op h
  simp only [ops, List.mem_cons, List.not_mem_nil, or_false] at h
  rcases h with rfl | rfl | rfl | rfl <;> rfl

/-- What is left of the values' buffers at the end: the array, the list, and the rows the list names. -/
abbrev FIN (d : Dev nD) : sProp 𝕄 := iprop((yLoc d ↦{fullShare} Yd m d) ∗ (xLoc d ↦{fullShare} m (xLoc d)) ∗ oLoc d ↦{fullShare} resVal (Yd m d) (Id m d))

/-- The program on device `d`'s TensorCore: the table, then the call. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [main_eq]
  iintro ⟨#Hctx, Hst, ⟨Hb, Hu, Hts, -⟩, -⟩
  ihave Hu := (Entails.of_eq (held_start d (V₀ m d))) $$ Hu
  iapply (StableHlo.wp_seq 𝒱 none Set.univ d bufs (fun _ => (sc (F := F)).run d 0) ops ops_bufs ops_fresh (V₀ m d)) $$ [Hb Hu]
  · isplitl [Hb]; · iexact Hb
    iexact Hu
  iintro ⟨Hb, Hu⟩
  ihave Hu := (Entails.of_eq ((held_each d _).trans (by rw [after_arg0, after_arg1, after_v2, after_v3]))) $$ Hu
  icases Hu with ⟨Hy, Hx, -, -, -, Ht, Ho⟩
  iapply ((K (F := F)).wp_run (D (F := F)) 𝒱 (EH := EH) (P := P m) κ d 0) $$ [Hst Hy Hx Ht Ho Hb Hts]
  isplitr; · iexact Hctx
  isplitl [Hst]; · iexact Hst
  isplitl [Hy Ht Ho]
  · rw [st0_eq]
    iframe
  iintro ⟨Hst, Hdn⟩
  ihave Hdn' := (Entails.of_eq (dn0_eq m d)) $$ Hdn
  icases Hdn' with ⟨Hy, -, Ho⟩
  isplitl [Hst]; · iexact Hst
  isplitr [Hb Hts]
  · isplitl [Hy]; · iexact Hy
    isplitl [Hx]; · iexact Hx
    iexact Ho
  isplitl [Hb] <;> iassumption

/-- What is read of device `d`'s memory at the end. -/
def fq (d : Dev nD) (s' : Phys nD τ sig (Elt F)) : Prop :=
  s'.mem.mem (yLoc d) = m (yLoc d) ∧ s'.mem.mem (xLoc d) = m (xLoc d) ∧ s'.mem.mem (oLoc d) = resVal (Yd m d) (Id m d)

set_option maxRecDepth 16384 in
theorem hfin (d : Dev nD) (s' : Phys nD τ sig (Elt F)) : iprop(FIN m d ∗ SI s') ⊢ (⌜fq m d s'⌝ : sProp 𝕄) := by
  iintro ⟨⟨Hy, Hx, Ho⟩, HSI⟩
  ihave H := (persistent_entails_right (SI_pointsTo_agree (st := s') (ℓ := yLoc d) (I := Finset.univ) (q := fullShare) (f := Yd m d))) $$ [HSI Hy]
  · isplitl [HSI] <;> iassumption
  icases H with ⟨%h1, HSI, -⟩
  ihave H := (persistent_entails_right (SI_pointsTo_agree (st := s') (ℓ := xLoc d) (I := Finset.univ) (q := fullShare) (f := m (xLoc d)))) $$ [HSI Hx]
  · isplitl [HSI] <;> iassumption
  icases H with ⟨%h2, HSI, -⟩
  ihave H := (SI_pointsTo_agree (st := s') (ℓ := oLoc d) (I := Finset.univ) (q := fullShare) (f := resVal (Yd m d) (Id m d))) $$ [HSI Ho]
  · isplitl [HSI] <;> iassumption
  icases H with %h3
  ipureintro; exact ⟨funext fun i => h1 i (Finset.mem_univ i), funext fun i => h2 i (Finset.mem_univ i), funext fun i => h3 i (Finset.mem_univ i)⟩

/-! ## The run -/

/-- What the run ends in: the arguments as they began, the result the rows that the list names, the semaphores at zero. -/
def QC : PUnit × MemSt nD τ sig (Elt F) → Prop := fun r =>
  (∀ c : Dev nD, r.2.mem (yLoc c) = m (yLoc c) ∧ r.2.mem (xLoc c) = m (xLoc c) ∧ r.2.mem (oLoc c) = resVal (Yd m c) (Id m c)) ∧ r.2.sem = fun _ => 0

theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.Gather
-- ==== Proof.Value.lean ====
/-
  What the two programs compute, compared: the table's words are the list's, the precondition makes each of them the
  number of a row, and the reference's gather reads the same rows.
-/
module

public import proofs.«01_k».proof.Proof.Launch
public import proofs.«01_k».proof.Proof.Gen.ReferenceIdeal
public import proofs.«01_k».proof.Proof.Gen.Pre_slots_in_range
public import Idealize.ShloMosaic.Lib.Routing.Ops
public import Idealize.ShloMosaic.Lib.Pipeline.Value
public import Idealize.ShloMosaic.Lib.Pointwise.Reshape

@[expose] public section

noncomputable section

namespace Cert.Proof.Gather

open Cert.KernelIdeal Cert.KernelIdeal.Gen

open Idealize.ShloMosaic

/-- Entry `r` of the list. -/
abbrev xIx (r : Fin 65536) : S65536.Idx := ValueIdx.ix1 r

/-- The table's word at row `b`, column `j` below 64, is entry `64 b + j` of the list. -/
theorem table_apply (x : S65536.Idx → BitVec 32) (b : Fin 1024) (j : Fin 128) (h : j.val < 64) :
    table x (iIx b j) = x (xIx ⟨64 * b.val + j.val, by omega⟩) := by
  have e := concatenate_pair_apply_left (t := S1024x128) (s₁ := S1024x64) (s₂ := S1024x64) 1 (shapeCast S1024x64 x shapeCasts_S65536_S1024x64)
    (broadcastInDim S1024x64 ![] bcast_S_S1024x64 (constantI S_ 32 0#32)) concatenates_S1024x64_S1024x64_S1024x128_d1 (iIx b j) rfl
    (ValueIdx.ix2 b ⟨j.val, h⟩) (by intro a; fin_cases a <;> rfl)
  refine e.trans (shapeCast_apply x _ _ _ ?_)
  exact (rowMajor_val1 _).trans ((rowMajor_val2 _ 64 rfl).trans (by show b.val * 64 + j.val = 64 * b.val + j.val; omega)).symm

/-- The precondition at one word: it is a row's number. -/
theorem word_lt (v : BitVec 32) (e : IntOp.andi (IntOp.cmpi .sge v 0#32) (IntOp.cmpi .slt v 135168#32) = 1#1) : v.toNat < 135168 := by
  have h1 : ∀ p q : Bool, IntOp.andi (BitVec.ofBool p) (BitVec.ofBool q) = BitVec.ofBool (p && q) := by decide
  have h2 : ∀ p : Bool, (BitVec.ofBool p = 1#1) ↔ p = true := by decide
  simp only [IntOp.cmpi, h1, h2, Bool.and_eq_true, BitVec.sle_eq_decide, BitVec.slt_eq_decide, decide_eq_true_eq, BitVec.toInt_eq_toNat_cond,
    BitVec.toNat_ofNat, Nat.reducePow, Nat.reduceMod] at e
  omega

/-- The precondition of the list makes every entry a row's number. -/
theorem lt_of_pre {F : FTy → Type} [FloatOps F] (y : S135168x512.Idx → BitVec 32) (x : S65536.Idx → BitVec 32)
    (h : Cert.Pre_slots_in_range.fn (F := F) y x = fun _ => 1#1) (i : S65536.Idx) : (x i).toNat < 135168 := by
  have e := congrFun h i
  simp only [Pre_slots_in_range.fn, andi, cmpi, broadcastInDim, constantI] at e
  exact word_lt _ e

/-- A list of rows' numbers makes the table one. -/
theorem table_ok (x : S65536.Idx → BitVec 32) (h : ∀ i, (x i).toNat < 135168) : TableOK (table x) := fun b j hj => by
  rw [table_apply x b j hj]; exact h _

/-- The kernel's result at row `r`, lane `k`: lane `k` of the row that entry `r` names. -/
theorem resVal_table (y : S135168x512.Idx → BitVec 32) (x : S65536.Idx → BitVec 32) (r : Fin 65536) (k : Fin 512) :
    resVal y (table x) (ValueIdx.ix2 r k) = y (yIx (rowAt (x (xIx r))) k) := by
  unfold resVal
  rw [table_apply x _ _ (show r.val % 64 < 64 by omega)]
  have e : (⟨64 * (r.val / 64) + r.val % 64, by omega⟩ : Fin 65536) = r := Fin.ext (by show 64 * (r.val / 64) + r.val % 64 = r.val; omega)
  exact congrArg (fun r' => y (yIx (rowAt (x (xIx r'))) k)) e

/-- The reference's result. -/
def refVal (y : S135168x512.Idx → BitVec 32) (x : S65536.Idx → BitVec 32) : S65536x512.Idx → BitVec 32 :=
  Host.gather Cert.ReferenceIdeal.gather_S135168x512_S65536x1_S65536x512_1_0_n_n_0_1_1512 y
    (broadcastInDim Cert.ReferenceIdeal.S65536x1 ![0] Cert.ReferenceIdeal.Gen.bcast_S65536_S65536x1_0
      (select (cmpi .slt x (broadcastInDim S65536 ![] Cert.ReferenceIdeal.Gen.bcast_S_S65536 (constantI S_ 32 0#32)))
        (addi x (broadcastInDim S65536 ![] Cert.ReferenceIdeal.Gen.bcast_S_S65536 (constantI S_ 32 135168#32))) x))

/-- The list as the gather takes it: a negative word would count from the end, and there is none. -/
theorem wrap_apply (x : S65536.Idx → BitVec 32) (h : ∀ i, (x i).toNat < 135168) (i : S65536.Idx) :
    select (cmpi .slt x (broadcastInDim S65536 ![] Cert.ReferenceIdeal.Gen.bcast_S_S65536 (constantI S_ 32 0#32)))
      (addi x (broadcastInDim S65536 ![] Cert.ReferenceIdeal.Gen.bcast_S_S65536 (constantI S_ 32 135168#32))) x i = x i := by
  have := h i
  have e : IntOp.cmpi .slt (x i) 0#32 = 0#1 := by
    simp only [IntOp.cmpi, BitVec.slt_eq_decide, BitVec.toInt_eq_toNat_cond, BitVec.toNat_ofNat]
    rw [decide_eq_false (by split_ifs <;> omega)]; rfl
  simp only [select, cmpi, broadcastInDim, constantI, e]
  rfl

/-- The reference's result at row `r`, lane `k`, of a list of rows' numbers: the same. -/
theorem refVal_apply (y : S135168x512.Idx → BitVec 32) (x : S65536.Idx → BitVec 32) (h : ∀ i, (x i).toNat < 135168) (r : Fin 65536) (k : Fin 512) :
    refVal y x (ValueIdx.ix2 r k) = y (ValueIdx.ix2 (rowAt (x (xIx r))) k) := by
  unfold refVal
  refine Routing.gather_row (nb := 135168) (B := 512) (n := 65536) Cert.ReferenceIdeal.gather_S135168x512_S65536x1_S65536x512_1_0_n_n_0_1_1512
    rfl rfl rfl rfl rfl y _ r k (rowAt (x (xIx r))) ?_ (by norm_num)
  have e := wrap_apply x h (xIx r)
  refine Eq.trans ?_ (e.trans ?_)
  · simp only [broadcastInDim]
    congr 1
    funext a; fin_cases a; rfl
  · show x (xIx r) = BitVec.ofNat 32 ((x (xIx r)).toNat % 135168)
    rw [Nat.mod_eq_of_lt (h _), BitVec.ofNat_toNat, BitVec.setWidth_eq]

/-- The kernel's result is the reference's. -/
theorem value_eq (y : S135168x512.Idx → BitVec 32) (x : S65536.Idx → BitVec 32) (h : ∀ i, (x i).toNat < 135168) : resVal y (table x) = refVal y x := by
  funext i
  have e : i = ValueIdx.ix2 (i 0) (i 1) := by funext a; fin_cases a <;> rfl
  rw [e]
  refine (resVal_table y x _ _).trans (Eq.trans ?_ (refVal_apply y x h _ _).symm)
  congr 1
  funext a; fin_cases a <;> rfl

end Cert.Proof.Gather
-- ==== Proof.ExpertsBits.Launch.lean ====
/-
  The launch of the experts' call over bits, on tables naming experts below eight: what each block's body leaves (the experts' rows
  where the block has valid rows, zeros where it has none), the body's obligation at a point, and the run: the arguments
  end as they began and the result's array holds every block's rows.
-/
module

public import proofs.«01_k».proof.Proof.ExpertsBits.Words
public import proofs.«01_k».proof.Proof.Gen.Kernel2.Flash.Runs
public import Idealize.ShloMosaic.Lib.Pipeline.Quiescent
public import Idealize.ShloMosaic.Lib.Pipeline.Value
public import Idealize.ShloMosaic.Lib.Claim

@[expose] public section

set_option maxRecDepth 16384

noncomputable section

namespace Cert.Proof.ExpertsBits

open Cert.Kernel2 Cert.Kernel2.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Bits) ℕ (UR sig nD τ) ℕ

/-- The staging cells' algebra in the proof's. -/
abbrev EP : Emb (UR sig nD τ) 𝕄 := emb₁

variable (a : (pcfg0 (F := Bits)).Adm)

abbrev cfgT : Pipeline.Cfg sig Λ₀ := cfg0 (F := Bits) a
abbrev pcs : Fin 1 → Pipeline.Cfg sig Λ₀ := Pipeline.pin (pcfgs (F := Bits)) fun _ => a

/-- The experts' table and the table of valid rows. -/
abbrev tabE : S264.Idx → BitVec 32 := a.1 0
abbrev tabN : S264.Idx → BitVec 32 := a.1 1

abbrev crd (t : Fin (cfgT a).N) : grid0.Coords := (cfgT a).grid.coords t

/-- The windows' staging memrefs at a point. -/
abbrev st0 (t : Fin (cfgT a).N) : Memref sig .tc .vmem S1024x512 .bf16 := spec0_0.stage ((cfgT a).slots t (0 : Fin 5))
abbrev st1 (t : Fin (cfgT a).N) : Memref sig .tc .vmem S1x1024x3584 .bf16 := spec0_1.stage ((cfgT a).slots t (1 : Fin 5))
abbrev st2 (t : Fin (cfgT a).N) : Memref sig .tc .vmem S1x1024x3584 .bf16 := spec0_2.stage ((cfgT a).slots t (2 : Fin 5))
abbrev st3 (t : Fin (cfgT a).N) : Memref sig .tc .vmem S1x3584x1024 .bf16 := spec0_3.stage ((cfgT a).slots t (3 : Fin 5))
abbrev st4 (t : Fin (cfgT a).N) : Memref sig .tc .vmem S1024x512 .bf16 := spec0_4.stage ((cfgT a).slots t (4 : Fin 5))

theorem wh0 (t : Fin (cfgT a).N) : (st0 a t).IsWhole := hstage0_0 (((cfgT a).slots t (0 : Fin 5)).cast nbuf0_0)
theorem wh1 (t : Fin (cfgT a).N) : (st1 a t).IsWhole := hstage0_1 (((cfgT a).slots t (1 : Fin 5)).cast nbuf0_1)
theorem wh2 (t : Fin (cfgT a).N) : (st2 a t).IsWhole := hstage0_2 (((cfgT a).slots t (2 : Fin 5)).cast nbuf0_2)
theorem wh3 (t : Fin (cfgT a).N) : (st3 a t).IsWhole := hstage0_3 (((cfgT a).slots t (3 : Fin 5)).cast nbuf0_3)
theorem wh4 (t : Fin (cfgT a).N) : (st4 a t).IsWhole := hstage0_4 (((cfgT a).slots t (4 : Fin 5)).cast nbuf0_4)

variable (m : (ℓ : Loc nD τ sig) → Buf (Elt Bits) ℓ) (ρ : Dev nD → PrngReg)

/-- Window `w`'s block at a point, of its array at launch. -/
def blkIn (c : Dev nD) (w : Fin (cfgT a).W) (t : Fin (cfgT a).N) :
    (((cfgT a).win w).xblock (crd a t)).Idx → Elt Bits ((cfgT a).win w).elt :=
  (((cfgT a).win w).blk t).view.read (Elt Bits) ((s₀ m ρ).mem (((cfgT a).win w).arr.view.loc (c : Thread nD τ)))

/-- The block has valid rows. -/
abbrev Live (t : Fin (cfgT a).N) : Prop := k0_cond1 (word (tabN a) (crd a t)) = 1#1

instance (t : Fin (cfgT a).N) : Decidable (Live a t) := inferInstanceAs (Decidable (_ = _))

/-- What the body leaves in the result's staging buffer at a point. -/
def outAt (c : Dev nD) (t : Fin (cfgT a).N) : S1024x512.Idx → Elt Bits .bf16 :=
  if q : Live a t then
    out0_A_4 c (crd a t) (st0 a t) (wh0 a t) (st1 a t) (wh1 a t) (st2 a t) (wh2 a t) (st3 a t) (wh3 a t) (st4 a t) (wh4 a t) (tabE a) (tabN a)
      (blkIn a m ρ c (0 : Fin 5) t) (blkIn a m ρ c (1 : Fin 5) t) (blkIn a m ρ c (2 : Fin 5) t) (blkIn a m ρ c (3 : Fin 5) t) q (cond_not _ q)
  else
    out0_B_4 c (crd a t) (st0 a t) (wh0 a t) (st1 a t) (wh1 a t) (st2 a t) (wh2 a t) (st3 a t) (wh3 a t) (st4 a t) (wh4 a t) (tabE a) (tabN a)
      (blkIn a m ρ c (0 : Fin 5) t) (blkIn a m ρ c (1 : Fin 5) t) (blkIn a m ρ c (2 : Fin 5) t) (blkIn a m ρ c (3 : Fin 5) t) default q (cond_or _ q)

/-- Between points: the scratch at some contents and the body's halves of the tables. -/
def inv (c : Dev nD) : sProp 𝕄 :=
  iprop((∃ f, scM0_0.view.loc (c : Thread nD τ) ↦{fullShare} f) ∗ (tbM0_0.view.loc (c : Thread nD τ) ↦{fullShare.right} tabE a)
    ∗ (tbM0_1.view.loc (c : Thread nD τ) ↦{fullShare.right} tabN a))

/-- The pipeline's proof data on a core. -/
def dats (_ : Fin 1) (c : Dev nD) : Dat τ (Elt Bits) Unit ℕ (UR sig nD τ) ℕ (cfgT a) c where
  A w := (s₀ m ρ).mem (((cfgT a).win w).arr.view.loc (c : Thread nD τ))
  after w t := match w with
    | ⟨0, _⟩ => blkIn a m ρ c (0 : Fin 5) t
    | ⟨1, _⟩ => blkIn a m ρ c (1 : Fin 5) t
    | ⟨2, _⟩ => blkIn a m ρ c (2 : Fin 5) t
    | ⟨3, _⟩ => blkIn a m ρ c (3 : Fin 5) t
    | ⟨4, _⟩ => outAt a m ρ c t
  Φ _ := inv a c
  q _ := fullShare
  owed _ := 0

theorem after0 (c : Dev nD) (t : Fin (cfgT a).N) : (dats a m ρ 0 c).after (0 : Fin 5) t = blkIn a m ρ c (0 : Fin 5) t := rfl
theorem after1 (c : Dev nD) (t : Fin (cfgT a).N) : (dats a m ρ 0 c).after (1 : Fin 5) t = blkIn a m ρ c (1 : Fin 5) t := rfl
theorem after2 (c : Dev nD) (t : Fin (cfgT a).N) : (dats a m ρ 0 c).after (2 : Fin 5) t = blkIn a m ρ c (2 : Fin 5) t := rfl
theorem after3 (c : Dev nD) (t : Fin (cfgT a).N) : (dats a m ρ 0 c).after (3 : Fin 5) t = blkIn a m ρ c (3 : Fin 5) t := rfl
theorem after4 (c : Dev nD) (t : Fin (cfgT a).N) : (dats a m ρ 0 c).after (4 : Fin 5) t = outAt a m ρ c t := rfl

/-- An input window's staging buffer holds its block when the body runs. -/
theorem before0 (c : Dev nD) (t : Fin (cfgT a).N) (d) : (dats a m ρ 0 c).before (0 : Fin 5) t d = blkIn a m ρ c (0 : Fin 5) t :=
  ((dats a m ρ 0 c).before_in_eq_fetched (0 : Fin 5) rfl (fun _ => rfl) (fun _ _ _ => rfl)
    (fun t => by rw [after0]; unfold Dat.blockOf blkIn; rfl) t d).trans (by unfold Dat.fetched Dat.blockOf blkIn; rfl)
theorem before1 (c : Dev nD) (t : Fin (cfgT a).N) (d) : (dats a m ρ 0 c).before (1 : Fin 5) t d = blkIn a m ρ c (1 : Fin 5) t :=
  ((dats a m ρ 0 c).before_in_eq_fetched (1 : Fin 5) rfl (fun _ => rfl) (fun _ _ _ => rfl)
    (fun t => by rw [after1]; unfold Dat.blockOf blkIn; rfl) t d).trans (by unfold Dat.fetched Dat.blockOf blkIn; rfl)
theorem before2 (c : Dev nD) (t : Fin (cfgT a).N) (d) : (dats a m ρ 0 c).before (2 : Fin 5) t d = blkIn a m ρ c (2 : Fin 5) t :=
  ((dats a m ρ 0 c).before_in_eq_fetched (2 : Fin 5) rfl (fun _ => rfl) (fun _ _ _ => rfl)
    (fun t => by rw [after2]; unfold Dat.blockOf blkIn; rfl) t d).trans (by unfold Dat.fetched Dat.blockOf blkIn; rfl)
theorem before3 (c : Dev nD) (t : Fin (cfgT a).N) (d) : (dats a m ρ 0 c).before (3 : Fin 5) t d = blkIn a m ρ c (3 : Fin 5) t :=
  ((dats a m ρ 0 c).before_in_eq_fetched (3 : Fin 5) rfl (fun _ => rfl) (fun _ _ _ => rfl)
    (fun t => by rw [after3]; unfold Dat.blockOf blkIn; rfl) t d).trans (by unfold Dat.fetched Dat.blockOf blkIn; rfl)

theorem idle4 (t : Fin (cfgT a).N) : (cfgT a).idle (4 : Fin 5) ((cfgT a).grid.coords t) = false := idle_ne a.1 _

/-- The body at a point, as the pipeline calls it. -/
abbrev bodyAt (t : Fin (cfgT a).N) : Prog (TpuEff nD τ sig (Elt Bits) Λ₀ .tc) PUnit :=
  cc0_experts (crd a t) tbM0_0 (Memref.isWhole_whole _) tbM0_1 (Memref.isWhole_whole _) (st0 a t) (wh0 a t) (st1 a t) (wh1 a t)
    (st2 a t) (wh2 a t) (st3 a t) (wh3 a t) (st4 a t) (wh4 a t) scM0_0 (Memref.isWhole_whole _)

set_option maxHeartbeats 4000000 in
/-- The body at a point, from its windows' blocks to what it leaves, on the path the point's word selects. -/
theorem body_at (c : Dev nD) (t : Fin (cfgT a).N) :
    iprop(inv a c ∗ (dats a m ρ 0 c).owesAt () t.castSucc
        ∗ (∃ d, owns (c : Thread nD τ) (st0 a t) fullShare ((dats a m ρ 0 c).before (0 : Fin 5) t d))
        ∗ (∃ d, owns (c : Thread nD τ) (st1 a t) fullShare ((dats a m ρ 0 c).before (1 : Fin 5) t d))
        ∗ (∃ d, owns (c : Thread nD τ) (st2 a t) fullShare ((dats a m ρ 0 c).before (2 : Fin 5) t d))
        ∗ (∃ d, owns (c : Thread nD τ) (st3 a t) fullShare ((dats a m ρ 0 c).before (3 : Fin 5) t d))
        ∗ (∃ d, owns (c : Thread nD τ) (st4 a t) fullShare ((dats a m ρ 0 c).before (4 : Fin 5) t d)))
      ⊢ wp frame (wpE (defs₀ (F := Bits)) Variants.none c none) Set.univ (bodyAt a t) fun _ =>
          iprop(inv a c ∗ (dats a m ρ 0 c).owesAt () t.castSucc
            ∗ owns (c : Thread nD τ) (st0 a t) fullShare (blkIn a m ρ c (0 : Fin 5) t)
            ∗ owns (c : Thread nD τ) (st1 a t) fullShare (blkIn a m ρ c (1 : Fin 5) t)
            ∗ owns (c : Thread nD τ) (st2 a t) fullShare (blkIn a m ρ c (2 : Fin 5) t)
            ∗ owns (c : Thread nD τ) (st3 a t) fullShare (blkIn a m ρ c (3 : Fin 5) t)
            ∗ owns (c : Thread nD τ) (st4 a t) fullShare (outAt a m ρ c t)) := by
  simp only [before0, before1, before2, before3]
  unfold inv
  iintro ⟨⟨⟨%f, HS⟩, HT0, HT1⟩, Ho, ⟨%d0, H0⟩, ⟨%d1, H1⟩, ⟨%d2, H2⟩, ⟨%d3, H3⟩, ⟨%d4, H4⟩⟩
  by_cases q : Live a t
  · iapply ((kernelRun0_A c (crd a t) (st0 a t) (wh0 a t) (st1 a t) (wh1 a t) (st2 a t) (wh2 a t) (st3 a t) (wh3 a t) (st4 a t) (wh4 a t)
      (tabE a) (tabN a) (blkIn a m ρ c (0 : Fin 5) t) (blkIn a m ρ c (1 : Fin 5) t) (blkIn a m ρ c (2 : Fin 5) t) (blkIn a m ρ c (3 : Fin 5) t)
      q (cond_not _ q)).2.2 f _)
    isplitl [H0]; · iapply rep_of_owns; iexact H0
    isplitl [H1]; · iapply rep_of_owns; iexact H1
    isplitl [H2]; · iapply rep_of_owns; iexact H2
    isplitl [H3]; · iapply rep_of_owns; iexact H3
    isplitl [HT0]; · iexact HT0
    isplitl [HT1]; · iexact HT1
    isplitl [H4]; · iexists _; iexact H4
    isplitl [HS]; · iexact HS
    iintro ⟨H0, H1, H2, H3, HT0, HT1, ⟨%e4, H4⟩, HS⟩
    isplitl [HS HT0 HT1]
    · isplitl [HS]; · iexists _; iexact HS
      isplitl [HT0]; · iexact HT0
      iexact HT1
    isplitl [Ho]; · iexact Ho
    isplitl [H0]; · iapply owns_of_rep; iexact H0
    isplitl [H1]; · iapply owns_of_rep; iexact H1
    isplitl [H2]; · iapply owns_of_rep; iexact H2
    isplitl [H3]; · iapply owns_of_rep; iexact H3
    unfold owns; iexists _; isplitr; swap
    · iexact H4
    · ipureintro
      unfold outAt
      rw [dif_pos q]
      exact View.read_writes_of_cover _ _ _ _ _ (cover0_A_4 c _ _ _ _ _ _ _ _ _ _ _ _ _ _ _ _ _ _ _)
  · iapply ((kernelRun0_B c (crd a t) (st0 a t) (wh0 a t) (st1 a t) (wh1 a t) (st2 a t) (wh2 a t) (st3 a t) (wh3 a t) (st4 a t) (wh4 a t)
      (tabE a) (tabN a) (blkIn a m ρ c (0 : Fin 5) t) (blkIn a m ρ c (1 : Fin 5) t) (blkIn a m ρ c (2 : Fin 5) t) (blkIn a m ρ c (3 : Fin 5) t)
      f q (cond_or _ q)).2.2 _)
    isplitl [H0]; · iapply rep_of_owns; iexact H0
    isplitl [H1]; · iapply rep_of_owns; iexact H1
    isplitl [H2]; · iapply rep_of_owns; iexact H2
    isplitl [H3]; · iapply rep_of_owns; iexact H3
    isplitl [HT0]; · iexact HT0
    isplitl [HT1]; · iexact HT1
    isplitl [H4]; · iexists _; iexact H4
    isplitl [HS]; · iexact HS
    iintro ⟨H0, H1, H2, H3, HT0, HT1, ⟨%e4, H4⟩, HS⟩
    isplitl [HS HT0 HT1]
    · isplitl [HS]; · iexists _; iexact HS
      isplitl [HT0]; · iexact HT0
      iexact HT1
    isplitl [Ho]; · iexact Ho
    isplitl [H0]; · iapply owns_of_rep; iexact H0
    isplitl [H1]; · iapply owns_of_rep; iexact H1
    isplitl [H2]; · iapply owns_of_rep; iexact H2
    isplitl [H3]; · iapply owns_of_rep; iexact H3
    unfold owns; iexists _; isplitr; swap
    · iexact H4
    · ipureintro
      unfold outAt
      rw [dif_neg q]
      exact View.read_writes_of_cover _ _ _ _ _ (cover0_B_4 c _ _ _ _ _ _ _ _ _ _ _ _ _ _ _ _ _ f _ _)

/-- The obligation the pipeline asks of the body. -/
theorem body_ob (c : Dev nD) : BodyObligation (dats a m ρ 0 c) (defs₀ (F := Bits)) Variants.none () Set.univ := fun t => by
  rw [bigSep_W0, bigSep_W0]
  rewrite [idle4 a t]
  exact body_at a m ρ c t

/-- The launch's ghost state. -/
def u₀ : UR sig nD τ :=
  initOf (Pipeline.cells (pcs a) ((launch0 (F := Bits)).cellOf_inj fun _ => a))
    (Pipeline.launchToks (pcs a) ((launch0 (F := Bits)).cellOf_inj fun _ => a))

theorem share_eq (c : Dev nD) (w : Fin (cfgT a).W) : (dats a m ρ 0 c).share w = fullShare := by unfold Dat.share; split <;> rfl

/-- The tables held by the region, one by one. -/
theorem prefHeld_eq (c : Dev nD) (q : Fin 2 → PosShare TreeShare) (v : pre0.Contents (Elt Bits)) :
    (Pipeline.prefHeld (Ix := Unit) (Name := ℕ) (U := UR sig nD τ) (Lvl := ℕ) pre0 c q v : sProp 𝕄)
      = iprop((((c : Thread nD τ).loc main_arg1) ↦{q 0} v 0) ∗ (((c : Thread nD τ).loc main_arg2) ↦{q 1} v 1)) := by
  unfold Pipeline.prefHeld
  rw [show (Finset.univ : Finset (Fin 2)) = insert (0 : Fin 2) {(1 : Fin 2)} from by decide, bigSep_insert (by decide), bigSep_singleton]
  rfl

theorem inv_intro (c : Dev nD) :
    iprop(BI.emp ∗ Pipeline.prefHeld pre0 c (fun _ => fullShare.right) a.1 ∗ Pipeline.scopedRest spec0 c) ⊢ inv a c := by
  rw [prefHeld_eq, scopedRest0_eq]
  unfold inv
  iintro ⟨-, ⟨HT0, HT1⟩, ⟨%f, HS⟩⟩
  isplitl [HS]; · iexists f; iexact HS
  isplitl [HT0]; · iexact HT0
  iexact HT1

theorem inv_exit (c : Dev nD) : inv a c ⊢ (iprop(BI.emp ∗ Pipeline.scopedRest spec0 c) : sProp 𝕄) := by
  rw [scopedRest0_eq]
  unfold inv
  iintro ⟨⟨%f, HS⟩, -, -⟩
  isplitr; · iempintro
  iexists f; iexact HS

/-- What a final memory holds: every window's array as written back, every table as it was. -/
def post : PUnit × MemSt nD τ sig (Elt Bits) → Prop := fun r =>
  ∀ c : Dev nD, (∀ w : Fin (cfgT a).W, r.2.mem (((cfgT a).win w).arr.view.loc (c : Thread nD τ)) = (dats a m ρ 0 c).arrAt w (cfgT a).N)
    ∧ ∀ j, r.2.mem ((c : Thread nD τ).loc (pre0.ref j)) = a.1 j

set_option backward.isDefEq.respectTransparency.types false in
set_option maxHeartbeats 4000000 in
/-- From a memory holding the tables, the program ends with the arrays as written back and no semaphore left raised. -/
theorem run_at (hp : ∀ (c : Dev nD) (j : Fin 2), m ((c : Thread nD τ).loc (pre0.ref j)) = a.1 j) :
    θ_run (defs (F := Bits)) (onTc (τ := τ) (main (F := Bits))) (s₀ m ρ) (fun r => post a m ρ r ∧ r.2.sem = fun _ => 0) :=
  Pipeline.θ_run_region_noSem_pf_quiescent pcfgs (fun _ => a) (dats a m ρ) () ((launch0 (F := Bits)).cellOf_inj fun _ => a) (0 : Fin 1)
    (launch0 (F := Bits)).win.to₀ (launch0 (F := Bits)).pre EP defs₀ Variants.none m ρ main
    (hbody := fun c => (body_ob a m ρ c).loose) (hne := (launch0 (F := Bits)).block_pos)
    (harr := (launch0 (F := Bits)).arr_whole) (hstage := (launch0 (F := Bits)).stage_whole) (howed := fun _ _ => rfl)
    (u₀ := u₀ a) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs a) (dats a m ρ) 0 (launch0 (F := Bits)).win.arr_inj c (launch0 (F := Bits)).arr_whole
      (share_eq a m ρ c) _ _ fun _ => rfl)
    (hpf := hp)
    (X := fun _ => iprop(emp)) (Y := fun _ => iprop(emp)) (Z := fun _ => iprop(emp))
    (hX := fun c => by rw [unscopedRestP0_eq]; iintro -; isplitr <;> iempintro)
    (hin := inv_intro a)
    (hout := inv_exit a)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

end Cert.Proof.ExpertsBits
-- ==== Proof.Experts.Pre.lean ====
/-
  The experts' precondition decoded: every block's number is below eight.
-/
module

public import proofs.«01_k».proof.Defs
public import proofs.«01_k».proof.Proof.Gen.Pre_blocks_in_range

@[expose] public section

noncomputable section

namespace Cert.Proof.Experts

open Idealize.ShloMosaic

/-- The precondition at one word: it is an expert's number. -/
theorem expert_lt (v : BitVec 32) (e : IntOp.andi (IntOp.cmpi .sge v 0#32) (IntOp.cmpi .slt v 8#32) = 1#1) : v.toNat < 8 := by
  have h1 : ∀ p q : Bool, IntOp.andi (BitVec.ofBool p) (BitVec.ofBool q) = BitVec.ofBool (p && q) := by decide
  have h2 : ∀ p : Bool, (BitVec.ofBool p = 1#1) ↔ p = true := by decide
  simp only [IntOp.cmpi, h1, h2, Bool.and_eq_true, BitVec.sle_eq_decide, BitVec.slt_eq_decide, decide_eq_true_eq, BitVec.toInt_eq_toNat_cond,
    BitVec.toNat_ofNat, Nat.reducePow, Nat.reduceMod] at e
  omega

theorem experts_of_pre {F : FTy → Type} [FloatOps F] (X E N Wg Wu Wd) (h : Cert.Pre_blocks_in_range.fn (F := F) X E N Wg Wu Wd = fun _ => 1#1)
    (i : Cert.Pre_blocks_in_range.S264.Idx) : (E i).toNat < 8 := by
  have e := congrFun h i
  simp only [Pre_blocks_in_range.fn, andi, cmpi, broadcastInDim, constantI] at e
  exact expert_lt _ e

end Cert.Proof.Experts
-- ==== Proof.ExpertsBits.Claims.lean ====
/-
  The experts' call as printed runs to its end with its arguments unchanged.
-/
module

public import proofs.«01_k».proof.Proof.ExpertsBits.Launch
public import proofs.«01_k».proof.Proof.Experts.Pre

@[expose] public section

set_option maxRecDepth 16384

noncomputable section

namespace Cert.Proof.ExpertsBits

open Cert.Kernel2 Cert.Kernel2.Gen
open Idealize.ShloMosaic Idealize.SL.Sem
open Idealize.ShloMosaic.TcCoe
open Idealize.ShloMosaic.Pipeline (Dat Cfg Window)

variable (m : (ℓ : Loc nD τ sig) → Buf (Elt Bits) ℓ) (g : Dev nD → PrngReg)

/-- The tables a memory holds. -/
def adm (h : Cert.Pre_Kernel2 m) : (pcfg0 (F := Bits)).Adm :=
  ⟨fun j => m (((0 : Dev nD) : Thread nD τ).loc (pre0.ref j)), okT _ (Cert.Proof.Experts.experts_of_pre (F := Bits) _ _ _ _ _ _ (h 0))⟩

theorem adm_eq (h : Cert.Pre_Kernel2 m) (c : Dev nD) (j : Fin 2) : m ((c : Thread nD τ).loc (pre0.ref j)) = (adm m h).1 j := by
  obtain rfl : c = 0 := Subsingleton.elim (α := Fin 1) _ _
  rfl

theorem frame2_bits : Cert.quiescent_Kernel2 := fun m g h =>
  (θ_run (defs (F := Bits)) _ _).mono (fun _ r => ⟨fun c => ⟨((r.1 c).1 (0 : Fin 5)).trans ((dats (adm m h) m g 0 c).arrAt_in (0 : Fin 5) rfl _),
      ((r.1 c).2 0).trans (adm_eq m h c 0).symm, ((r.1 c).2 1).trans (adm_eq m h c 1).symm,
      ((r.1 c).1 (1 : Fin 5)).trans ((dats (adm m h) m g 0 c).arrAt_in (1 : Fin 5) rfl _),
      ((r.1 c).1 (2 : Fin 5)).trans ((dats (adm m h) m g 0 c).arrAt_in (2 : Fin 5) rfl _),
      ((r.1 c).1 (3 : Fin 5)).trans ((dats (adm m h) m g 0 c).arrAt_in (3 : Fin 5) rfl _)⟩, r.2⟩)
    (run_at (adm m h) m g (adm_eq m h))

end Cert.Proof.ExpertsBits
-- ==== Proof.Buffers.lean ====
/-
  Loads and stores of a staging buffer, at any program's signature.
-/
module

public import Idealize.ShloMosaic.PureOps.Ideal
public import Idealize.ShloMosaic.Lib.Writes
public import Idealize.ShloMosaic.Lib.VecWindow

@[expose] public section

noncomputable section

namespace Cert.Proof

open Idealize.ShloMosaic

variable {sig : RefSig} {κ : Kind} {sp : Space} {s : Shape} {e : EltTy}

/-- A load of a window of a staging buffer's block. -/
theorem load_eq (v : View sig κ sp s e) (x : s.Idx → Elt Ideal e) (off size : Fin s.rank → ℕ) (inb : ∀ b, off b + size b ≤ s.size b) :
    v.readAt (Elt Ideal) (Rect.unit off size inb).toLoadRect (v.rep x) = VecWindow.window x off size inb :=
  View.readAt_rep_unit v x inb rfl inb

/-- The same of a whole memref whose contents are the block's. -/
theorem load_whole_eq (M : Memref sig κ sp s e) (h : M.IsWhole) (x : s.Idx → Elt Ideal e) (off size : Fin s.rank → ℕ)
    (inb : ∀ b, off b + size b ≤ s.size b) :
    M.view.readAt (Elt Ideal) (Rect.unit off size inb).toLoadRect (h.unread x) = VecWindow.window x off size inb := by
  rw [View.readAt_unit M.view _ inb rfl inb, h.read_unread]

/-- A load of all of a buffer after a store of all of it reads what was stored. -/
theorem cov_eq (v : View sig κ sp s e) (off off' size : Fin s.rank → ℕ) (inb : ∀ b, off b + size b ≤ s.size b)
    (inb' : ∀ b, off' b + size b ≤ s.size b) (h : size = s.size)
    (w : (Rect.unit off size inb).shape.Idx → Elt Ideal e) (L : List (View.Piece (Elt Ideal) s e)) :
    v.readCov ((⟨Rect.unit off size inb, w⟩ : View.Piece (Elt Ideal) s e) :: L) (Rect.unit off' size inb').toLoadRect = w := by
  subst h; exact View.readCov_full v inb' inb w L

/-- A store of all of a buffer leaves what was stored. -/
theorem put_eq (v : View sig κ sp s e) (f : v.ty.Contents (Elt Ideal)) (off : Fin s.rank → ℕ) (inb : ∀ b, off b + s.size b ≤ s.size b)
    (w : (Rect.unit off s.size inb).shape.Idx → Elt Ideal e) (L : List (View.Piece (Elt Ideal) s e)) :
    v.read (Elt Ideal) (v.writes (Elt Ideal) f ((⟨Rect.unit off s.size inb, w⟩ : View.Piece (Elt Ideal) s e) :: L)) = w :=
  View.read_writes_full v f inb w L

end Cert.Proof
-- ==== Proof.Experts.Words.lean ====
/-
  The words the experts' call is steered by: the two conditions of the body exclude each other and one of them holds, the
  word a grid point reads is the table's at its coordinate, and tables naming experts below eight keep every block in
  its array.
-/
module

public import proofs.«01_k».proof.Proof.Gen.Kernel2Ideal.Flash.Pins

@[expose] public section

noncomputable section

namespace Cert.Proof.Experts

open Cert.Kernel2Ideal Cert.Kernel2Ideal.Gen
open Idealize.ShloMosaic

/-- The first condition (the block has valid rows) excludes the second. -/
theorem cond_not (v : BitVec 32) (h : k0_cond1 v = 1#1) : ¬k0_cond2 v = 1#1 := by
  revert h
  simp only [k0_cond1, k0_cond2, Scalar.cmpi, Scalar.extui, IntOp.cmpi]
  cases hv : BitVec.slt 0#32 v <;> cases hw : BitVec.sle v 0#32 <;> try decide
  all_goals
    first
    | (rw [BitVec.slt_iff_toInt_lt] at hv; rw [BitVec.sle_iff_toInt_le] at hw; omega)
    | (rw [← Bool.not_eq_true, BitVec.slt_iff_toInt_lt] at hv; rw [← Bool.not_eq_true, BitVec.sle_iff_toInt_le] at hw; omega)

/-- One of the two conditions holds. -/
theorem cond_or (v : BitVec 32) (h : ¬k0_cond1 v = 1#1) : k0_cond2 v = 1#1 := by
  revert h
  simp only [k0_cond1, k0_cond2, Scalar.cmpi, Scalar.extui, IntOp.cmpi]
  cases hv : BitVec.slt 0#32 v <;> cases hw : BitVec.sle v 0#32 <;> try decide
  all_goals
    first
    | (rw [BitVec.slt_iff_toInt_lt] at hv; rw [BitVec.sle_iff_toInt_le] at hw; omega)
    | (rw [← Bool.not_eq_true, BitVec.slt_iff_toInt_lt] at hv; rw [← Bool.not_eq_true, BitVec.sle_iff_toInt_le] at hw; omega)

/-- The first condition says the word is positive. -/
theorem cond1_iff (v : BitVec 32) : k0_cond1 v = 1#1 ↔ 0 < v.toInt := by
  simp only [k0_cond1, Scalar.cmpi, Scalar.extui, IntOp.cmpi]
  rw [show (0 < v.toInt) = ((0#32).toInt < v.toInt) from rfl, ← BitVec.slt_iff_toInt_lt]
  cases hv : BitVec.slt 0#32 v <;> simp

/-- The word a grid point's control reads. -/
abbrev word (T : S264.Idx → BitVec 32) (i : grid0.Coords) : BitVec 32 :=
  View.readAt (Elt Ideal) (tbM0_1).view (Rect.unit (s := S264) (k0_off1 i) S1.size (k0_off1_inb i)).toLoadRect T (Shape.Idx.first (numel1_S1.symm ▸ Nat.one_pos))

theorem coord_val (i : grid0.Coords) : (BitVec.ofNat 32 (i 0).val).toNat = (i 0).val := by
  have : (i 0).val < 264 := (i 0).isLt
  rw [BitVec.toNat_ofNat, Nat.mod_eq_of_lt (by omega)]

theorem off_val (i : grid0.Coords) : k0_off1 i 0 = (i 0).val := coord_val i

/-- A grid point's coordinate as a position of the tables. -/
abbrev pos (i : grid0.Coords) : S264.Idx := fun a => ⟨(i 0).val, (Fin.fin_one_eq_zero a ▸ (i 0).isLt : (i 0).val < S264.size a)⟩

theorem unit_pos (i : grid0.Coords) (h : ∀ a, k0_off1 i a + S1.size a ≤ S264.size a) (x : (Rect.unit (s := S264) (k0_off1 i) S1.size h).shape.Idx) :
    (Rect.unit (s := S264) (k0_off1 i) S1.size h).emb x = pos i := by
  funext a
  obtain rfl : a = 0 := Fin.fin_one_eq_zero a
  have : (x 0).val < 1 := (x 0).isLt
  apply Fin.ext
  show k0_off1 i 0 + 1 * (x 0).val = (i 0).val
  rw [off_val]; omega

theorem word_eq (T : S264.Idx → BitVec 32) (i : grid0.Coords) : word T i = T (pos i) := by
  unfold word
  rw [View.readAt_apply, ← unit_pos i (k0_off1_inb i)]
  rfl

theorem idle_ne (pf : pre0.Contents (Elt Ideal)) (i : grid0.Coords) : idle0 (F := Ideal) pf 4 i = false := by
  show (!(k0_cond1 (pf.atD 1 (k0_off1 i)) == 1#1) && !(k0_cond2 (pf.atD 1 (k0_off1 i)) == 1#1)) = false
  generalize pf.atD 1 (k0_off1 i) = v
  by_cases h : k0_cond1 v = 1#1
  · simp [h]
  · simp [cond_or v h]

theorem flush_out (i j : grid0.Coords) (h : i ≠ j) : cc0_transform_4 i ≠ cc0_transform_4 j := by
  intro e
  have e0 := congrFun e 0
  unfold cc0_transform_4 at e0
  have h1 := (i 0).isLt
  have h2 := (j 0).isLt
  apply h
  funext a
  fin_cases a
  apply Fin.ext
  have : (BitVec.ofNat 32 (i 0).val).toNat = (BitVec.ofNat 32 (j 0).val).toNat := e0
  rwa [coord_val, coord_val] at this

theorem okT (pf : pre0.Contents (Elt Ideal)) (h : ∀ i : S264.Idx, (show BitVec 32 from pf 0 i).toNat < 8) : ok0 pf := by
  have hb1 : ∀ i : grid0.Coords, ∀ a, (cc0_transform_1 k0_off1_inb numel1_S1 pf i a + 1) * S1x1024x3584.size a ≤ S8x1024x3584.size a := by
    intro i a
    have := h ((Rect.unit (s := S264) (k0_off1 i) S1.size (k0_off1_inb i)).emb (Shape.Idx.first (numel1_S1.symm ▸ Nat.one_pos)))
    fin_cases a
    · show (_ + 1) * 1 ≤ 8
      rw [Nat.mul_one]; exact this
    · show (0 + 1) * _ ≤ _; decide
    · show (0 + 1) * _ ≤ _; decide
  have hb3 : ∀ i : grid0.Coords, ∀ a, (cc0_transform_3 k0_off1_inb numel1_S1 pf i a + 1) * S1x3584x1024.size a ≤ S8x3584x1024.size a := by
    intro i a
    have := h ((Rect.unit (s := S264) (k0_off1 i) S1.size (k0_off1_inb i)).emb (Shape.Idx.first (numel1_S1.symm ▸ Nat.one_pos)))
    fin_cases a
    · show (_ + 1) * 1 ≤ 8
      rw [Nat.mul_one]; exact this
    · show (0 + 1) * _ ≤ _; decide
    · show (0 + 1) * _ ≤ _; decide
  exact ⟨fun i => ⟨hb1 i, .inr (Affine.block_words_dvd (s := S8x1024x3584) (p := EltTy.packing .bf16) (by decide) (by decide))⟩,
    fun i => ⟨hb1 i, .inr (Affine.block_words_dvd (s := S8x1024x3584) (p := EltTy.packing .bf16) (by decide) (by decide))⟩,
    fun i => ⟨hb3 i, .inr (Affine.block_words_dvd (s := S8x3584x1024) (p := EltTy.packing .bf16) (by decide) (by decide))⟩⟩
end Cert.Proof.Experts
-- ==== Proof.Experts.Block.lean ====
/-
  A block of rows with valid ones: the body leaves the sum, chunk of columns by chunk, of the experts' products on the
  masked rows, cut in halves and put two rows to a word.
-/
module

public import proofs.«01_k».proof.Proof.Buffers
public import proofs.«01_k».proof.Proof.Experts.Words
public import proofs.«01_k».proof.Proof.Gen.Kernel2Ideal.Flash.Runs
public import Idealize.ShloMosaic.Lib.VecWindow

@[expose] public section

set_option maxRecDepth 16384

noncomputable section

namespace Cert.Proof.Experts

open Cert.Kernel2Ideal Cert.Kernel2Ideal.Gen
open Idealize.ShloMosaic
open Idealize.ShloMosaic.TcCoe Idealize.ShloMosaic.Tactic

/-- The window of the whole block is the block. -/
theorem window_eq (x : S1024x512.Idx → Elt Ideal .bf16) (inb : ∀ b, (![0, 0] : Fin 2 → ℕ) b + (![1024, 512] : Fin 2 → ℕ) b ≤ S1024x512.size b) :
    VecWindow.window x ![0, 0] ![1024, 512] inb = x :=
  funext fun y => congrArg x (Rect.emb_unit_full (s := S1024x512) inb y)

/-- Half `k` of the rows and chunk `i` of the columns of an input weight's block. -/
def colBlk (x : S1x1024x3584.Idx → Elt Ideal .bf16) (k : Fin 2) (i : Fin 14) : FVec Ideal S1x512x256 .bf16 :=
  VecWindow.window x ![0, 512 * k.val, 256 * i.val] S1x512x256.size fun b => match b with
    | ⟨0, _⟩ => by decide +revert
    | ⟨1, _⟩ => by show 512 * k.val + 512 ≤ 1024; omega
    | ⟨2, _⟩ => by show 256 * i.val + 256 ≤ 3584; omega

/-- Chunk `i` of the rows of the output weight's block. -/
def rowBlk (x : S1x3584x1024.Idx → Elt Ideal .bf16) (i : Fin 14) : FVec Ideal S1x256x1024 .bf16 :=
  VecWindow.window x ![0, 256 * i.val, 0] S1x256x1024.size fun b => match b with
    | ⟨0, _⟩ => by decide +revert
    | ⟨1, _⟩ => by show 256 * i.val + 256 ≤ 3584; omega
    | ⟨2, _⟩ => by show 0 + 1024 ≤ 1024; omega

section
variable (xa xb : FVec Ideal S512x512 .bf16) (x1 x2 : S1x1024x3584.Idx → Elt Ideal .bf16) (x3 : S1x3584x1024.Idx → Elt Ideal .bf16)

/-- The two halves of the rows against a chunk of a weight's columns. -/
def proj (x : S1x1024x3584.Idx → Elt Ideal .bf16) (i : Fin 14) : FVec Ideal S512x256 .f32 :=
  addf (addf (broadcast S512x256 (Scalar.ofBits .f32 0x00000000#32))
      (matmul dot_S512x512_S512x256_S512x256_1_0_0_1_n_n (φ₂ := .bf16) none xa (shapeCast S512x256 (colBlk x 0 i) shapeCasts_S1x512x256_S512x256) (constant S512x256 .f32 0x00000000#32)))
    (matmul dot_S512x512_S512x256_S512x256_1_0_0_1_n_n (φ₂ := .bf16) none xb (shapeCast S512x256 (colBlk x 1 i) shapeCasts_S1x512x256_S512x256) (constant S512x256 .f32 0x00000000#32))

/-- A chunk of the hidden columns. -/
def hid (i : Fin 14) : FVec Ideal S512x256 .bf16 :=
  truncf .bf16 (mulf (mulf (proj xa xb x1 i) (logistic (proj xa xb x1 i))) (proj xa xb x2 i)) bitsLt_bf16_f32

/-- What a chunk adds to the sum. -/
def contrib (i : Fin 14) : FVec Ideal S512x1024 .f32 :=
  matmul dot_S512x256_S256x1024_S512x1024_1_0_0_1_n_n (φ₂ := .bf16) none (hid xa xb x1 x2 i)
    (shapeCast S256x1024 (rowBlk x3 i) shapeCasts_S1x256x1024_S256x1024) (constant S512x1024 .f32 0x00000000#32)

/-- The sum stored after a chunk. -/
def stored (v : FVec Ideal S512x1024 .f32) : FVec Ideal S512x1024 .f32 := shapeCast S512x1024 v shapeCasts_S512x1024_S512x1024

/-- The sum after chunk `n`. -/
def accum : ℕ → FVec Ideal S512x1024 .f32
  | 0 => stored (contrib xa xb x1 x2 x3 0)
  | n + 1 => stored (addf (accum n) (contrib xa xb x1 x2 x3 (Fin.ofNat 14 (n + 1))))

end

/-- What the body leaves of a block with valid rows. -/
def blockOut (v : BitVec 32) (x0 : S1024x512.Idx → Elt Ideal .bf16) (x1 x2 : S1x1024x3584.Idx → Elt Ideal .bf16)
    (x3 : S1x3584x1024.Idx → Elt Ideal .bf16) : S1024x512.Idx → Elt Ideal .bf16 :=
  k0_pay1 (F := Ideal) (k0_pay33 (F := Ideal) (accum (k0_pay4 (F := Ideal) v x0) (k0_pay5 (F := Ideal) v x0) x1 x2 x3 13))
    (k0_pay34 (F := Ideal) (accum (k0_pay4 (F := Ideal) v x0) (k0_pay5 (F := Ideal) v x0) x1 x2 x3 13))

set_option maxHeartbeats 4000000 in
theorem out_A (c : Dev nD) (i : grid0.Coords) (arg3 : Memref sig .tc .vmem S1024x512 .bf16) (harg3 : arg3.IsWhole)
    (arg4 : Memref sig .tc .vmem S1x1024x3584 .bf16) (harg4 : arg4.IsWhole) (arg5 : Memref sig .tc .vmem S1x1024x3584 .bf16) (harg5 : arg5.IsWhole)
    (arg6 : Memref sig .tc .vmem S1x3584x1024 .bf16) (harg6 : arg6.IsWhole) (arg7 : Memref sig .tc .vmem S1024x512 .bf16) (harg7 : arg7.IsWhole)
    (T0 T1 : S264.Idx → BitVec 32)
    (x0 : S1024x512.Idx → Elt Ideal .bf16) (x1 x2 : S1x1024x3584.Idx → Elt Ideal .bf16) (x3 : S1x3584x1024.Idx → Elt Ideal .bf16)
    (h1 : k0_cond1 (word T1 i) = 1#1) (h2 : ¬ k0_cond2 (word T1 i) = 1#1) :
    out0_A_4 c i arg3 harg3 arg4 harg4 arg5 harg5 arg6 harg6 arg7 harg7 T0 T1 x0 x1 x2 x3 h1 h2 = blockOut (word T1 i) x0 x1 x2 x3 := by
  unfold out0_A_4 kernelRun0_A
  dsimp only
  sl_unfold_words
  simp only [load_eq]
  simp (discharger := rfl) only [cov_eq]
  refine (put_eq _ _ _ _ _ _).trans ?_
  exact Eq.trans (b := blockOut (word T1 i) (VecWindow.window x0 ![0, 0] ![1024, 512] inb_S1024x512_S1024x512_0_0) x1 x2 x3) rfl
    (congrArg (fun x => blockOut (word T1 i) x x1 x2 x3) (window_eq x0 _))

end Cert.Proof.Experts
-- ==== Proof.Experts.Spec.lean ====
/-
  The experts' network on one row, over the extended reals: what both programs compute.
-/
module

public import proofs.«01_k».proof.Kernel2Ideal
public import Idealize.ShloMosaic.PureOps.Ideal
public import Idealize.ShloMosaic.Lib.ValueIdx
public import Idealize.ShloMosaic.Lib.IdealHost
public import Idealize.ShloMosaic.Lib.Pointwise.Sums

@[expose] public section

noncomputable section

namespace Cert.Proof.Experts

open Idealize.ShloMosaic Idealize.ShloMosaic.ValueIdx
open scoped BigOperators

/-- The gate's function. -/
def silu (g : EReal) : EReal := g * Ideal.logistic g

/-- A row through an expert, at column `j`. -/
def ffn (x : Fin 1024 → EReal) (wg wu : Fin 1024 → Fin 3584 → EReal) (wd : Fin 3584 → Fin 1024 → EReal) (j : Fin 1024) : EReal :=
  ∑ f : Fin 3584, (silu (∑ k : Fin 1024, x k * wg k f) * ∑ k : Fin 1024, x k * wu k f) * wd f j

/-- `x` where row `r` is below the count `v` of valid rows, else zero. -/
def masked (v : BitVec 32) (r : ℕ) (x : EReal) : EReal := Scalar.select (IntOp.cmpi .slt (BitVec.ofNat 32 r) v) x 0

/-- Row `r` of a block: the odd row of its pair, then the even one, where the row is valid. -/
def xrow (v : BitVec 32) (x : Fin 1024 → Fin 512 → EReal) (r : Fin 512) (k : Fin 1024) : EReal :=
  masked v r.val (x ⟨2 * r.val + (1 - k.val / 512), by omega⟩ ⟨k.val % 512, by omega⟩)

/-- A block with no valid row holds zeros. -/
theorem masked_dead (v : BitVec 32) (h : ¬ 0 < v.toInt) (r : ℕ) (hr : r < 512) (x : EReal) : masked v r x = 0 := by
  unfold masked
  have : IntOp.cmpi .slt (BitVec.ofNat 32 r) v = 0#1 := by
    apply eq_zero_of_ne_one
    intro e
    have e' : BitVec.slt (BitVec.ofNat 32 r) v = true := by
      by_contra hh
      have hb : BitVec.slt (BitVec.ofNat 32 r) v = false := by simpa using hh
      simp [IntOp.cmpi, hb] at e
    rw [BitVec.slt_iff_toInt_lt] at e'
    have : (BitVec.ofNat 32 r).toInt = r := by
      have hn : (BitVec.ofNat 32 r).toNat = r := by rw [BitVec.toNat_ofNat]; exact Nat.mod_eq_of_lt (by omega)
      rw [BitVec.toInt_eq_toNat_of_lt (by rw [hn]; omega), hn]
    omega
  rw [this]; rfl

/-- A row of zeros goes to zeros. -/
theorem ffn_zero (x : Fin 1024 → EReal) (hx : ∀ k, x k = 0) (wg wu : Fin 1024 → Fin 3584 → EReal) (wd : Fin 3584 → Fin 1024 → EReal) (j : Fin 1024) :
    ffn x wg wu wd j = 0 := by
  unfold ffn silu
  simp [hx]

/-- A sum over the hidden columns, chunk by chunk. -/
theorem sum_chunks (f : Fin 3584 → EReal) :
    ∑ k : Fin 3584, f k = ∑ i : Fin 14, ∑ k : Fin 256, f ⟨256 * i.val + k.val, by omega⟩ := by
  rw [← Fintype.sum_prod_type']
  exact (Fintype.sum_equiv (finProdFinEquiv (m := 14) (n := 256)) (fun p : Fin 14 × Fin 256 => f ⟨256 * p.1.val + p.2.val, by omega⟩) f
    (fun p => congrArg f (Fin.ext (by simp [finProdFinEquiv]; omega)))).symm

end Cert.Proof.Experts
-- ==== Proof.Experts.Apply.lean ====
/-
  What the body leaves of a block, read at an index: the experts' network on the masked row.
-/
module

public import proofs.«01_k».proof.Proof.Experts.Block
public import proofs.«01_k».proof.Proof.Experts.Spec
public import Idealize.ShloMosaic.Lib.MatmulPlain
public import Idealize.ShloMosaic.Lib.Pipeline.Value

@[expose] public section

set_option maxRecDepth 16384

noncomputable section

namespace Cert.Proof.Experts

open Cert.Kernel2Ideal Cert.Kernel2Ideal.Gen
open Idealize.ShloMosaic hiding ix1 ix2 ix3
open Idealize.ShloMosaic.ValueIdx
open scoped BigOperators

theorem interleave_apply (lo hi : S512x512.Idx → EReal) (h : S1024x512.Bitcasts 16 S512x512 32) (q : Fin 1024) (c : Fin 512) :
    interleaveRows S1024x512 lo hi h (ix2 q c)
      = if q.val % 2 = 0 then lo (ix2 ⟨q.val / 2, by omega⟩ c) else hi (ix2 ⟨q.val / 2, by omega⟩ c) := by
  unfold interleaveRows
  refine ite_congr rfl (fun _ => congrArg lo (funext fun b => Fin.ext ?_)) (fun _ => congrArg hi (funext fun b => Fin.ext ?_)) <;>
    exact match b with
    | ⟨0, _⟩ => rfl
    | ⟨1, _⟩ => rfl

theorem parity_apply (p : Fin 2) (x : S1024x512.Idx → EReal) (h : S1024x512.Bitcasts 16 S512x512 32) (r c : Fin 512) :
    rowsOfParity p S512x512 x h (ix2 r c) = x (ix2 ⟨2 * r.val + p.val, by omega⟩ c) := by
  refine congrArg x (funext fun b => Fin.ext ?_)
  match b with
  | ⟨0, _⟩ => rfl
  | ⟨1, _⟩ => rfl

theorem colBlk_apply (x : S1x1024x3584.Idx → EReal) (k : Fin 2) (i : Fin 14) (r : Fin 512) (f : Fin 256) :
    shapeCast S512x256 (colBlk x k i) shapeCasts_S1x512x256_S512x256 (ix2 r f)
      = x (ix3 0 ⟨512 * k.val + r.val, by omega⟩ ⟨256 * i.val + f.val, by omega⟩) := by
  refine (shapeCast_dropUnit_apply ![512, 256] _ _ (ix2 r f)).trans (congrArg x (funext fun b => Fin.ext ?_))
  match b with
  | ⟨0, _⟩ => rfl
  | ⟨1, _⟩ => show 512 * k.val + 1 * r.val = 512 * k.val + r.val; omega
  | ⟨2, _⟩ => show 256 * i.val + 1 * f.val = 256 * i.val + f.val; omega

theorem rowBlk_apply (x : S1x3584x1024.Idx → EReal) (i : Fin 14) (f : Fin 256) (j : Fin 1024) :
    shapeCast S256x1024 (rowBlk x i) shapeCasts_S1x256x1024_S256x1024 (ix2 f j) = x (ix3 0 ⟨256 * i.val + f.val, by omega⟩ j) := by
  refine (shapeCast_dropUnit_apply ![256, 1024] _ _ (ix2 f j)).trans (congrArg x (funext fun b => Fin.ext ?_))
  match b with
  | ⟨0, _⟩ => rfl
  | ⟨1, _⟩ => show 256 * i.val + 1 * f.val = 256 * i.val + f.val; omega
  | ⟨2, _⟩ => show 0 + 1 * j.val = j.val; omega

section
variable (xa xb : S512x512.Idx → EReal) (x1 x2 : S1x1024x3584.Idx → EReal) (x3 : S1x3584x1024.Idx → EReal)

/-- The two halves of a row as one. -/
def both (r : Fin 512) (k : Fin 1024) : EReal :=
  if h : k.val < 512 then xa (ix2 r ⟨k.val, h⟩) else xb (ix2 r ⟨k.val - 512, by omega⟩)

theorem proj_apply (x : S1x1024x3584.Idx → EReal) (i : Fin 14) (r : Fin 512) (f : Fin 256) :
    proj xa xb x i (ix2 r f) = ∑ k : Fin 1024, both xa xb r k * x (ix3 0 k ⟨256 * i.val + f.val, by omega⟩) := by
  rw [Fin.sum_univ_two_halves 512 512 rfl]
  have ha := Ideal.matmul_plain_apply (M := 512) (K := 512) (N := 256) (φ₁ := .bf16) (φ₂ := .bf16) none xa
    (shapeCast S512x256 (colBlk x 0 i) shapeCasts_S1x512x256_S512x256) (constant S512x256 .f32 0x00000000#32) r f
  have hb := Ideal.matmul_plain_apply (M := 512) (K := 512) (N := 256) (φ₁ := .bf16) (φ₂ := .bf16) none xb
    (shapeCast S512x256 (colBlk x 1 i) shapeCasts_S1x512x256_S512x256) (constant S512x256 .f32 0x00000000#32) r f
  have hz : (constant S512x256 .f32 0x00000000#32 : FVec Ideal S512x256 .f32) (ix2 r f) = (0 : EReal) := Ideal.ofBits_zero_f32
  have hz' : (broadcast S512x256 (Scalar.ofBits .f32 0x00000000#32) : FVec Ideal S512x256 .f32) (ix2 r f) = (0 : EReal) := Ideal.ofBits_zero_f32
  rw [hz] at ha hb
  have hp : proj xa xb x i (ix2 r f) = ((broadcast S512x256 (Scalar.ofBits .f32 0x00000000#32) : FVec Ideal S512x256 .f32) (ix2 r f) + _) + _ :=
    congrArg₂ (fun u v : EReal => ((broadcast S512x256 (Scalar.ofBits .f32 0x00000000#32) : FVec Ideal S512x256 .f32) (ix2 r f) + u) + v) ha hb
  rw [hp, hz', zero_add, zero_add, zero_add]
  refine congrArg₂ (· + ·) (Finset.sum_congr rfl fun k _ => ?_) (Finset.sum_congr rfl fun k _ => ?_)
  · rw [colBlk_apply]
    refine congrArg₂ (· * ·) ?_ (congrArg x (congrArg (fun z => ix3 0 z _) (Fin.ext (by simp))))
    unfold both; rw [dif_pos k.isLt]
  · rw [colBlk_apply]
    refine congrArg₂ (· * ·) ?_ (congrArg x (congrArg (fun z => ix3 0 z _) (Fin.ext (by simp))))
    unfold both
    rw [dif_neg (by show ¬ 512 + k.val < 512; omega)]
    exact congrArg xb (congrArg (ix2 r) (Fin.ext (by show k.val = 512 + k.val - 512; omega)))

theorem hid_apply (i : Fin 14) (r : Fin 512) (f : Fin 256) :
    hid xa xb x1 x2 i (ix2 r f) = silu (proj xa xb x1 i (ix2 r f)) * proj xa xb x2 i (ix2 r f) := rfl

theorem contrib_apply (i : Fin 14) (r : Fin 512) (j : Fin 1024) :
    contrib xa xb x1 x2 x3 i (ix2 r j) = ∑ f : Fin 256, hid xa xb x1 x2 i (ix2 r f) * x3 (ix3 0 ⟨256 * i.val + f.val, by omega⟩ j) := by
  have h := Ideal.matmul_plain_apply (M := 512) (K := 256) (N := 1024) (φ₁ := .bf16) (φ₂ := .bf16) none (hid xa xb x1 x2 i)
    (shapeCast S256x1024 (rowBlk x3 i) shapeCasts_S1x256x1024_S256x1024) (constant S512x1024 .f32 0x00000000#32) r j
  have hz : (constant S512x1024 .f32 0x00000000#32 : FVec Ideal S512x1024 .f32) (ix2 r j) = (0 : EReal) := Ideal.ofBits_zero_f32
  rw [hz, zero_add] at h
  refine h.trans (Finset.sum_congr rfl fun f _ => ?_)
  rw [rowBlk_apply]

theorem accum_apply (n : ℕ) (y : S512x1024.Idx) :
    accum xa xb x1 x2 x3 n y = ∑ i ∈ Finset.range (n + 1), (contrib xa xb x1 x2 x3 (Fin.ofNat 14 i) y : EReal) := by
  induction n with
  | zero =>
    rw [Finset.sum_range_one]
    exact congrFun (shapeCast_self _ _) y
  | succ n ih =>
    rw [Finset.sum_range_succ, ← ih]
    exact congrFun (shapeCast_self _ _) y

/-- The whole sum is the network on the row. -/
theorem accum_eq (r : Fin 512) (j : Fin 1024) :
    accum xa xb x1 x2 x3 13 (ix2 r j)
      = ffn (both xa xb r) (fun k f => x1 (ix3 0 k f)) (fun k f => x2 (ix3 0 k f)) (fun f j => x3 (ix3 0 f j)) j := by
  rw [accum_apply, Finset.sum_range]
  unfold ffn
  rw [sum_chunks]
  refine Finset.sum_congr rfl fun i _ => ?_
  rw [show Fin.ofNat 14 i.val = i from Fin.ext (Nat.mod_eq_of_lt i.isLt), contrib_apply]
  refine Finset.sum_congr rfl fun f _ => ?_
  rw [hid_apply, proj_apply, proj_apply]

end

/-- The masked halves of a block's rows. -/
theorem both_eq (v : BitVec 32) (x0 : S1024x512.Idx → EReal) (r : Fin 512) :
    both (k0_pay4 (F := Ideal) v x0) (k0_pay5 (F := Ideal) v x0) r = xrow v (fun q c => x0 (ix2 q c)) r := by
  have hm : ∀ c : Fin 512, k0_pay3 (F := Ideal) v (ix2 r c) = IntOp.cmpi .slt (BitVec.ofNat 32 r.val) v := fun c =>
    congrArg (IntOp.cmpi .slt · v) (iota_single_apply _ _ _ _ _ _)
  have h4 : ∀ c : Fin 512, k0_pay4 (F := Ideal) v x0 (ix2 r c) = masked v r.val (x0 (ix2 ⟨2 * r.val + 1, by omega⟩ c)) := fun c => by
    have : k0_pay4 (F := Ideal) v x0 (ix2 r c) = Scalar.select (k0_pay3 (F := Ideal) v (ix2 r c))
        (rowsOfParity 1 S512x512 x0 bitcasts_S1024x512_w16_S512x512_w32 (ix2 r c)) (Ideal.ofBits .bf16 0x0000#16) := rfl
    rw [this, hm, parity_apply, Ideal.ofBits_zero_bf16]; rfl
  have h5 : ∀ c : Fin 512, k0_pay5 (F := Ideal) v x0 (ix2 r c) = masked v r.val (x0 (ix2 ⟨2 * r.val, by omega⟩ c)) := fun c => by
    have : k0_pay5 (F := Ideal) v x0 (ix2 r c) = Scalar.select (k0_pay3 (F := Ideal) v (ix2 r c))
        (rowsOfParity 0 S512x512 x0 bitcasts_S1024x512_w16_S512x512_w32 (ix2 r c)) (Ideal.ofBits .bf16 0x0000#16) := rfl
    rw [this, hm, parity_apply, Ideal.ofBits_zero_bf16]; rfl
  funext k
  unfold both xrow
  split
  · rename_i h
    rw [h4]
    refine congrArg (masked v r.val) (congrArg x0 (congrArg₂ ix2 (Fin.ext ?_) (Fin.ext ?_)))
    · show 2 * r.val + 1 = 2 * r.val + (1 - k.val / 512); omega
    · show k.val = k.val % 512; omega
  · rename_i h
    rw [h5]
    refine congrArg (masked v r.val) (congrArg x0 (congrArg₂ ix2 (Fin.ext ?_) (Fin.ext ?_)))
    · show 2 * r.val = 2 * r.val + (1 - k.val / 512); omega
    · show k.val - 512 = k.val % 512; omega

/-- The two halves of the sum's columns. -/
theorem left_apply (A : S512x1024.Idx → EReal) (r c : Fin 512) : k0_pay33 (F := Ideal) A (ix2 r c) = A (ix2 r ⟨c.val, by omega⟩) :=
  extractStridedSlice_apply (s := S512x1024) (t := S512x512) ![0, 0] A slices_S512x1024_o0_0_S512x512 (ix2 r c) _ fun b => match b with
    | ⟨0, _⟩ => (Nat.zero_add _).symm
    | ⟨1, _⟩ => (Nat.zero_add _).symm

theorem right_apply (A : S512x1024.Idx → EReal) (r c : Fin 512) : k0_pay34 (F := Ideal) A (ix2 r c) = A (ix2 r ⟨512 + c.val, by omega⟩) :=
  extractStridedSlice_apply (s := S512x1024) (t := S512x512) ![0, 512] A slices_S512x1024_o0_512_S512x512 (ix2 r c) _ fun b => match b with
    | ⟨0, _⟩ => (Nat.zero_add _).symm
    | ⟨1, _⟩ => rfl

/-- The block left by the body, at an index. -/
theorem blockOut_apply (v : BitVec 32) (x0 : S1024x512.Idx → EReal) (x1 x2 : S1x1024x3584.Idx → EReal) (x3 : S1x3584x1024.Idx → EReal)
    (q : Fin 1024) (c : Fin 512) :
    blockOut v x0 x1 x2 x3 (ix2 q c)
      = ffn (xrow v (fun q c => x0 (ix2 q c)) ⟨q.val / 2, by omega⟩) (fun k f => x1 (ix3 0 k f)) (fun k f => x2 (ix3 0 k f))
          (fun f j => x3 (ix3 0 f j)) ⟨(1 - q.val % 2) * 512 + c.val, by omega⟩ := by
  unfold blockOut k0_pay1
  refine (interleave_apply _ _ _ q c).trans ?_
  rw [← both_eq]
  split
  · rename_i h
    refine (right_apply _ _ c).trans ((congrArg (accum _ _ x1 x2 x3 13) (congrArg (ix2 _) (Fin.ext ?_))).trans (accum_eq _ _ x1 x2 x3 _ _))
    show 512 + c.val = (1 - q.val % 2) * 512 + c.val; omega
  · rename_i h
    refine (left_apply _ _ c).trans ((congrArg (accum _ _ x1 x2 x3 13) (congrArg (ix2 _) (Fin.ext ?_))).trans (accum_eq _ _ x1 x2 x3 _ _))
    show c.val = (1 - q.val % 2) * 512 + c.val; omega

end Cert.Proof.Experts
-- ==== Proof.Experts.Launch.lean ====
/-
  The launch of the experts' call on tables naming experts below eight: what each block's body leaves (the experts' rows
  where the block has valid rows, zeros where it has none), the body's obligation at a point, and the run: the arguments
  end as they began and the result's array holds every block's rows.
-/
module

public import proofs.«01_k».proof.Proof.Experts.Words
public import proofs.«01_k».proof.Proof.Gen.Kernel2Ideal.Flash.Runs
public import Idealize.ShloMosaic.Lib.Pipeline.Quiescent
public import Idealize.ShloMosaic.Lib.Pipeline.Value
public import Idealize.ShloMosaic.Lib.Claim

@[expose] public section

set_option maxRecDepth 16384

noncomputable section

namespace Cert.Proof.Experts

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

/-- The staging cells' algebra in the proof's. -/
abbrev EP : Emb (UR sig nD τ) 𝕄 := emb₁

variable (a : (pcfg0 (F := Ideal)).Adm)

abbrev cfgT : Pipeline.Cfg sig Λ₀ := cfg0 (F := Ideal) a
abbrev pcs : Fin 1 → Pipeline.Cfg sig Λ₀ := Pipeline.pin (pcfgs (F := Ideal)) fun _ => a

/-- The experts' table and the table of valid rows. -/
abbrev tabE : S264.Idx → BitVec 32 := a.1 0
abbrev tabN : S264.Idx → BitVec 32 := a.1 1

abbrev crd (t : Fin (cfgT a).N) : grid0.Coords := (cfgT a).grid.coords t

/-- The windows' staging memrefs at a point. -/
abbrev st0 (t : Fin (cfgT a).N) : Memref sig .tc .vmem S1024x512 .bf16 := spec0_0.stage ((cfgT a).slots t (0 : Fin 5))
abbrev st1 (t : Fin (cfgT a).N) : Memref sig .tc .vmem S1x1024x3584 .bf16 := spec0_1.stage ((cfgT a).slots t (1 : Fin 5))
abbrev st2 (t : Fin (cfgT a).N) : Memref sig .tc .vmem S1x1024x3584 .bf16 := spec0_2.stage ((cfgT a).slots t (2 : Fin 5))
abbrev st3 (t : Fin (cfgT a).N) : Memref sig .tc .vmem S1x3584x1024 .bf16 := spec0_3.stage ((cfgT a).slots t (3 : Fin 5))
abbrev st4 (t : Fin (cfgT a).N) : Memref sig .tc .vmem S1024x512 .bf16 := spec0_4.stage ((cfgT a).slots t (4 : Fin 5))

theorem wh0 (t : Fin (cfgT a).N) : (st0 a t).IsWhole := hstage0_0 (((cfgT a).slots t (0 : Fin 5)).cast nbuf0_0)
theorem wh1 (t : Fin (cfgT a).N) : (st1 a t).IsWhole := hstage0_1 (((cfgT a).slots t (1 : Fin 5)).cast nbuf0_1)
theorem wh2 (t : Fin (cfgT a).N) : (st2 a t).IsWhole := hstage0_2 (((cfgT a).slots t (2 : Fin 5)).cast nbuf0_2)
theorem wh3 (t : Fin (cfgT a).N) : (st3 a t).IsWhole := hstage0_3 (((cfgT a).slots t (3 : Fin 5)).cast nbuf0_3)
theorem wh4 (t : Fin (cfgT a).N) : (st4 a t).IsWhole := hstage0_4 (((cfgT a).slots t (4 : Fin 5)).cast nbuf0_4)

variable (m : (ℓ : Loc nD τ sig) → Buf (Elt Ideal) ℓ) (ρ : Dev nD → PrngReg)

/-- Window `w`'s block at a point, of its array at launch. -/
def blkIn (c : Dev nD) (w : Fin (cfgT a).W) (t : Fin (cfgT a).N) :
    (((cfgT a).win w).xblock (crd a t)).Idx → Elt Ideal ((cfgT a).win w).elt :=
  (((cfgT a).win w).blk t).view.read (Elt Ideal) ((s₀ m ρ).mem (((cfgT a).win w).arr.view.loc (c : Thread nD τ)))

/-- The block has valid rows. -/
abbrev Live (t : Fin (cfgT a).N) : Prop := k0_cond1 (word (tabN a) (crd a t)) = 1#1

instance (t : Fin (cfgT a).N) : Decidable (Live a t) := inferInstanceAs (Decidable (_ = _))

/-- What the body leaves in the result's staging buffer at a point. -/
def outAt (c : Dev nD) (t : Fin (cfgT a).N) : S1024x512.Idx → Elt Ideal .bf16 :=
  if q : Live a t then
    out0_A_4 c (crd a t) (st0 a t) (wh0 a t) (st1 a t) (wh1 a t) (st2 a t) (wh2 a t) (st3 a t) (wh3 a t) (st4 a t) (wh4 a t) (tabE a) (tabN a)
      (blkIn a m ρ c (0 : Fin 5) t) (blkIn a m ρ c (1 : Fin 5) t) (blkIn a m ρ c (2 : Fin 5) t) (blkIn a m ρ c (3 : Fin 5) t) q (cond_not _ q)
  else
    out0_B_4 c (crd a t) (st0 a t) (wh0 a t) (st1 a t) (wh1 a t) (st2 a t) (wh2 a t) (st3 a t) (wh3 a t) (st4 a t) (wh4 a t) (tabE a) (tabN a)
      (blkIn a m ρ c (0 : Fin 5) t) (blkIn a m ρ c (1 : Fin 5) t) (blkIn a m ρ c (2 : Fin 5) t) (blkIn a m ρ c (3 : Fin 5) t) default q (cond_or _ q)

/-- Between points: the scratch at some contents and the body's halves of the tables. -/
def inv (c : Dev nD) : sProp 𝕄 :=
  iprop((∃ f, scM0_0.view.loc (c : Thread nD τ) ↦{fullShare} f) ∗ (tbM0_0.view.loc (c : Thread nD τ) ↦{fullShare.right} tabE a)
    ∗ (tbM0_1.view.loc (c : Thread nD τ) ↦{fullShare.right} tabN a))

/-- The pipeline's proof data on a core. -/
def dats (_ : Fin 1) (c : Dev nD) : Dat τ (Elt Ideal) Unit ℕ (UR sig nD τ) ℕ (cfgT a) c where
  A w := (s₀ m ρ).mem (((cfgT a).win w).arr.view.loc (c : Thread nD τ))
  after w t := match w with
    | ⟨0, _⟩ => blkIn a m ρ c (0 : Fin 5) t
    | ⟨1, _⟩ => blkIn a m ρ c (1 : Fin 5) t
    | ⟨2, _⟩ => blkIn a m ρ c (2 : Fin 5) t
    | ⟨3, _⟩ => blkIn a m ρ c (3 : Fin 5) t
    | ⟨4, _⟩ => outAt a m ρ c t
  Φ _ := inv a c
  q _ := fullShare
  owed _ := 0

theorem after0 (c : Dev nD) (t : Fin (cfgT a).N) : (dats a m ρ 0 c).after (0 : Fin 5) t = blkIn a m ρ c (0 : Fin 5) t := rfl
theorem after1 (c : Dev nD) (t : Fin (cfgT a).N) : (dats a m ρ 0 c).after (1 : Fin 5) t = blkIn a m ρ c (1 : Fin 5) t := rfl
theorem after2 (c : Dev nD) (t : Fin (cfgT a).N) : (dats a m ρ 0 c).after (2 : Fin 5) t = blkIn a m ρ c (2 : Fin 5) t := rfl
theorem after3 (c : Dev nD) (t : Fin (cfgT a).N) : (dats a m ρ 0 c).after (3 : Fin 5) t = blkIn a m ρ c (3 : Fin 5) t := rfl
theorem after4 (c : Dev nD) (t : Fin (cfgT a).N) : (dats a m ρ 0 c).after (4 : Fin 5) t = outAt a m ρ c t := rfl

/-- An input window's staging buffer holds its block when the body runs. -/
theorem before0 (c : Dev nD) (t : Fin (cfgT a).N) (d) : (dats a m ρ 0 c).before (0 : Fin 5) t d = blkIn a m ρ c (0 : Fin 5) t :=
  ((dats a m ρ 0 c).before_in_eq_fetched (0 : Fin 5) rfl (fun _ => rfl) (fun _ _ _ => rfl)
    (fun t => by rw [after0]; unfold Dat.blockOf blkIn; rfl) t d).trans (by unfold Dat.fetched Dat.blockOf blkIn; rfl)
theorem before1 (c : Dev nD) (t : Fin (cfgT a).N) (d) : (dats a m ρ 0 c).before (1 : Fin 5) t d = blkIn a m ρ c (1 : Fin 5) t :=
  ((dats a m ρ 0 c).before_in_eq_fetched (1 : Fin 5) rfl (fun _ => rfl) (fun _ _ _ => rfl)
    (fun t => by rw [after1]; unfold Dat.blockOf blkIn; rfl) t d).trans (by unfold Dat.fetched Dat.blockOf blkIn; rfl)
theorem before2 (c : Dev nD) (t : Fin (cfgT a).N) (d) : (dats a m ρ 0 c).before (2 : Fin 5) t d = blkIn a m ρ c (2 : Fin 5) t :=
  ((dats a m ρ 0 c).before_in_eq_fetched (2 : Fin 5) rfl (fun _ => rfl) (fun _ _ _ => rfl)
    (fun t => by rw [after2]; unfold Dat.blockOf blkIn; rfl) t d).trans (by unfold Dat.fetched Dat.blockOf blkIn; rfl)
theorem before3 (c : Dev nD) (t : Fin (cfgT a).N) (d) : (dats a m ρ 0 c).before (3 : Fin 5) t d = blkIn a m ρ c (3 : Fin 5) t :=
  ((dats a m ρ 0 c).before_in_eq_fetched (3 : Fin 5) rfl (fun _ => rfl) (fun _ _ _ => rfl)
    (fun t => by rw [after3]; unfold Dat.blockOf blkIn; rfl) t d).trans (by unfold Dat.fetched Dat.blockOf blkIn; rfl)

theorem idle4 (t : Fin (cfgT a).N) : (cfgT a).idle (4 : Fin 5) ((cfgT a).grid.coords t) = false := idle_ne a.1 _

/-- The body at a point, as the pipeline calls it. -/
abbrev bodyAt (t : Fin (cfgT a).N) : Prog (TpuEff nD τ sig (Elt Ideal) Λ₀ .tc) PUnit :=
  cc0_experts (crd a t) tbM0_0 (Memref.isWhole_whole _) tbM0_1 (Memref.isWhole_whole _) (st0 a t) (wh0 a t) (st1 a t) (wh1 a t)
    (st2 a t) (wh2 a t) (st3 a t) (wh3 a t) (st4 a t) (wh4 a t) scM0_0 (Memref.isWhole_whole _)

set_option maxHeartbeats 4000000 in
/-- The body at a point, from its windows' blocks to what it leaves, on the path the point's word selects. -/
theorem body_at (c : Dev nD) (t : Fin (cfgT a).N) :
    iprop(inv a c ∗ (dats a m ρ 0 c).owesAt () t.castSucc
        ∗ (∃ d, owns (c : Thread nD τ) (st0 a t) fullShare ((dats a m ρ 0 c).before (0 : Fin 5) t d))
        ∗ (∃ d, owns (c : Thread nD τ) (st1 a t) fullShare ((dats a m ρ 0 c).before (1 : Fin 5) t d))
        ∗ (∃ d, owns (c : Thread nD τ) (st2 a t) fullShare ((dats a m ρ 0 c).before (2 : Fin 5) t d))
        ∗ (∃ d, owns (c : Thread nD τ) (st3 a t) fullShare ((dats a m ρ 0 c).before (3 : Fin 5) t d))
        ∗ (∃ d, owns (c : Thread nD τ) (st4 a t) fullShare ((dats a m ρ 0 c).before (4 : Fin 5) t d)))
      ⊢ wp frame (wpE (defs₀ (F := Ideal)) Variants.none c none) Set.univ (bodyAt a t) fun _ =>
          iprop(inv a c ∗ (dats a m ρ 0 c).owesAt () t.castSucc
            ∗ owns (c : Thread nD τ) (st0 a t) fullShare (blkIn a m ρ c (0 : Fin 5) t)
            ∗ owns (c : Thread nD τ) (st1 a t) fullShare (blkIn a m ρ c (1 : Fin 5) t)
            ∗ owns (c : Thread nD τ) (st2 a t) fullShare (blkIn a m ρ c (2 : Fin 5) t)
            ∗ owns (c : Thread nD τ) (st3 a t) fullShare (blkIn a m ρ c (3 : Fin 5) t)
            ∗ owns (c : Thread nD τ) (st4 a t) fullShare (outAt a m ρ c t)) := by
  simp only [before0, before1, before2, before3]
  unfold inv
  iintro ⟨⟨⟨%f, HS⟩, HT0, HT1⟩, Ho, ⟨%d0, H0⟩, ⟨%d1, H1⟩, ⟨%d2, H2⟩, ⟨%d3, H3⟩, ⟨%d4, H4⟩⟩
  by_cases q : Live a t
  · iapply ((kernelRun0_A c (crd a t) (st0 a t) (wh0 a t) (st1 a t) (wh1 a t) (st2 a t) (wh2 a t) (st3 a t) (wh3 a t) (st4 a t) (wh4 a t)
      (tabE a) (tabN a) (blkIn a m ρ c (0 : Fin 5) t) (blkIn a m ρ c (1 : Fin 5) t) (blkIn a m ρ c (2 : Fin 5) t) (blkIn a m ρ c (3 : Fin 5) t)
      q (cond_not _ q)).2.2 f _)
    isplitl [H0]; · iapply rep_of_owns; iexact H0
    isplitl [H1]; · iapply rep_of_owns; iexact H1
    isplitl [H2]; · iapply rep_of_owns; iexact H2
    isplitl [H3]; · iapply rep_of_owns; iexact H3
    isplitl [HT0]; · iexact HT0
    isplitl [HT1]; · iexact HT1
    isplitl [H4]; · iexists _; iexact H4
    isplitl [HS]; · iexact HS
    iintro ⟨H0, H1, H2, H3, HT0, HT1, ⟨%e4, H4⟩, HS⟩
    isplitl [HS HT0 HT1]
    · isplitl [HS]; · iexists _; iexact HS
      isplitl [HT0]; · iexact HT0
      iexact HT1
    isplitl [Ho]; · iexact Ho
    isplitl [H0]; · iapply owns_of_rep; iexact H0
    isplitl [H1]; · iapply owns_of_rep; iexact H1
    isplitl [H2]; · iapply owns_of_rep; iexact H2
    isplitl [H3]; · iapply owns_of_rep; iexact H3
    unfold owns; iexists _; isplitr; swap
    · iexact H4
    · ipureintro
      unfold outAt
      rw [dif_pos q]
      exact View.read_writes_of_cover _ _ _ _ _ (cover0_A_4 c _ _ _ _ _ _ _ _ _ _ _ _ _ _ _ _ _ _ _)
  · iapply ((kernelRun0_B c (crd a t) (st0 a t) (wh0 a t) (st1 a t) (wh1 a t) (st2 a t) (wh2 a t) (st3 a t) (wh3 a t) (st4 a t) (wh4 a t)
      (tabE a) (tabN a) (blkIn a m ρ c (0 : Fin 5) t) (blkIn a m ρ c (1 : Fin 5) t) (blkIn a m ρ c (2 : Fin 5) t) (blkIn a m ρ c (3 : Fin 5) t)
      f q (cond_or _ q)).2.2 _)
    isplitl [H0]; · iapply rep_of_owns; iexact H0
    isplitl [H1]; · iapply rep_of_owns; iexact H1
    isplitl [H2]; · iapply rep_of_owns; iexact H2
    isplitl [H3]; · iapply rep_of_owns; iexact H3
    isplitl [HT0]; · iexact HT0
    isplitl [HT1]; · iexact HT1
    isplitl [H4]; · iexists _; iexact H4
    isplitl [HS]; · iexact HS
    iintro ⟨H0, H1, H2, H3, HT0, HT1, ⟨%e4, H4⟩, HS⟩
    isplitl [HS HT0 HT1]
    · isplitl [HS]; · iexists _; iexact HS
      isplitl [HT0]; · iexact HT0
      iexact HT1
    isplitl [Ho]; · iexact Ho
    isplitl [H0]; · iapply owns_of_rep; iexact H0
    isplitl [H1]; · iapply owns_of_rep; iexact H1
    isplitl [H2]; · iapply owns_of_rep; iexact H2
    isplitl [H3]; · iapply owns_of_rep; iexact H3
    unfold owns; iexists _; isplitr; swap
    · iexact H4
    · ipureintro
      unfold outAt
      rw [dif_neg q]
      exact View.read_writes_of_cover _ _ _ _ _ (cover0_B_4 c _ _ _ _ _ _ _ _ _ _ _ _ _ _ _ _ _ f _ _)

/-- The obligation the pipeline asks of the body. -/
theorem body_ob (c : Dev nD) : BodyObligation (dats a m ρ 0 c) (defs₀ (F := Ideal)) Variants.none () Set.univ := fun t => by
  rw [bigSep_W0, bigSep_W0]
  rewrite [idle4 a t]
  exact body_at a m ρ c t

/-- The launch's ghost state. -/
def u₀ : UR sig nD τ :=
  initOf (Pipeline.cells (pcs a) ((launch0 (F := Ideal)).cellOf_inj fun _ => a))
    (Pipeline.launchToks (pcs a) ((launch0 (F := Ideal)).cellOf_inj fun _ => a))

theorem share_eq (c : Dev nD) (w : Fin (cfgT a).W) : (dats a m ρ 0 c).share w = fullShare := by unfold Dat.share; split <;> rfl

/-- The tables held by the region, one by one. -/
theorem prefHeld_eq (c : Dev nD) (q : Fin 2 → PosShare TreeShare) (v : pre0.Contents (Elt Ideal)) :
    (Pipeline.prefHeld (Ix := Unit) (Name := ℕ) (U := UR sig nD τ) (Lvl := ℕ) pre0 c q v : sProp 𝕄)
      = iprop((((c : Thread nD τ).loc main_arg1) ↦{q 0} v 0) ∗ (((c : Thread nD τ).loc main_arg2) ↦{q 1} v 1)) := by
  unfold Pipeline.prefHeld
  rw [show (Finset.univ : Finset (Fin 2)) = insert (0 : Fin 2) {(1 : Fin 2)} from by decide, bigSep_insert (by decide), bigSep_singleton]
  rfl

theorem inv_intro (c : Dev nD) :
    iprop(BI.emp ∗ Pipeline.prefHeld pre0 c (fun _ => fullShare.right) a.1 ∗ Pipeline.scopedRest spec0 c) ⊢ inv a c := by
  rw [prefHeld_eq, scopedRest0_eq]
  unfold inv
  iintro ⟨-, ⟨HT0, HT1⟩, ⟨%f, HS⟩⟩
  isplitl [HS]; · iexists f; iexact HS
  isplitl [HT0]; · iexact HT0
  iexact HT1

theorem inv_exit (c : Dev nD) : inv a c ⊢ (iprop(BI.emp ∗ Pipeline.scopedRest spec0 c) : sProp 𝕄) := by
  rw [scopedRest0_eq]
  unfold inv
  iintro ⟨⟨%f, HS⟩, -, -⟩
  isplitr; · iempintro
  iexists f; iexact HS

/-- What a final memory holds: every window's array as written back, every table as it was. -/
def post : PUnit × MemSt nD τ sig (Elt Ideal) → Prop := fun r =>
  ∀ c : Dev nD, (∀ w : Fin (cfgT a).W, r.2.mem (((cfgT a).win w).arr.view.loc (c : Thread nD τ)) = (dats a m ρ 0 c).arrAt w (cfgT a).N)
    ∧ ∀ j, r.2.mem ((c : Thread nD τ).loc (pre0.ref j)) = a.1 j

set_option backward.isDefEq.respectTransparency.types false in
set_option maxHeartbeats 4000000 in
/-- From a memory holding the tables, the program ends with the arrays as written back and no semaphore left raised. -/
theorem run_at (hp : ∀ (c : Dev nD) (j : Fin 2), m ((c : Thread nD τ).loc (pre0.ref j)) = a.1 j) :
    θ_run (defs (F := Ideal)) (onTc (τ := τ) (main (F := Ideal))) (s₀ m ρ) (fun r => post a m ρ r ∧ r.2.sem = fun _ => 0) :=
  Pipeline.θ_run_region_noSem_pf_quiescent pcfgs (fun _ => a) (dats a m ρ) () ((launch0 (F := Ideal)).cellOf_inj fun _ => a) (0 : Fin 1)
    (launch0 (F := Ideal)).win.to₀ (launch0 (F := Ideal)).pre EP defs₀ Variants.none m ρ main
    (hbody := fun c => (body_ob a m ρ c).loose) (hne := (launch0 (F := Ideal)).block_pos)
    (harr := (launch0 (F := Ideal)).arr_whole) (hstage := (launch0 (F := Ideal)).stage_whole) (howed := fun _ _ => rfl)
    (u₀ := u₀ a) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs a) (dats a m ρ) 0 (launch0 (F := Ideal)).win.arr_inj c (launch0 (F := Ideal)).arr_whole
      (share_eq a m ρ c) _ _ fun _ => rfl)
    (hpf := hp)
    (X := fun _ => iprop(emp)) (Y := fun _ => iprop(emp)) (Z := fun _ => iprop(emp))
    (hX := fun c => by rw [unscopedRestP0_eq]; iintro -; isplitr <;> iempintro)
    (hin := inv_intro a)
    (hout := inv_exit a)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

end Cert.Proof.Experts
-- ==== Proof.Experts.Result.lean ====
/-
  What the result's array holds after the experts' call: at every row the network of the block's expert on the row of
  the argument, or zeros past the block's valid rows.
-/
module

public import proofs.«01_k».proof.Proof.Experts.Apply
public import proofs.«01_k».proof.Proof.Experts.Launch
public import Idealize.ShloMosaic.Lib.Pipeline.ValueKit

@[expose] public section

set_option maxRecDepth 16384

noncomputable section

namespace Cert.Proof.Experts

open Cert.Kernel2Ideal Cert.Kernel2Ideal.Gen
open Idealize.ShloMosaic hiding ix1 ix2 ix3
open Idealize.ShloMosaic.ValueIdx
open Idealize.ShloMosaic.TcCoe
open Idealize.ShloMosaic.Pipeline (Dat Cfg Window)

/-- The expert a word names. -/
abbrev expert (v : BitVec 32) : Fin 8 := ⟨v.toNat % 8, Nat.mod_lt _ (by decide)⟩

/-- Row `q`, column `c` of block `b` of the result. -/
def resultAt (X : S270336x512.Idx → EReal) (E N : S264.Idx → BitVec 32) (Wg Wu : S8x1024x3584.Idx → EReal) (Wd : S8x3584x1024.Idx → EReal)
    (b : Fin 264) (q : Fin 1024) (c : Fin 512) : EReal :=
  ffn (xrow (N (ix1 b)) (fun q c => X (ix2 ⟨b.val * 1024 + q.val, by omega⟩ c)) ⟨q.val / 2, by omega⟩)
    (fun k f => Wg (ix3 (expert (E (ix1 b))) k f)) (fun k f => Wu (ix3 (expert (E (ix1 b))) k f)) (fun f j => Wd (ix3 (expert (E (ix1 b))) f j))
    ⟨(1 - q.val % 2) * 512 + c.val, by have := c.isLt; have := Nat.mod_lt q.val (show 2 > 0 by decide); interval_cases h : q.val % 2 <;> omega⟩

/-- The result. -/
def result (X : S270336x512.Idx → EReal) (E N : S264.Idx → BitVec 32) (Wg Wu : S8x1024x3584.Idx → EReal) (Wd : S8x3584x1024.Idx → EReal) :
    S270336x512.Idx → EReal := fun y =>
  resultAt X E N Wg Wu Wd ⟨(y 0).val / 1024, by have : (y 0).val < 270336 := (y 0).isLt; omega⟩ ⟨(y 0).val % 1024, by omega⟩ (y 1)

theorem result_apply (X : S270336x512.Idx → EReal) (E N : S264.Idx → BitVec 32) (Wg Wu : S8x1024x3584.Idx → EReal) (Wd : S8x3584x1024.Idx → EReal)
    (b : Fin 264) (q : Fin 1024) (c : Fin 512) (y : S270336x512.Idx) (h0 : (y 0).val = b.val * 1024 + q.val) (h1 : (y 1).val = c.val) :
    result X E N Wg Wu Wd y = resultAt X E N Wg Wu Wd b q c := by
  unfold result
  have e1 : (⟨(y 0).val / 1024, by have : (y 0).val < 270336 := (y 0).isLt; omega⟩ : Fin 264) = b := Fin.ext (by show (y 0).val / 1024 = b.val; omega)
  have e2 : (⟨(y 0).val % 1024, by omega⟩ : Fin 1024) = q := Fin.ext (by show (y 0).val % 1024 = q.val; omega)
  have e3 : y 1 = c := Fin.ext h1
  rw [e1, e2, e3]

variable (a : (pcfg0 (F := Ideal)).Adm)
variable (m : (ℓ : Loc nD τ sig) → Buf (Elt Ideal) ℓ) (ρ : Dev nD → PrngReg)

theorem crd_val (t : Fin (cfgT a).N) : (crd a t 0).val = t.val := by
  have e : grid0.N = 264 := by decide
  have h : t.val < 264 := Nat.lt_of_lt_of_eq t.isLt e
  refine (Pipeline.Grid.coords_val (G := grid0) t 0 (S := 1) (B := 264) (by decide) rfl).trans ?_
  omega

/-- A point as a block's number. -/
abbrev blkNo (t : Fin (cfgT a).N) : Fin 264 := ⟨(crd a t 0).val, (crd a t 0).isLt⟩

theorem pos_eq (i : grid0.Coords) : pos i = ix1 (⟨(i 0).val, (i 0).isLt⟩ : Fin 264) := by
  funext b; obtain rfl : b = 0 := Fin.fin_one_eq_zero b; rfl

theorem rows_ix (t : Fin (cfgT a).N) : ((cfgT a).win (0 : Fin 5)).index t (0 : Fin 2) = (crd a t 0).val := coord_val _
theorem out_ix (t : Fin (cfgT a).N) : ((cfgT a).win (4 : Fin 5)).index t (0 : Fin 2) = (crd a t 0).val := coord_val _

theorem table_ix (pf : pre0.Contents (Elt Ideal)) (i : grid0.Coords) :
    (pf.at 0 (Rect.unit (s := S264) ![(Scalar.indexCast (BitVec.ofNat 32 (i 0).val) : Index).toNat] S1.size (k0_off1_inb i)) numel1_S1 : BitVec 32)
      = (pf 0 : S264.Idx → BitVec 32) (pos i) :=
  congrArg (pf 0 : S264.Idx → BitVec 32) (unit_pos i (k0_off1_inb i) _)

theorem wt1_ix (t : Fin (cfgT a).N) : ((cfgT a).win (1 : Fin 5)).index t (0 : Fin 3) = (tabE a (pos (crd a t))).toNat :=
  congrArg BitVec.toNat (table_ix a.1 (crd a t))
theorem wt2_ix (t : Fin (cfgT a).N) : ((cfgT a).win (2 : Fin 5)).index t (0 : Fin 3) = (tabE a (pos (crd a t))).toNat :=
  congrArg BitVec.toNat (table_ix a.1 (crd a t))
theorem wt3_ix (t : Fin (cfgT a).N) : ((cfgT a).win (3 : Fin 5)).index t (0 : Fin 3) = (tabE a (pos (crd a t))).toNat :=
  congrArg BitVec.toNat (table_ix a.1 (crd a t))

variable (X : S270336x512.Idx → EReal) (Wg Wu : S8x1024x3584.Idx → EReal) (Wd : S8x3584x1024.Idx → EReal)

theorem rows_apply (c : Dev nD) (hX : m ((c : Thread nD τ).loc main_arg0) = X) (t : Fin (cfgT a).N) (q : Fin 1024) (k : Fin 512) :
    (blkIn a m ρ c (0 : Fin 5) t : S1024x512.Idx → EReal) (ix2 q k) = X (ix2 ⟨(blkNo a t).val * 1024 + q.val, by omega⟩ k) := by
  subst hX
  show m ((c : Thread nD τ).loc main_arg0) _ = m ((c : Thread nD τ).loc main_arg0) _
  refine congrArg (m ((c : Thread nD τ).loc main_arg0)) (funext fun b => Fin.ext ?_)
  match b with
  | ⟨0, _⟩ => exact (Window.rect_emb_val ((cfgT a).win (0 : Fin 5)) t (ix2 q k) (0 : Fin 2) rfl).trans (by rw [rows_ix]; rfl)
  | ⟨1, _⟩ => exact (Window.rect_emb_val ((cfgT a).win (0 : Fin 5)) t (ix2 q k) (1 : Fin 2) rfl).trans (Nat.zero_add _)

/-- The words of the experts' table, each below eight. -/
abbrev Named : Prop := ∀ i : S264.Idx, (tabE a i).toNat < 8

theorem gate_apply (hn : Named a) (c : Dev nD) (hW : m ((c : Thread nD τ).loc main_arg3) = Wg) (t : Fin (cfgT a).N) (k : Fin 1024) (f : Fin 3584) :
    (blkIn a m ρ c (1 : Fin 5) t : S1x1024x3584.Idx → EReal) (ix3 0 k f) = Wg (ix3 (expert (tabE a (ix1 (blkNo a t)))) k f) := by
  subst hW
  show m ((c : Thread nD τ).loc main_arg3) _ = m ((c : Thread nD τ).loc main_arg3) _
  refine congrArg (m ((c : Thread nD τ).loc main_arg3)) (funext fun b => Fin.ext ?_)
  match b with
  | ⟨0, _⟩ =>
    refine (Window.rect_emb_val ((cfgT a).win (1 : Fin 5)) t (ix3 0 k f) (0 : Fin 3) rfl).trans ?_
    rw [wt1_ix, pos_eq]
    show _ * 1 + 0 = _ % 8
    rw [Nat.mod_eq_of_lt (hn _), Nat.mul_one, Nat.add_zero]
  | ⟨1, _⟩ => exact (Window.rect_emb_val ((cfgT a).win (1 : Fin 5)) t (ix3 0 k f) (1 : Fin 3) rfl).trans (Nat.zero_add _)
  | ⟨2, _⟩ => exact (Window.rect_emb_val ((cfgT a).win (1 : Fin 5)) t (ix3 0 k f) (2 : Fin 3) rfl).trans (Nat.zero_add _)

theorem up_apply (hn : Named a) (c : Dev nD) (hW : m ((c : Thread nD τ).loc main_arg4) = Wu) (t : Fin (cfgT a).N) (k : Fin 1024) (f : Fin 3584) :
    (blkIn a m ρ c (2 : Fin 5) t : S1x1024x3584.Idx → EReal) (ix3 0 k f) = Wu (ix3 (expert (tabE a (ix1 (blkNo a t)))) k f) := by
  subst hW
  show m ((c : Thread nD τ).loc main_arg4) _ = m ((c : Thread nD τ).loc main_arg4) _
  refine congrArg (m ((c : Thread nD τ).loc main_arg4)) (funext fun b => Fin.ext ?_)
  match b with
  | ⟨0, _⟩ =>
    refine (Window.rect_emb_val ((cfgT a).win (2 : Fin 5)) t (ix3 0 k f) (0 : Fin 3) rfl).trans ?_
    rw [wt2_ix, pos_eq]
    show _ * 1 + 0 = _ % 8
    rw [Nat.mod_eq_of_lt (hn _), Nat.mul_one, Nat.add_zero]
  | ⟨1, _⟩ => exact (Window.rect_emb_val ((cfgT a).win (2 : Fin 5)) t (ix3 0 k f) (1 : Fin 3) rfl).trans (Nat.zero_add _)
  | ⟨2, _⟩ => exact (Window.rect_emb_val ((cfgT a).win (2 : Fin 5)) t (ix3 0 k f) (2 : Fin 3) rfl).trans (Nat.zero_add _)

theorem down_apply (hn : Named a) (c : Dev nD) (hW : m ((c : Thread nD τ).loc main_arg5) = Wd) (t : Fin (cfgT a).N) (f : Fin 3584) (j : Fin 1024) :
    (blkIn a m ρ c (3 : Fin 5) t : S1x3584x1024.Idx → EReal) (ix3 0 f j) = Wd (ix3 (expert (tabE a (ix1 (blkNo a t)))) f j) := by
  subst hW
  show m ((c : Thread nD τ).loc main_arg5) _ = m ((c : Thread nD τ).loc main_arg5) _
  refine congrArg (m ((c : Thread nD τ).loc main_arg5)) (funext fun b => Fin.ext ?_)
  match b with
  | ⟨0, _⟩ =>
    refine (Window.rect_emb_val ((cfgT a).win (3 : Fin 5)) t (ix3 0 f j) (0 : Fin 3) rfl).trans ?_
    rw [wt3_ix, pos_eq]
    show _ * 1 + 0 = _ % 8
    rw [Nat.mod_eq_of_lt (hn _), Nat.mul_one, Nat.add_zero]
  | ⟨1, _⟩ => exact (Window.rect_emb_val ((cfgT a).win (3 : Fin 5)) t (ix3 0 f j) (1 : Fin 3) rfl).trans (Nat.zero_add _)
  | ⟨2, _⟩ => exact (Window.rect_emb_val ((cfgT a).win (3 : Fin 5)) t (ix3 0 f j) (2 : Fin 3) rfl).trans (Nat.zero_add _)

/-- A block with no valid row is left zeros. -/
theorem out_B (c : Dev nD) (i : grid0.Coords) (arg3 : Memref sig .tc .vmem S1024x512 .bf16) (harg3 : arg3.IsWhole)
    (arg4 : Memref sig .tc .vmem S1x1024x3584 .bf16) (harg4 : arg4.IsWhole) (arg5 : Memref sig .tc .vmem S1x1024x3584 .bf16) (harg5 : arg5.IsWhole)
    (arg6 : Memref sig .tc .vmem S1x3584x1024 .bf16) (harg6 : arg6.IsWhole) (arg7 : Memref sig .tc .vmem S1024x512 .bf16) (harg7 : arg7.IsWhole)
    (T0 T1 : S264.Idx → BitVec 32)
    (x0 : S1024x512.Idx → Elt Ideal .bf16) (x1 x2 : S1x1024x3584.Idx → Elt Ideal .bf16) (x3 : S1x3584x1024.Idx → Elt Ideal .bf16) (d)
    (h1 : ¬ k0_cond1 (word T1 i) = 1#1) (h2 : k0_cond2 (word T1 i) = 1#1) (y : S1024x512.Idx) :
    (out0_B_4 c i arg3 harg3 arg4 harg4 arg5 harg5 arg6 harg6 arg7 harg7 T0 T1 x0 x1 x2 x3 d h1 h2 y : EReal) = 0 := by
  unfold out0_B_4 kernelRun0_B
  dsimp only
  refine (congrFun (put_eq _ _ _ _ _ _) y).trans ?_
  exact Ideal.ofBits_zero_bf16

/-- What a point's body leaves, at an index. -/
theorem outAt_apply (hn : Named a) (c : Dev nD) (hX : m ((c : Thread nD τ).loc main_arg0) = X) (h3 : m ((c : Thread nD τ).loc main_arg3) = Wg)
    (h4 : m ((c : Thread nD τ).loc main_arg4) = Wu) (h5 : m ((c : Thread nD τ).loc main_arg5) = Wd) (t : Fin (cfgT a).N) (q : Fin 1024) (k : Fin 512) :
    (outAt a m ρ c t (ix2 q k) : EReal) = resultAt X (tabE a) (tabN a) Wg Wu Wd (blkNo a t) q k := by
  have hw : word (tabN a) (crd a t) = tabN a (ix1 (blkNo a t)) := (word_eq _ _).trans (congrArg (tabN a) (pos_eq _))
  unfold outAt
  by_cases h : Live a t
  · rw [dif_pos h]
    refine (congrFun (out_A c _ _ _ _ _ _ _ _ _ _ _ _ _ _ _ _ _ h (cond_not _ h)) (ix2 q k)).trans ?_
    refine (blockOut_apply _ _ _ _ _ q k).trans ?_
    unfold resultAt
    simp only [rows_apply a m ρ X c hX, gate_apply a m ρ Wg hn c h3, up_apply a m ρ Wu hn c h4, down_apply a m ρ Wd hn c h5, hw]
  · rw [dif_neg h]
    refine (out_B c _ _ _ _ _ _ _ _ _ _ _ _ _ _ _ _ _ _ h (cond_or _ h) (ix2 q k)).trans ?_
    refine (ffn_zero _ (fun j => masked_dead _ ?_ _ (by show q.val / 2 < 512; omega) _) _ _ _ _).symm
    rw [← hw]
    exact fun e => h ((cond1_iff _).mpr e)

theorem flush4 (t : Fin (cfgT a).N) : ((cfgT a).win (4 : Fin 5)).flush t = true := by
  rw [Window.flush_eq_flushOf]
  show (true && (decide (t.val + 1 = grid0.N) || decide (∃ h : t.val + 1 < grid0.N, cc0_transform_4 (grid0.coords ⟨t.val + 1, h⟩) ≠ cc0_transform_4 (grid0.coords t)))) = true
  rw [Bool.true_and, Bool.or_eq_true, decide_eq_true_eq, decide_eq_true_eq]
  have hN : t.val < grid0.N := t.isLt
  by_cases h : t.val + 1 = grid0.N
  · exact .inl h
  · refine .inr ⟨by omega, flush_out _ _ fun e => ?_⟩
    have h1 := crd_val a ⟨t.val + 1, by show t.val + 1 < grid0.N; omega⟩
    have h2 := crd_val a t
    have h3 : (crd a ⟨t.val + 1, by show t.val + 1 < grid0.N; omega⟩ 0).val = (crd a t 0).val := congrArg (fun i : grid0.Coords => (i 0).val) e
    have h4 : t.val + 1 = t.val := h1.symm.trans (h3.trans h2)
    omega

/-- After the run the result's array holds the result. -/
theorem final_eq (hn : Named a) (c : Dev nD) (hX : m ((c : Thread nD τ).loc main_arg0) = X) (h3 : m ((c : Thread nD τ).loc main_arg3) = Wg)
    (h4 : m ((c : Thread nD τ).loc main_arg4) = Wu) (h5 : m ((c : Thread nD τ).loc main_arg5) = Wd) :
    (dats a m ρ 0 c).arrAt (4 : Fin 5) (cfgT a).N = result X (tabE a) (tabN a) Wg Wu Wd := by
  refine (dats a m ρ 0 c).arrAt_eq_of_emb (4 : Fin 5) _ (fun t hf y => ?_) fun i => ?_
  · obtain ⟨q, k, rfl⟩ : ∃ (q : Fin 1024) (k : Fin 512), y = ix2 q k :=
      ⟨y (0 : Fin 2), y (1 : Fin 2), funext fun b => match b with | ⟨0, _⟩ => rfl | ⟨1, _⟩ => rfl⟩
    refine Eq.trans (b := (outAt a m ρ c t (ix2 q k) : EReal)) rfl ?_
    refine (outAt_apply a m ρ X Wg Wu Wd hn c hX h3 h4 h5 t q k).trans (result_apply X _ _ Wg Wu Wd (blkNo a t) q k _ ?_ ?_).symm
    · exact (Window.rect_emb_val ((cfgT a).win (4 : Fin 5)) t (ix2 q k) (0 : Fin 2) rfl).trans (by rw [out_ix]; rfl)
    · exact (Window.rect_emb_val ((cfgT a).win (4 : Fin 5)) t (ix2 q k) (1 : Fin 2) rfl).trans (Nat.zero_add _)
  · have hN : grid0.N = 264 := by decide
    have hi : (i (0 : Fin 2)).val < 270336 := (i (0 : Fin 2)).isLt
    have hk : (i (1 : Fin 2)).val < 512 := (i (1 : Fin 2)).isLt
    let t : Fin (cfgT a).N := ⟨(i (0 : Fin 2)).val / 1024, by show _ < grid0.N; omega⟩
    refine ⟨t, flush4 a t, (Window.emb_mem_blk_iff ((cfgT a).win (4 : Fin 5)) t i rfl).mpr fun b => ?_⟩
    match b with
    | ⟨0, _⟩ =>
      rw [show (⟨0, _⟩ : Fin _) = (0 : Fin 2) from rfl, out_ix, crd_val]
      show (i (0 : Fin 2)).val / 1024 * 1024 ≤ (i (0 : Fin 2)).val ∧ (i (0 : Fin 2)).val < (i (0 : Fin 2)).val / 1024 * 1024 + 1024
      omega
    | ⟨1, _⟩ =>
      show 0 * 512 ≤ (i (1 : Fin 2)).val ∧ (i (1 : Fin 2)).val < 0 * 512 + 512
      omega

end Cert.Proof.Experts
-- ==== Proof.Experts.RefValue.lean ====
/-
  What the experts' reference computes, read at an index: the experts' network on the masked row, as the kernel does.
-/
module

public import proofs.«01_k».proof.Proof.Experts.Result
public import proofs.«01_k».proof.Proof.Gen.Reference2Ideal.Run
public import Idealize.ShloMosaic.Lib.StackMember
public import Idealize.ShloMosaic.Lib.IdealHost
public import Idealize.ShloMosaic.Lib.Pipeline.Value

@[expose] public section

set_option maxRecDepth 16384

noncomputable section

namespace Cert.Proof.Experts.Ref

open Cert.Reference2Ideal Cert.Reference2Ideal.Gen
open Idealize.ShloMosaic hiding ix1 ix2 ix3 ix4
open Idealize.ShloMosaic.ValueIdx
open Idealize.ShloMosaic.TcCoe
open scoped BigOperators

/-- A stack of matrices gathered along a list of their numbers, each below the stack's height. -/
theorem gather_stack {α : Type} {K M : ℕ} (wf) (x : (⟨3, ![8, K, M]⟩ : Shape).Idx → α) (idx : IVec S264x1 32) (b : Fin 264) (k : Fin K) (f : Fin M)
    (h : (idx (ix2 b 0)).toNat < 8) :
    Host.gather (⟨[1, 2], [0], [], [], [0], 1, ![1, K, M], wf⟩ : GatherDims ⟨3, ![8, K, M]⟩ S264x1 ⟨3, ![264, K, M]⟩) x idx (ix3 b k f)
      = x (ix3 (expert (idx (ix2 b 0))) k f) := by
  unfold Host.gather
  refine congrArg x (funext fun a => Fin.ext ?_)
  show GatherDims.start _ _ _ a + GatherDims.batchCoord _ _ a + GatherDims.offCoord _ _ a = _
  rw [GatherDims.batchCoord_eq_zero _ _ _ List.not_mem_nil, Nat.add_zero]
  match a with
  | ⟨0, _⟩ =>
    rw [GatherDims.offCoord_eq_zero _ _ _ (show (0 : Fin 3) ∉ [(1 : Fin 3), 2] from by decide), Nat.add_zero]
    unfold GatherDims.start
    refine (dif_pos (show (0 : Fin 3) ∈ [(0 : Fin 3)] from by decide)).trans ?_
    have e : ∀ p, GatherDims.siIdx (⟨[1, 2], [0], [], [], [0], 1, ![1, K, M], wf⟩ : GatherDims ⟨3, ![8, K, M]⟩ S264x1 ⟨3, ![264, K, M]⟩) (ix3 b k f) ⟨0, p⟩
        = (ix2 b 0 : S264x1.Idx) := fun p => by
      funext c
      match c with
      | ⟨0, _⟩ => rfl
      | ⟨1, _⟩ => rfl
    refine (congrArg (fun i : S264x1.Idx => min (idx i).toInt.toNat (8 - 1)) (e _)).trans ?_
    show _ = (idx (ix2 b 0)).toNat % 8
    rw [BitVec.toInt_eq_toNat_of_lt (by omega), Int.toNat_natCast]
    omega
  | ⟨1, _⟩ =>
    exact (congrArg₂ (· + ·) (dif_neg (show (1 : Fin 3) ∉ [(0 : Fin 3)] from by decide)) (dif_pos (show (1 : Fin 3) ∈ [(1 : Fin 3), 2] from by decide))).trans
      (Nat.zero_add _)
  | ⟨2, _⟩ =>
    exact (congrArg₂ (· + ·) (dif_neg (show (2 : Fin 3) ∉ [(0 : Fin 3)] from by decide)) (dif_pos (show (2 : Fin 3) ∈ [(1 : Fin 3), 2] from by decide))).trans
      (Nat.zero_add _)

section
variable (X : FVec Ideal S270336x512 .bf16) (E N : IVec S264 32) (W W' : FVec Ideal S8x1024x3584 .bf16) (V : FVec Ideal S8x3584x1024 .bf16)

/-- The rows by blocks and pairs. -/
def pairs : FVec Ideal S264x512x2x512 .f32 := shapeCast _ (extf .f32 X bitsLt_bf16_f32) shapeCasts_S270336x512_S264x512x2x512

/-- The rows the network takes: the odd row of each pair, then the even one. -/
def rows : FVec Ideal S264x512x1024 .f32 :=
  concatenate S264x512x1024 2 [⟨S264x512x512, shapeCast S264x512x512 (extractStridedSlice S264x512x1x512 ![0, 0, 1, 0] (pairs X) slices_S264x512x2x512_S264x512x1x512_0_0_1_0) shapeCasts_S264x512x1x512_S264x512x512⟩,
    ⟨S264x512x512, shapeCast S264x512x512 (extractStridedSlice S264x512x1x512 ![0, 0, 0, 0] (pairs X) slices_S264x512x2x512_S264x512x1x512_0_0_0_0) shapeCasts_S264x512x1x512_S264x512x512⟩] concatenates_S264x512x512_S264x512x512_S264x512x1024_d2

/-- The valid rows, and zeros past them. -/
def valid : FVec Ideal S264x512x1024 .f32 :=
  select (broadcastInDim S264x512x1024 ![0, 1, 2] bcast_S264x512x1_S264x512x1024_0_1_2 (cmpi .slt (broadcastInDim S264x512x1 ![0, 1, 2] bcast_S1x512x1_S264x512x1_0_1_2 (broadcastInDim S1x512x1 ![1] bcast_S512_S1x512x1_1 (iotaInDim S512 32 0)))
    (broadcastInDim S264x512x1 ![0, 1, 2] bcast_S264x1x1_S264x512x1_0_1_2 (broadcastInDim S264x1x1 ![0] bcast_S264_S264x1x1_0 N)))) (rows X)
    (broadcastInDim S264x512x1024 ![] bcast_S_S264x512x1024 (id (constant S_ .f32 0x00000000#32)))

/-- The experts' numbers as the gathers take them. -/
def nums : IVec S264x1 32 :=
  broadcastInDim S264x1 ![0] bcast_S264_S264x1_0 (select (cmpi .slt E (broadcastInDim S264 ![] bcast_S_S264 (constantI S_ 32 0#32)))
    (addi E (broadcastInDim S264 ![] bcast_S_S264 (constantI S_ 32 8#32))) E)

/-- The rows against each block's expert's columns. -/
def wide : FVec Ideal S264x512x3584 .f32 :=
  Host.dotGeneral dot_S264x512x1024_S264x1024x3584_S264x512x3584_2_1_1_2_0_0 none (valid X N)
    (Host.gather gather_S8x1024x3584_S264x1_S264x1024x3584_12_0_n_n_0_1_110243584 (extf .f32 W bitsLt_bf16_f32) (nums E))

/-- The hidden columns. -/
def hidden : FVec Ideal S264x512x3584 .f32 :=
  mulf (mulf (wide X E N W) (Host.divf (broadcastInDim S264x512x3584 ![] bcast_S_S264x512x3584 (constant S_ .f32 0x3F800000#32))
    (addf (broadcastInDim S264x512x3584 ![] bcast_S_S264x512x3584 (constant S_ .f32 0x3F800000#32)) (Host.exp (Host.negf (wide X E N W)))))) (wide X E N W')

/-- The network's result, block by block. -/
def net : FVec Ideal S264x512x1024 .f32 :=
  Host.dotGeneral dot_S264x512x3584_S264x3584x1024_S264x512x1024_2_1_1_2_0_0 none (hidden X E N W W')
    (Host.gather gather_S8x3584x1024_S264x1_S264x3584x1024_12_0_n_n_0_1_135841024 (extf .f32 V bitsLt_bf16_f32) (nums E))

/-- Its halves, put two rows to a pair. -/
def halves (y : FVec Ideal S264x512x1024 .f32) : FVec Ideal S264x512x2x512 .f32 :=
  concatenate S264x512x2x512 2 [⟨S264x512x1x512, broadcastInDim S264x512x1x512 ![0, 1, 3] bcast_S264x512x512_S264x512x1x512_0_1_3 (extractStridedSlice S264x512x512 ![0, 0, 512] y slices_S264x512x1024_S264x512x512_0_0_512)⟩,
    ⟨S264x512x1x512, broadcastInDim S264x512x1x512 ![0, 1, 3] bcast_S264x512x512_S264x512x1x512_0_1_3 (extractStridedSlice S264x512x512 ![0, 0, 0] y slices_S264x512x1024_S264x512x512_0_0_0)⟩] concatenates_S264x512x1x512_S264x512x1x512_S264x512x2x512_d2

/-- The reference's result. -/
def out : FVec Ideal S270336x512 .bf16 :=
  truncf .bf16 (shapeCast S270336x512 (halves (net X E N W W' V)) shapeCasts_S264x512x2x512_S270336x512) bitsLt_bf16_f32

end

theorem res_eq (m : (ℓ : Loc nD τ sig) → Buf (Elt Ideal) ℓ) (c : Dev nD) :
    Value.res_main_v49 m c = out (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) := by
  unfold Value.res_main_v49 out halves net hidden wide valid rows pairs nums
  rfl

section
variable (X : S270336x512.Idx → EReal) (E N : S264.Idx → BitVec 32) (W W' : S8x1024x3584.Idx → EReal) (V : S8x3584x1024.Idx → EReal)

theorem pairs_apply (b : Fin 264) (r : Fin 512) (p : Fin 2) (c : Fin 512) (j : S264x512x2x512.Idx) (h0 : (j 0).val = b.val) (h1 : (j 1).val = r.val)
    (h2 : (j 2).val = p.val) (h3 : (j 3).val = c.val) :
    (pairs X j : EReal) = X (ix2 ⟨b.val * 1024 + (2 * r.val + p.val), by omega⟩ c) := by
  unfold pairs
  refine (shapeCast_apply (s := S270336x512) (t := S264x512x2x512) X _ j (ix2 ⟨b.val * 1024 + (2 * r.val + p.val), by omega⟩ c) ?_)
  rw [Shape.rowMajor_val_two, Shape.rowMajor_val_four]
  show (b.val * 1024 + (2 * r.val + p.val)) * 512 + c.val = (((j 0).val * 512 + (j 1).val) * 2 + (j 2).val) * 512 + (j 3).val
  omega

theorem half_apply (b : Fin 264) (r : Fin 512) (p : Fin 2) (c : Fin 512) (h : S264x512x2x512.Slices ![0, 0, p.val, 0] S264x512x1x512) :
    (shapeCast S264x512x512 (extractStridedSlice S264x512x1x512 ![0, 0, p.val, 0] (pairs X) h) shapeCasts_S264x512x1x512_S264x512x512 (ix3 b r c) : EReal)
      = X (ix2 ⟨b.val * 1024 + (2 * r.val + p.val), by omega⟩ c) := by
  refine (shapeCast_apply (s := S264x512x1x512) (t := S264x512x512) _ _ (ix3 b r c) (ix4 b r 0 c) ?_).trans ?_
  · rw [Shape.rowMajor_val_three, Shape.rowMajor_val_four]
    show ((b.val * 512 + r.val) * 1 + 0) * 512 + c.val = (b.val * 512 + r.val) * 512 + c.val
    omega
  · exact pairs_apply X b r p c _ (Nat.zero_add _) (Nat.zero_add _) (Nat.add_zero _) (Nat.zero_add _)

theorem rows_apply (b : Fin 264) (r : Fin 512) (k : Fin 1024) :
    (rows X (ix3 b r k) : EReal) = X (ix2 ⟨b.val * 1024 + (2 * r.val + (1 - k.val / 512)), by omega⟩ ⟨k.val % 512, by omega⟩) := by
  unfold rows
  by_cases hk : k.val < 512
  · refine (concatenate_pair_apply_left (s₁ := S264x512x512) (s₂ := S264x512x512) (t := S264x512x1024) 2 _ _ _ (ix3 b r k) rfl (ix3 b r ⟨k.val, hk⟩)
      (fun a => match a with | ⟨0, _⟩ => rfl | ⟨1, _⟩ => rfl | ⟨2, _⟩ => rfl)).trans ?_
    refine (half_apply X b r 1 ⟨k.val, hk⟩ _).trans (congrArg X ?_)
    congr 1 <;> apply Fin.ext
    · show b.val * 1024 + (2 * r.val + 1) = b.val * 1024 + (2 * r.val + (1 - k.val / 512)); omega
    · show k.val = k.val % 512; omega
  · refine (concatenate_pair_apply_right (s₁ := S264x512x512) (s₂ := S264x512x512) (t := S264x512x1024) 2 _ _ _ (ix3 b r k) rfl rfl (ix3 b r ⟨k.val - 512, by omega⟩)
      (fun a ha => match a with | ⟨0, _⟩ => rfl | ⟨1, _⟩ => rfl | ⟨2, _⟩ => absurd rfl ha) (by show k.val - 512 + 512 = k.val; omega)).trans ?_
    refine (half_apply X b r 0 ⟨k.val - 512, by omega⟩ _).trans (congrArg X ?_)
    congr 1 <;> apply Fin.ext
    · show b.val * 1024 + (2 * r.val + 0) = b.val * 1024 + (2 * r.val + (1 - k.val / 512)); omega
    · show k.val - 512 = k.val % 512; omega

theorem valid_apply (b : Fin 264) (r : Fin 512) (k : Fin 1024) :
    (valid X N (ix3 b r k) : EReal) = xrow (N (ix1 b)) (fun q c => X (ix2 ⟨b.val * 1024 + q.val, by omega⟩ c)) r k := by
  unfold xrow masked valid
  refine Eq.trans ?_ (congrArg (fun z : EReal => Scalar.select (IntOp.cmpi .slt (BitVec.ofNat 32 r.val) (N (ix1 b))) z 0) (rows_apply X b r k))
  dsimp only
  have e1 : broadcastInDim S264x512x1 ![0, 1, 2] bcast_S1x512x1_S264x512x1_0_1_2 (broadcastInDim S1x512x1 ![1] bcast_S512_S1x512x1_1 (iotaInDim S512 32 0)) (ix3 b r 0)
      = BitVec.ofNat 32 r.val := by
    refine (broadcastInDim_apply (s := S1x512x1) (t := S264x512x1) _ _ _ (ix3 b r 0) (ix3 0 r 0) fun a => match a with | ⟨0, _⟩ => rfl | ⟨1, _⟩ => rfl | ⟨2, _⟩ => rfl).trans ?_
    exact (broadcastInDim_apply (s := S512) (t := S1x512x1) _ _ _ (ix3 0 r 0) (ix1 r) fun a => match a with | ⟨0, _⟩ => rfl)
  have e2 : broadcastInDim S264x512x1 ![0, 1, 2] bcast_S264x1x1_S264x512x1_0_1_2 (broadcastInDim S264x1x1 ![0] bcast_S264_S264x1x1_0 N) (ix3 b r 0) = N (ix1 b) := by
    refine (broadcastInDim_apply (s := S264x1x1) (t := S264x512x1) _ _ _ (ix3 b r 0) (ix3 b 0 0) fun a => match a with | ⟨0, _⟩ => rfl | ⟨1, _⟩ => rfl | ⟨2, _⟩ => rfl).trans ?_
    exact (broadcastInDim_apply (s := S264) (t := S264x1x1) _ _ _ (ix3 b 0 0) (ix1 b) fun a => match a with | ⟨0, _⟩ => rfl)
  rw [← e1, ← e2]
  refine congrArg₂ (fun p z => Scalar.select p (rows X (ix3 b r k) : EReal) z) ?_ ?_
  · exact broadcastInDim_apply (s := S264x512x1) (t := S264x512x1024) _ _ _ (ix3 b r k) (ix3 b r 0) fun a => match a with | ⟨0, _⟩ => rfl | ⟨1, _⟩ => rfl | ⟨2, _⟩ => rfl
  · exact Ideal.ofBits_zero_f32

/-- A number below eight is taken as it is: a negative one would count from the end. -/
theorem nums_apply (hE : ∀ i, (E i).toNat < 8) (b : Fin 264) : nums E (ix2 b 0) = E (ix1 b) := by
  unfold nums
  refine (broadcastInDim_apply (s := S264) (t := S264x1) _ _ _ (ix2 b 0) (ix1 b) fun a => match a with | ⟨0, _⟩ => rfl).trans ?_
  have := hE (ix1 b)
  have e : IntOp.cmpi .slt (E (ix1 b)) 0#32 = 0#1 := by
    simp only [IntOp.cmpi, BitVec.slt_eq_decide, BitVec.toInt_eq_toNat_cond, BitVec.toNat_ofNat]
    rw [decide_eq_false (by split_ifs <;> omega)]; rfl
  simp only [select, cmpi, broadcastInDim, constantI, e]
  rfl

theorem wide_apply (hE : ∀ i, (E i).toNat < 8) (b : Fin 264) (r : Fin 512) (f : Fin 3584) :
    (wide X E N W (ix3 b r f) : EReal)
      = ∑ k : Fin 1024, xrow (N (ix1 b)) (fun q c => X (ix2 ⟨b.val * 1024 + q.val, by omega⟩ c)) r k * W (ix3 (expert (E (ix1 b))) k f) := by
  unfold wide
  refine (Idealize.ShloMosaic.StackMember.dotGeneral_stack_apply _ none _ _ b r f).trans (Finset.sum_congr rfl fun k _ => ?_)
  refine congrArg₂ (· * ·) (valid_apply X N b r k) ?_
  refine (gather_stack (K := 1024) (M := 3584) _ (W : S8x1024x3584.Idx → EReal) (nums E) b k f (by rw [nums_apply E hE]; exact hE _)).trans ?_
  rw [nums_apply E hE]

theorem hidden_apply (i : S264x512x3584.Idx) : (hidden X E N W W' i : EReal) = silu (wide X E N W i) * wide X E N W' i := by
  have e1 : (broadcastInDim S264x512x3584 ![] bcast_S_S264x512x3584 (constant (F := Ideal) S_ .f32 0x3F800000#32) i : EReal) = 1 := Ideal.ofBits_one_f32
  refine congrArg (fun z : EReal => (wide X E N W i : EReal) * z * wide X E N W' i) ?_
  show Ideal.div (broadcastInDim S264x512x3584 ![] bcast_S_S264x512x3584 (constant (F := Ideal) S_ .f32 0x3F800000#32) i : EReal)
    ((broadcastInDim S264x512x3584 ![] bcast_S_S264x512x3584 (constant (F := Ideal) S_ .f32 0x3F800000#32) i : EReal) + _) = _
  rw [e1]
  rfl

theorem net_apply (hE : ∀ i, (E i).toNat < 8) (b : Fin 264) (r : Fin 512) (j : Fin 1024) :
    (net X E N W W' V (ix3 b r j) : EReal)
      = ffn (xrow (N (ix1 b)) (fun q c => X (ix2 ⟨b.val * 1024 + q.val, by omega⟩ c)) r)
        (fun k f => W (ix3 (expert (E (ix1 b))) k f)) (fun k f => W' (ix3 (expert (E (ix1 b))) k f)) (fun f j => V (ix3 (expert (E (ix1 b))) f j)) j := by
  unfold net
  refine (Idealize.ShloMosaic.StackMember.dotGeneral_stack_apply _ none _ _ b r j).trans (Finset.sum_congr rfl fun f _ => ?_)
  refine congrArg₂ (· * ·) ((hidden_apply X E N W W' (ix3 b r f)).trans ?_) ?_
  · rw [wide_apply X E N W hE, wide_apply X E N W' hE]
  · refine (gather_stack (K := 3584) (M := 1024) _ (V : S8x3584x1024.Idx → EReal) (nums E) b f j (by rw [nums_apply E hE]; exact hE _)).trans ?_
    rw [nums_apply E hE]

theorem halves_apply (y : S264x512x1024.Idx → EReal) (b : Fin 264) (r : Fin 512) (p : Fin 2) (c : Fin 512) :
    (halves y (ix4 b r p c) : EReal) = y (ix3 b r ⟨(1 - p.val) * 512 + c.val, by have := p.isLt; interval_cases h : p.val <;> omega⟩) := by
  unfold halves
  match p with
  | ⟨0, _⟩ =>
    refine (concatenate_pair_apply_left (s₁ := S264x512x1x512) (s₂ := S264x512x1x512) (t := S264x512x2x512) 2 _ _ _ (ix4 b r 0 c) rfl (ix4 b r 0 c)
      (fun a => match a with | ⟨0, _⟩ => rfl | ⟨1, _⟩ => rfl | ⟨2, _⟩ => rfl | ⟨3, _⟩ => rfl)).trans ?_
    refine (broadcastInDim_apply (s := S264x512x512) (t := S264x512x1x512) _ _ _ (ix4 b r 0 c) (ix3 b r c) fun a => match a with | ⟨0, _⟩ => rfl | ⟨1, _⟩ => rfl | ⟨2, _⟩ => rfl).trans ?_
    exact extractStridedSlice_apply (s := S264x512x1024) (t := S264x512x512) _ _ _ (ix3 b r c) _
      fun a => match a with | ⟨0, _⟩ => (Nat.zero_add _).symm | ⟨1, _⟩ => (Nat.zero_add _).symm | ⟨2, _⟩ => rfl
  | ⟨1, _⟩ =>
    refine (concatenate_pair_apply_right (s₁ := S264x512x1x512) (s₂ := S264x512x1x512) (t := S264x512x2x512) 2 _ _ _ (ix4 b r 1 c) rfl rfl (ix4 b r 0 c)
      (fun a ha => match a with | ⟨0, _⟩ => rfl | ⟨1, _⟩ => rfl | ⟨2, _⟩ => absurd rfl ha | ⟨3, _⟩ => rfl) rfl).trans ?_
    refine (broadcastInDim_apply (s := S264x512x512) (t := S264x512x1x512) _ _ _ (ix4 b r 0 c) (ix3 b r c) fun a => match a with | ⟨0, _⟩ => rfl | ⟨1, _⟩ => rfl | ⟨2, _⟩ => rfl).trans ?_
    exact extractStridedSlice_apply (s := S264x512x1024) (t := S264x512x512) _ _ _ (ix3 b r c) _
      fun a => match a with | ⟨0, _⟩ => (Nat.zero_add _).symm | ⟨1, _⟩ => (Nat.zero_add _).symm | ⟨2, _⟩ => (by show (1 - 1) * 512 + c.val = 0 + c.val; omega)

/-- The reference's result is the kernel's. -/
theorem out_eq (hE : ∀ i, (E i).toNat < 8) : (out X E N W W' V : S270336x512.Idx → EReal) = result X E N W W' V := by
  funext y
  have hy : (y 0).val < 270336 := (y 0).isLt
  unfold out result resultAt
  refine (shapeCast_apply (s := S264x512x2x512) (t := S270336x512) (halves (net X E N W W' V)) shapeCasts_S264x512x2x512_S270336x512 y
    (ix4 ⟨(y 0).val / 1024, by omega⟩ ⟨(y 0).val % 1024 / 2, by omega⟩ ⟨(y 0).val % 1024 % 2, by omega⟩ (y 1)) ?_).trans ?_
  · rw [Shape.rowMajor_val_two, Shape.rowMajor_val_four]
    show (((y 0).val / 1024 * 512 + (y 0).val % 1024 / 2) * 2 + (y 0).val % 1024 % 2) * 512 + (y 1).val = (y 0).val * 512 + (y 1).val
    omega
  · exact (halves_apply _ _ _ _ _).trans (net_apply X E N W W' V hE _ _ _)

end

end Cert.Proof.Experts.Ref
-- ==== Proof.Experts.Claims.lean ====
/-
  The claims of the experts' call over the extended reals: it runs to its end with its arguments unchanged, and its
  result is the reference's.
-/
module

public import proofs.«01_k».proof.Proof.Experts.RefValue
public import proofs.«01_k».proof.Proof.Experts.Pre

@[expose] public section

set_option maxRecDepth 16384

noncomputable section

namespace Cert.Proof.Experts

open Cert.Kernel2Ideal Cert.Kernel2Ideal.Gen
open Idealize.ShloMosaic Idealize.SL.Sem
open Idealize.ShloMosaic.TcCoe
open Idealize.ShloMosaic.Pipeline (Dat Cfg Window)

variable (m : (ℓ : Loc nD τ sig) → Buf (Elt Ideal) ℓ) (g : Dev nD → PrngReg)

theorem named (h : Cert.Pre_Kernel2Ideal m) (c : Dev nD) (i : S264.Idx) : ((m ((c : Thread nD τ).loc main_arg1) : S264.Idx → BitVec 32) i).toNat < 8 :=
  experts_of_pre (F := Ideal) _ _ _ _ _ _ (h c) i

/-- The tables a memory holds. -/
def adm (h : Cert.Pre_Kernel2Ideal m) : (pcfg0 (F := Ideal)).Adm :=
  ⟨fun j => m (((0 : Dev nD) : Thread nD τ).loc (pre0.ref j)), okT _ (named m h 0)⟩

theorem adm_eq (h : Cert.Pre_Kernel2Ideal m) (c : Dev nD) (j : Fin 2) : m ((c : Thread nD τ).loc (pre0.ref j)) = (adm m h).1 j := by
  obtain rfl : c = 0 := Subsingleton.elim (α := Fin 1) _ _
  rfl

/-- What the run ends in. -/
abbrev Done (r : PUnit × MemSt nD τ sig (Elt Ideal)) (c : Dev nD) : Prop :=
  r.2.mem ((c : Thread nD τ).loc main_v0) = result (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)

theorem run (h : Cert.Pre_Kernel2Ideal m) :
    θ_run (defs (F := Ideal)) (onTc (τ := τ) (main (F := Ideal))) ⟨m, fun _ => 0, g⟩ (fun r => (∀ c, Done m r c) ∧ r.2.sem = fun _ => 0) := by
  refine (θ_run (defs (F := Ideal)) _ _).mono (fun _ r => ⟨fun c => ?_, r.2⟩) (run_at (adm m h) m g (adm_eq m h))
  obtain ⟨hw, ht⟩ := r.1 c
  refine ⟨(hw (4 : Fin 5)).trans ?_, (hw (0 : Fin 5)).trans ((dats (adm m h) m g 0 c).arrAt_in (0 : Fin 5) rfl _),
    (ht 0).trans (adm_eq m h c 0).symm, (ht 1).trans (adm_eq m h c 1).symm,
    (hw (1 : Fin 5)).trans ((dats (adm m h) m g 0 c).arrAt_in (1 : Fin 5) rfl _),
    (hw (2 : Fin 5)).trans ((dats (adm m h) m g 0 c).arrAt_in (2 : Fin 5) rfl _),
    (hw (3 : Fin 5)).trans ((dats (adm m h) m g 0 c).arrAt_in (3 : Fin 5) rfl _)⟩
  have e1 : tabE (adm m h) = m ((c : Thread nD τ).loc main_arg1) := (adm_eq m h c 0).symm
  have e2 : tabN (adm m h) = m ((c : Thread nD τ).loc main_arg2) := (adm_eq m h c 1).symm
  refine (final_eq (adm m h) m g _ _ _ _ (fun i => by rw [e1]; exact named m h c i) c rfl rfl rfl rfl).trans ?_
  rw [e1, e2]

theorem frame2_ideal : Cert.quiescent_Kernel2Ideal := fun m g h =>
  (θ_run (defs (F := Ideal)) _ _).mono (fun _ r => ⟨fun c => (r.1 c).2, r.2⟩) (run m g h)

/-- The reference ends with its arguments unchanged; it declares no semaphore. -/
theorem frame2_ref : Cert.quiescent_Reference2Ideal := fun m g _ =>
  (θ_run (Cert.Reference2Ideal.defs (F := Ideal)) _ _).mono (fun _ r => ⟨fun c => (r c).2, sem_eq_zero_of_no_sems (by decide) _⟩)
    (Cert.Reference2Ideal.Value.run m g)

/-- Over the extended reals the call's result is the reference's. -/
theorem algebraic2 : Cert.algebraic_Kernel2Ideal_Reference2Ideal := fun m g m' g' h hag =>
  ⟨fun c => result (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)),
    (θ_run (defs (F := Ideal)) _ _).mono (fun _ r => r.1) (run m g h),
    (θ_run (Cert.Reference2Ideal.defs (F := Ideal)) _ _).mono (fun _ r c => ⟨((r c).1.trans (Ref.res_eq m' c)).trans (by
        obtain ⟨a0, a1, a2, a3, a4, a5⟩ := hag c
        rw [a0, a1, a2, a3, a4, a5]
        exact Ref.out_eq _ _ _ _ _ _ (named m h c)), (r c).2⟩)
      (Cert.Reference2Ideal.Value.run m' g')⟩

end Cert.Proof.Experts
-- ==== Proof.Dense.Block.lean ====
/-
  A block of rows of the dense feed-forward: the body leaves the layer norm of the scaled rows plus the sum, chunk of
  hidden columns by chunk, of the network's products.
-/
module

public import proofs.«01_k».proof.Proof.Buffers
public import proofs.«01_k».proof.Proof.Gen.Kernel3Ideal.Value

@[expose] public section

set_option maxRecDepth 16384

noncomputable section

namespace Cert.Proof.Dense

open Cert.Kernel3Ideal Cert.Kernel3Ideal.Gen
open Idealize.ShloMosaic
open Idealize.ShloMosaic.TcCoe Idealize.ShloMosaic.Tactic

/-- The window of a whole block is the block. -/
theorem window_eq {s : Shape} {e : EltTy} (x : s.Idx → Elt Ideal e) (off : Fin s.rank → ℕ) (inb : ∀ b, off b + s.size b ≤ s.size b) :
    VecWindow.window x off s.size inb = x :=
  funext fun y => congrArg x (Rect.emb_unit_full inb y)

/-- Chunk `i` of the columns of an input weight. -/
def colBlk (x : S1024x2816.Idx → Elt Ideal .bf16) (i : Fin 11) : FVec Ideal S1024x256 .bf16 :=
  VecWindow.window x ![0, 256 * i.val] S1024x256.size fun b => match b with
    | ⟨0, _⟩ => by decide +revert
    | ⟨1, _⟩ => by show 256 * i.val + 256 ≤ 2816; omega

/-- Chunk `i` of the rows of the output weight. -/
def rowBlk (x : S2816x1024.Idx → Elt Ideal .bf16) (i : Fin 11) : FVec Ideal S256x1024 .bf16 :=
  VecWindow.window x ![256 * i.val, 0] S256x1024.size fun b => match b with
    | ⟨0, _⟩ => by show 256 * i.val + 256 ≤ 2816; omega
    | ⟨1, _⟩ => by show 0 + 1024 ≤ 1024; omega

section
variable (xb : FVec Ideal S512x1024 .bf16) (x1 x2 : S1024x2816.Idx → Elt Ideal .bf16) (x3 : S2816x1024.Idx → Elt Ideal .bf16)

/-- The rows against a chunk of a weight's columns. -/
def proj (x : S1024x2816.Idx → Elt Ideal .bf16) (i : Fin 11) : FVec Ideal S512x256 .f32 :=
  addf (broadcast S512x256 (Scalar.ofBits .f32 0x00000000#32))
    (matmul dot_S512x1024_S1024x256_S512x256_1_0_0_1_n_n (φ₂ := .bf16) none xb (shapeCast S1024x256 (colBlk x i) shapeCasts_S1024x256_S1024x256) (constant S512x256 .f32 0x00000000#32))

/-- A chunk of the hidden columns. -/
def hid (i : Fin 11) : FVec Ideal S512x256 .bf16 :=
  truncf .bf16 (mulf (mulf (proj xb x1 i) (logistic (proj xb x1 i))) (proj xb x2 i)) bitsLt_bf16_f32

/-- What a chunk adds to the sum. -/
def contrib (i : Fin 11) : FVec Ideal S512x1024 .f32 :=
  matmul dot_S512x256_S256x1024_S512x1024_1_0_0_1_n_n (φ₂ := .bf16) none (hid xb x1 x2 i)
    (shapeCast S256x1024 (rowBlk x3 i) shapeCasts_S256x1024_S256x1024) (constant S512x1024 .f32 0x00000000#32)

/-- The sum stored after a chunk. -/
def stored (v : FVec Ideal S512x1024 .f32) : FVec Ideal S512x1024 .f32 := shapeCast S512x1024 v shapeCasts_S512x1024_S512x1024

/-- The sum after chunk `n`. -/
def accum : ℕ → FVec Ideal S512x1024 .f32
  | 0 => stored (contrib xb x1 x2 x3 0)
  | n + 1 => stored (addf (accum n) (contrib xb x1 x2 x3 (Fin.ofNat 11 (n + 1))))

end

/-- What the body leaves of a block. -/
def blockOut (x0 : S512x1024.Idx → Elt Ideal .f32) (x1 x2 : S1024x2816.Idx → Elt Ideal .bf16) (x3 : S2816x1024.Idx → Elt Ideal .bf16)
    (x4 x5 : S1x1024.Idx → Elt Ideal .f32) : S512x1024.Idx → Elt Ideal .f32 :=
  k0_pay1 (F := Ideal) x0 (Scalar.ofBits .f32 0x3FD744FD#32) (accum (k0_pay2 (F := Ideal) x0) x1 x2 x3 10) x4 x5

set_option maxHeartbeats 4000000 in
theorem out_eq (c : Dev nD) (i : grid0.Coords) (arg1 : Memref sig .tc .vmem S512x1024 .f32) (harg1 : arg1.IsWhole)
    (arg2 : Memref sig .tc .vmem S1024x2816 .bf16) (harg2 : arg2.IsWhole) (arg3 : Memref sig .tc .vmem S1024x2816 .bf16) (harg3 : arg3.IsWhole)
    (arg4 : Memref sig .tc .vmem S2816x1024 .bf16) (harg4 : arg4.IsWhole) (arg5 : Memref sig .tc .vmem S1x1024 .f32) (harg5 : arg5.IsWhole)
    (arg6 : Memref sig .tc .vmem S1x1024 .f32) (harg6 : arg6.IsWhole) (arg7 : Memref sig .tc .vmem S512x1024 .f32) (harg7 : arg7.IsWhole)
    (arg8 : Memref sig .tc .vmem S512x1024 .f32) (harg8 : arg8.IsWhole)
    (x0 : S512x1024.Idx → Elt Ideal .f32) (x1 x2 : S1024x2816.Idx → Elt Ideal .bf16) (x3 : S2816x1024.Idx → Elt Ideal .bf16)
    (x4 x5 : S1x1024.Idx → Elt Ideal .f32) :
    out0_A_6 c i arg1 harg1 arg2 harg2 arg3 harg3 arg4 harg4 arg5 harg5 arg6 harg6 arg7 harg7 arg8 harg8 x0 x1 x2 x3 x4 x5 = blockOut x0 x1 x2 x3 x4 x5 := by
  unfold out0_A_6 kernelRun0_A
  dsimp only
  sl_unfold_words
  simp only [load_whole_eq]
  simp (discharger := rfl) only [cov_eq]
  refine (put_eq _ _ _ _ _ _).trans ?_
  have e0 := window_eq (s := S512x1024) (e := .f32) x0 ![0, 0] inb_S512x1024_S512x1024_0_0
  have e4 := window_eq (s := S1x1024) (e := .f32) x4 ![0, 0] inb_S1x1024_S1x1024_0_0
  have e5 := window_eq (s := S1x1024) (e := .f32) x5 ![0, 0] inb_S1x1024_S1x1024_0_0
  refine Eq.trans (b := blockOut (VecWindow.window x0 ![0, 0] S512x1024.size inb_S512x1024_S512x1024_0_0) x1 x2 x3
    (VecWindow.window x4 ![0, 0] S1x1024.size inb_S1x1024_S1x1024_0_0) (VecWindow.window x5 ![0, 0] S1x1024.size inb_S1x1024_S1x1024_0_0)) rfl ?_
  rw [e0, e4, e5]

end Cert.Proof.Dense
-- ==== Proof.Dense.Spec.lean ====
/-
  The dense feed-forward and its layer norm on one row, over the extended reals: what both programs compute.
-/
module

public import Idealize.ShloMosaic.PureOps.Ideal
public import Idealize.ShloMosaic.Lib.ValueIdx
public import Idealize.ShloMosaic.Lib.IdealHost
public import Idealize.ShloMosaic.Lib.Pointwise.Sums

@[expose] public section

noncomputable section

namespace Cert.Proof.Dense

open Idealize.ShloMosaic Idealize.ShloMosaic.ValueIdx
open scoped BigOperators

/-- The gate's function. -/
def silu (g : EReal) : EReal := g * Ideal.logistic g

/-- A row through the network, at column `j`. -/
def ffn (x : Fin 1024 → EReal) (wg wu : Fin 1024 → Fin 2816 → EReal) (wd : Fin 2816 → Fin 1024 → EReal) (j : Fin 1024) : EReal :=
  ∑ f : Fin 2816, (silu (∑ k : Fin 1024, x k * wg k f) * ∑ k : Fin 1024, x k * wu k f) * wd f j

/-- The mean of a row. -/
def mean (v : Fin 1024 → EReal) : EReal := Ideal.div (∑ k, v k) (Ideal.ofBits .f32 0x44800000#32)

/-- A row less its mean. -/
def centered (v : Fin 1024 → EReal) (j : Fin 1024) : EReal := v j - mean v

/-- The layer norm of a row, at column `j`. -/
def norm (v : Fin 1024 → EReal) (g b : Fin 1024 → EReal) (j : Fin 1024) : EReal :=
  centered v j * Ideal.rsqrt (mean (fun k => centered v k * centered v k) + Ideal.ofBits .f32 0x3727C5AC#32) * g j + b j

/-- A row through the layer: the norm of the scaled row plus the network's. -/
def layer (x : Fin 1024 → EReal) (wg wu : Fin 1024 → Fin 2816 → EReal) (wd : Fin 2816 → Fin 1024 → EReal) (g b : Fin 1024 → EReal) (j : Fin 1024) : EReal :=
  norm (fun k => Ideal.ofBits .f32 0x3FD744FD#32 * x k + ffn x wg wu wd k) g b j

/-- A sum over the hidden columns, chunk by chunk. -/
theorem sum_chunks (f : Fin 2816 → EReal) :
    ∑ k : Fin 2816, f k = ∑ i : Fin 11, ∑ k : Fin 256, f ⟨256 * i.val + k.val, by omega⟩ := by
  rw [← Fintype.sum_prod_type']
  exact (Fintype.sum_equiv (finProdFinEquiv (m := 11) (n := 256)) (fun p : Fin 11 × Fin 256 => f ⟨256 * p.1.val + p.2.val, by omega⟩) f
    (fun p => congrArg f (Fin.ext (by simp [finProdFinEquiv]; omega)))).symm

end Cert.Proof.Dense
-- ==== Proof.Dense.Apply.lean ====
/-
  What the body leaves of a block, read at an index: the layer on the row.
-/
module

public import proofs.«01_k».proof.Proof.Dense.Block
public import proofs.«01_k».proof.Proof.Dense.Spec
public import Idealize.ShloMosaic.Lib.MatmulPlain
public import Idealize.ShloMosaic.Lib.Pipeline.Value
public import Idealize.ShloMosaic.Lib.Pointwise

@[expose] public section

set_option maxRecDepth 16384

noncomputable section

namespace Cert.Proof.Dense

open Cert.Kernel3Ideal Cert.Kernel3Ideal.Gen
open Idealize.ShloMosaic hiding ix1 ix2 ix3
open Idealize.ShloMosaic.ValueIdx
open scoped BigOperators

theorem colBlk_apply (x : S1024x2816.Idx → EReal) (i : Fin 11) (k : Fin 1024) (f : Fin 256) :
    shapeCast S1024x256 (colBlk x i) shapeCasts_S1024x256_S1024x256 (ix2 k f) = x (ix2 k ⟨256 * i.val + f.val, by omega⟩) := by
  refine (congrFun (shapeCast_self (s := S1024x256) (colBlk x i) _) (ix2 k f)).trans (congrArg x (funext fun b => Fin.ext ?_))
  match b with
  | ⟨0, _⟩ => show 0 + 1 * k.val = k.val; omega
  | ⟨1, _⟩ => show 256 * i.val + 1 * f.val = 256 * i.val + f.val; omega

theorem rowBlk_apply (x : S2816x1024.Idx → EReal) (i : Fin 11) (f : Fin 256) (j : Fin 1024) :
    shapeCast S256x1024 (rowBlk x i) shapeCasts_S256x1024_S256x1024 (ix2 f j) = x (ix2 ⟨256 * i.val + f.val, by omega⟩ j) := by
  refine (congrFun (shapeCast_self (s := S256x1024) (rowBlk x i) _) (ix2 f j)).trans (congrArg x (funext fun b => Fin.ext ?_))
  match b with
  | ⟨0, _⟩ => show 256 * i.val + 1 * f.val = 256 * i.val + f.val; omega
  | ⟨1, _⟩ => show 0 + 1 * j.val = j.val; omega

section
variable (xb : S512x1024.Idx → EReal) (x1 x2 : S1024x2816.Idx → EReal) (x3 : S2816x1024.Idx → EReal)

theorem proj_apply (x : S1024x2816.Idx → EReal) (i : Fin 11) (r : Fin 512) (f : Fin 256) :
    proj xb x i (ix2 r f) = ∑ k : Fin 1024, xb (ix2 r k) * x (ix2 k ⟨256 * i.val + f.val, by omega⟩) := by
  have h := Ideal.matmul_plain_apply (M := 512) (K := 1024) (N := 256) (φ₁ := .bf16) (φ₂ := .bf16) none xb
    (shapeCast S1024x256 (colBlk x i) shapeCasts_S1024x256_S1024x256) (constant S512x256 .f32 0x00000000#32) r f
  have hz : (constant S512x256 .f32 0x00000000#32 : FVec Ideal S512x256 .f32) (ix2 r f) = (0 : EReal) := Ideal.ofBits_zero_f32
  have hz' : (broadcast S512x256 (Scalar.ofBits .f32 0x00000000#32) : FVec Ideal S512x256 .f32) (ix2 r f) = (0 : EReal) := Ideal.ofBits_zero_f32
  rw [hz] at h
  have hp : proj xb x i (ix2 r f) = (broadcast S512x256 (Scalar.ofBits .f32 0x00000000#32) : FVec Ideal S512x256 .f32) (ix2 r f) + _ :=
    congrArg (fun u : EReal => (broadcast S512x256 (Scalar.ofBits .f32 0x00000000#32) : FVec Ideal S512x256 .f32) (ix2 r f) + u) h
  rw [hp, hz', zero_add, zero_add]
  refine Finset.sum_congr rfl fun k _ => ?_
  rw [colBlk_apply]

theorem hid_apply (i : Fin 11) (r : Fin 512) (f : Fin 256) :
    hid xb x1 x2 i (ix2 r f) = silu (proj xb x1 i (ix2 r f)) * proj xb x2 i (ix2 r f) := rfl

theorem contrib_apply (i : Fin 11) (r : Fin 512) (j : Fin 1024) :
    contrib xb x1 x2 x3 i (ix2 r j) = ∑ f : Fin 256, hid xb x1 x2 i (ix2 r f) * x3 (ix2 ⟨256 * i.val + f.val, by omega⟩ j) := by
  have h := Ideal.matmul_plain_apply (M := 512) (K := 256) (N := 1024) (φ₁ := .bf16) (φ₂ := .bf16) none (hid xb x1 x2 i)
    (shapeCast S256x1024 (rowBlk x3 i) shapeCasts_S256x1024_S256x1024) (constant S512x1024 .f32 0x00000000#32) r j
  have hz : (constant S512x1024 .f32 0x00000000#32 : FVec Ideal S512x1024 .f32) (ix2 r j) = (0 : EReal) := Ideal.ofBits_zero_f32
  rw [hz, zero_add] at h
  refine h.trans (Finset.sum_congr rfl fun f _ => ?_)
  rw [rowBlk_apply]

theorem accum_apply (n : ℕ) (y : S512x1024.Idx) :
    accum xb x1 x2 x3 n y = ∑ i ∈ Finset.range (n + 1), (contrib xb x1 x2 x3 (Fin.ofNat 11 i) y : EReal) := by
  induction n with
  | zero =>
    rw [Finset.sum_range_one]
    exact congrFun (shapeCast_self _ _) y
  | succ n ih =>
    rw [Finset.sum_range_succ, ← ih]
    exact congrFun (shapeCast_self _ _) y

/-- The whole sum is the network on the row. -/
theorem accum_eq (r : Fin 512) (j : Fin 1024) :
    accum xb x1 x2 x3 10 (ix2 r j)
      = ffn (fun k => xb (ix2 r k)) (fun k f => x1 (ix2 k f)) (fun k f => x2 (ix2 k f)) (fun f j => x3 (ix2 f j)) j := by
  rw [accum_apply, Finset.sum_range]
  unfold ffn
  rw [sum_chunks]
  refine Finset.sum_congr rfl fun i _ => ?_
  rw [show Fin.ofNat 11 i.val = i from Fin.ext (Nat.mod_eq_of_lt i.isLt), contrib_apply]
  refine Finset.sum_congr rfl fun f _ => ?_
  rw [hid_apply, proj_apply, proj_apply]

end

/-- A row's sum, kept as a column. -/
theorem rowSum_apply (w : FVec Ideal S512x1024 .f32) (r : Fin 512) :
    (shapeCast S512x1 (multiReduction .add [1] S512 w 0x00000000#32 reduces_S512x1024_S512 (.inl rfl) rfl) shapeCasts_S512_S512x1 (ix2 r 0) : EReal)
      = ∑ k : Fin 1024, w (ix2 r k) := by
  refine (shapeCast_apply (s := S512) (t := S512x1) _ _ (ix2 r 0) (ix1 r) ?_).trans ?_
  · rw [Shape.rowMajor_val_one, Shape.rowMajor_val_two]
    show r.val = r.val * 1 + 0
    omega
  · exact Ideal.reduceAdd_r2_a1 (n0 := 512) (n1 := 1024) reduces_S512x1024_S512 w (ix1 r)

/-- A column along the rows. -/
theorem along_apply (w : FVec Ideal S512x1 .f32) (r : Fin 512) (j : Fin 1024) :
    broadcastTo S512x1024 w broadcasts_S512x1_S512x1024 (ix2 r j) = w (ix2 r 0) :=
  broadcastTo_apply (s := S512x1) (t := S512x1024) w _ (ix2 r j) (ix2 r 0) fun b => match b with
    | ⟨0, _⟩ => rfl
    | ⟨1, _⟩ => rfl

/-- A row down the columns. -/
theorem down_apply (w : FVec Ideal S1x1024 .f32) (r : Fin 512) (j : Fin 1024) :
    broadcastTo S512x1024 (shapeCast S1x1024 w shapeCasts_S1x1024_S1x1024) broadcasts_S1x1024_S512x1024 (ix2 r j) = w (ix2 0 j) := by
  refine (broadcastTo_apply (s := S1x1024) (t := S512x1024) _ _ (ix2 r j) (ix2 0 j) fun b => match b with
    | ⟨0, _⟩ => rfl
    | ⟨1, _⟩ => rfl).trans ?_
  exact congrFun (shapeCast_self (s := S1x1024) w _) (ix2 0 j)

section
variable (w : FVec Ideal S512x1024 .f32)

/-- The rows' means. -/
def means : FVec Ideal S512x1 .f32 :=
  divf (shapeCast S512x1 (multiReduction .add [1] S512 w 0x00000000#32 reduces_S512x1024_S512 (.inl rfl) rfl) shapeCasts_S512_S512x1)
    (broadcast S512x1 (Scalar.ofBits .f32 0x44800000#32))

theorem means_apply (r : Fin 512) : (means w (ix2 r 0) : EReal) = mean fun k => w (ix2 r k) :=
  congrArg (fun z : EReal => Ideal.div z (Ideal.ofBits .f32 0x44800000#32)) (rowSum_apply w r)

/-- The rows less their means. -/
def devs : FVec Ideal S512x1024 .f32 := subf w (broadcastTo S512x1024 (means w) broadcasts_S512x1_S512x1024)

theorem devs_apply (r : Fin 512) (j : Fin 1024) : (devs w (ix2 r j) : EReal) = centered (fun k => w (ix2 r k)) j :=
  congrArg (fun z : EReal => w (ix2 r j) - z) ((along_apply (means w) r j).trans (means_apply w r))

/-- The factors that scale the rows. -/
def scales : FVec Ideal S512x1 .f32 := rsqrt (addf (means (mulf (devs w) (devs w))) (broadcast S512x1 (Scalar.ofBits .f32 0x3727C5AC#32)))

theorem scales_apply (r : Fin 512) :
    (scales w (ix2 r 0) : EReal) = Ideal.rsqrt (mean (fun k => centered (fun k => w (ix2 r k)) k * centered (fun k => w (ix2 r k)) k) + Ideal.ofBits .f32 0x3727C5AC#32) := by
  refine congrArg (fun z : EReal => Ideal.rsqrt (z + Ideal.ofBits .f32 0x3727C5AC#32)) ((means_apply _ r).trans (congrArg mean (funext fun k => ?_)))
  exact congrArg₂ (fun y z : EReal => y * z) (devs_apply w r k) (devs_apply w r k)

end

theorem pay_eq (x0 A : FVec Ideal S512x1024 .f32) (x4 x5 : FVec Ideal S1x1024 .f32) (a : Ideal .f32) :
    k0_pay1 (F := Ideal) x0 a A x4 x5
      = addf (mulf (mulf (devs (addf (mulf (broadcast S512x1024 a) x0) A))
            (broadcastTo S512x1024 (scales (addf (mulf (broadcast S512x1024 a) x0) A)) broadcasts_S512x1_S512x1024))
          (broadcastTo S512x1024 (shapeCast S1x1024 x4 shapeCasts_S1x1024_S1x1024) broadcasts_S1x1024_S512x1024))
        (broadcastTo S512x1024 (shapeCast S1x1024 x5 shapeCasts_S1x1024_S1x1024) broadcasts_S1x1024_S512x1024) := rfl

/-- The block left by the body, at an index. -/
theorem blockOut_apply (x0 : S512x1024.Idx → EReal) (x1 x2 : S1024x2816.Idx → EReal) (x3 : S2816x1024.Idx → EReal)
    (x4 x5 : S1x1024.Idx → EReal) (r : Fin 512) (j : Fin 1024) :
    (blockOut x0 x1 x2 x3 x4 x5 (ix2 r j) : EReal)
      = layer (fun k => x0 (ix2 r k)) (fun k f => x1 (ix2 k f)) (fun k f => x2 (ix2 k f)) (fun f j => x3 (ix2 f j))
          (fun k => x4 (ix2 0 k)) (fun k => x5 (ix2 0 k)) j := by
  have hv : ∀ k : Fin 1024, (addf (mulf (broadcast S512x1024 (Scalar.ofBits .f32 0x3FD744FD#32)) x0) (accum (k0_pay2 (F := Ideal) x0) x1 x2 x3 10) : FVec Ideal S512x1024 .f32) (ix2 r k)
      = Ideal.ofBits .f32 0x3FD744FD#32 * x0 (ix2 r k) + ffn (fun k => x0 (ix2 r k)) (fun k f => x1 (ix2 k f)) (fun k f => x2 (ix2 k f)) (fun f j => x3 (ix2 f j)) k := fun k =>
    congrArg (fun z : EReal => Ideal.ofBits .f32 0x3FD744FD#32 * x0 (ix2 r k) + z) (accum_eq (k0_pay2 (F := Ideal) x0) x1 x2 x3 r k)
  unfold blockOut layer norm
  rw [pay_eq]
  have hw := funext hv
  rw [← hw]
  refine congrArg₂ (fun y z : EReal => y + z) (congrArg₂ (fun y z : EReal => y * z) (congrArg₂ (fun y z : EReal => y * z) (devs_apply _ r j) ?_) ?_) ?_
  · exact (along_apply _ r j).trans (scales_apply _ r)
  · exact down_apply x4 r j
  · exact down_apply x5 r j

end Cert.Proof.Dense
-- ==== Proof.Dense.Result.lean ====
/-
  What the result's array holds after the dense feed-forward's call: at every row the layer on the row of the argument.
-/
module

public import proofs.«01_k».proof.Proof.Dense.Apply
public import Idealize.ShloMosaic.Lib.Pipeline.ValueKit

@[expose] public section

set_option maxRecDepth 16384

noncomputable section

namespace Cert.Proof.Dense

open Cert.Kernel3Ideal Cert.Kernel3Ideal.Gen
open Idealize.ShloMosaic hiding ix1 ix2 ix3
open Idealize.ShloMosaic.ValueIdx
open Idealize.ShloMosaic.TcCoe Idealize.ShloMosaic.StableHlo
open Idealize.ShloMosaic.Pipeline (Dat Cfg Window)

/-- The result, at a row and a column. -/
def resultAt (X : S65536x1024.Idx → EReal) (Wg Wu : S1024x2816.Idx → EReal) (Wd : S2816x1024.Idx → EReal) (g b : S1024.Idx → EReal)
    (r : Fin 65536) (j : Fin 1024) : EReal :=
  layer (fun k => X (ix2 r k)) (fun k f => Wg (ix2 k f)) (fun k f => Wu (ix2 k f)) (fun f j => Wd (ix2 f j)) (fun k => g (ix1 k)) (fun k => b (ix1 k)) j

/-- The result. -/
def result (X : S65536x1024.Idx → EReal) (Wg Wu : S1024x2816.Idx → EReal) (Wd : S2816x1024.Idx → EReal) (g b : S1024.Idx → EReal) :
    S65536x1024.Idx → EReal := fun y => resultAt X Wg Wu Wd g b (y 0) (y 1)

variable (m : (ℓ : Loc nD τ sig) → Buf (Elt Ideal) ℓ)

theorem crd_val (t : Fin cfg0.N) : (grid0.coords t 0).val = t.val := by
  have e : grid0.N = 128 := by decide
  have h : t.val < 128 := Nat.lt_of_lt_of_eq t.isLt e
  refine (Pipeline.Grid.coords_val (G := grid0) t 0 (S := 1) (B := 128) (by decide) rfl).trans ?_
  omega

theorem num_val (t : Fin cfg0.N) : (BitVec.ofNat 32 (grid0.coords t 0).val).toNat = t.val := by
  have e : grid0.N = 128 := by decide
  have h : t.val < 128 := Nat.lt_of_lt_of_eq t.isLt e
  rw [crd_val, BitVec.toNat_ofNat, Nat.mod_eq_of_lt (by omega)]

/-- A point as a block's number. -/
abbrev blkNo (t : Fin cfg0.N) : Fin 128 := ⟨t.val, Nat.lt_of_lt_of_eq t.isLt (by decide : grid0.N = 128)⟩

theorem rows_ix (t : Fin cfg0.N) : (cfg0.win (0 : Fin 7)).index t (0 : Fin 2) = t.val := num_val t
theorem out_ix (t : Fin cfg0.N) : (cfg0.win (6 : Fin 7)).index t (0 : Fin 2) = t.val := num_val t

/-- What the host's operations before the call leave in the call's operands. -/
theorem V_gate (c : Dev nD) : (V m c main_v0 : S1024x2816.Idx → EReal) = m ((c : Thread nD τ).loc main_arg1) := by
  unfold_abbrev_sides
  after_results
  rfl
theorem V_up (c : Dev nD) : (V m c main_v1 : S1024x2816.Idx → EReal) = m ((c : Thread nD τ).loc main_arg2) := by
  unfold_abbrev_sides
  after_results
  rfl
theorem V_down (c : Dev nD) : (V m c main_v2 : S2816x1024.Idx → EReal) = m ((c : Thread nD τ).loc main_arg3) := by
  unfold_abbrev_sides
  after_results
  rfl
theorem V_gain (c : Dev nD) : (V m c main_v3 : S1x1024.Idx → EReal) = shapeCast S1x1024 (m ((c : Thread nD τ).loc main_arg4) : S1024.Idx → EReal) shapeCasts_S1024_S1x1024 := by
  unfold_abbrev_sides
  after_results
  rfl
theorem V_bias (c : Dev nD) : (V m c main_v4 : S1x1024.Idx → EReal) = shapeCast S1x1024 (m ((c : Thread nD τ).loc main_arg5) : S1024.Idx → EReal) shapeCasts_S1024_S1x1024 := by
  unfold_abbrev_sides
  after_results
  rfl

theorem row_cast (g : S1024.Idx → EReal) (k : Fin 1024) : shapeCast S1x1024 g shapeCasts_S1024_S1x1024 (ix2 0 k) = g (ix1 k) := by
  refine shapeCast_apply (s := S1024) (t := S1x1024) g _ (ix2 0 k) (ix1 k) ?_
  rw [Shape.rowMajor_val_one, Shape.rowMajor_val_two]
  show k.val = 0 * 1024 + k.val
  omega

variable (X : S65536x1024.Idx → EReal) (Wg Wu : S1024x2816.Idx → EReal) (Wd : S2816x1024.Idx → EReal) (g b : S1024.Idx → EReal)

theorem rows_apply (c : Dev nD) (hX : m ((c : Thread nD τ).loc main_arg0) = X) (t : Fin cfg0.N) (r : Fin 512) (k : Fin 1024) :
    (iblk m c (0 : Fin 7) t : S512x1024.Idx → EReal) (ix2 r k) = X (ix2 ⟨(blkNo t).val * 512 + r.val, by omega⟩ k) := by
  subst hX
  refine Eq.trans (b := (V m c main_arg0 : S65536x1024.Idx → EReal) (((cfg0.win (0 : Fin 7)).rect t).emb (ix2 r k))) rfl ?_
  rw [V_main_arg0]
  refine congrArg (m ((c : Thread nD τ).loc main_arg0)) (funext fun b => Fin.ext ?_)
  match b with
  | ⟨0, _⟩ => exact (Window.rect_emb_val (cfg0.win (0 : Fin 7)) t (ix2 r k) (0 : Fin 2) rfl).trans (by rw [rows_ix]; rfl)
  | ⟨1, _⟩ => exact (Window.rect_emb_val (cfg0.win (0 : Fin 7)) t (ix2 r k) (1 : Fin 2) rfl).trans (Nat.zero_add _)

theorem gate_apply (c : Dev nD) (hW : m ((c : Thread nD τ).loc main_arg1) = Wg) (t : Fin cfg0.N) (k : Fin 1024) (f : Fin 2816) :
    (iblk m c (1 : Fin 7) t : S1024x2816.Idx → EReal) (ix2 k f) = Wg (ix2 k f) := by
  refine Eq.trans (b := (V m c main_v0 : S1024x2816.Idx → EReal) (((cfg0.win (1 : Fin 7)).rect t).emb (ix2 k f))) rfl ?_
  rw [V_gate, hW]
  refine congrArg Wg (funext fun b => Fin.ext ?_)
  match b with
  | ⟨0, _⟩ => exact (Window.rect_emb_val (cfg0.win (1 : Fin 7)) t (ix2 k f) (0 : Fin 2) rfl).trans (Nat.zero_add _)
  | ⟨1, _⟩ => exact (Window.rect_emb_val (cfg0.win (1 : Fin 7)) t (ix2 k f) (1 : Fin 2) rfl).trans (Nat.zero_add _)

theorem up_apply (c : Dev nD) (hW : m ((c : Thread nD τ).loc main_arg2) = Wu) (t : Fin cfg0.N) (k : Fin 1024) (f : Fin 2816) :
    (iblk m c (2 : Fin 7) t : S1024x2816.Idx → EReal) (ix2 k f) = Wu (ix2 k f) := by
  refine Eq.trans (b := (V m c main_v1 : S1024x2816.Idx → EReal) (((cfg0.win (2 : Fin 7)).rect t).emb (ix2 k f))) rfl ?_
  rw [V_up, hW]
  refine congrArg Wu (funext fun b => Fin.ext ?_)
  match b with
  | ⟨0, _⟩ => exact (Window.rect_emb_val (cfg0.win (2 : Fin 7)) t (ix2 k f) (0 : Fin 2) rfl).trans (Nat.zero_add _)
  | ⟨1, _⟩ => exact (Window.rect_emb_val (cfg0.win (2 : Fin 7)) t (ix2 k f) (1 : Fin 2) rfl).trans (Nat.zero_add _)

theorem down_blk_apply (c : Dev nD) (hW : m ((c : Thread nD τ).loc main_arg3) = Wd) (t : Fin cfg0.N) (f : Fin 2816) (j : Fin 1024) :
    (iblk m c (3 : Fin 7) t : S2816x1024.Idx → EReal) (ix2 f j) = Wd (ix2 f j) := by
  refine Eq.trans (b := (V m c main_v2 : S2816x1024.Idx → EReal) (((cfg0.win (3 : Fin 7)).rect t).emb (ix2 f j))) rfl ?_
  rw [V_down, hW]
  refine congrArg Wd (funext fun b => Fin.ext ?_)
  match b with
  | ⟨0, _⟩ => exact (Window.rect_emb_val (cfg0.win (3 : Fin 7)) t (ix2 f j) (0 : Fin 2) rfl).trans (Nat.zero_add _)
  | ⟨1, _⟩ => exact (Window.rect_emb_val (cfg0.win (3 : Fin 7)) t (ix2 f j) (1 : Fin 2) rfl).trans (Nat.zero_add _)

theorem gain_apply (c : Dev nD) (hg : m ((c : Thread nD τ).loc main_arg4) = g) (t : Fin cfg0.N) (k : Fin 1024) :
    (iblk m c (4 : Fin 7) t : S1x1024.Idx → EReal) (ix2 0 k) = g (ix1 k) := by
  refine Eq.trans (b := (V m c main_v3 : S1x1024.Idx → EReal) (((cfg0.win (4 : Fin 7)).rect t).emb (ix2 0 k))) rfl ?_
  rw [V_gain, hg]
  refine (congrArg (shapeCast S1x1024 g shapeCasts_S1024_S1x1024) (funext fun b => Fin.ext ?_)).trans (row_cast g k)
  match b with
  | ⟨0, _⟩ => exact (Window.rect_emb_val (cfg0.win (4 : Fin 7)) t (ix2 0 k) (0 : Fin 2) rfl).trans (Nat.zero_add _)
  | ⟨1, _⟩ => exact (Window.rect_emb_val (cfg0.win (4 : Fin 7)) t (ix2 0 k) (1 : Fin 2) rfl).trans (Nat.zero_add _)

theorem bias_apply (c : Dev nD) (hb : m ((c : Thread nD τ).loc main_arg5) = b) (t : Fin cfg0.N) (k : Fin 1024) :
    (iblk m c (5 : Fin 7) t : S1x1024.Idx → EReal) (ix2 0 k) = b (ix1 k) := by
  refine Eq.trans (b := (V m c main_v4 : S1x1024.Idx → EReal) (((cfg0.win (5 : Fin 7)).rect t).emb (ix2 0 k))) rfl ?_
  rw [V_bias, hb]
  refine (congrArg (shapeCast S1x1024 b shapeCasts_S1024_S1x1024) (funext fun b => Fin.ext ?_)).trans (row_cast b k)
  match b with
  | ⟨0, _⟩ => exact (Window.rect_emb_val (cfg0.win (5 : Fin 7)) t (ix2 0 k) (0 : Fin 2) rfl).trans (Nat.zero_add _)
  | ⟨1, _⟩ => exact (Window.rect_emb_val (cfg0.win (5 : Fin 7)) t (ix2 0 k) (1 : Fin 2) rfl).trans (Nat.zero_add _)

/-- What a point's body leaves, at an index. -/
theorem outsAt_apply (c : Dev nD) (h0 : m ((c : Thread nD τ).loc main_arg0) = X) (h1 : m ((c : Thread nD τ).loc main_arg1) = Wg)
    (h2 : m ((c : Thread nD τ).loc main_arg2) = Wu) (h3 : m ((c : Thread nD τ).loc main_arg3) = Wd) (h4 : m ((c : Thread nD τ).loc main_arg4) = g)
    (h5 : m ((c : Thread nD τ).loc main_arg5) = b) (t : Fin cfg0.N) (r : Fin 512) (j : Fin 1024) :
    (outsAt0 m c t (ix2 r j) : EReal) = resultAt X Wg Wu Wd g b ⟨(blkNo t).val * 512 + r.val, by omega⟩ j := by
  unfold outsAt0
  refine (congrFun (out_eq c _ _ _ _ _ _ _ _ _ _ _ _ _ _ _ _ _ _ _ _ _ _ _) (ix2 r j)).trans ?_
  refine (blockOut_apply _ _ _ _ _ _ r j).trans ?_
  unfold resultAt
  simp only [rows_apply m X c h0, gate_apply m Wg c h1, up_apply m Wu c h2, down_blk_apply m Wd c h3, gain_apply m g c h4, bias_apply m b c h5]

/-- After the run the result's array holds the result. -/
theorem final_eq (c : Dev nD) (h0 : m ((c : Thread nD τ).loc main_arg0) = X) (h1 : m ((c : Thread nD τ).loc main_arg1) = Wg)
    (h2 : m ((c : Thread nD τ).loc main_arg2) = Wu) (h3 : m ((c : Thread nD τ).loc main_arg3) = Wd) (h4 : m ((c : Thread nD τ).loc main_arg4) = g)
    (h5 : m ((c : Thread nD τ).loc main_arg5) = b) : (dats m 0 c).arrAt (6 : Fin 7) cfg0.N = result X Wg Wu Wd g b := by
  refine (dats m 0 c).arrAt_eq_of_emb (6 : Fin 7) _ (fun t hf y => ?_) fun i => ?_
  · obtain ⟨r, j, rfl⟩ : ∃ (r : Fin 512) (j : Fin 1024), y = ix2 r j :=
      ⟨y (0 : Fin 2), y (1 : Fin 2), funext fun b => match b with | ⟨0, _⟩ => rfl | ⟨1, _⟩ => rfl⟩
    refine (congrFun (Cert.Kernel3Ideal.Value.flushed6 m c t) (ix2 r j)).trans ?_
    refine Eq.trans (b := (outsAt0 m c t (ix2 r j) : EReal)) rfl ?_
    refine (outsAt_apply m X Wg Wu Wd g b c h0 h1 h2 h3 h4 h5 t r j).trans ?_
    refine congrArg₂ (resultAt X Wg Wu Wd g b) (Fin.ext ?_) (Fin.ext ?_)
    · exact ((Window.rect_emb_val (cfg0.win (6 : Fin 7)) t (ix2 r j) (0 : Fin 2) rfl).trans (by rw [out_ix]; rfl)).symm
    · exact ((Window.rect_emb_val (cfg0.win (6 : Fin 7)) t (ix2 r j) (1 : Fin 2) rfl).trans (Nat.zero_add _)).symm
  · have hN : grid0.N = 128 := by decide
    have hi : (i (0 : Fin 2)).val < 65536 := (i (0 : Fin 2)).isLt
    have hk : (i (1 : Fin 2)).val < 1024 := (i (1 : Fin 2)).isLt
    let t : Fin cfg0.N := ⟨(i (0 : Fin 2)).val / 512, by show _ < grid0.N; omega⟩
    refine ⟨t, flush0_6 t, (Window.emb_mem_blk_iff (cfg0.win (6 : Fin 7)) t i rfl).mpr fun b => ?_⟩
    match b with
    | ⟨0, _⟩ =>
      rw [show (⟨0, _⟩ : Fin _) = (0 : Fin 2) from rfl, out_ix]
      show (i (0 : Fin 2)).val / 512 * 512 ≤ (i (0 : Fin 2)).val ∧ (i (0 : Fin 2)).val < (i (0 : Fin 2)).val / 512 * 512 + 512
      omega
    | ⟨1, _⟩ =>
      show 0 * 1024 ≤ (i (1 : Fin 2)).val ∧ (i (1 : Fin 2)).val < 0 * 1024 + 1024
      omega

end Cert.Proof.Dense
-- ==== Proof.Dense.RefValue.lean ====
/-
  What the dense feed-forward's reference computes, read at an index: the layer on the row, as the kernel does.
-/
module

public import proofs.«01_k».proof.Proof.Dense.Result
public import proofs.«01_k».proof.Proof.Gen.Reference3Ideal.Run
public import Idealize.ShloMosaic.Lib.StackMember
public import Idealize.ShloMosaic.Lib.IdealHost
public import Idealize.ShloMosaic.Lib.Pipeline.Value

@[expose] public section

set_option maxRecDepth 16384

noncomputable section

namespace Cert.Proof.Dense.Ref

open Cert.Reference3Ideal Cert.Reference3Ideal.Gen
open Idealize.ShloMosaic hiding ix1 ix2 ix3
open Idealize.ShloMosaic.ValueIdx
open Idealize.ShloMosaic.TcCoe
open scoped BigOperators

section
variable (X : FVec Ideal S65536x1024 .f32) (W W' : FVec Ideal S1024x2816 .f32) (U : FVec Ideal S2816x1024 .f32) (g b : FVec Ideal S1024 .f32)

/-- The rows against a weight's columns. -/
def wide : FVec Ideal S65536x2816 .f32 := Host.dotGeneral dot_S65536x1024_S1024x2816_S65536x2816_1_0_0_1_n_n none X W

/-- The hidden columns. -/
def hidden : FVec Ideal S65536x2816 .f32 :=
  mulf (mulf (wide X W) (Host.divf (broadcastInDim S65536x2816 ![] bcast_S_S65536x2816 (constant S_ .f32 0x3F800000#32))
    (addf (broadcastInDim S65536x2816 ![] bcast_S_S65536x2816 (constant S_ .f32 0x3F800000#32)) (Host.exp (Host.negf (wide X W)))))) (wide X W')

/-- The scaled rows plus the network's. -/
def summed : FVec Ideal S65536x1024 .f32 :=
  addf (mulf (broadcastInDim S65536x1024 ![] bcast_S_S65536x1024 (constant S_ .f32 0x3FD744FD#32)) X)
    (Host.dotGeneral dot_S65536x2816_S2816x1024_S65536x1024_1_0_0_1_n_n none (hidden X W W') U)

/-- The means of rows. -/
def means (v : FVec Ideal S65536x1024 .f32) : FVec Ideal S65536x1 .f32 :=
  Host.divf (broadcastInDim S65536x1 ![0] bcast_S65536_S65536x1_0 (Host.reduceAdd v (constant S_ .f32 0x00000000#32) reducesTo_S65536x1024_S65536_d1 h_S_))
    (broadcastInDim S65536x1 ![] bcast_S_S65536x1 (constant S_ .f32 0x44800000#32))

/-- A column along the rows. -/
def along (v : FVec Ideal S65536x1 .f32) : FVec Ideal S65536x1024 .f32 := broadcastInDim S65536x1024 ![0, 1] bcast_S65536x1_S65536x1024_0_1 v

/-- A vector down the columns. -/
def down (v : FVec Ideal S1024 .f32) : FVec Ideal S65536x1024 .f32 :=
  broadcastInDim S65536x1024 ![0, 1] bcast_S1x1024_S65536x1024_0_1 (broadcastInDim S1x1024 ![1] bcast_S1024_S1x1024_1 v)

/-- Rows less their means. -/
def devs (v : FVec Ideal S65536x1024 .f32) : FVec Ideal S65536x1024 .f32 := subf v (along (means v))

/-- The layer norm of rows. -/
def normed (v : FVec Ideal S65536x1024 .f32) : FVec Ideal S65536x1024 .f32 :=
  addf (mulf (mulf (devs v) (along (Host.rsqrt (addf (means (mulf (devs v) (devs v))) (broadcastInDim S65536x1 ![] bcast_S_S65536x1 (constant S_ .f32 0x3727C5AC#32))))))
    (down g)) (down b)

/-- The reference's result. -/
def out : FVec Ideal S65536x1024 .f32 := normed g b (summed X W W' U)

end

theorem res_eq (m : (ℓ : Loc nD τ sig) → Buf (Elt Ideal) ℓ) (c : Dev nD) :
    Value.res_main_v31 m c = out (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) := by
  unfold Value.res_main_v31 out normed summed hidden wide devs along down means
  rfl

section
variable (X : S65536x1024.Idx → EReal) (W W' : S1024x2816.Idx → EReal) (U : S2816x1024.Idx → EReal) (g b : S1024.Idx → EReal)

theorem wide_apply (r : Fin 65536) (f : Fin 2816) : (wide X W (ix2 r f) : EReal) = ∑ k : Fin 1024, X (ix2 r k) * W (ix2 k f) :=
  Idealize.ShloMosaic.StackMember.dotGeneral_plain_apply (m := 65536) (n := 2816) none X W r f

theorem hidden_apply (i : S65536x2816.Idx) : (hidden X W W' i : EReal) = silu (wide X W i) * wide X W' i := by
  have e1 : (broadcastInDim S65536x2816 ![] bcast_S_S65536x2816 (constant (F := Ideal) S_ .f32 0x3F800000#32) i : EReal) = 1 := Ideal.ofBits_one_f32
  refine congrArg (fun z : EReal => (wide X W i : EReal) * z * wide X W' i) ?_
  show Ideal.div (broadcastInDim S65536x2816 ![] bcast_S_S65536x2816 (constant (F := Ideal) S_ .f32 0x3F800000#32) i : EReal)
    ((broadcastInDim S65536x2816 ![] bcast_S_S65536x2816 (constant (F := Ideal) S_ .f32 0x3F800000#32) i : EReal) + _) = _
  rw [e1]
  rfl

theorem summed_apply (r : Fin 65536) (j : Fin 1024) :
    (summed X W W' U (ix2 r j) : EReal)
      = Ideal.ofBits .f32 0x3FD744FD#32 * X (ix2 r j)
        + ffn (fun k => X (ix2 r k)) (fun k f => W (ix2 k f)) (fun k f => W' (ix2 k f)) (fun f j => U (ix2 f j)) j := by
  refine congrArg (fun z : EReal => Ideal.ofBits .f32 0x3FD744FD#32 * X (ix2 r j) + z) ?_
  refine (Idealize.ShloMosaic.StackMember.dotGeneral_plain_apply (m := 65536) (n := 1024) none (hidden X W W') U r j).trans (Finset.sum_congr rfl fun f _ => ?_)
  refine congrArg (fun z : EReal => z * U (ix2 f j)) ((hidden_apply X W W' (ix2 r f)).trans ?_)
  rw [wide_apply, wide_apply]

theorem along_apply (v : S65536x1.Idx → EReal) (r : Fin 65536) (j : Fin 1024) : along v (ix2 r j) = v (ix2 r 0) :=
  broadcastInDim_apply (s := S65536x1) (t := S65536x1024) _ _ v (ix2 r j) (ix2 r 0) fun a => match a with | ⟨0, _⟩ => rfl | ⟨1, _⟩ => rfl

theorem down_apply (v : S1024.Idx → EReal) (r : Fin 65536) (j : Fin 1024) : down v (ix2 r j) = v (ix1 j) :=
  (broadcastInDim_apply (s := S1x1024) (t := S65536x1024) _ _ _ (ix2 r j) (ix2 0 j) fun a => match a with | ⟨0, _⟩ => rfl | ⟨1, _⟩ => rfl).trans
    (broadcastInDim_apply (s := S1024) (t := S1x1024) _ _ v (ix2 0 j) (ix1 j) fun a => match a with | ⟨0, _⟩ => rfl)

theorem means_apply (v : S65536x1024.Idx → EReal) (r : Fin 65536) : (means v (ix2 r 0) : EReal) = mean fun k => v (ix2 r k) := by
  refine congrArg (fun z : EReal => Ideal.div z (Ideal.ofBits .f32 0x44800000#32)) ?_
  refine (broadcastInDim_apply (s := S65536) (t := S65536x1) _ _ _ (ix2 r 0) (ix1 r) fun a => match a with | ⟨0, _⟩ => rfl).trans ?_
  refine (hostReduceAdd_apply v _ reducesTo_S65536x1024_S65536_d1 h_S_ (ix1 r)).trans ?_
  refine (Ideal.hostReduceAdd_r2_a1 (n0 := 65536) (n1 := 1024) reducesTo_S65536x1024_S65536_d1 v _ (ix1 r)).trans ?_
  refine (congrArg (fun z : EReal => z + ∑ k : Fin 1024, v (ix2 r k)) Ideal.ofBits_zero_f32).trans ?_
  exact zero_add _

theorem devs_apply (v : S65536x1024.Idx → EReal) (r : Fin 65536) (j : Fin 1024) : (devs v (ix2 r j) : EReal) = centered (fun k => v (ix2 r k)) j :=
  congrArg (fun z : EReal => v (ix2 r j) - z) ((along_apply (means v) r j).trans (means_apply v r))

theorem normed_apply (v : S65536x1024.Idx → EReal) (r : Fin 65536) (j : Fin 1024) :
    (normed g b v (ix2 r j) : EReal) = norm (fun k => v (ix2 r k)) (fun k => g (ix1 k)) (fun k => b (ix1 k)) j := by
  unfold norm
  refine congrArg₂ (fun y z : EReal => y + z) (congrArg₂ (fun y z : EReal => y * z) (congrArg₂ (fun y z : EReal => y * z) (devs_apply v r j) ?_) ?_) ?_
  · refine (along_apply _ r j).trans (congrArg (fun z : EReal => Ideal.rsqrt (z + Ideal.ofBits .f32 0x3727C5AC#32)) ((means_apply _ r).trans (congrArg mean (funext fun k => ?_))))
    exact congrArg₂ (fun y z : EReal => y * z) (devs_apply v r k) (devs_apply v r k)
  · exact down_apply g r j
  · exact down_apply b r j

/-- The reference's result is the kernel's. -/
theorem out_eq : (out X W W' U g b : S65536x1024.Idx → EReal) = result X W W' U g b := by
  funext y
  obtain ⟨r, j, rfl⟩ : ∃ (r : Fin 65536) (j : Fin 1024), y = ix2 r j :=
    ⟨y (0 : Fin 2), y (1 : Fin 2), funext fun b => match b with | ⟨0, _⟩ => rfl | ⟨1, _⟩ => rfl⟩
  refine (normed_apply g b _ r j).trans ?_
  refine Eq.trans ?_ (rfl : resultAt X W W' U g b r j = _)
  unfold resultAt layer
  rw [funext (summed_apply X W W' U r)]

end

end Cert.Proof.Dense.Ref
-- ==== Proof.Dense.Claims.lean ====
/-
  The claims of the dense feed-forward's call: it runs to its end with its arguments unchanged, and over the extended
  reals its result is the reference's.
-/
module

public import proofs.«01_k».proof.Defs
public import proofs.«01_k».proof.Proof.Dense.RefValue
public import proofs.«01_k».proof.Proof.Gen.Kernel3.Frame

@[expose] public section

set_option maxRecDepth 16384

noncomputable section

namespace Cert.Proof.Dense

open Cert.Kernel3Ideal Cert.Kernel3Ideal.Gen
open Idealize.ShloMosaic Idealize.SL.Sem
open Idealize.ShloMosaic.TcCoe

theorem frame3_bits : Cert.quiescent_Kernel3 := fun m g _ => Cert.Kernel3.Gen.frame m g

theorem frame3_ideal : Cert.quiescent_Kernel3Ideal := fun m g _ => Cert.Kernel3Ideal.Gen.frame m g

/-- The reference ends with its arguments unchanged; it declares no semaphore. -/
theorem frame3_ref : Cert.quiescent_Reference3Ideal := fun m g _ =>
  (θ_run (Cert.Reference3Ideal.defs (F := Ideal)) _ _).mono (fun _ r => ⟨fun c => (r c).2, sem_eq_zero_of_no_sems (by decide) _⟩)
    (Cert.Reference3Ideal.Value.run m g)

/-- Over the extended reals the call's result is the reference's. -/
theorem algebraic3 : Cert.algebraic_Kernel3Ideal_Reference3Ideal := fun m g m' g' h hag =>
  ⟨fun c => result (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)),
    (θ_run (defs (F := Ideal)) _ _).mono (fun _ r c => ⟨(r c).1.trans (final_eq m _ _ _ _ _ _ c rfl rfl rfl rfl rfl rfl), (r c).2⟩)
      (Cert.Kernel3Ideal.Value.run_blocks m g),
    (θ_run (Cert.Reference3Ideal.defs (F := Ideal)) _ _).mono (fun _ r c => ⟨((r c).1.trans (Ref.res_eq m' c)).trans (by
        obtain ⟨a0, a1, a2, a3, a4, a5⟩ := hag c
        rw [a0, a1, a2, a3, a4, a5]
        exact Ref.out_eq _ _ _ _ _ _), (r c).2⟩)
      (Cert.Reference3Ideal.Value.run m' g')⟩

end Cert.Proof.Dense
-- ==== Proof.OutProj.Apply.lean ====
/-
  The output projection with its layer norm on one row, over the extended reals, and what the body leaves of a block read
  at an index: that layer on the row.
-/
module

public import proofs.«01_k».proof.Proof.Gen.Kernel4Ideal.Value
public import proofs.«01_k».proof.Proof.Dense.Spec
public import Idealize.ShloMosaic.Lib.MatmulPlain
public import Idealize.ShloMosaic.Lib.Pipeline.Value
public import Idealize.ShloMosaic.Lib.Pointwise
public import Idealize.ShloMosaic.Lib.Pipeline.ValueKit

@[expose] public section

set_option maxRecDepth 16384

noncomputable section

namespace Cert.Proof.OutProj

open Cert.Kernel4Ideal Cert.Kernel4Ideal.Gen
open Cert.Proof.Dense (mean centered)
open Idealize.ShloMosaic hiding ix1 ix2 ix3
open Idealize.ShloMosaic.ValueIdx
open scoped BigOperators

/-- Two halves of a row against the rows of the output weight, at column `j`. -/
def joined (o o' : Fin 512 → EReal) (w : Fin 1024 → Fin 1024 → EReal) (j : Fin 1024) : EReal :=
  (∑ k : Fin 512, o k * w ⟨k.val, by omega⟩ j) + ∑ k : Fin 512, o' k * w ⟨512 + k.val, by omega⟩ j

/-- A row through the layer: the norm of the scaled row plus the projection of the two halves. -/
def layer (x : Fin 1024 → EReal) (o o' : Fin 512 → EReal) (w : Fin 1024 → Fin 1024 → EReal) (g b : Fin 1024 → EReal) (j : Fin 1024) : EReal :=
  Dense.norm (fun k => Ideal.ofBits .f32 0x3FD744FD#32 * x k + joined o o' w k) g b j

/-- A row's sum, kept as a column. -/
theorem rowSum_apply (w : FVec Ideal S1024x1024 .f32) (r : Fin 1024) :
    (shapeCast S1024x1 (multiReduction .add [1] S1024 w 0x00000000#32 reduces_S1024x1024_S1024 (.inl rfl) rfl) shapeCasts_S1024_S1024x1 (ix2 r 0) : EReal)
      = ∑ k : Fin 1024, w (ix2 r k) := by
  refine (shapeCast_apply (s := S1024) (t := S1024x1) _ _ (ix2 r 0) (ix1 r) ?_).trans ?_
  · rw [Shape.rowMajor_val_one, Shape.rowMajor_val_two]
    show r.val = r.val * 1 + 0
    omega
  · exact Ideal.reduceAdd_r2_a1 (n0 := 1024) (n1 := 1024) reduces_S1024x1024_S1024 w (ix1 r)

/-- A column along the rows. -/
theorem along_apply (w : FVec Ideal S1024x1 .f32) (r : Fin 1024) (j : Fin 1024) :
    broadcastTo S1024x1024 w broadcasts_S1024x1_S1024x1024 (ix2 r j) = w (ix2 r 0) :=
  broadcastTo_apply (s := S1024x1) (t := S1024x1024) w _ (ix2 r j) (ix2 r 0) fun b => match b with
    | ⟨0, _⟩ => rfl
    | ⟨1, _⟩ => rfl

/-- A row down the columns. -/
theorem down_apply (w : FVec Ideal S1x1024 .f32) (r : Fin 1024) (j : Fin 1024) :
    broadcastTo S1024x1024 (shapeCast S1x1024 w shapeCasts_S1x1024_S1x1024) broadcasts_S1x1024_S1024x1024 (ix2 r j) = w (ix2 0 j) := by
  refine (broadcastTo_apply (s := S1x1024) (t := S1024x1024) _ _ (ix2 r j) (ix2 0 j) fun b => match b with
    | ⟨0, _⟩ => rfl
    | ⟨1, _⟩ => rfl).trans ?_
  exact congrFun (shapeCast_self (s := S1x1024) w _) (ix2 0 j)

section
variable (w : FVec Ideal S1024x1024 .f32)

/-- The rows' means. -/
def means : FVec Ideal S1024x1 .f32 :=
  divf (shapeCast S1024x1 (multiReduction .add [1] S1024 w 0x00000000#32 reduces_S1024x1024_S1024 (.inl rfl) rfl) shapeCasts_S1024_S1024x1)
    (broadcast S1024x1 (Scalar.ofBits .f32 0x44800000#32))

theorem means_apply (r : Fin 1024) : (means w (ix2 r 0) : EReal) = mean fun k => w (ix2 r k) :=
  congrArg (fun z : EReal => Ideal.div z (Ideal.ofBits .f32 0x44800000#32)) (rowSum_apply w r)

/-- The rows less their means. -/
def devs : FVec Ideal S1024x1024 .f32 := subf w (broadcastTo S1024x1024 (means w) broadcasts_S1024x1_S1024x1024)

theorem devs_apply (r : Fin 1024) (j : Fin 1024) : (devs w (ix2 r j) : EReal) = centered (fun k => w (ix2 r k)) j :=
  congrArg (fun z : EReal => w (ix2 r j) - z) ((along_apply (means w) r j).trans (means_apply w r))

/-- The factors that scale the rows. -/
def scales : FVec Ideal S1024x1 .f32 := rsqrt (addf (means (mulf (devs w) (devs w))) (broadcast S1024x1 (Scalar.ofBits .f32 0x3727C5AC#32)))

theorem scales_apply (r : Fin 1024) :
    (scales w (ix2 r 0) : EReal) = Ideal.rsqrt (mean (fun k => centered (fun k => w (ix2 r k)) k * centered (fun k => w (ix2 r k)) k) + Ideal.ofBits .f32 0x3727C5AC#32) := by
  refine congrArg (fun z : EReal => Ideal.rsqrt (z + Ideal.ofBits .f32 0x3727C5AC#32)) ((means_apply _ r).trans (congrArg mean (funext fun k => ?_)))
  exact congrArg₂ (fun y z : EReal => y * z) (devs_apply w r k) (devs_apply w r k)

end

/-- The rows of a half against a half of the output weight. -/
def half (o : FVec Ideal S1024x512 .bf16) (w : FVec Ideal S512x1024 .bf16) : FVec Ideal S1024x1024 .f32 :=
  matmul dot_S1024x512_S512x1024_S1024x1024_1_0_0_1_n_n none o (shapeCast S512x1024 w shapeCasts_S512x1024_S512x1024) (constant S1024x1024 .f32 0x00000000#32)

theorem half_apply (o : FVec Ideal S1024x512 .bf16) (w : FVec Ideal S512x1024 .bf16) (r j : Fin 1024) :
    (half o w (ix2 r j) : EReal) = ∑ k : Fin 512, o (ix2 r k) * w (ix2 k j) := by
  have h := Ideal.matmul_plain_apply (M := 1024) (K := 512) (N := 1024) (φ₁ := .bf16) (φ₂ := .bf16) none o
    (shapeCast S512x1024 w shapeCasts_S512x1024_S512x1024) (constant S1024x1024 .f32 0x00000000#32) r j
  have hz : (constant S1024x1024 .f32 0x00000000#32 : FVec Ideal S1024x1024 .f32) (ix2 r j) = (0 : EReal) := Ideal.ofBits_zero_f32
  rw [hz, zero_add] at h
  refine h.trans (Finset.sum_congr rfl fun k _ => ?_)
  exact congrArg (fun z : EReal => o (ix2 r k) * z) (congrFun (shapeCast_self (s := S512x1024) w _) (ix2 k j))

/-- The scaled rows plus the projection. -/
def summed (o o' : FVec Ideal S1024x512 .bf16) (w w' : FVec Ideal S512x1024 .bf16) (x : FVec Ideal S1024x1024 .f32) : FVec Ideal S1024x1024 .f32 :=
  addf (mulf (broadcast S1024x1024 (Scalar.ofBits .f32 0x3FD744FD#32)) x) (addf (half o w) (half o' w'))

theorem pay_eq (o o' : FVec Ideal S1024x512 .bf16) (w w' : FVec Ideal S512x1024 .bf16) (x : FVec Ideal S1024x1024 .f32) (g b : FVec Ideal S1x1024 .f32) :
    k0_pay1 (F := Ideal) o w o' w' x g b
      = addf (mulf (mulf (devs (summed o o' w w' x)) (broadcastTo S1024x1024 (scales (summed o o' w w' x)) broadcasts_S1024x1_S1024x1024))
          (broadcastTo S1024x1024 (shapeCast S1x1024 g shapeCasts_S1x1024_S1x1024) broadcasts_S1x1024_S1024x1024))
        (broadcastTo S1024x1024 (shapeCast S1x1024 b shapeCasts_S1x1024_S1x1024) broadcasts_S1x1024_S1024x1024) := rfl

theorem zeros2 : (![0, 0] : Fin 2 → ℕ) = fun _ => 0 := by decide

/-- The block left by the body, at an index. -/
theorem out_apply (x0 : Vec Ideal S1024x1024 .f32) (x1 x2 : Vec Ideal S1024x512 .bf16) (x3 : Vec Ideal S1024x1024 .bf16)
    (x4 x5 : Vec Ideal S1x1024 .f32) (r j : Fin 1024) :
    (out0_6 x0 x1 x2 x3 x4 x5 (ix2 r j) : EReal)
      = layer (fun k => x0 (ix2 r k)) (fun k => x1 (ix2 r k)) (fun k => x2 (ix2 r k)) (fun k j => x3 (ix2 k j))
          (fun k => x4 (ix2 0 k)) (fun k => x5 (ix2 0 k)) j := by
  unfold out0_6
  rw [View.canon_unit_zero (S := S1024x1024) zeros2, View.ld_unit_zero (S := S1024x512) zeros2, View.ld_unit_zero (S := S1024x512) zeros2,
    View.ld_unit_zero (S := S1024x1024) zeros2, View.ld_unit_zero (S := S1x1024) zeros2, View.ld_unit_zero (S := S1x1024) zeros2]
  have hlo : ∀ (k : Fin 512) (j : Fin 1024), (View.ld x3 r0_1 : Vec Ideal S512x1024 .bf16) (ix2 k j) = x3 (ix2 ⟨k.val, by omega⟩ j) := fun k j =>
    View.ld_unit_apply_of x3 _ _ _ (ix2 k j) _ fun a => match a with
      | ⟨0, _⟩ => (Nat.zero_add _).symm
      | ⟨1, _⟩ => (Nat.zero_add _).symm
  have hhi : ∀ (k : Fin 512) (j : Fin 1024), (View.ld x3 r0_2 : Vec Ideal S512x1024 .bf16) (ix2 k j) = x3 (ix2 ⟨512 + k.val, by omega⟩ j) := fun k j =>
    View.ld_unit_apply_of x3 _ _ _ (ix2 k j) _ fun a => match a with
      | ⟨0, _⟩ => rfl
      | ⟨1, _⟩ => (Nat.zero_add _).symm
  have hv : ∀ k : Fin 1024, (summed x1 x2 (View.ld x3 r0_1) (View.ld x3 r0_2) x0 (ix2 r k) : EReal)
      = Ideal.ofBits .f32 0x3FD744FD#32 * x0 (ix2 r k) + joined (fun k => x1 (ix2 r k)) (fun k => x2 (ix2 r k)) (fun k j => x3 (ix2 k j)) k := fun k => by
    refine congrArg (fun z : EReal => Ideal.ofBits .f32 0x3FD744FD#32 * x0 (ix2 r k) + z) (congrArg₂ (fun y z : EReal => y + z) ?_ ?_)
    · exact (half_apply x1 _ r k).trans (Finset.sum_congr rfl fun i _ => congrArg (fun z : EReal => x1 (ix2 r i) * z) (hlo i k))
    · exact (half_apply x2 _ r k).trans (Finset.sum_congr rfl fun i _ => congrArg (fun z : EReal => x2 (ix2 r i) * z) (hhi i k))
  refine (congrFun (pay_eq x1 x2 (View.ld x3 r0_1) (View.ld x3 r0_2) x0 x4 x5) (ix2 r j)).trans ?_
  unfold layer Dense.norm
  have hw := funext hv
  rw [← hw]
  refine congrArg₂ (fun y z : EReal => y + z) (congrArg₂ (fun y z : EReal => y * z) (congrArg₂ (fun y z : EReal => y * z) (devs_apply _ r j) ?_) ?_) ?_
  · exact (along_apply _ r j).trans (scales_apply _ r)
  · exact down_apply x4 r j
  · exact down_apply x5 r j

end Cert.Proof.OutProj
-- ==== Proof.OutProj.Result.lean ====
/-
  What the result's array holds after the output projection's call: at every row the layer on the row of the arguments.
-/
module

public import proofs.«01_k».proof.Proof.OutProj.Apply
public import Idealize.ShloMosaic.Lib.Pipeline.ValueKit

@[expose] public section

set_option maxRecDepth 16384

noncomputable section

namespace Cert.Proof.OutProj

open Cert.Kernel4Ideal Cert.Kernel4Ideal.Gen
open Idealize.ShloMosaic hiding ix1 ix2 ix3
open Idealize.ShloMosaic.ValueIdx
open Idealize.ShloMosaic.TcCoe Idealize.ShloMosaic.StableHlo
open Idealize.ShloMosaic.Pipeline (Dat Cfg Window)

/-- The result, at a row and a column. -/
def resultAt (X : S65536x1024.Idx → EReal) (O O' : S65536x512.Idx → EReal) (W : S1024x1024.Idx → EReal) (g b : S1024.Idx → EReal)
    (r : Fin 65536) (j : Fin 1024) : EReal :=
  layer (fun k => X (ix2 r k)) (fun k => O (ix2 r k)) (fun k => O' (ix2 r k)) (fun k j => W (ix2 k j)) (fun k => g (ix1 k)) (fun k => b (ix1 k)) j

/-- The result. -/
def result (X : S65536x1024.Idx → EReal) (O O' : S65536x512.Idx → EReal) (W : S1024x1024.Idx → EReal) (g b : S1024.Idx → EReal) :
    S65536x1024.Idx → EReal := fun y => resultAt X O O' W g b (y 0) (y 1)

variable (m : (ℓ : Loc nD τ sig) → Buf (Elt Ideal) ℓ)

theorem num_val (t : Fin cfg0.N) : (BitVec.ofNat 32 (grid0.coords t 0).val).toNat = t.val := by
  have e : grid0.N = 64 := by decide
  have h : t.val < 64 := Nat.lt_of_lt_of_eq t.isLt e
  have hc : (grid0.coords t 0).val = t.val := by
    refine (Pipeline.Grid.coords_val (G := grid0) t 0 (S := 1) (B := 64) (by decide) rfl).trans ?_
    omega
  rw [hc, BitVec.toNat_ofNat, Nat.mod_eq_of_lt (by omega)]

/-- A point as a block's number. -/
abbrev blkNo (t : Fin cfg0.N) : Fin 64 := ⟨t.val, Nat.lt_of_lt_of_eq t.isLt (by decide : grid0.N = 64)⟩

theorem rows_ix (t : Fin cfg0.N) : (cfg0.win (0 : Fin 7)).index t (0 : Fin 2) = t.val := num_val t
theorem half_ix (t : Fin cfg0.N) : (cfg0.win (1 : Fin 7)).index t (0 : Fin 2) = t.val := num_val t
theorem half_ix' (t : Fin cfg0.N) : (cfg0.win (2 : Fin 7)).index t (0 : Fin 2) = t.val := num_val t
theorem out_ix (t : Fin cfg0.N) : (cfg0.win (6 : Fin 7)).index t (0 : Fin 2) = t.val := num_val t

/-- What the host's operations before the call leave in the call's operands. -/
theorem V_weight (c : Dev nD) : (V m c main_v0 : S1024x1024.Idx → EReal) = m ((c : Thread nD τ).loc main_arg3) := by
  unfold_abbrev_sides
  after_results
  rfl
theorem V_gain (c : Dev nD) : (V m c main_v1 : S1x1024.Idx → EReal) = shapeCast S1x1024 (m ((c : Thread nD τ).loc main_arg4) : S1024.Idx → EReal) shapeCasts_S1024_S1x1024 := by
  unfold_abbrev_sides
  after_results
  rfl
theorem V_bias (c : Dev nD) : (V m c main_v2 : S1x1024.Idx → EReal) = shapeCast S1x1024 (m ((c : Thread nD τ).loc main_arg5) : S1024.Idx → EReal) shapeCasts_S1024_S1x1024 := by
  unfold_abbrev_sides
  after_results
  rfl

theorem row_cast (g : S1024.Idx → EReal) (k : Fin 1024) : shapeCast S1x1024 g shapeCasts_S1024_S1x1024 (ix2 0 k) = g (ix1 k) := by
  refine shapeCast_apply (s := S1024) (t := S1x1024) g _ (ix2 0 k) (ix1 k) ?_
  rw [Shape.rowMajor_val_one, Shape.rowMajor_val_two]
  show k.val = 0 * 1024 + k.val
  omega

variable (X : S65536x1024.Idx → EReal) (O O' : S65536x512.Idx → EReal) (W : S1024x1024.Idx → EReal) (g b : S1024.Idx → EReal)

theorem rows_apply (c : Dev nD) (h : m ((c : Thread nD τ).loc main_arg0) = X) (t : Fin cfg0.N) (r k : Fin 1024) :
    (iblk m c (0 : Fin 7) t : S1024x1024.Idx → EReal) (ix2 r k) = X (ix2 ⟨(blkNo t).val * 1024 + r.val, by omega⟩ k) := by
  subst h
  refine Eq.trans (b := (V m c main_arg0 : S65536x1024.Idx → EReal) (((cfg0.win (0 : Fin 7)).rect t).emb (ix2 r k))) rfl ?_
  rw [V_main_arg0]
  refine congrArg (m ((c : Thread nD τ).loc main_arg0)) (funext fun b => Fin.ext ?_)
  match b with
  | ⟨0, _⟩ => exact (Window.rect_emb_val (cfg0.win (0 : Fin 7)) t (ix2 r k) (0 : Fin 2) rfl).trans (by rw [rows_ix]; rfl)
  | ⟨1, _⟩ => exact (Window.rect_emb_val (cfg0.win (0 : Fin 7)) t (ix2 r k) (1 : Fin 2) rfl).trans (Nat.zero_add _)

theorem half_blk_apply (c : Dev nD) (h : m ((c : Thread nD τ).loc main_arg1) = O) (t : Fin cfg0.N) (r : Fin 1024) (k : Fin 512) :
    (iblk m c (1 : Fin 7) t : S1024x512.Idx → EReal) (ix2 r k) = O (ix2 ⟨(blkNo t).val * 1024 + r.val, by omega⟩ k) := by
  subst h
  refine Eq.trans (b := (V m c main_arg1 : S65536x512.Idx → EReal) (((cfg0.win (1 : Fin 7)).rect t).emb (ix2 r k))) rfl ?_
  rw [V_main_arg1]
  refine congrArg (m ((c : Thread nD τ).loc main_arg1)) (funext fun b => Fin.ext ?_)
  match b with
  | ⟨0, _⟩ => exact (Window.rect_emb_val (cfg0.win (1 : Fin 7)) t (ix2 r k) (0 : Fin 2) rfl).trans (by rw [half_ix]; rfl)
  | ⟨1, _⟩ => exact (Window.rect_emb_val (cfg0.win (1 : Fin 7)) t (ix2 r k) (1 : Fin 2) rfl).trans (Nat.zero_add _)

theorem half_blk_apply' (c : Dev nD) (h : m ((c : Thread nD τ).loc main_arg2) = O') (t : Fin cfg0.N) (r : Fin 1024) (k : Fin 512) :
    (iblk m c (2 : Fin 7) t : S1024x512.Idx → EReal) (ix2 r k) = O' (ix2 ⟨(blkNo t).val * 1024 + r.val, by omega⟩ k) := by
  subst h
  refine Eq.trans (b := (V m c main_arg2 : S65536x512.Idx → EReal) (((cfg0.win (2 : Fin 7)).rect t).emb (ix2 r k))) rfl ?_
  rw [V_main_arg2]
  refine congrArg (m ((c : Thread nD τ).loc main_arg2)) (funext fun b => Fin.ext ?_)
  match b with
  | ⟨0, _⟩ => exact (Window.rect_emb_val (cfg0.win (2 : Fin 7)) t (ix2 r k) (0 : Fin 2) rfl).trans (by rw [half_ix']; rfl)
  | ⟨1, _⟩ => exact (Window.rect_emb_val (cfg0.win (2 : Fin 7)) t (ix2 r k) (1 : Fin 2) rfl).trans (Nat.zero_add _)

theorem weight_apply (c : Dev nD) (h : m ((c : Thread nD τ).loc main_arg3) = W) (t : Fin cfg0.N) (k j : Fin 1024) :
    (iblk m c (3 : Fin 7) t : S1024x1024.Idx → EReal) (ix2 k j) = W (ix2 k j) := by
  refine Eq.trans (b := (V m c main_v0 : S1024x1024.Idx → EReal) (((cfg0.win (3 : Fin 7)).rect t).emb (ix2 k j))) rfl ?_
  rw [V_weight, h]
  refine congrArg W (funext fun b => Fin.ext ?_)
  match b with
  | ⟨0, _⟩ => exact (Window.rect_emb_val (cfg0.win (3 : Fin 7)) t (ix2 k j) (0 : Fin 2) rfl).trans (Nat.zero_add _)
  | ⟨1, _⟩ => exact (Window.rect_emb_val (cfg0.win (3 : Fin 7)) t (ix2 k j) (1 : Fin 2) rfl).trans (Nat.zero_add _)

theorem gain_apply (c : Dev nD) (h : m ((c : Thread nD τ).loc main_arg4) = g) (t : Fin cfg0.N) (k : Fin 1024) :
    (iblk m c (4 : Fin 7) t : S1x1024.Idx → EReal) (ix2 0 k) = g (ix1 k) := by
  refine Eq.trans (b := (V m c main_v1 : S1x1024.Idx → EReal) (((cfg0.win (4 : Fin 7)).rect t).emb (ix2 0 k))) rfl ?_
  rw [V_gain, h]
  refine (congrArg (shapeCast S1x1024 g shapeCasts_S1024_S1x1024) (funext fun b => Fin.ext ?_)).trans (row_cast g k)
  match b with
  | ⟨0, _⟩ => exact (Window.rect_emb_val (cfg0.win (4 : Fin 7)) t (ix2 0 k) (0 : Fin 2) rfl).trans (Nat.zero_add _)
  | ⟨1, _⟩ => exact (Window.rect_emb_val (cfg0.win (4 : Fin 7)) t (ix2 0 k) (1 : Fin 2) rfl).trans (Nat.zero_add _)

theorem bias_apply (c : Dev nD) (h : m ((c : Thread nD τ).loc main_arg5) = b) (t : Fin cfg0.N) (k : Fin 1024) :
    (iblk m c (5 : Fin 7) t : S1x1024.Idx → EReal) (ix2 0 k) = b (ix1 k) := by
  refine Eq.trans (b := (V m c main_v2 : S1x1024.Idx → EReal) (((cfg0.win (5 : Fin 7)).rect t).emb (ix2 0 k))) rfl ?_
  rw [V_bias, h]
  refine (congrArg (shapeCast S1x1024 b shapeCasts_S1024_S1x1024) (funext fun b => Fin.ext ?_)).trans (row_cast b k)
  match b with
  | ⟨0, _⟩ => exact (Window.rect_emb_val (cfg0.win (5 : Fin 7)) t (ix2 0 k) (0 : Fin 2) rfl).trans (Nat.zero_add _)
  | ⟨1, _⟩ => exact (Window.rect_emb_val (cfg0.win (5 : Fin 7)) t (ix2 0 k) (1 : Fin 2) rfl).trans (Nat.zero_add _)

/-- After the run the result's array holds the result. -/
theorem final_eq (c : Dev nD) (h0 : m ((c : Thread nD τ).loc main_arg0) = X) (h1 : m ((c : Thread nD τ).loc main_arg1) = O)
    (h2 : m ((c : Thread nD τ).loc main_arg2) = O') (h3 : m ((c : Thread nD τ).loc main_arg3) = W) (h4 : m ((c : Thread nD τ).loc main_arg4) = g)
    (h5 : m ((c : Thread nD τ).loc main_arg5) = b) : (dats m 0 c).arrAt (6 : Fin 7) cfg0.N = result X O O' W g b := by
  refine (dats m 0 c).arrAt_eq_of_emb (6 : Fin 7) _ (fun t hf y => ?_) fun i => ?_
  · obtain ⟨r, j, rfl⟩ : ∃ (r j : Fin 1024), y = ix2 r j :=
      ⟨y (0 : Fin 2), y (1 : Fin 2), funext fun b => match b with | ⟨0, _⟩ => rfl | ⟨1, _⟩ => rfl⟩
    refine (congrFun (Cert.Kernel4Ideal.Value.flushed6 m c t) (ix2 r j)).trans ?_
    refine (out_apply _ _ _ _ _ _ r j).trans ?_
    refine Eq.trans (b := resultAt X O O' W g b ⟨(blkNo t).val * 1024 + r.val, by omega⟩ j) ?_ ?_
    · unfold resultAt
      simp only [rows_apply m X c h0, half_blk_apply m O c h1, half_blk_apply' m O' c h2, weight_apply m W c h3, gain_apply m g c h4, bias_apply m b c h5]
    · refine congrArg₂ (resultAt X O O' W g b) (Fin.ext ?_) (Fin.ext ?_)
      · exact ((Window.rect_emb_val (cfg0.win (6 : Fin 7)) t (ix2 r j) (0 : Fin 2) rfl).trans (by rw [out_ix]; rfl)).symm
      · exact ((Window.rect_emb_val (cfg0.win (6 : Fin 7)) t (ix2 r j) (1 : Fin 2) rfl).trans (Nat.zero_add _)).symm
  · have hN : grid0.N = 64 := by decide
    have hi : (i (0 : Fin 2)).val < 65536 := (i (0 : Fin 2)).isLt
    have hk : (i (1 : Fin 2)).val < 1024 := (i (1 : Fin 2)).isLt
    let t : Fin cfg0.N := ⟨(i (0 : Fin 2)).val / 1024, by show _ < grid0.N; omega⟩
    refine ⟨t, flush0_6 t, (Window.emb_mem_blk_iff (cfg0.win (6 : Fin 7)) t i rfl).mpr fun b => ?_⟩
    match b with
    | ⟨0, _⟩ =>
      rw [show (⟨0, _⟩ : Fin _) = (0 : Fin 2) from rfl, out_ix]
      show (i (0 : Fin 2)).val / 1024 * 1024 ≤ (i (0 : Fin 2)).val ∧ (i (0 : Fin 2)).val < (i (0 : Fin 2)).val / 1024 * 1024 + 1024
      omega
    | ⟨1, _⟩ =>
      show 0 * 1024 ≤ (i (1 : Fin 2)).val ∧ (i (1 : Fin 2)).val < 0 * 1024 + 1024
      omega

end Cert.Proof.OutProj
-- ==== Proof.OutProj.Claims.lean ====
/-
  The claims of the output projection's call: it runs to its end with its arguments unchanged, and over the extended reals
  its result is the reference's, whose one product of the joined halves is the kernel's two products' sum.
-/
module

public import proofs.«01_k».proof.Defs
public import proofs.«01_k».proof.Proof.OutProj.Result
public import proofs.«01_k».proof.Proof.Dense.RefValue
public import proofs.«01_k».proof.Proof.Gen.Kernel4.Frame
public import proofs.«01_k».proof.Proof.Gen.Reference4Ideal.Run

@[expose] public section

set_option maxRecDepth 16384

noncomputable section

namespace Cert.Proof.OutProj

section
open Cert.Reference4Ideal Cert.Reference4Ideal.Gen
open Cert.Proof.Dense.Ref (normed normed_apply)
open Idealize.ShloMosaic hiding ix1 ix2 ix3
open Idealize.ShloMosaic.ValueIdx
open Idealize.ShloMosaic.TcCoe
open scoped BigOperators

/-- The two halves, joined. -/
def halves (O O' : FVec Ideal S65536x512 .bf16) : FVec Ideal S65536x1024 .f32 :=
  concatenate S65536x1024 1 [⟨S65536x512, extf .f32 O bitsLt_bf16_f32⟩, ⟨S65536x512, extf .f32 O' bitsLt_bf16_f32⟩] concatenates_S65536x512_S65536x512_S65536x1024_d1

/-- The reference's scaled rows plus the projection. -/
def refSummed (X : FVec Ideal S65536x1024 .f32) (O O' : FVec Ideal S65536x512 .bf16) (W : FVec Ideal S1024x1024 .f32) : FVec Ideal S65536x1024 .f32 :=
  addf (mulf (broadcastInDim S65536x1024 ![] bcast_S_S65536x1024 (constant S_ .f32 0x3FD744FD#32)) X)
    (Host.dotGeneral dot_S65536x1024_S1024x1024_S65536x1024_1_0_0_1_n_n none (halves O O') W)

theorem ref_eq (m : (ℓ : Loc nD τ sig) → Buf (Elt Ideal) ℓ) (c : Dev nD) :
    Value.res_main_v30 m c = normed (m ((c : Thread nD τ).loc main_arg4)) (m ((c : Thread nD τ).loc main_arg5))
      (refSummed (m ((c : Thread nD τ).loc main_arg0)) (m ((c : Thread nD τ).loc main_arg1)) (m ((c : Thread nD τ).loc main_arg2)) (m ((c : Thread nD τ).loc main_arg3))) := by
  unfold Value.res_main_v30 refSummed halves normed Dense.Ref.devs Dense.Ref.along Dense.Ref.down Dense.Ref.means
  rfl

variable (X : S65536x1024.Idx → EReal) (O O' : S65536x512.Idx → EReal) (W : S1024x1024.Idx → EReal) (g b : S1024.Idx → EReal)

theorem halves_lo (r : Fin 65536) (k : Fin 512) : (halves O O' (ix2 r (Fin.castAdd 512 k)) : EReal) = O (ix2 r k) :=
  concatenate_pair_apply_left (s₁ := S65536x512) (s₂ := S65536x512) (t := S65536x1024) 1 _ _ _ _ rfl (ix2 r k) fun a => match a with
    | ⟨0, _⟩ => rfl
    | ⟨1, _⟩ => rfl

theorem halves_hi (r : Fin 65536) (k : Fin 512) : (halves O O' (ix2 r (Fin.natAdd 512 k)) : EReal) = O' (ix2 r k) :=
  concatenate_pair_apply_right (s₁ := S65536x512) (s₂ := S65536x512) (t := S65536x1024) 1 _ _ _ _ rfl rfl (ix2 r k)
    (fun a => match a with
      | ⟨0, _⟩ => fun _ => rfl
      | ⟨1, _⟩ => fun h => absurd rfl h)
    (Nat.add_comm _ _)

theorem refSummed_apply (r : Fin 65536) (j : Fin 1024) :
    (refSummed X O O' W (ix2 r j) : EReal) = Ideal.ofBits .f32 0x3FD744FD#32 * X (ix2 r j)
      + joined (fun k => O (ix2 r k)) (fun k => O' (ix2 r k)) (fun k j => W (ix2 k j)) j := by
  refine congrArg (fun z : EReal => Ideal.ofBits .f32 0x3FD744FD#32 * X (ix2 r j) + z) ?_
  refine (Idealize.ShloMosaic.StackMember.dotGeneral_plain_apply (m := 65536) (n := 1024) none (halves O O') W r j).trans ?_
  refine (Fin.sum_univ_add (a := 512) (b := 512) fun k : Fin 1024 => (halves O O' (ix2 r k) : EReal) * W (ix2 k j)).trans ?_
  refine congrArg₂ (fun y z : EReal => y + z) (Finset.sum_congr rfl fun k _ => ?_) (Finset.sum_congr rfl fun k _ => ?_)
  · exact congrArg (fun z : EReal => z * W (ix2 (Fin.castAdd 512 k) j)) (halves_lo O O' r k)
  · exact congrArg (fun z : EReal => z * W (ix2 (Fin.natAdd 512 k) j)) (halves_hi O O' r k)

/-- The reference's result is the kernel's. -/
theorem out_eq : (normed g b (refSummed X O O' W) : S65536x1024.Idx → EReal) = result X O O' W g b := by
  funext y
  obtain ⟨r, j, rfl⟩ : ∃ (r : Fin 65536) (j : Fin 1024), y = ix2 r j :=
    ⟨y (0 : Fin 2), y (1 : Fin 2), funext fun b => match b with | ⟨0, _⟩ => rfl | ⟨1, _⟩ => rfl⟩
  refine (normed_apply g b _ r j).trans ?_
  refine Eq.trans ?_ (rfl : resultAt X O O' W g b r j = _)
  unfold resultAt layer
  rw [funext (refSummed_apply X O O' W r)]

end

open Cert.Kernel4Ideal Cert.Kernel4Ideal.Gen
open Idealize.ShloMosaic Idealize.SL.Sem
open Idealize.ShloMosaic.TcCoe

theorem frame4_bits : Cert.quiescent_Kernel4 := fun m g _ => Cert.Kernel4.Gen.frame m g

theorem frame4_ideal : Cert.quiescent_Kernel4Ideal := fun m g _ => Cert.Kernel4Ideal.Gen.frame m g

/-- The reference ends with its arguments unchanged; it declares no semaphore. -/
theorem frame4_ref : Cert.quiescent_Reference4Ideal := fun m g _ =>
  (θ_run (Cert.Reference4Ideal.defs (F := Ideal)) _ _).mono (fun _ r => ⟨fun c => (r c).2, sem_eq_zero_of_no_sems (by decide) _⟩)
    (Cert.Reference4Ideal.Value.run m g)

/-- Over the extended reals the call's result is the reference's. -/
theorem algebraic4 : Cert.algebraic_Kernel4Ideal_Reference4Ideal := fun m g m' g' h hag =>
  ⟨fun c => result (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)),
    (θ_run (defs (F := Ideal)) _ _).mono (fun _ r c => ⟨(r c).1.trans (final_eq m _ _ _ _ _ _ c rfl rfl rfl rfl rfl rfl), (r c).2⟩)
      (Cert.Kernel4Ideal.Value.run_blocks m g),
    (θ_run (Cert.Reference4Ideal.defs (F := Ideal)) _ _).mono (fun _ r c => ⟨((r c).1.trans (ref_eq m' c)).trans (by
        obtain ⟨a0, a1, a2, a3, a4, a5⟩ := hag c
        rw [a0, a1, a2, a3, a4, a5]
        exact out_eq _ _ _ _ _ _), (r c).2⟩)
      (Cert.Reference4Ideal.Value.run m' g')⟩

end Cert.Proof.OutProj
-- ==== Proof.InProj.Apply.lean ====
/-
  The input projection over the extended reals, and what the body leaves of a block in each of its six results, read at
  an index: a row of the block against a column of one of the three weights.
-/
module

public import proofs.«01_k».proof.Proof.Gen.Kernel5Ideal.Value
public import Idealize.ShloMosaic.Lib.MatmulPlain
public import Idealize.ShloMosaic.Lib.IdealHost
public import Idealize.ShloMosaic.Lib.Pipeline.Value
public import Idealize.ShloMosaic.Lib.Pipeline.ValueKit

@[expose] public section

set_option maxRecDepth 16384

noncomputable section

namespace Cert.Proof.InProj

open Cert.Kernel5Ideal Cert.Kernel5Ideal.Gen
open Idealize.ShloMosaic hiding ix1 ix2 ix3
open Idealize.ShloMosaic.ValueIdx
open scoped BigOperators

theorem zeros2 : (![0, 0] : Fin 2 → ℕ) = fun _ => 0 := by decide
theorem zeros3 : (![0, 0, 0] : Fin 3 → ℕ) = fun _ => 0 := by decide

/-- A weight's columns, `off` past the first, that a body loads. -/
theorem cols_apply {K N : ℕ} (x : Vec Ideal ⟨2, ![1024, K]⟩ .bf16) (off : ℕ) (inb) (h) (k : Fin 1024) (j : Fin N) (hj : off + j.val < K) :
    shapeCast (⟨2, ![1024, N]⟩ : Shape)
        (View.ld (Val := Elt Ideal) (S := ⟨2, ![1024, K]⟩) (e' := .bf16) x (Rect.unit (s := ⟨2, ![1024, K]⟩) ![0, off] (⟨2, ![1024, N]⟩ : Shape).size inb)) h (ix2 k j)
      = (x (ix2 k ⟨off + j.val, hj⟩) : EReal) := by
  refine (congrFun (shapeCast_self (s := ⟨2, ![1024, N]⟩) _ h) (ix2 k j)).trans ?_
  exact View.ld_unit_apply_of x _ _ _ (ix2 k j) _ fun a => match a with
    | ⟨0, _⟩ => (Nat.zero_add _).symm
    | ⟨1, _⟩ => rfl

/-- A product of the block's rows with a weight's columns, at an index. -/
theorem prod_apply {N : ℕ} (x : FVec Ideal S512x1024 .f32) (w : FVec Ideal ⟨2, ![1024, N]⟩ .bf16) (r : Fin 512) (j : Fin N) :
    (matmul (DotDims.plain 512 1024 N) none (k0_pay2 (F := Ideal) x) w (constant ⟨2, ![512, N]⟩ .f32 0x00000000#32) (ix2 r j) : EReal)
      = ∑ k : Fin 1024, x (ix2 r k) * w (ix2 k j) := by
  have h := Ideal.matmul_plain_apply (M := 512) (K := 1024) (N := N) (φ₁ := .bf16) (φ₂ := .bf16) none (k0_pay2 (F := Ideal) x) w
    (constant ⟨2, ![512, N]⟩ .f32 0x00000000#32) r j
  have hz : (constant ⟨2, ![512, N]⟩ .f32 0x00000000#32 : FVec Ideal ⟨2, ![512, N]⟩ .f32) (ix2 r j) = (0 : EReal) := Ideal.ofBits_zero_f32
  rw [hz, zero_add] at h
  exact h

/-- The same of a weight's loaded columns. -/
theorem part_apply {K N : ℕ} (x : FVec Ideal S512x1024 .f32) (w : Vec Ideal ⟨2, ![1024, K]⟩ .bf16) (off : ℕ) (inb) (h) (r : Fin 512) (j : Fin N)
    (hj : off + j.val < K) :
    (matmul (φ₂ := .bf16) (DotDims.plain 512 1024 N) none (k0_pay2 (F := Ideal) x)
        (shapeCast (⟨2, ![1024, N]⟩ : Shape)
          (View.ld (Val := Elt Ideal) (S := ⟨2, ![1024, K]⟩) (e' := .bf16) w (Rect.unit (s := ⟨2, ![1024, K]⟩) ![0, off] (⟨2, ![1024, N]⟩ : Shape).size inb)) h)
        (constant ⟨2, ![512, N]⟩ .f32 0x00000000#32) (ix2 r j) : EReal)
      = ∑ k : Fin 1024, x (ix2 r k) * w (ix2 k ⟨off + j.val, hj⟩) :=
  (prod_apply x _ r j).trans (Finset.sum_congr rfl fun k _ => congrArg (fun z : EReal => x (ix2 r k) * z) (cols_apply w off inb h k j hj))

section
variable (x0 : Vec Ideal S512x1024 .f32) (x1 : Vec Ideal S1024x2176 .bf16) (x2 : Vec Ideal S1024x1024 .bf16) (x3 : Vec Ideal S512x1024 .bf16)

theorem out4_apply (r : Fin 512) (j : Fin 1536) :
    (out0_4 x0 x1 x2 x3 (ix2 r j) : EReal) = ∑ k : Fin 1024, x0 (ix2 r k) * x1 (ix2 k ⟨0 + j.val, by omega⟩) := by
  unfold out0_4
  rw [View.canon_unit_zero (S := S512x1536) zeros2, View.ld_unit_zero (S := S512x1024) zeros2]
  exact part_apply x0 x1 0 _ _ r j _

theorem out5_apply (r j : Fin 512) :
    (out0_5 x0 x1 x2 x3 (ix2 r j) : EReal) = ∑ k : Fin 1024, x0 (ix2 r k) * x1 (ix2 k ⟨1536 + j.val, by omega⟩) := by
  unfold out0_5
  rw [View.canon_unit_zero (S := S512x512) zeros2, View.ld_unit_zero (S := S512x1024) zeros2]
  exact part_apply x0 x1 1536 _ _ r j _

theorem out6_apply (r : Fin 512) (j : Fin 128) :
    (out0_6 x0 x1 x2 x3 (ix2 r j) : EReal) = ∑ k : Fin 1024, x0 (ix2 r k) * x1 (ix2 k ⟨2048 + j.val, by omega⟩) := by
  unfold out0_6
  rw [View.canon_unit_zero (S := S512x128) zeros2, View.ld_unit_zero (S := S512x1024) zeros2]
  exact part_apply x0 x1 2048 _ _ r j _

theorem out7_apply (r j : Fin 512) :
    (out0_7 x0 x1 x2 x3 (ix2 r j) : EReal)
      = (∑ k : Fin 1024, x0 (ix2 r k) * x2 (ix2 k ⟨0 + j.val, by omega⟩)) * Ideal.ofBits .f32 0x3E38AA3B#32 := by
  unfold out0_7
  rw [View.canon_unit_zero (S := S512x512) zeros2, View.ld_unit_zero (S := S512x1024) zeros2]
  exact congrArg (fun z : EReal => z * Ideal.ofBits .f32 0x3E38AA3B#32) (part_apply x0 x2 0 _ _ r j _)

theorem out8_apply (r j : Fin 512) :
    (out0_8 x0 x1 x2 x3 (ix2 r j) : EReal) = ∑ k : Fin 1024, x0 (ix2 r k) * x2 (ix2 k ⟨512 + j.val, by omega⟩) := by
  unfold out0_8
  rw [View.canon_unit_zero (S := S512x512) zeros2, View.ld_unit_zero (S := S512x1024) zeros2]
  exact part_apply x0 x2 512 _ _ r j _

/-- The sixth result's block is the product by columns, its rows the weight's. -/
theorem out9_apply (d s : Fin 512) :
    (out0_9 x0 x1 x2 x3 (ix3 0 d s) : EReal) = ∑ k : Fin 1024, x0 (ix2 s k) * x3 (ix2 d k) := by
  unfold out0_9
  rw [View.canon_unit_zero (S := S1x512x512) zeros3, View.ld_unit_zero (S := S512x1024) zeros2, View.ld_unit_zero (S := S512x1024) zeros2]
  unfold k0_pay1
  refine (shapeCast_apply (s := S512x512) (t := S1x512x512) _ _ (ix3 0 d s) (ix2 d s) ?_).trans ?_
  · rw [Shape.rowMajor_val_two, Shape.rowMajor_val_three]
    show d.val * 512 + s.val = (0 * 512 + d.val) * 512 + s.val
    omega
  have h := Ideal.matmul_transposedRhs_apply (M := 512) (K := 1024) (N := 512) (φ₁ := .bf16) (φ₂ := .bf16) none
    (shapeCast S512x1024 x3 shapeCasts_S512x1024_S512x1024) (k0_pay2 (F := Ideal) x0) (constant S512x512 .f32 0x00000000#32) d s
  have hz : (constant S512x512 .f32 0x00000000#32 : FVec Ideal S512x512 .f32) (ix2 d s) = (0 : EReal) := Ideal.ofBits_zero_f32
  rw [hz, zero_add] at h
  refine h.trans (Finset.sum_congr rfl fun k _ => ?_)
  refine (congrArg (fun z : EReal => z * x0 (ix2 s k)) (congrFun (shapeCast_self (s := S512x1024) x3 _) (ix2 d k))).trans ?_
  exact mul_comm _ _

end

end Cert.Proof.InProj
-- ==== Proof.InProj.Operands.lean ====
/-
  The six results of the input projection as functions of its arguments, and the call's operands: the blocks of rows and
  the three weights that the host's operations cut, pad and turn from one.
-/
module

public import proofs.«01_k».proof.Proof.InProj.Apply

@[expose] public section

set_option maxRecDepth 16384

noncomputable section

namespace Cert.Proof.InProj

open Cert.Kernel5Ideal Cert.Kernel5Ideal.Gen
open Idealize.ShloMosaic hiding ix1 ix2 ix3
open Idealize.ShloMosaic.ValueIdx
open Idealize.ShloMosaic.TcCoe Idealize.ShloMosaic.StableHlo
open Idealize.ShloMosaic.Pipeline (Dat Cfg Window)
open scoped BigOperators

section
variable (X : S65536x1024.Idx → EReal) (W : S1024x3600.Idx → EReal)

/-- A row against a column of the weight. -/
def entry (r : Fin 65536) (c : Fin 3600) : EReal := ∑ k : Fin 1024, X (ix2 r k) * W (ix2 k c)

/-- The first result: the first 1536 columns. -/
def qkvAt (r : Fin 65536) (j : Fin 1536) : EReal := entry X W r ⟨j.val, by omega⟩
/-- The second: the next 512. -/
def gateAt (r : Fin 65536) (j : Fin 512) : EReal := entry X W r ⟨1536 + j.val, by omega⟩
/-- The third: the next 16, and zeros up to 128. -/
def tailAt (r : Fin 65536) (j : Fin 128) : EReal := if h : j.val < 16 then entry X W r ⟨2048 + j.val, by omega⟩ else 0
/-- The fourth: the next 512, scaled. -/
def queryAt (r : Fin 65536) (j : Fin 512) : EReal := entry X W r ⟨2064 + j.val, by omega⟩ * Ideal.ofBits .f32 0x3E38AA3B#32
/-- The fifth: the next 512. -/
def keyAt (r : Fin 65536) (j : Fin 512) : EReal := entry X W r ⟨2576 + j.val, by omega⟩
/-- The sixth: the last 512, turned within each of the 8 sequences. -/
def valueAt (b : Fin 8) (d : Fin 512) (s : Fin 8192) : EReal := entry X W ⟨b.val * 8192 + s.val, by omega⟩ ⟨3088 + d.val, by omega⟩

def qkv : S65536x1536.Idx → EReal := fun y => qkvAt X W (y 0) (y 1)
def gate : S65536x512.Idx → EReal := fun y => gateAt X W (y 0) (y 1)
def tail : S65536x128.Idx → EReal := fun y => tailAt X W (y 0) (y 1)
def query : S65536x512.Idx → EReal := fun y => queryAt X W (y 0) (y 1)
def key : S65536x512.Idx → EReal := fun y => keyAt X W (y 0) (y 1)
def value : S8x512x8192.Idx → EReal := fun y => valueAt X W (y 0) (y 1) (y 2)

/-- The first weight: the first 2064 columns, and zeros up to 2176. -/
def padded : S1024x2176.Idx → EReal :=
  concatenate S1024x2176 1 [⟨S1024x2064, extractStridedSlice S1024x2064 ![0, 0] W slices_S1024x3600_S1024x2064_0_0⟩,
    ⟨S1024x112, broadcastInDim S1024x112 ![] bcast_S_S1024x112 (constant (F := Ideal) S_ .f32 0x00000000#32)⟩] concatenates_S1024x2064_S1024x112_S1024x2176_d1

theorem padded_lo (k : Fin 1024) (c : Fin 2176) (h : c.val < 2064) : padded W (ix2 k c) = W (ix2 k ⟨c.val, by omega⟩) := by
  refine (concatenate_pair_apply_left (s₁ := S1024x2064) (s₂ := S1024x112) (t := S1024x2176) 1 _ _ _ _ rfl (ix2 k ⟨c.val, h⟩) fun a => match a with
    | ⟨0, _⟩ => rfl
    | ⟨1, _⟩ => rfl).trans ?_
  exact extractStridedSlice_apply (s := S1024x3600) (t := S1024x2064) _ W _ (ix2 k ⟨c.val, h⟩) _ fun a => match a with
    | ⟨0, _⟩ => (Nat.zero_add _).symm
    | ⟨1, _⟩ => (Nat.zero_add _).symm

theorem padded_hi (k : Fin 1024) (c : Fin 2176) (h : ¬ c.val < 2064) : padded W (ix2 k c) = 0 := by
  refine (concatenate_pair_apply_right (s₁ := S1024x2064) (s₂ := S1024x112) (t := S1024x2176) 1 _ _ _ _ rfl rfl (ix2 k ⟨c.val - 2064, by omega⟩)
    (fun a => match a with
      | ⟨0, _⟩ => fun _ => rfl
      | ⟨1, _⟩ => fun h => absurd rfl h) ?_).trans Ideal.ofBits_zero_f32
  show c.val - 2064 + 2064 = c.val
  omega

/-- The second weight: the columns of queries and keys. -/
def middle : S1024x1024.Idx → EReal := extractStridedSlice S1024x1024 ![0, 2064] W slices_S1024x3600_S1024x1024_0_2064

theorem middle_apply (k c : Fin 1024) : middle W (ix2 k c) = W (ix2 k ⟨2064 + c.val, by omega⟩) :=
  extractStridedSlice_apply (s := S1024x3600) (t := S1024x1024) _ W _ (ix2 k c) _ fun a => match a with
    | ⟨0, _⟩ => (Nat.zero_add _).symm
    | ⟨1, _⟩ => rfl

/-- The third weight: the columns of values, as rows. -/
def turned : S512x1024.Idx → EReal :=
  transpose S512x1024 [1, 0] (extractStridedSlice S1024x512 ![0, 3088] W slices_S1024x3600_S1024x512_0_3088) transposes_S1024x512_S512x1024_1_0

theorem turned_apply (d : Fin 512) (k : Fin 1024) : turned W (ix2 d k) = W (ix2 k ⟨3088 + d.val, by omega⟩) :=
  (transpose_apply (s := S1024x512) (t := S512x1024) _ _ transposes_S1024x512_S512x1024_1_0 (ix2 d k) (ix2 k d) fun a => match a with
    | ⟨0, _⟩ => rfl
    | ⟨1, _⟩ => rfl).trans
  (extractStridedSlice_apply (s := S1024x3600) (t := S1024x512) _ W _ (ix2 k d) _ fun a => match a with
    | ⟨0, _⟩ => (Nat.zero_add _).symm
    | ⟨1, _⟩ => rfl)

end

variable (m : (ℓ : Loc nD τ sig) → Buf (Elt Ideal) ℓ)

/-- What the host's operations before the call leave in the call's operands. -/
theorem V_padded (c : Dev nD) : (V m c main_v3 : S1024x2176.Idx → EReal) = padded (m ((c : Thread nD τ).loc main_arg1)) := by
  unfold_abbrev_sides
  after_results
  rfl
theorem V_middle (c : Dev nD) : (V m c main_v5 : S1024x1024.Idx → EReal) = middle (m ((c : Thread nD τ).loc main_arg1)) := by
  unfold_abbrev_sides
  after_results
  rfl
theorem V_turned (c : Dev nD) : (V m c main_v8 : S512x1024.Idx → EReal) = turned (m ((c : Thread nD τ).loc main_arg1)) := by
  unfold_abbrev_sides
  after_results
  rfl

theorem num_val (t : Fin cfg0.N) : (BitVec.ofNat 32 (grid0.coords t 0).val).toNat = t.val := by
  have e : grid0.N = 128 := by decide
  have h : t.val < 128 := Nat.lt_of_lt_of_eq t.isLt e
  have hc : (grid0.coords t 0).val = t.val := by
    refine (Pipeline.Grid.coords_val (G := grid0) t 0 (S := 1) (B := 128) (by decide) rfl).trans ?_
    omega
  rw [hc, BitVec.toNat_ofNat, Nat.mod_eq_of_lt (by omega)]

/-- A point as a block's number. -/
abbrev blkNo (t : Fin cfg0.N) : Fin 128 := ⟨t.val, Nat.lt_of_lt_of_eq t.isLt (by decide : grid0.N = 128)⟩

theorem ix_0 (t : Fin cfg0.N) : (cfg0.win (0 : Fin 10)).index t (0 : Fin 2) = t.val := num_val t

variable (X : S65536x1024.Idx → EReal) (W : S1024x3600.Idx → EReal)

theorem rows_apply (c : Dev nD) (h : m ((c : Thread nD τ).loc main_arg0) = X) (t : Fin cfg0.N) (r : Fin 512) (k : Fin 1024) :
    (iblk m c (0 : Fin 10) t : S512x1024.Idx → EReal) (ix2 r k) = X (ix2 ⟨(blkNo t).val * 512 + r.val, by omega⟩ k) := by
  subst h
  refine Eq.trans (b := (V m c main_arg0 : S65536x1024.Idx → EReal) (((cfg0.win (0 : Fin 10)).rect t).emb (ix2 r k))) rfl ?_
  rw [V_main_arg0]
  refine congrArg (m ((c : Thread nD τ).loc main_arg0)) (funext fun b => Fin.ext ?_)
  match b with
  | ⟨0, _⟩ => exact (Window.rect_emb_val (cfg0.win (0 : Fin 10)) t (ix2 r k) (0 : Fin 2) rfl).trans (by rw [ix_0]; rfl)
  | ⟨1, _⟩ => exact (Window.rect_emb_val (cfg0.win (0 : Fin 10)) t (ix2 r k) (1 : Fin 2) rfl).trans (Nat.zero_add _)

theorem padded_blk (c : Dev nD) (h : m ((c : Thread nD τ).loc main_arg1) = W) (t : Fin cfg0.N) (k : Fin 1024) (j : Fin 2176) :
    (iblk m c (1 : Fin 10) t : S1024x2176.Idx → EReal) (ix2 k j) = padded W (ix2 k j) := by
  refine Eq.trans (b := (V m c main_v3 : S1024x2176.Idx → EReal) (((cfg0.win (1 : Fin 10)).rect t).emb (ix2 k j))) rfl ?_
  rw [V_padded, h]
  refine congrArg (padded W) (funext fun b => Fin.ext ?_)
  match b with
  | ⟨0, _⟩ => exact (Window.rect_emb_val (cfg0.win (1 : Fin 10)) t (ix2 k j) (0 : Fin 2) rfl).trans (Nat.zero_add _)
  | ⟨1, _⟩ => exact (Window.rect_emb_val (cfg0.win (1 : Fin 10)) t (ix2 k j) (1 : Fin 2) rfl).trans (Nat.zero_add _)

theorem middle_blk (c : Dev nD) (h : m ((c : Thread nD τ).loc main_arg1) = W) (t : Fin cfg0.N) (k j : Fin 1024) :
    (iblk m c (2 : Fin 10) t : S1024x1024.Idx → EReal) (ix2 k j) = W (ix2 k ⟨2064 + j.val, by omega⟩) := by
  refine Eq.trans (b := (V m c main_v5 : S1024x1024.Idx → EReal) (((cfg0.win (2 : Fin 10)).rect t).emb (ix2 k j))) rfl ?_
  rw [V_middle, h]
  refine (congrArg (middle W) (funext fun b => Fin.ext ?_)).trans (middle_apply W k j)
  match b with
  | ⟨0, _⟩ => exact (Window.rect_emb_val (cfg0.win (2 : Fin 10)) t (ix2 k j) (0 : Fin 2) rfl).trans (Nat.zero_add _)
  | ⟨1, _⟩ => exact (Window.rect_emb_val (cfg0.win (2 : Fin 10)) t (ix2 k j) (1 : Fin 2) rfl).trans (Nat.zero_add _)

theorem turned_blk (c : Dev nD) (h : m ((c : Thread nD τ).loc main_arg1) = W) (t : Fin cfg0.N) (d : Fin 512) (k : Fin 1024) :
    (iblk m c (3 : Fin 10) t : S512x1024.Idx → EReal) (ix2 d k) = W (ix2 k ⟨3088 + d.val, by omega⟩) := by
  refine Eq.trans (b := (V m c main_v8 : S512x1024.Idx → EReal) (((cfg0.win (3 : Fin 10)).rect t).emb (ix2 d k))) rfl ?_
  rw [V_turned, h]
  refine (congrArg (turned W) (funext fun b => Fin.ext ?_)).trans (turned_apply W d k)
  match b with
  | ⟨0, _⟩ => exact (Window.rect_emb_val (cfg0.win (3 : Fin 10)) t (ix2 d k) (0 : Fin 2) rfl).trans (Nat.zero_add _)
  | ⟨1, _⟩ => exact (Window.rect_emb_val (cfg0.win (3 : Fin 10)) t (ix2 d k) (1 : Fin 2) rfl).trans (Nat.zero_add _)

end Cert.Proof.InProj
-- ==== Proof.InProj.Result.lean ====
/-
  What the six results' arrays hold after the input projection's call: at every row the row against the weight's columns.
-/
module

public import proofs.«01_k».proof.Proof.InProj.Operands

@[expose] public section

set_option maxRecDepth 16384

noncomputable section

namespace Cert.Proof.InProj

open Cert.Kernel5Ideal Cert.Kernel5Ideal.Gen
open Idealize.ShloMosaic hiding ix1 ix2 ix3
open Idealize.ShloMosaic.ValueIdx
open Idealize.ShloMosaic.TcCoe Idealize.ShloMosaic.StableHlo
open Idealize.ShloMosaic.Pipeline (Dat Cfg Window)
open scoped BigOperators

theorem ix_4 (t : Fin cfg0.N) : (cfg0.win (4 : Fin 10)).index t (0 : Fin 2) = t.val := num_val t
theorem ix_5 (t : Fin cfg0.N) : (cfg0.win (5 : Fin 10)).index t (0 : Fin 2) = t.val := num_val t
theorem ix_6 (t : Fin cfg0.N) : (cfg0.win (6 : Fin 10)).index t (0 : Fin 2) = t.val := num_val t
theorem ix_7 (t : Fin cfg0.N) : (cfg0.win (7 : Fin 10)).index t (0 : Fin 2) = t.val := num_val t
theorem ix_8 (t : Fin cfg0.N) : (cfg0.win (8 : Fin 10)).index t (0 : Fin 2) = t.val := num_val t
/-- Sixteen blocks of the sixth result lie in each sequence. -/
theorem ix_9 : ∀ t : Fin cfg0.N, (cfg0.win (9 : Fin 10)).index t (0 : Fin 3) = t.val / 16 ∧ (cfg0.win (9 : Fin 10)).index t (2 : Fin 3) = t.val % 16 :=
  (by decide +kernel : ∀ t : Fin grid0.N, win0_9.index t (0 : Fin 3) = t.val / 16 ∧ win0_9.index t (2 : Fin 3) = t.val % 16)

/-- A row's block. -/
def pointOf (i : ℕ) (h : i < 65536) : Fin cfg0.N := ⟨i / 512, by
  have hN : grid0.N = 128 := by decide
  show _ < grid0.N
  omega⟩

theorem in_block (i : ℕ) : i / 512 * 512 ≤ i ∧ i < i / 512 * 512 + 512 := by omega

theorem eq_ix2 {n k : ℕ} (y : (⟨2, ![n, k]⟩ : Shape).Idx) : y = ix2 (n0 := n) (n1 := k) (y 0) (y 1) :=
  funext fun b => match b with | ⟨0, _⟩ => rfl | ⟨1, _⟩ => rfl

section
variable (X : S65536x1024.Idx → EReal) (W : S1024x3600.Idx → EReal) (x0 : S512x1024.Idx → EReal) (R : Fin 65536) (r : Fin 512)
  (hx : ∀ k, x0 (ix2 r k) = X (ix2 R k))
include hx

/-- A row against a column of the padded weight that is one of the argument's. -/
theorem entry_padded (x1 : S1024x2176.Idx → EReal) (hw : ∀ k j, x1 (ix2 k j) = padded W (ix2 k j)) (j : Fin 2176) (h : j.val < 2064) :
    ∑ k : Fin 1024, x0 (ix2 r k) * x1 (ix2 k j) = entry X W R ⟨j.val, by omega⟩ :=
  Finset.sum_congr rfl fun k _ => by rw [hx, hw, padded_lo W k j h]

/-- Against a column of the second weight. -/
theorem entry_middle (x2 : S1024x1024.Idx → EReal) (hw : ∀ k j : Fin 1024, x2 (ix2 k j) = W (ix2 k ⟨2064 + j.val, by omega⟩)) (j : Fin 1024) :
    ∑ k : Fin 1024, x0 (ix2 r k) * x2 (ix2 k j) = entry X W R ⟨2064 + j.val, by omega⟩ :=
  Finset.sum_congr rfl fun k _ => by rw [hx, hw]

/-- Against a row of the third. -/
theorem entry_turned (x3 : S512x1024.Idx → EReal) (hw : ∀ (d : Fin 512) (k : Fin 1024), x3 (ix2 d k) = W (ix2 k ⟨3088 + d.val, by omega⟩)) (d : Fin 512) :
    ∑ k : Fin 1024, x0 (ix2 r k) * x3 (ix2 d k) = entry X W R ⟨3088 + d.val, by omega⟩ :=
  Finset.sum_congr rfl fun k _ => by rw [hx, hw]

end

/-- Against a column of zeros. -/
theorem entry_zero (W : S1024x3600.Idx → EReal) (x0 : S512x1024.Idx → EReal) (r : Fin 512) (x1 : S1024x2176.Idx → EReal)
    (hw : ∀ k j, x1 (ix2 k j) = padded W (ix2 k j)) (j : Fin 2176) (h : ¬ j.val < 2064) : ∑ k : Fin 1024, x0 (ix2 r k) * x1 (ix2 k j) = 0 :=
  Finset.sum_eq_zero fun k _ => by rw [hw, padded_hi W k j h, mul_zero]

variable (m : (ℓ : Loc nD τ sig) → Buf (Elt Ideal) ℓ) (X : S65536x1024.Idx → EReal) (W : S1024x3600.Idx → EReal)

variable (c : Dev nD) (h0 : m ((c : Thread nD τ).loc main_arg0) = X) (h1 : m ((c : Thread nD τ).loc main_arg1) = W)
include h0 h1

theorem final_qkv : (dats m 0 c).arrAt (4 : Fin 10) cfg0.N = qkv X W := by
  refine (dats m 0 c).arrAt_eq_of_emb (4 : Fin 10) _ (fun t hf y => ?_) fun i => ?_
  · obtain ⟨r, j, rfl⟩ : ∃ (r : Fin 512) (j : Fin 1536), y = ix2 r j := ⟨_, _, eq_ix2 y⟩
    refine (congrFun (Cert.Kernel5Ideal.Value.flushed4 m c t) (ix2 r j)).trans ((out4_apply _ _ _ _ r j).trans ?_)
    refine (entry_padded X W _ _ r (rows_apply m X c h0 t r) _ (padded_blk m W c h1 t) ⟨0 + j.val, by omega⟩ (by show 0 + j.val < 2064; omega)).trans (congrArg₂ (entry X W) (Fin.ext ?_) (Fin.ext ?_))
    · exact ((Window.rect_emb_val (cfg0.win (4 : Fin 10)) t (ix2 r j) (0 : Fin 2) rfl).trans (by rw [ix_4]; rfl)).symm
    · exact (Window.rect_emb_val (cfg0.win (4 : Fin 10)) t (ix2 r j) (1 : Fin 2) rfl).symm
  · have hi : (i (0 : Fin 2)).val < 65536 := (i (0 : Fin 2)).isLt
    have hk : (i (1 : Fin 2)).val < 1536 := (i (1 : Fin 2)).isLt
    refine ⟨pointOf _ hi, flush0_4 _, (Window.emb_mem_blk_iff (cfg0.win (4 : Fin 10)) _ i rfl).mpr fun b => ?_⟩
    match b with
    | ⟨0, _⟩ =>
      rw [show (⟨0, _⟩ : Fin _) = (0 : Fin 2) from rfl, ix_4]
      exact in_block _
    | ⟨1, _⟩ =>
      show 0 * 1536 ≤ (i (1 : Fin 2)).val ∧ (i (1 : Fin 2)).val < 0 * 1536 + 1536
      omega

theorem final_gate : (dats m 0 c).arrAt (5 : Fin 10) cfg0.N = gate X W := by
  refine (dats m 0 c).arrAt_eq_of_emb (5 : Fin 10) _ (fun t hf y => ?_) fun i => ?_
  · obtain ⟨r, j, rfl⟩ : ∃ (r j : Fin 512), y = ix2 r j := ⟨_, _, eq_ix2 y⟩
    refine (congrFun (Cert.Kernel5Ideal.Value.flushed5 m c t) (ix2 r j)).trans ((out5_apply _ _ _ _ r j).trans ?_)
    refine (entry_padded X W _ _ r (rows_apply m X c h0 t r) _ (padded_blk m W c h1 t) ⟨1536 + j.val, by omega⟩ (by show 1536 + j.val < 2064; omega)).trans (congrArg₂ (gateAt X W) (Fin.ext ?_) (Fin.ext ?_))
    · exact ((Window.rect_emb_val (cfg0.win (5 : Fin 10)) t (ix2 r j) (0 : Fin 2) rfl).trans (by rw [ix_5]; rfl)).symm
    · exact ((Window.rect_emb_val (cfg0.win (5 : Fin 10)) t (ix2 r j) (1 : Fin 2) rfl).trans (Nat.zero_add _)).symm
  · have hi : (i (0 : Fin 2)).val < 65536 := (i (0 : Fin 2)).isLt
    have hk : (i (1 : Fin 2)).val < 512 := (i (1 : Fin 2)).isLt
    refine ⟨pointOf _ hi, flush0_5 _, (Window.emb_mem_blk_iff (cfg0.win (5 : Fin 10)) _ i rfl).mpr fun b => ?_⟩
    match b with
    | ⟨0, _⟩ =>
      rw [show (⟨0, _⟩ : Fin _) = (0 : Fin 2) from rfl, ix_5]
      exact in_block _
    | ⟨1, _⟩ =>
      show 0 * 512 ≤ (i (1 : Fin 2)).val ∧ (i (1 : Fin 2)).val < 0 * 512 + 512
      omega

theorem final_tail : (dats m 0 c).arrAt (6 : Fin 10) cfg0.N = tail X W := by
  refine (dats m 0 c).arrAt_eq_of_emb (6 : Fin 10) _ (fun t hf y => ?_) fun i => ?_
  · obtain ⟨r, j, rfl⟩ : ∃ (r : Fin 512) (j : Fin 128), y = ix2 r j := ⟨_, _, eq_ix2 y⟩
    refine (congrFun (Cert.Kernel5Ideal.Value.flushed6 m c t) (ix2 r j)).trans ((out6_apply _ _ _ _ r j).trans ?_)
    refine Eq.trans (b := tailAt X W ⟨(blkNo t).val * 512 + r.val, by omega⟩ j) ?_ (congrArg₂ (tailAt X W) (Fin.ext ?_) (Fin.ext ?_))
    · unfold tailAt
      split
      · next h => exact entry_padded X W _ _ r (rows_apply m X c h0 t r) _ (padded_blk m W c h1 t) ⟨2048 + j.val, by omega⟩ (by show 2048 + j.val < 2064; omega)
      · next h => exact entry_zero W _ r _ (padded_blk m W c h1 t) ⟨2048 + j.val, by omega⟩ (by show ¬ 2048 + j.val < 2064; omega)
    · exact ((Window.rect_emb_val (cfg0.win (6 : Fin 10)) t (ix2 r j) (0 : Fin 2) rfl).trans (by rw [ix_6]; rfl)).symm
    · exact ((Window.rect_emb_val (cfg0.win (6 : Fin 10)) t (ix2 r j) (1 : Fin 2) rfl).trans (Nat.zero_add _)).symm
  · have hi : (i (0 : Fin 2)).val < 65536 := (i (0 : Fin 2)).isLt
    have hk : (i (1 : Fin 2)).val < 128 := (i (1 : Fin 2)).isLt
    refine ⟨pointOf _ hi, flush0_6 _, (Window.emb_mem_blk_iff (cfg0.win (6 : Fin 10)) _ i rfl).mpr fun b => ?_⟩
    match b with
    | ⟨0, _⟩ =>
      rw [show (⟨0, _⟩ : Fin _) = (0 : Fin 2) from rfl, ix_6]
      exact in_block _
    | ⟨1, _⟩ =>
      show 0 * 128 ≤ (i (1 : Fin 2)).val ∧ (i (1 : Fin 2)).val < 0 * 128 + 128
      omega

theorem final_query : (dats m 0 c).arrAt (7 : Fin 10) cfg0.N = query X W := by
  refine (dats m 0 c).arrAt_eq_of_emb (7 : Fin 10) _ (fun t hf y => ?_) fun i => ?_
  · obtain ⟨r, j, rfl⟩ : ∃ (r j : Fin 512), y = ix2 r j := ⟨_, _, eq_ix2 y⟩
    refine (congrFun (Cert.Kernel5Ideal.Value.flushed7 m c t) (ix2 r j)).trans ((out7_apply _ _ _ _ r j).trans ?_)
    refine (congrArg (fun z : EReal => z * Ideal.ofBits .f32 0x3E38AA3B#32) (entry_middle X W _ _ r (rows_apply m X c h0 t r) _ (middle_blk m W c h1 t) _)).trans ?_
    refine Eq.trans (b := queryAt X W ⟨(blkNo t).val * 512 + r.val, by omega⟩ j) ?_ (congrArg₂ (queryAt X W) (Fin.ext ?_) (Fin.ext ?_))
    · exact congrArg (fun i : Fin 3600 => entry X W _ i * Ideal.ofBits .f32 0x3E38AA3B#32) (Fin.ext (by show 2064 + (0 + j.val) = 2064 + j.val; omega))
    · exact ((Window.rect_emb_val (cfg0.win (7 : Fin 10)) t (ix2 r j) (0 : Fin 2) rfl).trans (by rw [ix_7]; rfl)).symm
    · exact ((Window.rect_emb_val (cfg0.win (7 : Fin 10)) t (ix2 r j) (1 : Fin 2) rfl).trans (Nat.zero_add _)).symm
  · have hi : (i (0 : Fin 2)).val < 65536 := (i (0 : Fin 2)).isLt
    have hk : (i (1 : Fin 2)).val < 512 := (i (1 : Fin 2)).isLt
    refine ⟨pointOf _ hi, flush0_7 _, (Window.emb_mem_blk_iff (cfg0.win (7 : Fin 10)) _ i rfl).mpr fun b => ?_⟩
    match b with
    | ⟨0, _⟩ =>
      rw [show (⟨0, _⟩ : Fin _) = (0 : Fin 2) from rfl, ix_7]
      exact in_block _
    | ⟨1, _⟩ =>
      show 0 * 512 ≤ (i (1 : Fin 2)).val ∧ (i (1 : Fin 2)).val < 0 * 512 + 512
      omega

theorem final_key : (dats m 0 c).arrAt (8 : Fin 10) cfg0.N = key X W := by
  refine (dats m 0 c).arrAt_eq_of_emb (8 : Fin 10) _ (fun t hf y => ?_) fun i => ?_
  · obtain ⟨r, j, rfl⟩ : ∃ (r j : Fin 512), y = ix2 r j := ⟨_, _, eq_ix2 y⟩
    refine (congrFun (Cert.Kernel5Ideal.Value.flushed8 m c t) (ix2 r j)).trans ((out8_apply _ _ _ _ r j).trans ?_)
    refine (entry_middle X W _ _ r (rows_apply m X c h0 t r) _ (middle_blk m W c h1 t) _).trans ?_
    refine Eq.trans (b := keyAt X W ⟨(blkNo t).val * 512 + r.val, by omega⟩ j) ?_ (congrArg₂ (keyAt X W) (Fin.ext ?_) (Fin.ext ?_))
    · exact congrArg (entry X W _) (Fin.ext (by show 2064 + (512 + j.val) = 2576 + j.val; omega))
    · exact ((Window.rect_emb_val (cfg0.win (8 : Fin 10)) t (ix2 r j) (0 : Fin 2) rfl).trans (by rw [ix_8]; rfl)).symm
    · exact ((Window.rect_emb_val (cfg0.win (8 : Fin 10)) t (ix2 r j) (1 : Fin 2) rfl).trans (Nat.zero_add _)).symm
  · have hi : (i (0 : Fin 2)).val < 65536 := (i (0 : Fin 2)).isLt
    have hk : (i (1 : Fin 2)).val < 512 := (i (1 : Fin 2)).isLt
    refine ⟨pointOf _ hi, flush0_8 _, (Window.emb_mem_blk_iff (cfg0.win (8 : Fin 10)) _ i rfl).mpr fun b => ?_⟩
    match b with
    | ⟨0, _⟩ =>
      rw [show (⟨0, _⟩ : Fin _) = (0 : Fin 2) from rfl, ix_8]
      exact in_block _
    | ⟨1, _⟩ =>
      show 0 * 512 ≤ (i (1 : Fin 2)).val ∧ (i (1 : Fin 2)).val < 0 * 512 + 512
      omega

theorem final_value : (dats m 0 c).arrAt (9 : Fin 10) cfg0.N = value X W := by
  refine (dats m 0 c).arrAt_eq_of_emb (9 : Fin 10) _ (fun t hf y => ?_) fun i => ?_
  · obtain ⟨d, s, rfl⟩ : ∃ (d s : Fin 512), y = ix3 (n0 := 1) 0 d s :=
      ⟨y (1 : Fin 3), y (2 : Fin 3), funext fun b => match b with
        | ⟨0, _⟩ => Fin.ext (Nat.lt_one_iff.mp (y (0 : Fin 3)).isLt)
        | ⟨1, _⟩ => rfl
        | ⟨2, _⟩ => rfl⟩
    refine (congrFun (Cert.Kernel5Ideal.Value.flushed9 m c t) (ix3 0 d s)).trans ((out9_apply _ _ _ _ d s).trans ?_)
    refine (entry_turned X W _ _ s (rows_apply m X c h0 t s) _ (turned_blk m W c h1 t) d).trans (congrArg₂ (entry X W) (Fin.ext ?_) (Fin.ext ?_))
    · have e0 := Window.rect_emb_val (cfg0.win (9 : Fin 10)) t (ix3 (n0 := 1) 0 d s) (0 : Fin 3) rfl
      have e2 := Window.rect_emb_val (cfg0.win (9 : Fin 10)) t (ix3 (n0 := 1) 0 d s) (2 : Fin 3) rfl
      rw [(ix_9 t).1] at e0
      rw [(ix_9 t).2] at e2
      refine Eq.trans ?_ (congrArg₂ (fun a b : ℕ => a * 8192 + b) e0 e2).symm
      show t.val * 512 + s.val = (t.val / 16 * 1 + 0) * 8192 + (t.val % 16 * 512 + s.val)
      omega
    · exact (congrArg (fun a : ℕ => 3088 + a) ((Window.rect_emb_val (cfg0.win (9 : Fin 10)) t (ix3 (n0 := 1) 0 d s) (1 : Fin 3) rfl).trans (Nat.zero_add _))).symm
  · have hb : (i (0 : Fin 3)).val < 8 := (i (0 : Fin 3)).isLt
    have hd : (i (1 : Fin 3)).val < 512 := (i (1 : Fin 3)).isLt
    have hs : (i (2 : Fin 3)).val < 8192 := (i (2 : Fin 3)).isLt
    have hi : (i (0 : Fin 3)).val * 8192 + (i (2 : Fin 3)).val < 65536 := by omega
    refine ⟨pointOf _ hi, flush0_9 _, (Window.emb_mem_blk_iff (cfg0.win (9 : Fin 10)) _ i rfl).mpr fun b => ?_⟩
    match b with
    | ⟨0, _⟩ =>
      rw [show (⟨0, _⟩ : Fin _) = (0 : Fin 3) from rfl, (ix_9 _).1]
      show ((i (0 : Fin 3)).val * 8192 + (i (2 : Fin 3)).val) / 512 / 16 * 1 ≤ (i (0 : Fin 3)).val ∧ (i (0 : Fin 3)).val < ((i (0 : Fin 3)).val * 8192 + (i (2 : Fin 3)).val) / 512 / 16 * 1 + 1
      omega
    | ⟨1, _⟩ =>
      show 0 * 512 ≤ (i (1 : Fin 3)).val ∧ (i (1 : Fin 3)).val < 0 * 512 + 512
      omega
    | ⟨2, _⟩ =>
      rw [show (⟨2, _⟩ : Fin _) = (2 : Fin 3) from rfl, (ix_9 _).2]
      show ((i (0 : Fin 3)).val * 8192 + (i (2 : Fin 3)).val) / 512 % 16 * 512 ≤ (i (2 : Fin 3)).val ∧ (i (2 : Fin 3)).val < ((i (0 : Fin 3)).val * 8192 + (i (2 : Fin 3)).val) / 512 % 16 * 512 + 512
      omega

end Cert.Proof.InProj
-- ==== Proof.InProj.Claims.lean ====
/-
  The claims of the input projection's call: it runs to its end with its arguments unchanged, and over the extended reals
  each of its six results is the reference's, a part of one product.
-/
module

public import proofs.«01_k».proof.Defs
public import proofs.«01_k».proof.Proof.InProj.Result
public import proofs.«01_k».proof.Proof.Gen.Kernel5.Frame
public import proofs.«01_k».proof.Proof.Gen.Reference5Ideal.Run
public import Idealize.ShloMosaic.Lib.StackMember

@[expose] public section

set_option maxRecDepth 16384

noncomputable section

namespace Cert.Proof.InProj

section
open Cert.Reference5Ideal Cert.Reference5Ideal.Gen
open Idealize.ShloMosaic hiding ix1 ix2 ix3
open Idealize.ShloMosaic.ValueIdx
open scoped BigOperators

variable (X : FVec Ideal S65536x1024 .f32) (W : FVec Ideal S1024x3600 .f32)

/-- The reference's product. -/
def whole : FVec Ideal S65536x3600 .f32 := Host.dotGeneral dot_S65536x1024_S1024x3600_S65536x3600_1_0_0_1_n_n none X W

theorem whole_apply (r : Fin 65536) (j : Fin 3600) : (whole X W (ix2 r j) : EReal) = entry X W r j :=
  Idealize.ShloMosaic.StackMember.dotGeneral_plain_apply (m := 65536) (n := 3600) none X W r j

/-- A run of its columns, at an index. -/
theorem slice_apply {n : ℕ} (off : ℕ) (h : S65536x3600.Slices ![0, off] ⟨2, ![65536, n]⟩) (r : Fin 65536) (j : Fin n) (hj : off + j.val < 3600) :
    (extractStridedSlice ⟨2, ![65536, n]⟩ ![0, off] (whole X W) h (ix2 r j) : EReal) = entry X W r ⟨off + j.val, hj⟩ :=
  (extractStridedSlice_apply (s := S65536x3600) (t := ⟨2, ![65536, n]⟩) _ (whole X W) h (ix2 r j) (ix2 r ⟨off + j.val, hj⟩) fun a => match a with
    | ⟨0, _⟩ => (Nat.zero_add _).symm
    | ⟨1, _⟩ => rfl).trans (whole_apply X W r _)

theorem qkv_eq : (extractStridedSlice S65536x1536 ![0, 0] (whole X W) slices_S65536x3600_S65536x1536_0_0 : S65536x1536.Idx → EReal) = qkv X W := by
  funext y
  obtain ⟨r, j, rfl⟩ : ∃ (r : Fin 65536) (j : Fin 1536), y = ix2 r j := ⟨_, _, eq_ix2 y⟩
  refine (slice_apply X W 0 slices_S65536x3600_S65536x1536_0_0 r j (by omega)).trans ?_
  exact congrArg (entry X W r) (Fin.ext (Nat.zero_add _))

theorem gate_eq : (extractStridedSlice S65536x512 ![0, 1536] (whole X W) slices_S65536x3600_S65536x512_0_1536 : S65536x512.Idx → EReal) = gate X W := by
  funext y
  obtain ⟨r, j, rfl⟩ : ∃ (r : Fin 65536) (j : Fin 512), y = ix2 r j := ⟨_, _, eq_ix2 y⟩
  exact slice_apply X W 1536 slices_S65536x3600_S65536x512_0_1536 r j (by omega)

theorem tail_eq : (concatenate S65536x128 1 [⟨S65536x16, extractStridedSlice S65536x16 ![0, 2048] (whole X W) slices_S65536x3600_S65536x16_0_2048⟩,
      ⟨S65536x112, broadcastInDim S65536x112 ![] bcast_S_S65536x112 (constant (F := Ideal) S_ .f32 0x00000000#32)⟩] concatenates_S65536x16_S65536x112_S65536x128_d1 : S65536x128.Idx → EReal)
    = tail X W := by
  funext y
  obtain ⟨r, j, rfl⟩ : ∃ (r : Fin 65536) (j : Fin 128), y = ix2 r j := ⟨_, _, eq_ix2 y⟩
  refine Eq.trans ?_ (rfl : tailAt X W r j = _)
  unfold tailAt
  split
  · next h =>
    refine (concatenate_pair_apply_left (s₁ := S65536x16) (s₂ := S65536x112) (t := S65536x128) 1 _ _ _ _ rfl (ix2 r ⟨j.val, h⟩) fun a => match a with
      | ⟨0, _⟩ => rfl
      | ⟨1, _⟩ => rfl).trans ?_
    exact slice_apply X W 2048 slices_S65536x3600_S65536x16_0_2048 r ⟨j.val, h⟩ _
  · next h =>
    refine (concatenate_pair_apply_right (s₁ := S65536x16) (s₂ := S65536x112) (t := S65536x128) 1 _ _ _ _ rfl rfl (ix2 r ⟨j.val - 16, by omega⟩)
      (fun a => match a with
        | ⟨0, _⟩ => fun _ => rfl
        | ⟨1, _⟩ => fun h => absurd rfl h) ?_).trans Ideal.ofBits_zero_f32
    show j.val - 16 + 16 = j.val
    omega

theorem query_eq : (truncf .bf16 (mulf (extractStridedSlice S65536x512 ![0, 2064] (whole X W) slices_S65536x3600_S65536x512_0_2064)
      (broadcastInDim S65536x512 ![] bcast_S_S65536x512 (constant S_ .f32 0x3E38AA3B#32))) bitsLt_bf16_f32 : S65536x512.Idx → EReal) = query X W := by
  funext y
  obtain ⟨r, j, rfl⟩ : ∃ (r : Fin 65536) (j : Fin 512), y = ix2 r j := ⟨_, _, eq_ix2 y⟩
  exact congrArg (fun z : EReal => z * Ideal.ofBits .f32 0x3E38AA3B#32) (slice_apply X W 2064 slices_S65536x3600_S65536x512_0_2064 r j (by omega))

theorem key_eq : (truncf .bf16 (extractStridedSlice S65536x512 ![0, 2576] (whole X W) slices_S65536x3600_S65536x512_0_2576) bitsLt_bf16_f32 : S65536x512.Idx → EReal)
    = key X W := by
  funext y
  obtain ⟨r, j, rfl⟩ : ∃ (r : Fin 65536) (j : Fin 512), y = ix2 r j := ⟨_, _, eq_ix2 y⟩
  exact slice_apply X W 2576 slices_S65536x3600_S65536x512_0_2576 r j (by omega)

/-- Rows cut into sequences and turned within each, at an index. -/
theorem turn_apply (v : S65536x512.Idx → EReal) (b : Fin 8) (d : Fin 512) (s : Fin 8192) :
    transpose S8x512x8192 [0, 2, 1] (shapeCast S8x8192x512 v shapeCasts_S65536x512_S8x8192x512) transposes_S8x8192x512_S8x512x8192_0_2_1 (ix3 b d s)
      = v (ix2 ⟨b.val * 8192 + s.val, by omega⟩ d) := by
  refine (transpose_apply (s := S8x8192x512) (t := S8x512x8192) _ _ transposes_S8x8192x512_S8x512x8192_0_2_1 (ix3 b d s) (ix3 b s d) fun a => match a with
    | ⟨0, _⟩ => rfl
    | ⟨1, _⟩ => rfl
    | ⟨2, _⟩ => rfl).trans ?_
  refine shapeCast_apply (s := S65536x512) (t := S8x8192x512) v _ (ix3 b s d) (ix2 ⟨b.val * 8192 + s.val, by omega⟩ d) ?_
  rw [Shape.rowMajor_val_two, Shape.rowMajor_val_three]
  show (b.val * 8192 + s.val) * 512 + d.val = (b.val * 8192 + s.val) * 512 + d.val
  rfl

theorem eq_ix3 {n k l : ℕ} (y : (⟨3, ![n, k, l]⟩ : Shape).Idx) : y = ix3 (n0 := n) (n1 := k) (n2 := l) (y 0) (y 1) (y 2) :=
  funext fun b => match b with | ⟨0, _⟩ => rfl | ⟨1, _⟩ => rfl | ⟨2, _⟩ => rfl

theorem value_eq : (truncf .bf16 (transpose S8x512x8192 [0, 2, 1] (shapeCast S8x8192x512
      (extractStridedSlice S65536x512 ![0, 3088] (whole X W) slices_S65536x3600_S65536x512_0_3088) shapeCasts_S65536x512_S8x8192x512)
      transposes_S8x8192x512_S8x512x8192_0_2_1) bitsLt_bf16_f32 : S8x512x8192.Idx → EReal) = value X W := by
  funext y
  obtain ⟨b, d, s, rfl⟩ : ∃ (b : Fin 8) (d : Fin 512) (s : Fin 8192), y = ix3 b d s := ⟨_, _, _, eq_ix3 y⟩
  exact (turn_apply _ b d s).trans (slice_apply X W 3088 slices_S65536x3600_S65536x512_0_3088 _ d (by omega))

end

open Cert.Kernel5Ideal Cert.Kernel5Ideal.Gen
open Idealize.ShloMosaic Idealize.SL.Sem
open Idealize.ShloMosaic.TcCoe

theorem frame5_bits : Cert.quiescent_Kernel5 := fun m g _ => Cert.Kernel5.Gen.frame m g

theorem frame5_ideal : Cert.quiescent_Kernel5Ideal := fun m g _ => Cert.Kernel5Ideal.Gen.frame m g

/-- The reference ends with its arguments unchanged; it declares no semaphore. -/
theorem frame5_ref : Cert.quiescent_Reference5Ideal := fun m g _ =>
  (θ_run (Cert.Reference5Ideal.defs (F := Ideal)) _ _).mono
    (fun _ r => ⟨fun c => (r c).2.2.2.2.2.2, sem_eq_zero_of_no_sems (by decide) _⟩)
    (Cert.Reference5Ideal.Value.run m g)

/-- Over the extended reals the call's six results are the reference's. -/
theorem algebraic5 : Cert.algebraic_Kernel5Ideal_Reference5Ideal := fun m g m' g' h hag =>
  ⟨fun c => qkv (m ((c : Thread nD τ).loc main_arg0)) (m ((c : Thread nD τ).loc main_arg1)),
    fun c => gate (m ((c : Thread nD τ).loc main_arg0)) (m ((c : Thread nD τ).loc main_arg1)),
    fun c => tail (m ((c : Thread nD τ).loc main_arg0)) (m ((c : Thread nD τ).loc main_arg1)),
    fun c => query (m ((c : Thread nD τ).loc main_arg0)) (m ((c : Thread nD τ).loc main_arg1)),
    fun c => key (m ((c : Thread nD τ).loc main_arg0)) (m ((c : Thread nD τ).loc main_arg1)),
    fun c => value (m ((c : Thread nD τ).loc main_arg0)) (m ((c : Thread nD τ).loc main_arg1)),
    (θ_run (defs (F := Ideal)) _ _).mono (fun _ r c =>
        have ⟨r0, r1, r2, r3, r4, r5, ra⟩ := r c
        ⟨r0.trans (final_qkv m _ _ c rfl rfl), r1.trans (final_gate m _ _ c rfl rfl), r2.trans (final_tail m _ _ c rfl rfl),
          r3.trans (final_query m _ _ c rfl rfl), r4.trans (final_key m _ _ c rfl rfl), r5.trans (final_value m _ _ c rfl rfl), ra⟩)
      (Cert.Kernel5Ideal.Value.run_blocks m g),
    (θ_run (Cert.Reference5Ideal.defs (F := Ideal)) _ _).mono (fun _ r c => by
        obtain ⟨r0, r1, r2, r3, r4, r5, ra⟩ := r c
        refine ⟨r0.trans ?_, r1.trans ?_, r2.trans ?_, r3.trans ?_, r4.trans ?_, r5.trans ?_, ra⟩ <;> rw [(hag c).1, (hag c).2]
        · exact qkv_eq _ _
        · exact gate_eq _ _
        · exact tail_eq _ _
        · exact query_eq _ _
        · exact key_eq _ _
        · exact value_eq _ _)
      (Cert.Reference5Ideal.Value.run m' g')⟩

end Cert.Proof.InProj
-- ==== Proof.Combine.Words.lean ====
/-
  A packed word's halves as extended reals: either half, a bf16 pattern, is the f32 pattern that has it as its upper half
  and zeros below.
-/
module

public import Idealize.ShloMosaic.PureOps.Ideal
public import Idealize.ShloMosaic.Lib.IdealHost

@[expose] public section

noncomputable section

namespace Cert.Proof.Combine

open Idealize.ShloMosaic

/-- The upper half of a word. -/
def upper (w : BitVec 32) : EReal := Ideal.ofBits .bf16 (w.extractLsb' 16 16)

/-- The lower half of a word. -/
def lower (w : BitVec 32) : EReal := Ideal.ofBits .bf16 (w.extractLsb' 0 16)

/-- A pattern with zeros appended has the same sign and exponent, and a fraction longer by the zeros. -/
theorem widened (h : BitVec 16) : Ideal.ieee 8 23 (h ++ 0#16) = Ideal.ieee 8 7 h := by
  have hn : (h ++ 0#16).toNat = h.toNat * 2 ^ 16 := by
    rw [BitVec.toNat_append, Nat.shiftLeft_eq]
    exact Nat.or_zero _
  have hb := h.isLt
  have hs : (h ++ 0#16).extractLsb' (8 + 23) 1 = h.extractLsb' (8 + 7) 1 := BitVec.eq_of_toNat_eq (by
    rw [BitVec.extractLsb'_toNat, BitVec.extractLsb'_toNat, hn, Nat.shiftRight_eq_div_pow, Nat.shiftRight_eq_div_pow]
    omega)
  have he : (h ++ 0#16).extractLsb' 23 8 = h.extractLsb' 7 8 := BitVec.eq_of_toNat_eq (by
    rw [BitVec.extractLsb'_toNat, BitVec.extractLsb'_toNat, hn, Nat.shiftRight_eq_div_pow, Nat.shiftRight_eq_div_pow]
    omega)
  have hf : ((h ++ 0#16).extractLsb' 0 23).toNat = (h.extractLsb' 0 7).toNat * 2 ^ 16 := by
    rw [BitVec.extractLsb'_toNat, BitVec.extractLsb'_toNat, hn, Nat.shiftRight_eq_div_pow, Nat.shiftRight_eq_div_pow]
    omega
  unfold Ideal.ieee
  rw [hs, he, hf]
  generalize (h.extractLsb' 0 7).toNat = f
  generalize (h.extractLsb' 7 8).toNat = e
  generalize (h.extractLsb' (8 + 7) 1 == 1#1) = s
  have hz : f * 2 ^ 16 = 0 ↔ f = 0 := by omega
  have hp : (2 : ℝ) ^ ((e : ℤ) - (2 ^ (8 - 1) - 1) - (7 : ℕ)) = 2 ^ 16 * (2 : ℝ) ^ ((e : ℤ) - (2 ^ (8 - 1) - 1) - (23 : ℕ)) := by
    rw [← zpow_natCast, ← zpow_add₀ two_ne_zero]
    congr 1
    norm_num
    omega
  simp only [hz]
  split_ifs with h1 h2 h3 h4 <;> first | rfl | skip
  all_goals
    refine congrArg (fun z : ℝ => (z : EReal)) ?_
    try rw [hp]
    norm_num
    try ring

/-- The upper half of a word, read as f32. -/
theorem upper_f32 (w : BitVec 32) : Ideal.ofBits .f32 (IntOp.andi w 4294901760#32) = upper w := by
  have e : IntOp.andi w 4294901760#32 = w.extractLsb' 16 16 ++ 0#16 := by
    refine BitVec.eq_of_getLsbD_eq fun i hi => ?_
    show (w &&& 4294901760#32).getLsbD i = _
    rw [BitVec.getLsbD_and, BitVec.getLsbD_append, BitVec.getLsbD_extractLsb']
    interval_cases i <;> simp
  exact (congrArg (Ideal.ieee 8 23) e).trans (widened _)

/-- The lower half of a word, moved up and read as f32. -/
theorem lower_f32 (w : BitVec 32) : Ideal.ofBits .f32 (IntOp.shli .vector w 16#32) = lower w := by
  have e : IntOp.shli .vector w 16#32 = w.extractLsb' 0 16 ++ 0#16 := by
    refine BitVec.eq_of_getLsbD_eq fun i hi => ?_
    show (w <<< 16).getLsbD i = _
    rw [BitVec.getLsbD_shiftLeft, BitVec.getLsbD_append, BitVec.getLsbD_extractLsb']
    interval_cases i <;> simp
  exact (congrArg (Ideal.ieee 8 23) e).trans (widened _)

end Cert.Proof.Combine
-- ==== Proof.Combine.Apply.lean ====
/-
  The weighted combination of two experts' rows with its layer norm on one row, over the extended reals, and what the body
  leaves of a block read at an index: that layer on the row.
-/
module

public import proofs.«01_k».proof.Proof.Gen.Kernel6Ideal.Value
public import proofs.«01_k».proof.Proof.OutProj.Apply
public import proofs.«01_k».proof.Proof.Combine.Words

@[expose] public section

set_option maxRecDepth 16384

noncomputable section

namespace Cert.Proof.Combine

open Cert.Kernel6Ideal Cert.Kernel6Ideal.Gen
open Cert.Proof.OutProj (means devs scales means_apply devs_apply scales_apply along_apply down_apply zeros2)
open Idealize.ShloMosaic hiding ix1 ix2 ix3
open Idealize.ShloMosaic.ValueIdx
open scoped BigOperators

/-- A row of packed words as a row of numbers: the upper halves, then the lower ones. -/
def unpacked (w : Fin 512 → BitVec 32) (k : Fin 1024) : EReal :=
  if h : k.val < 512 then upper (w ⟨k.val, h⟩) else lower (w ⟨k.val - 512, by omega⟩)

theorem unpacked_lo (w : Fin 512 → BitVec 32) (k : Fin 512) : unpacked w (Fin.castAdd 512 k) = upper (w k) := dif_pos k.isLt

theorem unpacked_hi (w : Fin 512 → BitVec 32) (k : Fin 512) : unpacked w (Fin.natAdd 512 k) = lower (w k) := by
  refine (dif_neg (show ¬ 512 + k.val < 512 by omega)).trans (congrArg (fun i => lower (w i)) (Fin.ext ?_))
  show 512 + k.val - 512 = k.val
  omega

/-- A row through the layer: the norm of the scaled row plus the two experts' rows, each times its gate. -/
def layer (x : Fin 1024 → EReal) (w w' : Fin 512 → BitVec 32) (p q : EReal) (g b : Fin 1024 → EReal) (j : Fin 1024) : EReal :=
  Dense.norm (fun k => Ideal.ofBits .f32 0x3FD744FD#32 * x k + (p * unpacked w k + q * unpacked w' k)) g b j

/-- The upper halves of words. -/
def uppers (v : IVec S1024x512 32) : FVec Ideal S1024x512 .f32 := bitcastToFloat .f32 (andi v (broadcast S1024x512 4294901760#32))

/-- The lower halves of words. -/
def lowers (v : IVec S1024x512 32) : FVec Ideal S1024x512 .f32 := bitcastToFloat .f32 (shli v (broadcast S1024x512 16#32))

theorem uppers_apply (v : IVec S1024x512 32) (i : S1024x512.Idx) : (uppers v i : EReal) = upper (v i) := upper_f32 (v i)
theorem lowers_apply (v : IVec S1024x512 32) (i : S1024x512.Idx) : (lowers v i : EReal) = lower (v i) := lower_f32 (v i)

/-- The two gates' columns. -/
def gate (v : FVec Ideal S1024x128 .f32) : FVec Ideal S1024x1 .f32 := extractStridedSlice S1024x1 ![0, 2] v slices_S1024x128_o0_2_S1024x1
def gate' (v : FVec Ideal S1024x128 .f32) : FVec Ideal S1024x1 .f32 := extractStridedSlice S1024x1 ![0, 3] v slices_S1024x128_o0_3_S1024x1

theorem gate_apply (v : FVec Ideal S1024x128 .f32) (r : Fin 1024) : (gate v (ix2 r 0) : EReal) = v (ix2 r 2) :=
  extractStridedSlice_apply (s := S1024x128) (t := S1024x1) _ v _ (ix2 r 0) (ix2 r 2) fun a => match a with
    | ⟨0, _⟩ => (Nat.zero_add _).symm
    | ⟨1, _⟩ => rfl
theorem gate_apply' (v : FVec Ideal S1024x128 .f32) (r : Fin 1024) : (gate' v (ix2 r 0) : EReal) = v (ix2 r 3) :=
  extractStridedSlice_apply (s := S1024x128) (t := S1024x1) _ v _ (ix2 r 0) (ix2 r 3) fun a => match a with
    | ⟨0, _⟩ => (Nat.zero_add _).symm
    | ⟨1, _⟩ => rfl

/-- Rows times a column plus rows times a column. -/
def blend (p q : FVec Ideal S1024x1 .f32) (a a' : FVec Ideal S1024x512 .f32) : FVec Ideal S1024x512 .f32 :=
  addf (mulf (broadcastTo S1024x512 p broadcasts_S1024x1_S1024x512) a) (mulf (broadcastTo S1024x512 q broadcasts_S1024x1_S1024x512) a')

theorem spread_apply (p : FVec Ideal S1024x1 .f32) (r : Fin 1024) (k : Fin 512) :
    broadcastTo S1024x512 p broadcasts_S1024x1_S1024x512 (ix2 r k) = p (ix2 r 0) :=
  broadcastTo_apply (s := S1024x1) (t := S1024x512) p _ (ix2 r k) (ix2 r 0) fun b => match b with
    | ⟨0, _⟩ => rfl
    | ⟨1, _⟩ => rfl

theorem blend_apply (p q : FVec Ideal S1024x1 .f32) (a a' : FVec Ideal S1024x512 .f32) (r : Fin 1024) (k : Fin 512) :
    (blend p q a a' (ix2 r k) : EReal) = p (ix2 r 0) * a (ix2 r k) + q (ix2 r 0) * a' (ix2 r k) :=
  congrArg₂ (fun y z : EReal => y * a (ix2 r k) + z * a' (ix2 r k)) (spread_apply p r k) (spread_apply q r k)

/-- The experts' rows, each times its gate. -/
def mixed (v : FVec Ideal S1024x128 .f32) (w w' : IVec S1024x512 32) : FVec Ideal S1024x1024 .f32 :=
  concatenate S1024x1024 1 [⟨S1024x512, blend (gate v) (gate' v) (uppers w) (uppers w')⟩, ⟨S1024x512, blend (gate v) (gate' v) (lowers w) (lowers w')⟩]
    concatenates_S1024x512_S1024x512_S1024x1024_d1

theorem mixed_apply (v : FVec Ideal S1024x128 .f32) (w w' : IVec S1024x512 32) (r k : Fin 1024) :
    (mixed v w w' (ix2 r k) : EReal)
      = v (ix2 r 2) * unpacked (fun i => w (ix2 r i)) k + v (ix2 r 3) * unpacked (fun i => w' (ix2 r i)) k := by
  refine Fin.addCases (m := 512) (n := 512) (motive := fun k : Fin 1024 => (mixed v w w' (ix2 r k) : EReal)
    = v (ix2 r 2) * unpacked (fun i => w (ix2 r i)) k + v (ix2 r 3) * unpacked (fun i => w' (ix2 r i)) k) (fun i => ?_) (fun i => ?_) k
  · rw [unpacked_lo, unpacked_lo]
    refine Eq.trans ?_ ((blend_apply (gate v) (gate' v) (uppers w) (uppers w') r i).trans (congrArg₂ (fun y z : EReal => y + z)
      (congrArg₂ (fun y z : EReal => y * z) (gate_apply v r) (uppers_apply w _)) (congrArg₂ (fun y z : EReal => y * z) (gate_apply' v r) (uppers_apply w' _))))
    exact concatenate_pair_apply_left (s₁ := S1024x512) (s₂ := S1024x512) (t := S1024x1024) 1 _ _ _ _ rfl (ix2 r i) fun a => match a with
      | ⟨0, _⟩ => rfl
      | ⟨1, _⟩ => rfl
  · rw [unpacked_hi, unpacked_hi]
    refine Eq.trans ?_ ((blend_apply (gate v) (gate' v) (lowers w) (lowers w') r i).trans (congrArg₂ (fun y z : EReal => y + z)
      (congrArg₂ (fun y z : EReal => y * z) (gate_apply v r) (lowers_apply w _)) (congrArg₂ (fun y z : EReal => y * z) (gate_apply' v r) (lowers_apply w' _))))
    exact concatenate_pair_apply_right (s₁ := S1024x512) (s₂ := S1024x512) (t := S1024x1024) 1 _ _ _ _ rfl rfl (ix2 r i)
      (fun a => match a with
        | ⟨0, _⟩ => fun _ => rfl
        | ⟨1, _⟩ => fun h => absurd rfl h)
      (Nat.add_comm _ _)

/-- The scaled rows plus the experts'. -/
def summed (x : FVec Ideal S1024x1024 .f32) (w w' : IVec S1024x512 32) (v : FVec Ideal S1024x128 .f32) : FVec Ideal S1024x1024 .f32 :=
  addf (mulf (broadcast S1024x1024 (Scalar.ofBits .f32 0x3FD744FD#32)) x) (mixed v w w')

theorem pay_eq (x : FVec Ideal S1024x1024 .f32) (w w' : IVec S1024x512 32) (v : FVec Ideal S1024x128 .f32) (g b : FVec Ideal S1x1024 .f32) :
    k0_pay1 (F := Ideal) (k0_pay2 v w w' x) (k0_pay3 g) (k0_pay4 b) (k0_pay5 v w w' x)
      = addf (mulf (mulf (devs (summed x w w' v)) (broadcastTo S1024x1024 (scales (summed x w w' v)) broadcasts_S1024x1_S1024x1024))
          (broadcastTo S1024x1024 (shapeCast S1x1024 g shapeCasts_S1x1024_S1x1024) broadcasts_S1x1024_S1024x1024))
        (broadcastTo S1024x1024 (shapeCast S1x1024 b shapeCasts_S1x1024_S1x1024) broadcasts_S1x1024_S1024x1024) := rfl

/-- The block left by the body, at an index. -/
theorem out_apply (x0 : Vec Ideal S1024x1024 .f32) (x1 x2 : Vec Ideal S1024x512 .i32) (x3 : Vec Ideal S1024x128 .f32)
    (x4 x5 : Vec Ideal S1x1024 .f32) (r j : Fin 1024) :
    (out0_6 x0 x1 x2 x3 x4 x5 (ix2 r j) : EReal)
      = layer (fun k => x0 (ix2 r k)) (fun k => x1 (ix2 r k)) (fun k => x2 (ix2 r k)) (x3 (ix2 r 2)) (x3 (ix2 r 3))
          (fun k => x4 (ix2 0 k)) (fun k => x5 (ix2 0 k)) j := by
  unfold out0_6
  rw [View.canon_unit_zero (S := S1024x1024) zeros2, View.ld_unit_zero (S := S1024x128) zeros2, View.ld_unit_zero (S := S1024x512) zeros2,
    View.ld_unit_zero (S := S1024x512) zeros2, View.ld_unit_zero (S := S1024x1024) zeros2, View.ld_unit_zero (S := S1x1024) zeros2,
    View.ld_unit_zero (S := S1x1024) zeros2]
  have hw : (fun k => (summed x0 x1 x2 x3 (ix2 r k) : EReal)) = fun k => Ideal.ofBits .f32 0x3FD744FD#32 * x0 (ix2 r k)
      + (x3 (ix2 r 2) * unpacked (fun i => x1 (ix2 r i)) k + x3 (ix2 r 3) * unpacked (fun i => x2 (ix2 r i)) k) := funext fun k =>
    congrArg (fun z : EReal => Ideal.ofBits .f32 0x3FD744FD#32 * x0 (ix2 r k) + z) (mixed_apply x3 x1 x2 r k)
  refine (congrFun (pay_eq x0 x1 x2 x3 x4 x5) (ix2 r j)).trans ?_
  unfold layer Dense.norm
  rw [← hw]
  refine congrArg₂ (fun y z : EReal => y + z) (congrArg₂ (fun y z : EReal => y * z) (congrArg₂ (fun y z : EReal => y * z) (devs_apply _ r j) ?_) ?_) ?_
  · exact (along_apply _ r j).trans (scales_apply _ r)
  · exact down_apply x4 r j
  · exact down_apply x5 r j

end Cert.Proof.Combine
-- ==== Proof.Combine.Result.lean ====
/-
  What the result's array holds after the combination's call: at every row the layer on the row of the arguments.
-/
module

public import proofs.«01_k».proof.Proof.Combine.Apply

@[expose] public section

set_option maxRecDepth 16384

noncomputable section

namespace Cert.Proof.Combine

open Cert.Kernel6Ideal Cert.Kernel6Ideal.Gen
open Idealize.ShloMosaic hiding ix1 ix2 ix3
open Idealize.ShloMosaic.ValueIdx
open Idealize.ShloMosaic.TcCoe Idealize.ShloMosaic.StableHlo
open Idealize.ShloMosaic.Pipeline (Dat Cfg Window)

/-- The result, at a row and a column. -/
def resultAt (X : S65536x1024.Idx → EReal) (Y Y' : S65536x512.Idx → BitVec 32) (R : S65536x128.Idx → EReal) (g b : S1024.Idx → EReal)
    (r : Fin 65536) (j : Fin 1024) : EReal :=
  layer (fun k => X (ix2 r k)) (fun k => Y (ix2 r k)) (fun k => Y' (ix2 r k)) (R (ix2 r 2)) (R (ix2 r 3)) (fun k => g (ix1 k)) (fun k => b (ix1 k)) j

/-- The result. -/
def result (X : S65536x1024.Idx → EReal) (Y Y' : S65536x512.Idx → BitVec 32) (R : S65536x128.Idx → EReal) (g b : S1024.Idx → EReal) :
    S65536x1024.Idx → EReal := fun y => resultAt X Y Y' R g b (y 0) (y 1)

variable (m : (ℓ : Loc nD τ sig) → Buf (Elt Ideal) ℓ)

theorem num_val (t : Fin cfg0.N) : (BitVec.ofNat 32 (grid0.coords t 0).val).toNat = t.val := by
  have e : grid0.N = 64 := by decide
  have h : t.val < 64 := Nat.lt_of_lt_of_eq t.isLt e
  have hc : (grid0.coords t 0).val = t.val := by
    refine (Pipeline.Grid.coords_val (G := grid0) t 0 (S := 1) (B := 64) (by decide) rfl).trans ?_
    omega
  rw [hc, BitVec.toNat_ofNat, Nat.mod_eq_of_lt (by omega)]

/-- A block's row as a row of the array. -/
abbrev at_ (t : Fin cfg0.N) (r : Fin 1024) : Fin 65536 :=
  ⟨t.val * 1024 + r.val, by have e : grid0.N = 64 := by decide
                            have := Nat.lt_of_lt_of_eq t.isLt e
                            omega⟩

/-- What the host's reshapes leave in the call's operands. -/
theorem V_gain (c : Dev nD) : (V m c main_v0 : S1x1024.Idx → EReal) = shapeCast S1x1024 (m ((c : Thread nD τ).loc main_arg4) : S1024.Idx → EReal) shapeCasts_S1024_S1x1024 := by
  unfold_abbrev_sides
  after_results
  rfl
theorem V_bias (c : Dev nD) : (V m c main_v1 : S1x1024.Idx → EReal) = shapeCast S1x1024 (m ((c : Thread nD τ).loc main_arg5) : S1024.Idx → EReal) shapeCasts_S1024_S1x1024 := by
  unfold_abbrev_sides
  after_results
  rfl

theorem row_cast (g : S1024.Idx → EReal) (k : Fin 1024) : shapeCast S1x1024 g shapeCasts_S1024_S1x1024 (ix2 0 k) = g (ix1 k) := by
  refine shapeCast_apply (s := S1024) (t := S1x1024) g _ (ix2 0 k) (ix1 k) ?_
  rw [Shape.rowMajor_val_one, Shape.rowMajor_val_two]
  show k.val = 0 * 1024 + k.val
  omega

variable (X : S65536x1024.Idx → EReal) (Y Y' : S65536x512.Idx → BitVec 32) (R : S65536x128.Idx → EReal) (g b : S1024.Idx → EReal)

theorem rows_apply (c : Dev nD) (h : m ((c : Thread nD τ).loc main_arg0) = X) (t : Fin cfg0.N) (r k : Fin 1024) :
    (iblk m c (0 : Fin 7) t : S1024x1024.Idx → EReal) (ix2 r k) = X (ix2 (at_ t r) k) := by
  subst h
  refine Eq.trans (b := (V m c main_arg0 : S65536x1024.Idx → EReal) (((cfg0.win (0 : Fin 7)).rect t).emb (ix2 r k))) rfl ?_
  rw [V_main_arg0]
  refine congrArg (m ((c : Thread nD τ).loc main_arg0)) (funext fun b => Fin.ext ?_)
  match b with
  | ⟨0, _⟩ => exact (Window.rect_emb_val (cfg0.win (0 : Fin 7)) t (ix2 r k) (0 : Fin 2) rfl).trans (congrArg (fun n => n * 1024 + r.val) (num_val t))
  | ⟨1, _⟩ => exact (Window.rect_emb_val (cfg0.win (0 : Fin 7)) t (ix2 r k) (1 : Fin 2) rfl).trans (Nat.zero_add _)

theorem words_apply (c : Dev nD) (h : m ((c : Thread nD τ).loc main_arg1) = Y) (t : Fin cfg0.N) (r : Fin 1024) (k : Fin 512) :
    (iblk m c (1 : Fin 7) t : S1024x512.Idx → BitVec 32) (ix2 r k) = Y (ix2 (at_ t r) k) := by
  subst h
  refine Eq.trans (b := (V m c main_arg1 : S65536x512.Idx → BitVec 32) (((cfg0.win (1 : Fin 7)).rect t).emb (ix2 r k))) rfl ?_
  rw [V_main_arg1]
  refine congrArg (m ((c : Thread nD τ).loc main_arg1)) (funext fun b => Fin.ext ?_)
  match b with
  | ⟨0, _⟩ => exact (Window.rect_emb_val (cfg0.win (1 : Fin 7)) t (ix2 r k) (0 : Fin 2) rfl).trans (congrArg (fun n => n * 1024 + r.val) (num_val t))
  | ⟨1, _⟩ => exact (Window.rect_emb_val (cfg0.win (1 : Fin 7)) t (ix2 r k) (1 : Fin 2) rfl).trans (Nat.zero_add _)

theorem words_apply' (c : Dev nD) (h : m ((c : Thread nD τ).loc main_arg2) = Y') (t : Fin cfg0.N) (r : Fin 1024) (k : Fin 512) :
    (iblk m c (2 : Fin 7) t : S1024x512.Idx → BitVec 32) (ix2 r k) = Y' (ix2 (at_ t r) k) := by
  subst h
  refine Eq.trans (b := (V m c main_arg2 : S65536x512.Idx → BitVec 32) (((cfg0.win (2 : Fin 7)).rect t).emb (ix2 r k))) rfl ?_
  rw [V_main_arg2]
  refine congrArg (m ((c : Thread nD τ).loc main_arg2)) (funext fun b => Fin.ext ?_)
  match b with
  | ⟨0, _⟩ => exact (Window.rect_emb_val (cfg0.win (2 : Fin 7)) t (ix2 r k) (0 : Fin 2) rfl).trans (congrArg (fun n => n * 1024 + r.val) (num_val t))
  | ⟨1, _⟩ => exact (Window.rect_emb_val (cfg0.win (2 : Fin 7)) t (ix2 r k) (1 : Fin 2) rfl).trans (Nat.zero_add _)

theorem route_apply (c : Dev nD) (h : m ((c : Thread nD τ).loc main_arg3) = R) (t : Fin cfg0.N) (r : Fin 1024) (k : Fin 128) :
    (iblk m c (3 : Fin 7) t : S1024x128.Idx → EReal) (ix2 r k) = R (ix2 (at_ t r) k) := by
  subst h
  refine Eq.trans (b := (V m c main_arg3 : S65536x128.Idx → EReal) (((cfg0.win (3 : Fin 7)).rect t).emb (ix2 r k))) rfl ?_
  rw [V_main_arg3]
  refine congrArg (m ((c : Thread nD τ).loc main_arg3)) (funext fun b => Fin.ext ?_)
  match b with
  | ⟨0, _⟩ => exact (Window.rect_emb_val (cfg0.win (3 : Fin 7)) t (ix2 r k) (0 : Fin 2) rfl).trans (congrArg (fun n => n * 1024 + r.val) (num_val t))
  | ⟨1, _⟩ => exact (Window.rect_emb_val (cfg0.win (3 : Fin 7)) t (ix2 r k) (1 : Fin 2) rfl).trans (Nat.zero_add _)

theorem gain_apply (c : Dev nD) (h : m ((c : Thread nD τ).loc main_arg4) = g) (t : Fin cfg0.N) (k : Fin 1024) :
    (iblk m c (4 : Fin 7) t : S1x1024.Idx → EReal) (ix2 0 k) = g (ix1 k) := by
  refine Eq.trans (b := (V m c main_v0 : S1x1024.Idx → EReal) (((cfg0.win (4 : Fin 7)).rect t).emb (ix2 0 k))) rfl ?_
  rw [V_gain, h]
  refine (congrArg (shapeCast S1x1024 g shapeCasts_S1024_S1x1024) (funext fun b => Fin.ext ?_)).trans (row_cast g k)
  match b with
  | ⟨0, _⟩ => exact (Window.rect_emb_val (cfg0.win (4 : Fin 7)) t (ix2 0 k) (0 : Fin 2) rfl).trans (Nat.zero_add _)
  | ⟨1, _⟩ => exact (Window.rect_emb_val (cfg0.win (4 : Fin 7)) t (ix2 0 k) (1 : Fin 2) rfl).trans (Nat.zero_add _)

theorem bias_apply (c : Dev nD) (h : m ((c : Thread nD τ).loc main_arg5) = b) (t : Fin cfg0.N) (k : Fin 1024) :
    (iblk m c (5 : Fin 7) t : S1x1024.Idx → EReal) (ix2 0 k) = b (ix1 k) := by
  refine Eq.trans (b := (V m c main_v1 : S1x1024.Idx → EReal) (((cfg0.win (5 : Fin 7)).rect t).emb (ix2 0 k))) rfl ?_
  rw [V_bias, h]
  refine (congrArg (shapeCast S1x1024 b shapeCasts_S1024_S1x1024) (funext fun b => Fin.ext ?_)).trans (row_cast b k)
  match b with
  | ⟨0, _⟩ => exact (Window.rect_emb_val (cfg0.win (5 : Fin 7)) t (ix2 0 k) (0 : Fin 2) rfl).trans (Nat.zero_add _)
  | ⟨1, _⟩ => exact (Window.rect_emb_val (cfg0.win (5 : Fin 7)) t (ix2 0 k) (1 : Fin 2) rfl).trans (Nat.zero_add _)

/-- After the run the result's array holds the result. -/
theorem final_eq (c : Dev nD) (h0 : m ((c : Thread nD τ).loc main_arg0) = X) (h1 : m ((c : Thread nD τ).loc main_arg1) = Y)
    (h2 : m ((c : Thread nD τ).loc main_arg2) = Y') (h3 : m ((c : Thread nD τ).loc main_arg3) = R) (h4 : m ((c : Thread nD τ).loc main_arg4) = g)
    (h5 : m ((c : Thread nD τ).loc main_arg5) = b) : (dats m 0 c).arrAt (6 : Fin 7) cfg0.N = result X Y Y' R g b := by
  refine (dats m 0 c).arrAt_eq_of_emb (6 : Fin 7) _ (fun t hf y => ?_) fun i => ?_
  · obtain ⟨r, j, rfl⟩ : ∃ (r j : Fin 1024), y = ix2 r j :=
      ⟨y (0 : Fin 2), y (1 : Fin 2), funext fun b => match b with | ⟨0, _⟩ => rfl | ⟨1, _⟩ => rfl⟩
    refine (congrFun (Cert.Kernel6Ideal.Value.flushed6 m c t) (ix2 r j)).trans ?_
    refine (out_apply _ _ _ _ _ _ r j).trans ?_
    refine Eq.trans (b := resultAt X Y Y' R g b (at_ t r) j) ?_ ?_
    · unfold resultAt
      simp only [rows_apply m X c h0, words_apply m Y c h1, words_apply' m Y' c h2, route_apply m R c h3, gain_apply m g c h4, bias_apply m b c h5]
    · refine congrArg₂ (resultAt X Y Y' R g b) (Fin.ext ?_) (Fin.ext ?_)
      · exact ((Window.rect_emb_val (cfg0.win (6 : Fin 7)) t (ix2 r j) (0 : Fin 2) rfl).trans (congrArg (fun n => n * 1024 + r.val) (num_val t))).symm
      · exact ((Window.rect_emb_val (cfg0.win (6 : Fin 7)) t (ix2 r j) (1 : Fin 2) rfl).trans (Nat.zero_add _)).symm
  · have hN : grid0.N = 64 := by decide
    have hi : (i (0 : Fin 2)).val < 65536 := (i (0 : Fin 2)).isLt
    have hk : (i (1 : Fin 2)).val < 1024 := (i (1 : Fin 2)).isLt
    let t : Fin cfg0.N := ⟨(i (0 : Fin 2)).val / 1024, by show _ < grid0.N; omega⟩
    have ht : (cfg0.win (6 : Fin 7)).index t (0 : Fin 2) = t.val := num_val t
    refine ⟨t, flush0_6 t, (Window.emb_mem_blk_iff (cfg0.win (6 : Fin 7)) t i rfl).mpr fun b => ?_⟩
    match b with
    | ⟨0, _⟩ =>
      rw [show (⟨0, _⟩ : Fin _) = (0 : Fin 2) from rfl, ht]
      show (i (0 : Fin 2)).val / 1024 * 1024 ≤ (i (0 : Fin 2)).val ∧ (i (0 : Fin 2)).val < (i (0 : Fin 2)).val / 1024 * 1024 + 1024
      omega
    | ⟨1, _⟩ =>
      show 0 * 1024 ≤ (i (1 : Fin 2)).val ∧ (i (1 : Fin 2)).val < 0 * 1024 + 1024
      omega

end Cert.Proof.Combine
-- ==== Proof.Combine.Claims.lean ====
/-
  The claims of the combination's call: it runs to its end with its arguments unchanged, and over the extended reals its
  result is the reference's, which takes the words apart as pairs of bf16.
-/
module

public import proofs.«01_k».proof.Defs
public import proofs.«01_k».proof.Proof.Combine.Result
public import proofs.«01_k».proof.Proof.Dense.RefValue
public import proofs.«01_k».proof.Proof.Gen.Kernel6.Frame
public import proofs.«01_k».proof.Proof.Gen.Reference6Ideal.Run
public import Idealize.ShloMosaic.Lib.BitcastConvert

@[expose] public section

set_option maxRecDepth 16384

noncomputable section

namespace Cert.Proof.Combine

section
open Cert.Reference6Ideal Cert.Reference6Ideal.Gen
open Cert.Proof.Dense.Ref (normed normed_apply along along_apply)
open Idealize.ShloMosaic hiding ix1 ix2 ix3
open Idealize.ShloMosaic.ValueIdx
open Idealize.ShloMosaic.TcCoe
open scoped BigOperators

/-- The words as pairs of numbers, the lower half first. -/
def pairs (Y : IVec S65536x512 32) : FVec Ideal S65536x512x2 .f32 :=
  extf .f32 (bitcastToFloat .bf16 (Host.bitcastConvertNarrow S65536x512x2 16 Y splits_S65536x512_w32_S65536x512x2_w16)) bitsLt_bf16_f32

/-- The upper halves, then the lower ones. -/
def rows (Y : IVec S65536x512 32) : FVec Ideal S65536x1024 .f32 :=
  concatenate S65536x1024 1
    [⟨S65536x512, shapeCast S65536x512 (extractStridedSlice S65536x512x1 ![0, 0, 1] (pairs Y) slices_S65536x512x2_S65536x512x1_0_0_1) shapeCasts_S65536x512x1_S65536x512⟩,
      ⟨S65536x512, shapeCast S65536x512 (extractStridedSlice S65536x512x1 ![0, 0, 0] (pairs Y) slices_S65536x512x2_S65536x512x1_0_0_0) shapeCasts_S65536x512x1_S65536x512⟩]
    concatenates_S65536x512_S65536x512_S65536x1024_d1

/-- The reference's scaled rows plus the two experts', each times its gate. -/
def refSummed (X : FVec Ideal S65536x1024 .f32) (Y Y' : IVec S65536x512 32) (R : FVec Ideal S65536x128 .f32) : FVec Ideal S65536x1024 .f32 :=
  addf (mulf (broadcastInDim S65536x1024 ![] bcast_S_S65536x1024 (constant S_ .f32 0x3FD744FD#32)) X)
    (addf (mulf (along (extractStridedSlice S65536x1 ![0, 2] R slices_S65536x128_S65536x1_0_2)) (rows Y))
      (mulf (along (extractStridedSlice S65536x1 ![0, 3] R slices_S65536x128_S65536x1_0_3)) (rows Y')))

theorem ref_eq (m : (ℓ : Loc nD τ sig) → Buf (Elt Ideal) ℓ) (c : Dev nD) :
    Value.res_main_v47 m c = normed (m ((c : Thread nD τ).loc main_arg4)) (m ((c : Thread nD τ).loc main_arg5))
      (refSummed (m ((c : Thread nD τ).loc main_arg0)) (m ((c : Thread nD τ).loc main_arg1)) (m ((c : Thread nD τ).loc main_arg2)) (m ((c : Thread nD τ).loc main_arg3))) := by
  unfold Value.res_main_v47 refSummed rows pairs normed Dense.Ref.devs Dense.Ref.along Dense.Ref.down Dense.Ref.means
  rfl

variable (X : S65536x1024.Idx → EReal) (Y Y' : S65536x512.Idx → BitVec 32) (R : S65536x128.Idx → EReal) (g b : S1024.Idx → EReal)

/-- The halves of a word, at an index. -/
theorem pairs_upper (r : Fin 65536) (k : Fin 512) : (pairs Y (ix3 r k 1) : EReal) = upper (Y (ix2 r k)) := by
  refine congrArg (fun i => upper (Y i)) (funext fun a => ?_)
  match a with
  | ⟨0, _⟩ => rfl
  | ⟨1, _⟩ => rfl
theorem pairs_lower (r : Fin 65536) (k : Fin 512) : (pairs Y (ix3 r k 0) : EReal) = lower (Y (ix2 r k)) := by
  refine congrArg (fun i => lower (Y i)) (funext fun a => ?_)
  match a with
  | ⟨0, _⟩ => rfl
  | ⟨1, _⟩ => rfl

/-- A trailing unit axis dropped. -/
theorem dropped (v : S65536x512x1.Idx → EReal) (r : Fin 65536) (k : Fin 512) :
    shapeCast S65536x512 v shapeCasts_S65536x512x1_S65536x512 (ix2 r k) = v (ix3 r k 0) := by
  refine shapeCast_apply (s := S65536x512x1) (t := S65536x512) v _ (ix2 r k) (ix3 r k 0) ?_
  rw [Shape.rowMajor_val_three, Shape.rowMajor_val_two]
  show (r.val * 512 + k.val) * 1 + 0 = r.val * 512 + k.val
  omega

theorem rows_apply' (r : Fin 65536) (k : Fin 1024) : (rows Y (ix2 r k) : EReal) = unpacked (fun i => Y (ix2 r i)) k := by
  refine Fin.addCases (m := 512) (n := 512) (motive := fun k : Fin 1024 => (rows Y (ix2 r k) : EReal) = unpacked (fun i => Y (ix2 r i)) k) (fun i => ?_) (fun i => ?_) k
  · rw [unpacked_lo]
    refine (concatenate_pair_apply_left (s₁ := S65536x512) (s₂ := S65536x512) (t := S65536x1024) 1 _ _ _ _ rfl (ix2 r i) fun a => match a with
      | ⟨0, _⟩ => rfl
      | ⟨1, _⟩ => rfl).trans ((dropped _ r i).trans (Eq.trans ?_ (pairs_upper Y r i)))
    exact extractStridedSlice_apply (s := S65536x512x2) (t := S65536x512x1) _ (pairs Y) _ (ix3 r i 0) (ix3 r i 1) fun a => match a with
      | ⟨0, _⟩ => (Nat.zero_add _).symm
      | ⟨1, _⟩ => (Nat.zero_add _).symm
      | ⟨2, _⟩ => rfl
  · rw [unpacked_hi]
    refine (concatenate_pair_apply_right (s₁ := S65536x512) (s₂ := S65536x512) (t := S65536x1024) 1 _ _ _ _ rfl rfl (ix2 r i)
      (fun a => match a with
        | ⟨0, _⟩ => fun _ => rfl
        | ⟨1, _⟩ => fun h => absurd rfl h)
      (Nat.add_comm _ _)).trans ((dropped _ r i).trans (Eq.trans ?_ (pairs_lower Y r i)))
    exact extractStridedSlice_apply (s := S65536x512x2) (t := S65536x512x1) _ (pairs Y) _ (ix3 r i 0) (ix3 r i 0) fun a => match a with
      | ⟨0, _⟩ => (Nat.zero_add _).symm
      | ⟨1, _⟩ => (Nat.zero_add _).symm
      | ⟨2, _⟩ => rfl

theorem first_gate (r : Fin 65536) (j : Fin 1024) :
    (along (extractStridedSlice S65536x1 ![0, 2] R slices_S65536x128_S65536x1_0_2) (ix2 r j) : EReal) = R (ix2 r 2) :=
  (along_apply _ r j).trans (extractStridedSlice_apply (s := S65536x128) (t := S65536x1) _ R _ (ix2 r 0) (ix2 r 2) fun a => match a with
    | ⟨0, _⟩ => (Nat.zero_add _).symm
    | ⟨1, _⟩ => rfl)
theorem second_gate (r : Fin 65536) (j : Fin 1024) :
    (along (extractStridedSlice S65536x1 ![0, 3] R slices_S65536x128_S65536x1_0_3) (ix2 r j) : EReal) = R (ix2 r 3) :=
  (along_apply _ r j).trans (extractStridedSlice_apply (s := S65536x128) (t := S65536x1) _ R _ (ix2 r 0) (ix2 r 3) fun a => match a with
    | ⟨0, _⟩ => (Nat.zero_add _).symm
    | ⟨1, _⟩ => rfl)

theorem refSummed_apply (r : Fin 65536) (j : Fin 1024) :
    (refSummed X Y Y' R (ix2 r j) : EReal) = Ideal.ofBits .f32 0x3FD744FD#32 * X (ix2 r j)
      + (R (ix2 r 2) * unpacked (fun i => Y (ix2 r i)) j + R (ix2 r 3) * unpacked (fun i => Y' (ix2 r i)) j) :=
  congrArg (fun z : EReal => Ideal.ofBits .f32 0x3FD744FD#32 * X (ix2 r j) + z) (congrArg₂ (fun y z : EReal => y + z)
    (congrArg₂ (fun y z : EReal => y * z) (first_gate R r j) (rows_apply' Y r j)) (congrArg₂ (fun y z : EReal => y * z) (second_gate R r j) (rows_apply' Y' r j)))

/-- The reference's result is the kernel's. -/
theorem out_eq : (normed g b (refSummed X Y Y' R) : S65536x1024.Idx → EReal) = result X Y Y' R g b := by
  funext y
  obtain ⟨r, j, rfl⟩ : ∃ (r : Fin 65536) (j : Fin 1024), y = ix2 r j :=
    ⟨y (0 : Fin 2), y (1 : Fin 2), funext fun b => match b with | ⟨0, _⟩ => rfl | ⟨1, _⟩ => rfl⟩
  refine (normed_apply g b _ r j).trans ?_
  refine Eq.trans ?_ (rfl : resultAt X Y Y' R g b r j = _)
  unfold resultAt layer
  rw [funext (refSummed_apply X Y Y' R r)]

end

open Cert.Kernel6Ideal Cert.Kernel6Ideal.Gen
open Idealize.ShloMosaic Idealize.SL.Sem
open Idealize.ShloMosaic.TcCoe

theorem frame6_bits : Cert.quiescent_Kernel6 := fun m g _ => Cert.Kernel6.Gen.frame m g

theorem frame6_ideal : Cert.quiescent_Kernel6Ideal := fun m g _ => Cert.Kernel6Ideal.Gen.frame m g

/-- The reference ends with its arguments unchanged; it declares no semaphore. -/
theorem frame6_ref : Cert.quiescent_Reference6Ideal := fun m g _ =>
  (θ_run (Cert.Reference6Ideal.defs (F := Ideal)) _ _).mono (fun _ r => ⟨fun c => (r c).2, sem_eq_zero_of_no_sems (by decide) _⟩)
    (Cert.Reference6Ideal.Value.run m g)

/-- Over the extended reals the call's result is the reference's. -/
theorem algebraic6 : Cert.algebraic_Kernel6Ideal_Reference6Ideal := fun m g m' g' h hag =>
  ⟨fun c => result (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)),
    (θ_run (defs (F := Ideal)) _ _).mono (fun _ r c => ⟨(r c).1.trans (final_eq m _ _ _ _ _ _ c rfl rfl rfl rfl rfl rfl), (r c).2⟩)
      (Cert.Kernel6Ideal.Value.run_blocks m g),
    (θ_run (Cert.Reference6Ideal.defs (F := Ideal)) _ _).mono (fun _ r c => ⟨((r c).1.trans (ref_eq m' c)).trans (by
        obtain ⟨a0, a1, a2, a3, a4, a5⟩ := hag c
        rw [a0, a1, a2, a3, a4, a5]
        exact out_eq _ _ _ _ _ _), (r c).2⟩)
      (Cert.Reference6Ideal.Value.run m' g')⟩

end Cert.Proof.Combine
-- ==== Proof.Router.Top.lean ====
/-
  The two greatest of eight extended reals, the earlier one first where two are equal: what a stable sort puts first and
  second, and what two rounds of a maximum and the least lane reaching it find in a row of 128 lanes.
-/
module

public import Idealize.ShloMosaic.PureOps
public import Idealize.ShloMosaic.PureOps.Ideal.Laws
public import Idealize.ShloMosaic.Lib.SortFacts
public import Mathlib.Data.Finset.Fold

@[expose] public section

noncomputable section

namespace Cert.Proof.Router

open Idealize.ShloMosaic

/-- Position `i` comes before position `j`: its value is greater, or equal and `i` is earlier. -/
def Beats {n : ℕ} (f : Fin n → EReal) (i j : Fin n) : Prop := f j < f i ∨ (f j = f i ∧ i < j)

/-- The sort's comparison of two positions. -/
def before {n : ℕ} (f : Fin n → EReal) (i j : Fin n) : Bool := Ideal.cmp .ogt (f i) (f j) == 1#1

theorem before_iff {n : ℕ} (f : Fin n → EReal) (i j : Fin n) : before f i j = true ↔ f j < f i := by
  unfold before Ideal.cmp
  by_cases h : f j < f i <;> simp [h]

section
variable {n : ℕ} (f : Fin n → EReal)

theorem insert_beats (a : Fin n) : ∀ l : List (Fin n), (∀ b ∈ l, a < b) → l.Pairwise (Beats f) → (insertBefore (before f) a l).Pairwise (Beats f)
  | [], _, _ => List.pairwise_singleton _ _
  | b :: l, ha, hl => by
    have hl' := List.pairwise_cons.mp hl
    unfold insertBefore
    by_cases hb : before f b a = true
    · rw [if_pos hb]
      refine List.pairwise_cons.mpr ⟨fun c hc => ?_, insert_beats a l (fun c hc => ha c (List.mem_cons_of_mem _ hc)) hl'.2⟩
      rcases List.mem_cons.mp ((perm_insertBefore (before f) a l).mem_iff.mp hc) with rfl | hc'
      · exact .inl ((before_iff f b c).mp hb)
      · exact hl'.1 c hc'
    · rw [if_neg hb]
      have hba : f b ≤ f a := not_lt.mp fun h => hb ((before_iff f b a).mpr h)
      refine List.pairwise_cons.mpr ⟨fun c hc => ?_, hl⟩
      have hcb : f c ≤ f b := by
        rcases List.mem_cons.mp hc with rfl | hc'
        · exact le_rfl
        · rcases hl'.1 c hc' with h | h
          · exact h.le
          · exact h.1.le
      rcases (hcb.trans hba).lt_or_eq with h | h
      · exact .inl h
      · exact .inr ⟨h, ha c hc⟩

theorem sort_beats : ∀ l : List (Fin n), l.Pairwise (· < ·) → (stableSort (before f) l).Pairwise (Beats f)
  | [], _ => List.Pairwise.nil
  | a :: l, h => by
    have h' := List.pairwise_cons.mp h
    unfold stableSort
    exact insert_beats f a _ (fun b hb => h'.1 b ((perm_stableSort (before f) l).mem_iff.mp hb)) (sort_beats l h'.2)

theorem sorted_beats (i j : Fin n) (hij : i < j) : Beats f (sortedFrom (before f) i) (sortedFrom (before f) j) := by
  have hs : (sortPositions n (before f)).Pairwise (Beats f) := sort_beats f (List.finRange n) (List.pairwise_lt_finRange n)
  exact List.pairwise_iff_get.mp hs _ _ hij

end

section
variable (f : Fin 8 → EReal)

/-- The position of the greatest value. -/
def fst : Fin 8 := sortedFrom (before f) 0

/-- The position of the second. -/
def snd : Fin 8 := sortedFrom (before f) 1

theorem snd_ne_fst : snd f ≠ fst f := fun h => absurd (sortedFrom_injective (before f) h) (by decide)

theorem fst_beats (j : Fin 8) (h : j ≠ fst f) : Beats f (fst f) j := by
  obtain ⟨k, rfl⟩ := sortedFrom_surjective (before f) j
  refine sorted_beats f 0 k (Fin.pos_iff_ne_zero.mpr ?_)
  rintro rfl
  exact h rfl

theorem snd_beats (j : Fin 8) (h : j ≠ fst f) (h' : j ≠ snd f) : Beats f (snd f) j := by
  obtain ⟨k, rfl⟩ := sortedFrom_surjective (before f) j
  refine sorted_beats f 1 k ?_
  have h0 : k ≠ 0 := by rintro rfl; exact h rfl
  have h1 : k ≠ 1 := by rintro rfl; exact h' rfl
  have a0 : k.val ≠ 0 := fun e => h0 (Fin.ext e)
  have a1 : k.val ≠ 1 := fun e => h1 (Fin.ext e)
  exact Fin.lt_def.mpr (show 1 < k.val by omega)

theorem snd_le_fst : f (snd f) ≤ f (fst f) := by
  rcases fst_beats f (snd f) (snd_ne_fst f) with h | h
  · exact h.le
  · exact h.1.le

end

/-- A lane among the 128. -/
abbrev lane (i : Fin 8) : Fin 128 := ⟨i.val, by omega⟩

/-- A greatest value is the maximum. -/
theorem max_fin {n : ℕ} (v : Fin n → EReal) (a : Fin n) (hv : ∀ k, v k ≤ v a) : (Finset.univ : Finset (Fin n)).fold max ⊥ v = v a := by
  refine le_antisymm ?_ ?_
  · exact (Finset.fold_max_le (v a)).mpr ⟨bot_le, fun k _ => hv k⟩
  · exact (Finset.le_fold_max (v a)).mpr (.inr ⟨a, Finset.mem_univ _, le_rfl⟩)

section
variable (v : Fin 128 → EReal) (a : Fin 128) (hv : ∀ k, v k ≤ v a) (ha : ∀ k, v k = v a → a ≤ k)
include hv

/-- The row's maximum. -/
theorem max_lane : (Finset.univ : Finset (Fin 128)).fold max ⊥ v = v a := max_fin v a hv

omit hv in
theorem toInt_minsi (x y : BitVec 32) : (IntOp.minsi x y).toInt = min x.toInt y.toInt := by
  unfold IntOp.minsi
  rw [BitVec.slt_eq_decide]
  by_cases h : x.toInt < y.toInt
  · simp [h, min_eq_left h.le]
  · simp [h, min_eq_right (not_lt.mp h)]

omit hv in
theorem toInt_lane (k : ℕ) (h : k ≤ 128) : (BitVec.ofNat 32 k).toInt = (k : ℤ) := by
  rw [BitVec.toInt_ofNat', Int.bmod_eq_of_le] <;> omega

include ha in
omit hv in
/-- The least lane that reaches it. -/
theorem min_lane : (Finset.univ : Finset (Fin 128)).fold IntOp.minsi (2147483647#32)
    (fun k => if v k = v a then BitVec.ofNat 32 k.val else 128#32) = BitVec.ofNat 32 a.val := by
  refine BitVec.eq_of_toInt_eq ?_
  have hf := Finset.fold_hom (s := (Finset.univ : Finset (Fin 128))) (op := IntOp.minsi (w := 32)) (op' := (min : ℤ → ℤ → ℤ)) (m := BitVec.toInt)
    (b := 2147483647#32) (f := fun k : Fin 128 => if v k = v a then BitVec.ofNat 32 k.val else 128#32) toInt_minsi
  refine hf.symm.trans ?_
  rw [toInt_lane a.val (by omega)]
  refine le_antisymm ?_ ?_
  · refine (Finset.fold_min_le (a.val : ℤ)).mpr (.inr ⟨a, Finset.mem_univ _, ?_⟩)
    rw [if_pos rfl, toInt_lane a.val (by omega)]
  · refine (Finset.le_fold_min (a.val : ℤ)).mpr ⟨?_, fun k _ => ?_⟩
    · have : (2147483647#32 : BitVec 32).toInt = 2147483647 := by decide
      have := a.isLt
      omega
    · by_cases h : v k = v a
      · rw [if_pos h, toInt_lane k.val (by omega)]
        exact Int.ofNat_le.mpr (ha k h)
      · have e : (128#32 : BitVec 32).toInt = 128 := by decide
        rw [if_neg h, e]
        have := a.isLt
        omega

end

section
variable (f : Fin 8 → EReal)

/-- The eight values, then the least extended real. -/
def row (k : Fin 128) : EReal := if h : k.val < 8 then f ⟨k.val, h⟩ else ⊥

/-- The row without its greatest value. -/
def rest (k : Fin 128) : EReal := if k = lane (fst f) then ⊥ else row f k

variable (hf : ∀ i, f i ≠ ⊥)

theorem row_lane (i : Fin 8) : row f (lane i) = f i := dif_pos i.isLt

theorem row_cases (k : Fin 128) : (∃ i, k = lane i ∧ row f k = f i) ∨ row f k = ⊥ := by
  by_cases h : k.val < 8
  · exact .inl ⟨⟨k.val, h⟩, rfl, dif_pos h⟩
  · exact .inr (dif_neg h)

theorem row_le (k : Fin 128) : row f k ≤ row f (lane (fst f)) := by
  rw [row_lane]
  rcases row_cases f k with ⟨i, rfl, e⟩ | e
  · rw [e]
    by_cases h : i = fst f
    · rw [h]
    · rcases fst_beats f i h with h | h
      · exact h.le
      · exact h.1.le
  · rw [e]; exact bot_le

include hf

theorem row_least (k : Fin 128) (hk : row f k = row f (lane (fst f))) : lane (fst f) ≤ k := by
  rw [row_lane] at hk
  rcases row_cases f k with ⟨i, rfl, e⟩ | e
  · by_cases h : i = fst f
    · rw [h]
    · rcases fst_beats f i h with h | h
      · exact absurd (hk ▸ e) h.ne'
      · exact Fin.le_def.mpr (Fin.le_def.mp h.2.le)
  · exact absurd (hk.symm.trans e) (hf _)

omit hf in
theorem rest_snd : rest f (lane (snd f)) = f (snd f) := by
  have h : lane (snd f) ≠ lane (fst f) := fun e => snd_ne_fst f (Fin.ext (show (snd f).val = (fst f).val from congrArg (fun k : Fin 128 => k.val) e))
  unfold rest
  rw [if_neg h, row_lane]

omit hf in
theorem rest_cases (k : Fin 128) : (∃ i, i ≠ fst f ∧ k = lane i ∧ rest f k = f i) ∨ rest f k = ⊥ := by
  by_cases h : k = lane (fst f)
  · exact .inr (if_pos h)
  · have e : rest f k = row f k := if_neg h
    rcases row_cases f k with ⟨i, rfl, e'⟩ | e'
    · exact .inl ⟨i, fun c => h (by rw [c]), rfl, e.trans e'⟩
    · exact .inr (e.trans e')

omit hf in
theorem rest_le (k : Fin 128) : rest f k ≤ rest f (lane (snd f)) := by
  rw [rest_snd]
  rcases rest_cases f k with ⟨i, hi, rfl, e⟩ | e
  · rw [e]
    by_cases h : i = snd f
    · rw [h]
    · rcases snd_beats f i hi h with h | h
      · exact h.le
      · exact h.1.le
  · rw [e]; exact bot_le

theorem rest_least (k : Fin 128) (hk : rest f k = rest f (lane (snd f))) : lane (snd f) ≤ k := by
  rw [rest_snd] at hk
  rcases rest_cases f k with ⟨i, hi, rfl, e⟩ | e
  · by_cases h : i = snd f
    · rw [h]
    · rcases snd_beats f i hi h with h | h
      · exact absurd (hk ▸ e) h.ne'
      · exact Fin.le_def.mpr (Fin.le_def.mp h.2.le)
  · exact absurd (hk.symm.trans e) (hf _)

end

end Cert.Proof.Router
-- ==== Proof.Router.Apply.lean ====
/-
  What the router's body leaves of a block, read at an index: the two experts of a row and their gates, and the row's two
  halves one below the other.
-/
module

public import proofs.«01_k».proof.Proof.Gen.Kernel7Ideal.Value
public import proofs.«01_k».proof.Proof.Router.Top
public import Idealize.ShloMosaic.Lib.MatmulPlain
public import Idealize.ShloMosaic.Lib.WordCmp
public import Idealize.ShloMosaic.Lib.IdealHost
public import Idealize.ShloMosaic.Lib.Pipeline.Value
public import Idealize.ShloMosaic.Lib.Pointwise
public import Idealize.ShloMosaic.Lib.Pipeline.ValueKit

@[expose] public section

set_option maxRecDepth 16384

noncomputable section

namespace Cert.Proof.Router

open Cert.Kernel7Ideal Cert.Kernel7Ideal.Gen
open Idealize.ShloMosaic hiding ix1 ix2 ix3
open Idealize.ShloMosaic.ValueIdx
open scoped BigOperators

/-- Neither infinity. -/
def Fin' (a : EReal) : Prop := ∃ r : ℝ, a = (r : EReal)

theorem Fin'.of_ne {a : EReal} (h : a ≠ ⊥) (h' : a ≠ ⊤) : Fin' a := by
  induction a with
  | bot => exact absurd rfl h
  | top => exact absurd rfl h'
  | coe r => exact ⟨r, rfl⟩

theorem Fin'.ne_bot {a : EReal} (h : Fin' a) : a ≠ ⊥ := by
  obtain ⟨r, rfl⟩ := h
  exact EReal.coe_ne_bot r

theorem Fin'.sub_self {a : EReal} (h : Fin' a) : a - a = 0 := by
  obtain ⟨r, rfl⟩ := h
  rw [← EReal.coe_sub, _root_.sub_self, EReal.coe_zero]

theorem Fin'.dot {n : ℕ} (x w : Fin n → EReal) (hx : ∀ k, Fin' (x k)) (hw : ∀ k, Fin' (w k)) : Fin' (∑ k, x k * w k) := by
  refine Finset.sum_induction _ Fin' ?_ ⟨0, rfl⟩ fun k _ => ?_
  · rintro _ _ ⟨a, rfl⟩ ⟨b, rfl⟩
    exact ⟨a + b, rfl⟩
  · obtain ⟨a, ha⟩ := hx k
    obtain ⟨b, hb⟩ := hw k
    exact ⟨a * b, by rw [ha, hb, EReal.coe_mul]⟩

/-- A row's products with the experts' weights. -/
def logits (x : Fin 1024 → EReal) (w : Fin 1024 → Fin 8 → EReal) (i : Fin 8) : EReal := ∑ k : Fin 1024, x k * w k i

/-- A position as a number. -/
def number (i : Fin 8) : EReal := (((BitVec.ofNat 32 i.val).toInt : ℝ) : EReal)

/-- The second value's share against the first. -/
def odds (f : Fin 8 → EReal) : EReal := Ideal.exp (f (snd f) - f (fst f))

/-- The two positions, the two gates, then zeros. -/
def routeAt (f : Fin 8 → EReal) (k : Fin 128) : EReal :=
  if k.val = 3 then Ideal.div (odds f) (1 + odds f) else if k.val = 2 then Ideal.div 1 (1 + odds f)
  else if k.val = 1 then number (snd f) else if k.val = 0 then number (fst f) else 0

theorem ofBits_least : Ideal.ofBits .f32 0xFF800000#32 = ⊥ := by
  simp [Ideal.ofBits, Ideal.ieee]

theorem zeros2 : (![0, 0] : Fin 2 → ℕ) = fun _ => 0 := funext fun b => match b with
  | ⟨0, _⟩ => rfl
  | ⟨1, _⟩ => rfl

/-- The lanes' numbers. -/
def lanes : IVec S1024x128 32 := iota .tc S1024x128 32 [1] iota_S1024x128_d1_w32

theorem lanes_apply (r : Fin 1024) (k : Fin 128) : lanes (ix2 r k) = BitVec.ofNat 32 k.val :=
  congrArg (BitVec.ofNat 32) (show 0 * 128 + k.val = k.val by omega)

theorem column_apply {α : Type} (w : S1024x1.Idx → α) (r : Fin 1024) (k : Fin 128) :
    broadcastTo S1024x128 w broadcasts_S1024x1_S1024x128 (ix2 r k) = w (ix2 r 0) :=
  broadcastTo_apply (s := S1024x1) (t := S1024x128) w _ (ix2 r k) (ix2 r 0) fun b => match b with
    | ⟨0, _⟩ => rfl
    | ⟨1, _⟩ => rfl

theorem column_apply' {α : Type} (w : S1024x1.Idx → α) (r : Fin 1024) (k : Fin 128) :
    broadcastTo S1024x128 (shapeCast S1024x1 w shapeCasts_S1024x1_S1024x1) broadcasts_S1024x1_S1024x128 (ix2 r k) = w (ix2 r 0) :=
  (column_apply _ r k).trans (congrFun (shapeCast_self (s := S1024x1) w _) (ix2 r 0))

theorem kept_apply {α : Type} (w : S1024.Idx → α) (r : Fin 1024) : shapeCast S1024x1 w shapeCasts_S1024_S1024x1 (ix2 r 0) = w (ix1 r) := by
  refine shapeCast_apply (s := S1024) (t := S1024x1) w _ (ix2 r 0) (ix1 r) ?_
  rw [Shape.rowMajor_val_one, Shape.rowMajor_val_two]
  show r.val = r.val * 1 + 0
  omega

theorem lifted (r : Fin 1024) (k : Fin 128) : reduces_S1024x128_S1024.lift (ix1 r) k = ix2 r k :=
  funext fun b => match b with
    | ⟨0, _⟩ => rfl
    | ⟨1, _⟩ => rfl

/-- A column of ones. -/
def ones : FVec Ideal S1024x1 .f32 := broadcast S1024x1 (Scalar.ofBits .f32 0x3F800000#32)

theorem ones_apply (i : S1024x1.Idx) : (ones i : EReal) = 1 := by
  unfold ones
  exact Ideal.ofBits_one_f32

/-- The exponentials of a column less another. -/
def grown (a b : FVec Ideal S1024x1 .f32) : FVec Ideal S1024x1 .f32 := exp (subf a b)

theorem grown_apply (a b : S1024x1.Idx → EReal) (i : S1024x1.Idx) : (grown a b i : EReal) = Ideal.exp (a i - b i) := rfl

/-- A column over the sum of two. -/
def shared (a b c : FVec Ideal S1024x1 .f32) : FVec Ideal S1024x1 .f32 := divf a (addf b c)

theorem shared_apply (a b c : S1024x1.Idx → EReal) (i : S1024x1.Idx) : (shared a b c i : EReal) = Ideal.div (a i) (b i + c i) := rfl

theorem numbered (w : IVec S1024x1 32) (i : S1024x1.Idx) (p : Fin 8) (h : w i = BitVec.ofNat 32 p.val) :
    ((sitofp .f32 w : FVec Ideal S1024x1 .f32) i : EReal) = number p := by
  unfold number
  rw [← h]
  rfl

section
variable (V : FVec Ideal S1024x128 .f32)

/-- The rows' maxima. -/
def maxCol : FVec Ideal S1024x1 .f32 :=
  shapeCast S1024x1 (multiReduction .maximumf [1] S1024 V 0xFF800000#32 reduces_S1024x128_S1024 (.inl rfl) rfl) shapeCasts_S1024_S1024x1

theorem maxCol_apply (r : Fin 1024) : (maxCol V (ix2 r 0) : EReal) = (Finset.univ : Finset (Fin 128)).fold max ⊥ fun k => V (ix2 r k) := by
  refine (kept_apply _ r).trans ((Ideal.multiReduction_maximumf_single V 0xFF800000#32 reduces_S1024x128_S1024 (.inl rfl) rfl (ix1 r)).trans ?_)
  refine Eq.trans (b := (Finset.univ : Finset (Fin 128)).fold max (Ideal.ofBits .f32 0xFF800000#32) fun k => V (reduces_S1024x128_S1024.lift (ix1 r) k)) rfl ?_
  rw [ofBits_least]
  exact congrArg (Finset.fold max ⊥ · Finset.univ) (funext fun k => congrArg V (lifted r k))

/-- The lanes that reach their row's maximum, by number, the others at 128. -/
def hits : IVec S1024x128 32 := select (cmpf .oeq V (broadcastTo S1024x128 (maxCol V) broadcasts_S1024x1_S1024x128)) lanes (broadcast S1024x128 128#32)

theorem hits_apply (r : Fin 1024) (k : Fin 128) : hits V (ix2 r k) = if V (ix2 r k) = maxCol V (ix2 r 0) then BitVec.ofNat 32 k.val else 128#32 := by
  refine Eq.trans (b := if Ideal.cmp .oeq (V (ix2 r k)) (broadcastTo S1024x128 (maxCol V) broadcasts_S1024x1_S1024x128 (ix2 r k)) = 1#1 then lanes (ix2 r k) else 128#32) rfl ?_
  rw [column_apply, lanes_apply]
  unfold Ideal.cmp
  by_cases h : V (ix2 r k) = maxCol V (ix2 r 0) <;> simp [h]

/-- The least of them. -/
def leastCol : IVec S1024x1 32 :=
  shapeCast S1024x1 (multiReductionI .minsi [1] S1024 (hits V) 2147483647#32 reduces_S1024x128_S1024 rfl) shapeCasts_S1024_S1024x1

theorem leastCol_apply (r : Fin 1024) : leastCol V (ix2 r 0) = (Finset.univ : Finset (Fin 128)).fold IntOp.minsi (2147483647#32) fun k => hits V (ix2 r k) := by
  refine (kept_apply _ r).trans ((multiReductionI_eq_fold .minsi (hits V) 2147483647#32 reduces_S1024x128_S1024 rfl (ix1 r)).trans ?_)
  refine (reduces_S1024x128_S1024.fold_filter_drop_single (IntOp.minsi (w := 32)) _ (hits V) (ix1 r)).trans ?_
  exact congrArg (Finset.fold IntOp.minsi (2147483647#32) · Finset.univ) (funext fun k => congrArg (hits V) (lifted r k))

theorem max_at (r : Fin 1024) (a : Fin 128) (hv : ∀ k, V (ix2 r k) ≤ V (ix2 r a)) : maxCol V (ix2 r 0) = V (ix2 r a) :=
  (maxCol_apply V r).trans (max_lane (fun k => V (ix2 r k)) a hv)

theorem least_at (r : Fin 1024) (a : Fin 128) (hv : ∀ k, V (ix2 r k) ≤ V (ix2 r a)) (ha : ∀ k, V (ix2 r k) = V (ix2 r a) → a ≤ k) :
    leastCol V (ix2 r 0) = BitVec.ofNat 32 a.val := by
  refine (leastCol_apply V r).trans (Eq.trans ?_ (min_lane (fun k => V (ix2 r k)) a ha))
  refine congrArg (Finset.fold IntOp.minsi (2147483647#32) · Finset.univ) (funext fun k => ?_)
  rw [hits_apply, max_at V r a hv]

/-- The rows without their greatest values. -/
def masked : FVec Ideal S1024x128 .f32 :=
  select (cmpi .eq lanes (broadcastTo S1024x128 (leastCol V) broadcasts_S1024x1_S1024x128)) (broadcast S1024x128 (Scalar.ofBits .f32 0xFF800000#32)) V

theorem ofNat_inj {a b : ℕ} (ha : a < 128) (hb : b < 128) : BitVec.ofNat 32 a = BitVec.ofNat 32 b ↔ a = b := by
  constructor
  · intro h
    have h' := congrArg BitVec.toNat h
    rw [BitVec.toNat_ofNat, BitVec.toNat_ofNat, Nat.mod_eq_of_lt (by omega), Nat.mod_eq_of_lt (by omega)] at h'
    exact h'
  · rintro rfl
    rfl

theorem chosen {α : Type} (p : Prop) [Decidable p] (x y : BitVec 32) (h : x = y ↔ p) (a b : α) : Scalar.select (IntOp.cmpi .eq x y) a b = if p then a else b := by
  rw [WordCmp.cmpi_eq_eq]
  unfold Scalar.select
  by_cases hp : p
  · simp [hp, h.mpr hp]
  · have : ¬ x = y := fun e => hp (h.mp e)
    simp [hp, this]

variable (f : Fin 8 → EReal) (hf : ∀ i, f i ≠ ⊥) (r : Fin 1024) (hV : ∀ k, V (ix2 r k) = row f k)
include hf hV

theorem first_max : maxCol V (ix2 r 0) = f (fst f) :=
  (max_at V r (lane (fst f)) fun k => by rw [hV, hV]; exact row_le f k).trans ((hV _).trans (row_lane f _))

theorem first_least : leastCol V (ix2 r 0) = BitVec.ofNat 32 (fst f).val :=
  least_at V r (lane (fst f)) (fun k => by rw [hV, hV]; exact row_le f k) fun k h => row_least f hf k (by rw [← hV, ← hV]; exact h)

theorem masked_apply (k : Fin 128) : masked V (ix2 r k) = rest f k := by
  refine Eq.trans (b := Scalar.select (IntOp.cmpi .eq (lanes (ix2 r k)) (broadcastTo S1024x128 (leastCol V) broadcasts_S1024x1_S1024x128 (ix2 r k)))
    (Ideal.ofBits .f32 0xFF800000#32) (V (ix2 r k))) rfl ?_
  rw [column_apply, lanes_apply, first_least V f hf r hV, ofBits_least, hV]
  refine chosen (k = lane (fst f)) _ _ ((ofNat_inj k.isLt (by omega)).trans ?_) _ _
  exact ⟨fun e => Fin.ext e, fun e => congrArg (fun i : Fin 128 => i.val) e⟩

theorem second_max : maxCol (masked V) (ix2 r 0) = f (snd f) :=
  (max_at (masked V) r (lane (snd f)) fun k => by rw [masked_apply V f hf r hV, masked_apply V f hf r hV]; exact rest_le f k).trans
    ((masked_apply V f hf r hV _).trans (rest_snd f))

theorem second_least : leastCol (masked V) (ix2 r 0) = BitVec.ofNat 32 (snd f).val :=
  least_at (masked V) r (lane (snd f)) (fun k => by rw [masked_apply V f hf r hV, masked_apply V f hf r hV]; exact rest_le f k) fun k h =>
    rest_least f hf k (by rw [← masked_apply V f hf r hV, ← masked_apply V f hf r hV]; exact h)

/-- A lane's number against a literal one. -/
theorem pay6_apply (k : Fin 128) :
    (k0_pay6 lanes V (maxCol V) (leastCol V) (broadcastTo S1024x128 (leastCol V) broadcasts_S1024x1_S1024x128) (ix2 r k) : EReal) = routeAt f k := by
  have zero : Ideal.ofBits .f32 0x00000000#32 = 0 := Ideal.ofBits_zero_f32
  have g : ∀ (w : S1024x1.Idx → EReal), broadcastTo S1024x128 (shapeCast S1024x1 w shapeCasts_S1024x1_S1024x1) broadcasts_S1024x1_S1024x128 (ix2 r k) = w (ix2 r 0) :=
    fun w => column_apply' w r k
  let ex : FVec Ideal S1024x1 .f32 := grown (maxCol (masked V)) (maxCol V)
  have hex : (ex (ix2 r 0) : EReal) = odds f := (grown_apply _ _ _).trans (congrArg₂ (fun y z : EReal => Ideal.exp (y - z)) (second_max V f hf r hV) (first_max V f hf r hV))
  have hsecond := numbered (leastCol (masked V)) (ix2 r 0) (snd f) (second_least V f hf r hV)
  have hfirst := numbered (leastCol V) (ix2 r 0) (fst f) (first_least V f hf r hV)
  have hone : (ones (ix2 r 0) : EReal) = 1 := ones_apply _
  refine Eq.trans (b := Scalar.select (IntOp.cmpi .eq (lanes (ix2 r k)) 3#32)
    (broadcastTo S1024x128 (shapeCast S1024x1 (shared ex ones ex) shapeCasts_S1024x1_S1024x1) broadcasts_S1024x1_S1024x128 (ix2 r k))
    (Scalar.select (IntOp.cmpi .eq (lanes (ix2 r k)) 2#32)
      (broadcastTo S1024x128 (shapeCast S1024x1 (shared ones ones ex) shapeCasts_S1024x1_S1024x1) broadcasts_S1024x1_S1024x128 (ix2 r k))
      (Scalar.select (IntOp.cmpi .eq (lanes (ix2 r k)) 1#32)
        (broadcastTo S1024x128 (shapeCast S1024x1 (sitofp .f32 (leastCol (masked V)) : FVec Ideal S1024x1 .f32) shapeCasts_S1024x1_S1024x1) broadcasts_S1024x1_S1024x128 (ix2 r k))
        (Scalar.select (IntOp.cmpi .eq (lanes (ix2 r k)) 0#32)
          (broadcastTo S1024x128 (shapeCast S1024x1 (sitofp .f32 (leastCol V) : FVec Ideal S1024x1 .f32) shapeCasts_S1024x1_S1024x1) broadcasts_S1024x1_S1024x128 (ix2 r k))
          (Ideal.ofBits .f32 0x00000000#32))))) rfl ?_
  rw [g, g, g, g, lanes_apply, zero]
  unfold routeAt
  refine (chosen (k.val = 3) _ 3#32 (ofNat_inj k.isLt (by omega)) _ _).trans (if_congr Iff.rfl ?_ ?_)
  · exact (shared_apply _ _ _ _).trans (congrArg₂ Ideal.div hex (congrArg₂ (fun y z : EReal => y + z) hone hex))
  refine (chosen (k.val = 2) _ 2#32 (ofNat_inj k.isLt (by omega)) _ _).trans (if_congr Iff.rfl ?_ ?_)
  · exact (shared_apply _ _ _ _).trans (congrArg₂ Ideal.div hone (congrArg₂ (fun y z : EReal => y + z) hone hex))
  refine (chosen (k.val = 1) _ 1#32 (ofNat_inj k.isLt (by omega)) _ _).trans (if_congr Iff.rfl ?_ ?_)
  · exact hsecond
  refine (chosen (k.val = 0) _ 0#32 (ofNat_inj k.isLt (by omega)) _ _).trans (if_congr Iff.rfl ?_ rfl)
  exact hfirst

end

section
variable (x : S1024x1024.Idx → EReal) (w : S1024x128.Idx → EReal)

/-- Rows against a weight's columns. -/
theorem dot_apply (y : FVec Ideal S1024x1024 .bf16) (z : FVec Ideal S1024x128 .bf16) (r : Fin 1024) (j : Fin 128) :
    (matmul dot_S1024x1024_S1024x128_S1024x128_1_0_0_1_n_n none y z (constant S1024x128 .f32 0x00000000#32) (ix2 r j) : EReal)
      = ∑ k : Fin 1024, y (ix2 r k) * z (ix2 k j) := by
  have h := Ideal.matmul_plain_apply (M := 1024) (K := 1024) (N := 128) (φ₁ := .bf16) (φ₂ := .bf16) none y z (constant S1024x128 .f32 0x00000000#32) r j
  have hz : (constant S1024x128 .f32 0x00000000#32 : FVec Ideal S1024x128 .f32) (ix2 r j) = (0 : EReal) := Ideal.ofBits_zero_f32
  rw [hz, zero_add] at h
  exact h

/-- The three products that make up a row's product with the weight. -/
def products (x : FVec Ideal S1024x1024 .f32) (w : FVec Ideal S1024x128 .f32) : FVec Ideal S1024x128 .f32 :=
  addf (addf
      (matmul dot_S1024x1024_S1024x128_S1024x128_1_0_0_1_n_n none (truncf .bf16 x bitsLt_bf16_f32)
        (truncf .bf16 w bitsLt_bf16_f32) (constant S1024x128 .f32 0x00000000#32))
      (matmul dot_S1024x1024_S1024x128_S1024x128_1_0_0_1_n_n none (truncf .bf16 x bitsLt_bf16_f32)
        (truncf .bf16 (subf w w) bitsLt_bf16_f32) (constant S1024x128 .f32 0x00000000#32)))
    (matmul dot_S1024x1024_S1024x128_S1024x128_1_0_0_1_n_n none (truncf .bf16 (subf x x) bitsLt_bf16_f32)
        (truncf .bf16 w bitsLt_bf16_f32) (constant S1024x128 .f32 0x00000000#32))

variable (hx : ∀ i, Fin' (x i)) (hw : ∀ i, Fin' (w i))
include hx hw

theorem products_apply (r : Fin 1024) (j : Fin 128) : (products x w (ix2 r j) : EReal) = ∑ k : Fin 1024, x (ix2 r k) * w (ix2 k j) := by
  have h2 : (∑ k : Fin 1024, x (ix2 r k) * (w (ix2 k j) - w (ix2 k j)) : EReal) = 0 :=
    Finset.sum_eq_zero fun k _ => by rw [(hw _).sub_self, mul_zero]
  have h3 : (∑ k : Fin 1024, (x (ix2 r k) - x (ix2 r k)) * w (ix2 k j) : EReal) = 0 :=
    Finset.sum_eq_zero fun k _ => by rw [(hx _).sub_self, zero_mul]
  refine (congrArg₂ (fun y z : EReal => y + z) (congrArg₂ (fun y z : EReal => y + z) (dot_apply _ _ r j) ((dot_apply _ _ r j).trans h2)) ((dot_apply _ _ r j).trans h3)).trans ?_
  rw [add_zero, add_zero]
  rfl

theorem pay2_apply (r : Fin 1024) (k : Fin 128) :
    (k0_pay2 (F := Ideal) x w (ix2 r k) : EReal) = row (logits (fun i => x (ix2 r i)) fun i j => w (ix2 i (lane j))) k := by
  have e : k0_pay2 (F := Ideal) x w = select (cmpi .slt lanes (broadcast S1024x128 8#32)) (products x (shapeCast S1024x128 w shapeCasts_S1024x128_S1024x128))
      (broadcast S1024x128 (Scalar.ofBits .f32 0xFF800000#32)) := rfl
  rw [e, shapeCast_self (s := S1024x128)]
  refine Eq.trans (b := if IntOp.cmpi .slt (lanes (ix2 r k)) 8#32 = 1#1 then products x w (ix2 r k) else Ideal.ofBits .f32 0xFF800000#32) rfl ?_
  rw [lanes_apply, ofBits_least, products_apply x w hx hw, WordCmp.cmpi_slt_eq, toInt_lane k.val (by omega), show (8#32 : BitVec 32).toInt = ((8 : ℕ) : ℤ) from by decide]
  unfold row logits
  by_cases h : k.val < 8
  · rw [dif_pos h, if_pos (by rw [decide_eq_true (Int.ofNat_lt.mpr h)]; rfl)]
  · rw [dif_neg h, if_neg (by rw [decide_eq_false fun c => h (Int.ofNat_lt.mp c)]; decide)]

/-- What the body leaves of a block of routes. -/
theorem route_apply (r : Fin 1024) (k : Fin 128) :
    (out0_2 (F := Ideal) x w (ix2 r k) : EReal) = routeAt (logits (fun i => x (ix2 r i)) fun i j => w (ix2 i (lane j))) k := by
  unfold out0_2
  rw [View.canon_unit_zero (S := S1024x128) zeros2, View.ld_unit_zero (S := S1024x1024) zeros2, View.ld_unit_zero (S := S1024x128) zeros2]
  exact pay6_apply (k0_pay2 (F := Ideal) x w) _ (fun i => (Fin'.dot _ _ (fun a => hx _) fun a => hw _).ne_bot) r (pay2_apply x w hx hw r) k

omit hx hw

theorem interleave_apply (lo hi : S1024x512.Idx → EReal) (h : S2048x512.Bitcasts 16 S1024x512 32) (q : Fin 2048) (c : Fin 512) :
    interleaveRows S2048x512 lo hi h (ix2 q c)
      = if q.val % 2 = 0 then lo (ix2 ⟨q.val / 2, by omega⟩ c) else hi (ix2 ⟨q.val / 2, by omega⟩ c) := by
  unfold interleaveRows
  refine ite_congr rfl (fun _ => congrArg lo (funext fun b => Fin.ext ?_)) (fun _ => congrArg hi (funext fun b => Fin.ext ?_)) <;>
    exact match b with
    | ⟨0, _⟩ => rfl
    | ⟨1, _⟩ => rfl

/-- What the body leaves of a block of rows: each row's upper half, then its lower half. -/
theorem pair_apply (q : Fin 2048) (c : Fin 512) :
    (out0_3 (F := Ideal) x w (ix2 q c) : EReal)
      = if q.val % 2 = 0 then x (ix2 ⟨q.val / 2, by omega⟩ ⟨512 + c.val, by omega⟩) else x (ix2 ⟨q.val / 2, by omega⟩ ⟨c.val, by omega⟩) := by
  unfold out0_3
  rw [View.canon_unit_zero (S := S2048x512) zeros2, View.ld_unit_zero (S := S1024x1024) zeros2]
  refine (interleave_apply _ _ bitcasts_S2048x512_w16_S1024x512_w32 q c).trans (if_congr Iff.rfl (congrArg x (funext fun b => Fin.ext ?_)) (congrArg x (funext fun b => Fin.ext ?_)))
  · match b with
    | ⟨0, _⟩ => exact Nat.zero_add _
    | ⟨1, _⟩ => rfl
  · match b with
    | ⟨0, _⟩ => exact Nat.zero_add _
    | ⟨1, _⟩ => exact Nat.zero_add _

end

end Cert.Proof.Router
-- ==== Proof.Router.Result.lean ====
/-
  What the router's two results hold after its call: at every row the two experts and their gates, and the row's halves one
  below the other.
-/
module

public import proofs.«01_k».proof.Proof.Router.Apply

@[expose] public section

set_option maxRecDepth 16384

noncomputable section

namespace Cert.Proof.Router

open Cert.Kernel7Ideal Cert.Kernel7Ideal.Gen
open Idealize.ShloMosaic hiding ix1 ix2 ix3
open Idealize.ShloMosaic.ValueIdx
open Idealize.ShloMosaic.TcCoe Idealize.ShloMosaic.StableHlo
open Idealize.ShloMosaic.Pipeline (Dat Cfg Window)

section
variable (X : S65536x1024.Idx → EReal) (W : S1024x8.Idx → EReal)

/-- A row's products with the experts' weights. -/
def scores (r : Fin 65536) : Fin 8 → EReal := logits (fun k => X (ix2 r k)) fun k i => W (ix2 k i)

/-- The first result. -/
def routes : S65536x128.Idx → EReal := fun y => routeAt (scores X W (y 0)) (y 1)

/-- The second result, at a row and a column. -/
def halvesAt (q : Fin 131072) (c : Fin 512) : EReal :=
  if q.val % 2 = 0 then X (ix2 ⟨q.val / 2, by omega⟩ ⟨512 + c.val, by omega⟩) else X (ix2 ⟨q.val / 2, by omega⟩ ⟨c.val, by omega⟩)

/-- The second result. -/
def halves : S131072x512.Idx → EReal := fun y => halvesAt X (y 0) (y 1)

/-- The weight, and zeros up to 128 columns. -/
def wide : S1024x128.Idx → EReal :=
  concatenate S1024x128 1 [⟨S1024x8, W⟩, ⟨S1024x120, broadcastInDim S1024x120 ![] bcast_S_S1024x120 (constant (F := Ideal) S_ .f32 0x00000000#32)⟩]
    concatenates_S1024x8_S1024x120_S1024x128_d1

theorem wide_lo (k : Fin 1024) (i : Fin 8) : wide W (ix2 k (lane i)) = W (ix2 k i) :=
  concatenate_pair_apply_left (s₁ := S1024x8) (s₂ := S1024x120) (t := S1024x128) 1 _ _ _ _ rfl (ix2 k i) fun a => match a with
    | ⟨0, _⟩ => rfl
    | ⟨1, _⟩ => rfl

theorem wide_hi (k : Fin 1024) (c : Fin 128) (h : ¬ c.val < 8) : wide W (ix2 k c) = 0 := by
  refine (concatenate_pair_apply_right (s₁ := S1024x8) (s₂ := S1024x120) (t := S1024x128) 1 _ _ _ _ rfl rfl (ix2 k ⟨c.val - 8, by omega⟩)
    (fun a => match a with
      | ⟨0, _⟩ => fun _ => rfl
      | ⟨1, _⟩ => fun h => absurd rfl h) ?_).trans Ideal.ofBits_zero_f32
  show c.val - 8 + 8 = c.val
  omega

theorem wide_fin (hW : ∀ i, Fin' (W i)) (y : S1024x128.Idx) : Fin' (wide W y) := by
  obtain ⟨k, c, rfl⟩ : ∃ (k : Fin 1024) (c : Fin 128), y = ix2 k c :=
    ⟨y (0 : Fin 2), y (1 : Fin 2), funext fun b => match b with | ⟨0, _⟩ => rfl | ⟨1, _⟩ => rfl⟩
  by_cases h : c.val < 8
  · rw [show c = lane ⟨c.val, h⟩ from rfl, wide_lo]
    exact hW _
  · rw [wide_hi W k c h]
    exact ⟨0, rfl⟩

end

variable (m : (ℓ : Loc nD τ sig) → Buf (Elt Ideal) ℓ)

/-- What the host's padding leaves in the call's second operand. -/
theorem V_wide (c : Dev nD) : (V m c main_v1 : S1024x128.Idx → EReal) = wide (m ((c : Thread nD τ).loc main_arg1)) := by
  unfold_abbrev_sides
  after_results
  rfl

theorem num_val (t : Fin cfg0.N) : (BitVec.ofNat 32 (grid0.coords t 0).val).toNat = t.val := by
  have e : grid0.N = 64 := by decide
  have h : t.val < 64 := Nat.lt_of_lt_of_eq t.isLt e
  have hc : (grid0.coords t 0).val = t.val := by
    refine (Pipeline.Grid.coords_val (G := grid0) t 0 (S := 1) (B := 64) (by decide) rfl).trans ?_
    omega
  rw [hc, BitVec.toNat_ofNat, Nat.mod_eq_of_lt (by omega)]

theorem lt64 (t : Fin cfg0.N) : t.val < 64 := Nat.lt_of_lt_of_eq t.isLt (by decide : grid0.N = 64)

/-- A block's row as a row of the array. -/
abbrev at_ (t : Fin cfg0.N) (r : Fin 1024) : Fin 65536 := ⟨t.val * 1024 + r.val, by have := lt64 t; omega⟩

/-- A block's row as a row of the second result. -/
abbrev at2 (t : Fin cfg0.N) (q : Fin 2048) : Fin 131072 := ⟨t.val * 2048 + q.val, by have := lt64 t; omega⟩

variable (X : S65536x1024.Idx → EReal) (W : S1024x8.Idx → EReal)

theorem rows_apply (c : Dev nD) (h : m ((c : Thread nD τ).loc main_arg0) = X) (t : Fin cfg0.N) (r k : Fin 1024) :
    (iblk m c (0 : Fin 4) t : S1024x1024.Idx → EReal) (ix2 r k) = X (ix2 (at_ t r) k) := by
  subst h
  refine Eq.trans (b := (V m c main_arg0 : S65536x1024.Idx → EReal) (((cfg0.win (0 : Fin 4)).rect t).emb (ix2 r k))) rfl ?_
  rw [V_main_arg0]
  refine congrArg (m ((c : Thread nD τ).loc main_arg0)) (funext fun b => Fin.ext ?_)
  match b with
  | ⟨0, _⟩ => exact (Window.rect_emb_val (cfg0.win (0 : Fin 4)) t (ix2 r k) (0 : Fin 2) rfl).trans (congrArg (fun n => n * 1024 + r.val) (num_val t))
  | ⟨1, _⟩ => exact (Window.rect_emb_val (cfg0.win (0 : Fin 4)) t (ix2 r k) (1 : Fin 2) rfl).trans (Nat.zero_add _)

theorem wide_apply (c : Dev nD) (h : m ((c : Thread nD τ).loc main_arg1) = W) (t : Fin cfg0.N) (k : Fin 1024) (j : Fin 128) :
    (iblk m c (1 : Fin 4) t : S1024x128.Idx → EReal) (ix2 k j) = wide W (ix2 k j) := by
  refine Eq.trans (b := (V m c main_v1 : S1024x128.Idx → EReal) (((cfg0.win (1 : Fin 4)).rect t).emb (ix2 k j))) rfl ?_
  rw [V_wide, h]
  refine congrArg (wide W) (funext fun b => Fin.ext ?_)
  match b with
  | ⟨0, _⟩ => exact (Window.rect_emb_val (cfg0.win (1 : Fin 4)) t (ix2 k j) (0 : Fin 2) rfl).trans (Nat.zero_add _)
  | ⟨1, _⟩ => exact (Window.rect_emb_val (cfg0.win (1 : Fin 4)) t (ix2 k j) (1 : Fin 2) rfl).trans (Nat.zero_add _)

theorem rows_fin (c : Dev nD) (h : m ((c : Thread nD τ).loc main_arg0) = X) (hX : ∀ i, Fin' (X i)) (t : Fin cfg0.N) (y : S1024x1024.Idx) :
    Fin' ((iblk m c (0 : Fin 4) t : S1024x1024.Idx → EReal) y) := by
  obtain ⟨r, k, rfl⟩ : ∃ (r k : Fin 1024), y = ix2 r k :=
    ⟨y (0 : Fin 2), y (1 : Fin 2), funext fun b => match b with | ⟨0, _⟩ => rfl | ⟨1, _⟩ => rfl⟩
  rw [rows_apply m X c h]
  exact hX _

theorem block_fin (c : Dev nD) (h : m ((c : Thread nD τ).loc main_arg1) = W) (hW : ∀ i, Fin' (W i)) (t : Fin cfg0.N) (y : S1024x128.Idx) :
    Fin' ((iblk m c (1 : Fin 4) t : S1024x128.Idx → EReal) y) := by
  obtain ⟨k, j, rfl⟩ : ∃ (k : Fin 1024) (j : Fin 128), y = ix2 k j :=
    ⟨y (0 : Fin 2), y (1 : Fin 2), funext fun b => match b with | ⟨0, _⟩ => rfl | ⟨1, _⟩ => rfl⟩
  rw [wide_apply m W c h]
  exact wide_fin W hW _

/-- After the run the first result's array holds the routes. -/
theorem final_routes (c : Dev nD) (h0 : m ((c : Thread nD τ).loc main_arg0) = X) (h1 : m ((c : Thread nD τ).loc main_arg1) = W)
    (hX : ∀ i, Fin' (X i)) (hW : ∀ i, Fin' (W i)) : (dats m 0 c).arrAt (2 : Fin 4) cfg0.N = routes X W := by
  refine (dats m 0 c).arrAt_eq_of_emb (2 : Fin 4) _ (fun t hf y => ?_) fun i => ?_
  · obtain ⟨r, j, rfl⟩ : ∃ (r : Fin 1024) (j : Fin 128), y = ix2 r j :=
      ⟨y (0 : Fin 2), y (1 : Fin 2), funext fun b => match b with | ⟨0, _⟩ => rfl | ⟨1, _⟩ => rfl⟩
    refine (congrFun (Cert.Kernel7Ideal.Value.flushed2 m c t) (ix2 r j)).trans ?_
    refine (route_apply _ _ (rows_fin m X c h0 hX t) (block_fin m W c h1 hW t) r j).trans ?_
    refine Eq.trans (b := routeAt (scores X W (at_ t r)) j) ?_ ?_
    · refine congrArg (fun f => routeAt f j) ?_
      unfold scores
      refine congrArg₂ logits (funext fun k => rows_apply m X c h0 t r k) (funext fun k => funext fun i => ?_)
      exact (wide_apply m W c h1 t k (lane i)).trans (wide_lo W k i)
    · refine congrArg₂ (fun r j => routeAt (scores X W r) j) (Fin.ext ?_) (Fin.ext ?_)
      · exact ((Window.rect_emb_val (cfg0.win (2 : Fin 4)) t (ix2 r j) (0 : Fin 2) rfl).trans (congrArg (fun n => n * 1024 + r.val) (num_val t))).symm
      · exact ((Window.rect_emb_val (cfg0.win (2 : Fin 4)) t (ix2 r j) (1 : Fin 2) rfl).trans (Nat.zero_add _)).symm
  · have hN : grid0.N = 64 := by decide
    have hi : (i (0 : Fin 2)).val < 65536 := (i (0 : Fin 2)).isLt
    have hk : (i (1 : Fin 2)).val < 128 := (i (1 : Fin 2)).isLt
    let t : Fin cfg0.N := ⟨(i (0 : Fin 2)).val / 1024, by show _ < grid0.N; omega⟩
    have ht : (cfg0.win (2 : Fin 4)).index t (0 : Fin 2) = t.val := num_val t
    refine ⟨t, flush0_2 t, (Window.emb_mem_blk_iff (cfg0.win (2 : Fin 4)) t i rfl).mpr fun b => ?_⟩
    match b with
    | ⟨0, _⟩ =>
      rw [show (⟨0, _⟩ : Fin _) = (0 : Fin 2) from rfl, ht]
      show (i (0 : Fin 2)).val / 1024 * 1024 ≤ (i (0 : Fin 2)).val ∧ (i (0 : Fin 2)).val < (i (0 : Fin 2)).val / 1024 * 1024 + 1024
      omega
    | ⟨1, _⟩ =>
      show 0 * 128 ≤ (i (1 : Fin 2)).val ∧ (i (1 : Fin 2)).val < 0 * 128 + 128
      omega

/-- A block's row of halves is the array's. -/
theorem halves_block (t : Fin cfg0.N) (q : Fin 2048) (j : Fin 512) :
    (if q.val % 2 = 0 then X (ix2 (at_ t ⟨q.val / 2, by omega⟩) ⟨512 + j.val, by omega⟩) else X (ix2 (at_ t ⟨q.val / 2, by omega⟩) ⟨j.val, by omega⟩))
      = halvesAt X (at2 t q) j := by
  have e : (⟨t.val * 1024 + q.val / 2, by have := lt64 t; omega⟩ : Fin 65536) = ⟨(t.val * 2048 + q.val) / 2, by have := lt64 t; omega⟩ := Fin.ext (by show t.val * 1024 + q.val / 2 = (t.val * 2048 + q.val) / 2; omega)
  unfold halvesAt
  refine if_congr ?_ (congrArg (fun r => X (ix2 r _)) e) (congrArg (fun r => X (ix2 r _)) e)
  show q.val % 2 = 0 ↔ (t.val * 2048 + q.val) % 2 = 0
  omega

/-- After the run the second result's array holds the rows' halves. -/
theorem final_halves (c : Dev nD) (h0 : m ((c : Thread nD τ).loc main_arg0) = X) : (dats m 0 c).arrAt (3 : Fin 4) cfg0.N = halves X := by
  refine (dats m 0 c).arrAt_eq_of_emb (3 : Fin 4) _ (fun t hf y => ?_) fun i => ?_
  · obtain ⟨q, j, rfl⟩ : ∃ (q : Fin 2048) (j : Fin 512), y = ix2 q j :=
      ⟨y (0 : Fin 2), y (1 : Fin 2), funext fun b => match b with | ⟨0, _⟩ => rfl | ⟨1, _⟩ => rfl⟩
    refine (congrFun (Cert.Kernel7Ideal.Value.flushed3 m c t) (ix2 q j)).trans ?_
    refine (pair_apply _ _ q j).trans ?_
    refine Eq.trans (b := halvesAt X (at2 t q) j) ?_ ?_
    · refine Eq.trans ?_ (halves_block X t q j)
      exact if_congr Iff.rfl (rows_apply m X c h0 t _ _) (rows_apply m X c h0 t _ _)
    · refine congrArg₂ (halvesAt X) (Fin.ext ?_) (Fin.ext ?_)
      · exact ((Window.rect_emb_val (cfg0.win (3 : Fin 4)) t (ix2 q j) (0 : Fin 2) rfl).trans (congrArg (fun n => n * 2048 + q.val) (num_val t))).symm
      · exact ((Window.rect_emb_val (cfg0.win (3 : Fin 4)) t (ix2 q j) (1 : Fin 2) rfl).trans (Nat.zero_add _)).symm
  · have hN : grid0.N = 64 := by decide
    have hi : (i (0 : Fin 2)).val < 131072 := (i (0 : Fin 2)).isLt
    have hk : (i (1 : Fin 2)).val < 512 := (i (1 : Fin 2)).isLt
    let t : Fin cfg0.N := ⟨(i (0 : Fin 2)).val / 2048, by show _ < grid0.N; omega⟩
    have ht : (cfg0.win (3 : Fin 4)).index t (0 : Fin 2) = t.val := num_val t
    refine ⟨t, flush0_3 t, (Window.emb_mem_blk_iff (cfg0.win (3 : Fin 4)) t i rfl).mpr fun b => ?_⟩
    match b with
    | ⟨0, _⟩ =>
      rw [show (⟨0, _⟩ : Fin _) = (0 : Fin 2) from rfl, ht]
      show (i (0 : Fin 2)).val / 2048 * 2048 ≤ (i (0 : Fin 2)).val ∧ (i (0 : Fin 2)).val < (i (0 : Fin 2)).val / 2048 * 2048 + 2048
      omega
    | ⟨1, _⟩ =>
      show 0 * 512 ≤ (i (1 : Fin 2)).val ∧ (i (1 : Fin 2)).val < 0 * 512 + 512
      omega

end Cert.Proof.Router
-- ==== Proof.Router.Reference.lean ====
/-
  The router's reference: its operations in order, each named, and its run, which leaves its two results as those operations
  composed.
-/
module

public import proofs.«01_k».proof.Proof.Gen.Reference7Ideal
public import Idealize.ShloMosaic.Lib.StableHlo.Run
public import Idealize.ShloMosaic.PureOps.Ideal

@[expose] public section

set_option maxRecDepth 16384

noncomputable section

namespace Cert.Proof.Router

open Cert.Reference7Ideal Cert.Reference7Ideal.Gen
open Idealize.ShloMosaic Idealize.SL.Sem Idealize.ShloMosaic.StableHlo
open Idealize.ShloMosaic.TcCoe

/-- The reference's scores. -/
def refScores (X : FVec Ideal S65536x1024 .f32) (W : FVec Ideal S1024x8 .f32) : FVec Ideal S65536x8 .f32 :=
  Host.dotGeneral dot_S65536x1024_S1024x8_S65536x8_1_0_0_1_n_n none X W

/-- The two greatest of each row. -/
def values (v : FVec Ideal S65536x8 .f32) : FVec Ideal S65536x2 .f32 := (Host.topK S65536x2 1 (FloatOps.cmpfTotal .gt) v sliceFits_S65536x8_S65536x2).1

/-- Their positions. -/
def positions (v : FVec Ideal S65536x8 .f32) : IVec S65536x2 32 := (Host.topK S65536x2 1 (FloatOps.cmpfTotal .gt) v sliceFits_S65536x8_S65536x2).2

/-- The least float and nought. -/
def leastS : FVec Ideal S_ .f32 := constant S_ .f32 0xFF800000#32
def zeroS : FVec Ideal S_ .f32 := constant S_ .f32 0x00000000#32

/-- The greatest of each row of two, and the sum. -/
def topRow (a : FVec Ideal S65536x2 .f32) (v : FVec Ideal S_ .f32) : FVec Ideal S65536 .f32 := Host.reduce FloatOps.maximumf a v reducesTo_S65536x2_S65536_d1 h_S_
def sumRow (a : FVec Ideal S65536x2 .f32) (v : FVec Ideal S_ .f32) : FVec Ideal S65536 .f32 := Host.reduceAdd a v reducesTo_S65536x2_S65536_d1 h_S_

/-- A number along a vector, a vector as a column, a column along rows of two. -/
def spread (v : FVec Ideal S_ .f32) : FVec Ideal S65536 .f32 := broadcastInDim S65536 ![] bcast_S_S65536 v
def upright (v : FVec Ideal S65536 .f32) : FVec Ideal S65536x1 .f32 := broadcastInDim S65536x1 ![0] bcast_S65536_S65536x1_0 v
def doubled (v : FVec Ideal S65536x1 .f32) : FVec Ideal S65536x2 .f32 := broadcastInDim S65536x2 ![0, 1] bcast_S65536x1_S65536x2_0_1 v

def greater (a b : FVec Ideal S65536 .f32) : FVec Ideal S65536 .f32 := maximumf a b
def less (a b : FVec Ideal S65536x2 .f32) : FVec Ideal S65536x2 .f32 := subf a b
def grows (a : FVec Ideal S65536x2 .f32) : FVec Ideal S65536x2 .f32 := Host.exp a
def over (a b : FVec Ideal S65536x2 .f32) : FVec Ideal S65536x2 .f32 := Host.divf a b
def asFloat (p : IVec S65536x2 32) : FVec Ideal S65536x2 .f32 := sitofp .f32 p
def blanks (v : FVec Ideal S_ .f32) : FVec Ideal S65536x124 .f32 := broadcastInDim S65536x124 ![] bcast_S_S65536x124 v

/-- Two numbers, two gates and the blanks, side by side. -/
def beside (a b : FVec Ideal S65536x2 .f32) (d : FVec Ideal S65536x124 .f32) : FVec Ideal S65536x128 .f32 :=
  concatenate S65536x128 1 [⟨S65536x2, a⟩, ⟨S65536x2, b⟩, ⟨S65536x124, d⟩] concatenates_S65536x2_S65536x2_S65536x124_S65536x128_d1

/-- The halves of each row, each as one row of a pair. -/
def upper (X : FVec Ideal S65536x1024 .f32) : FVec Ideal S65536x512 .f32 := extractStridedSlice S65536x512 ![0, 512] X slices_S65536x1024_S65536x512_0_512
def lower (X : FVec Ideal S65536x1024 .f32) : FVec Ideal S65536x512 .f32 := extractStridedSlice S65536x512 ![0, 0] X slices_S65536x1024_S65536x512_0_0
def single (a : FVec Ideal S65536x512 .f32) : FVec Ideal S65536x1x512 .f32 := broadcastInDim S65536x1x512 ![0, 2] bcast_S65536x512_S65536x1x512_0_2 a
def couple (a b : FVec Ideal S65536x1x512 .f32) : FVec Ideal S65536x2x512 .f32 :=
  concatenate S65536x2x512 1 [⟨S65536x1x512, a⟩, ⟨S65536x1x512, b⟩] concatenates_S65536x1x512_S65536x1x512_S65536x2x512_d1
def narrow (a : FVec Ideal S131072x512 .f32) : FVec Ideal S131072x512 .bf16 := truncf .bf16 a bitsLt_bf16_f32

/-- The greatest of each row of two, as the softmax takes it. -/
def tops (a : FVec Ideal S65536x2 .f32) : FVec Ideal S65536 .f32 := greater (spread leastS) (topRow a leastS)

/-- A vector along rows of two. -/
def twice (a : FVec Ideal S65536 .f32) : FVec Ideal S65536x2 .f32 := doubled (upright a)

/-- The exponentials of rows less a vector. -/
def refGrown (a : FVec Ideal S65536x2 .f32) (b : FVec Ideal S65536 .f32) : FVec Ideal S65536x2 .f32 := grows (less a (twice b))

/-- Rows over their sums. -/
def refShares (a : FVec Ideal S65536x2 .f32) : FVec Ideal S65536x2 .f32 := over a (twice (sumRow a zeroS))

/-- Positions, gates, zeros. -/
def joined (p : IVec S65536x2 32) (g : FVec Ideal S65536x2 .f32) : FVec Ideal S65536x128 .f32 := beside (asFloat p) g (blanks zeroS)

/-- The reference's first result. -/
def refRoutes (X : FVec Ideal S65536x1024 .f32) (W : FVec Ideal S1024x8 .f32) : FVec Ideal S65536x128 .f32 :=
  joined (positions (refScores X W)) (refShares (refGrown (values (refScores X W)) (tops (values (refScores X W)))))

/-- The upper halves beside the lower ones. -/
def paired (X : FVec Ideal S65536x1024 .f32) : FVec Ideal S65536x2x512 .f32 := couple (single (upper X)) (single (lower X))

/-- The reference's second result. -/
def refHalves (X : FVec Ideal S65536x1024 .f32) : FVec Ideal S131072x512 .bf16 :=
  narrow (shapeCast S131072x512 (paired X) shapeCasts_S65536x2x512_S131072x512)

/-- The operations up to the three pieces of the first result, in order. -/
abbrev before14 : List (HloOp τ sig (Elt Ideal)) :=
  [ binary main_arg0 main_arg1 main_v0 refScores, unary main_v0 main_values values, unary main_v0 main_indices positions,
    nullary main_cst leastS, binary main_values main_cst main_v1 topRow,
    nullary main_cst_0 leastS, unary main_cst_0 main_v2 spread, binary main_v2 main_v1 main_v3 greater,
    unary main_v3 main_v4 upright, unary main_v4 main_v5 doubled, binary main_values main_v5 main_v6 less, unary main_v6 main_v7 grows,
    nullary main_cst_1 zeroS, binary main_v7 main_cst_1 main_v8 sumRow,
    unary main_v8 main_v9 upright, unary main_v9 main_v10 doubled, binary main_v7 main_v10 main_v11 over,
    unary main_indices main_v12 asFloat, nullary main_cst_2 zeroS, unary main_cst_2 main_v13 blanks ]

/-- The operations after them. -/
abbrev from14 : List (HloOp τ sig (Elt Ideal)) :=
  [ nary ![main_v12, main_v11, main_v13] main_v14 (fun u => beside (u 0) (u 1) (u 2)),
    unary main_arg0 main_v15 upper, unary main_arg0 main_v16 lower, unary main_v15 main_v17 single, unary main_v16 main_v18 single,
    binary main_v17 main_v18 main_v19 couple, reshape main_v19 main_v20 (rfl : (.f32 : EltTy) = .f32) shapeCasts_S65536x2x512_S131072x512,
    unary main_v20 main_v21 narrow ]

/-- The operations, in order. -/
abbrev steps : List (HloOp τ sig (Elt Ideal)) := before14 ++ from14

theorem main_steps (c : Dev nD) : main (F := Ideal) c = seq steps := rfl

theorem no_scoped_refs : (Finset.univ.filter fun b : Ref sig .tc => b.isScoped) = ∅ := by decide

theorem no_scoped_sems : (Finset.univ.filter fun s : SemLoc sig => s.isScoped .tc) = ∅ := by decide

theorem steps_sub : (steps : List (HloOp τ sig (Elt Ideal))).Forall fun o => o.bufs ⊆ tcRefs τ sig :=
  ⟨binary_bufs_sub .., unary_bufs_sub .., unary_bufs_sub .., nullary_bufs_sub .., binary_bufs_sub .., nullary_bufs_sub .., unary_bufs_sub .., binary_bufs_sub ..,
    unary_bufs_sub .., unary_bufs_sub .., binary_bufs_sub .., unary_bufs_sub .., nullary_bufs_sub .., binary_bufs_sub .., unary_bufs_sub .., unary_bufs_sub ..,
    binary_bufs_sub .., unary_bufs_sub .., nullary_bufs_sub .., unary_bufs_sub .., nary_bufs_sub .., unary_bufs_sub .., unary_bufs_sub .., unary_bufs_sub ..,
    unary_bufs_sub .., binary_bufs_sub .., reshape_bufs_sub .., unary_bufs_sub ..⟩

section
variable (V : Valuation τ sig (Elt Ideal))

theorem last_routes : after from14 V (Proc.devRef .tc main_v14)
    = beside (V (Proc.devRef .tc main_v12)) (V (Proc.devRef .tc main_v11)) (V (Proc.devRef .tc main_v13)) := by
  after_results <;> rfl

theorem last_halves : after from14 V (Proc.devRef .tc main_v21) = refHalves (V (Proc.devRef .tc main_arg0)) := by
  after_results <;> rfl

theorem last_arg0 : after from14 V (Proc.devRef .tc main_arg0) = V (Proc.devRef .tc main_arg0) := by
  after_results

theorem last_arg1 : after from14 V (Proc.devRef .tc main_arg1) = V (Proc.devRef .tc main_arg1) := by
  after_results

theorem first_numbers : after before14 V (Proc.devRef .tc main_v12)
    = asFloat (positions (refScores (V (Proc.devRef .tc main_arg0)) (V (Proc.devRef .tc main_arg1)))) := by
  after_results

theorem first_gates : after before14 V (Proc.devRef .tc main_v11)
    = refShares (refGrown (values (refScores (V (Proc.devRef .tc main_arg0)) (V (Proc.devRef .tc main_arg1))))
        (tops (values (refScores (V (Proc.devRef .tc main_arg0)) (V (Proc.devRef .tc main_arg1)))))) := by
  unfold refShares refGrown tops twice
  after_results

theorem first_blanks : after before14 V (Proc.devRef .tc main_v13) = blanks zeroS := by
  after_results

theorem first_arg0 : after before14 V (Proc.devRef .tc main_arg0) = V (Proc.devRef .tc main_arg0) := by
  after_results

theorem first_arg1 : after before14 V (Proc.devRef .tc main_arg1) = V (Proc.devRef .tc main_arg1) := by
  after_results

theorem after_steps : after steps V = after from14 (after before14 V) := rfl

theorem steps_routes : after steps V (Proc.devRef .tc main_v14) = refRoutes (V (Proc.devRef .tc main_arg0)) (V (Proc.devRef .tc main_arg1)) := by
  rw [after_steps, last_routes, first_numbers, first_gates, first_blanks]
  unfold refRoutes joined
  with_reducible rfl

theorem steps_halves : after steps V (Proc.devRef .tc main_v21) = refHalves (V (Proc.devRef .tc main_arg0)) := by
  rw [after_steps, last_halves, first_arg0]

theorem steps_arg0 : after steps V (Proc.devRef .tc main_arg0) = V (Proc.devRef .tc main_arg0) := by
  rw [after_steps, last_arg0, first_arg0]

theorem steps_arg1 : after steps V (Proc.devRef .tc main_arg1) = V (Proc.devRef .tc main_arg1) := by
  rw [after_steps, last_arg1, first_arg1]

end

/-- The reference ends, its results the operations' composition, its arguments unchanged. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v14) = refRoutes (m ((c.tc : Thread nD τ).loc main_arg0)) (m ((c.tc : Thread nD τ).loc main_arg1))
      ∧ r.2.mem ((c.tc : Thread nD τ).loc main_v21) = refHalves (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run (defs (F := Ideal)) _ _).mono (fun _ h c => ⟨(h c main_v14).trans (steps_routes _), (h c main_v21).trans (steps_halves _),
      (h c main_arg0).trans (steps_arg0 _), (h c main_arg1).trans (steps_arg1 _)⟩)
    (run_seq no_scoped_refs no_scoped_sems defs main (fun _ => steps) main_steps (fun _ => steps_sub) m ρ)

end Cert.Proof.Router
-- ==== Proof.Router.Claims.lean ====
/-
  The claims of the router's call: it runs to its end with its arguments unchanged, and over the extended reals, where every
  number of the rows and of the weight is finite, its results are the reference's, which sorts each row's scores.
-/
module

public import proofs.«01_k».proof.Defs
public import proofs.«01_k».proof.Proof.Router.Result
public import proofs.«01_k».proof.Proof.Gen.Kernel7.Frame
public import proofs.«01_k».proof.Proof.Router.Reference
public import proofs.«01_k».proof.Proof.Gen.Pre_finite_rows
public import Idealize.ShloMosaic.Lib.StackMember
public import Idealize.ShloMosaic.Lib.ReduceAll
public import Idealize.ShloMosaic.Lib.Bf16Pair

@[expose] public section

set_option maxRecDepth 16384

noncomputable section

namespace Cert.Proof.Router

section
open Idealize.ShloMosaic
open Cert.Pre_finite_rows (S65536x1024 S1024x8 S_)

theorem ofBits_greatest : Ideal.ofBits .f32 0x7F800000#32 = ⊤ := by
  simp [Ideal.ofBits, Ideal.ieee]

/-- An absolute value below the greatest extended real is a real's. -/
theorem fin_of_lt (a : EReal) (h : Ideal.cmp .olt (max a (-a)) (Ideal.ofBits .f32 0x7F800000#32) = 1#1) : Fin' a := by
  rw [ofBits_greatest] at h
  unfold Ideal.cmp at h
  have h' : max a (-a) < ⊤ := by
    by_contra c
    simp [c] at h
  induction a with
  | bot => simp at h'
  | top => simp at h'
  | coe r => exact ⟨r, rfl⟩

theorem both {a b : BitVec 1} (h : IntOp.andi a b = 1#1) : a = 1#1 ∧ b = 1#1 := by
  revert a b
  decide

/-- Under the precondition the rows and the weight are finite. -/
theorem fin_of_pre (X : S65536x1024.Idx → EReal) (W : S1024x8.Idx → EReal) (h : Cert.Pre_finite_rows.fn (F := Ideal) X W = fun _ => 1#1) :
    (∀ i, Fin' (X i)) ∧ ∀ i, Fin' (W i) := by
  refine ⟨fun i => fin_of_lt _ (both (congrFun h i)).1, fun i => fin_of_lt _ ?_⟩
  have e := (both (congrFun h (ValueIdx.ix2 0 0))).2
  haveI : Subsingleton S_.Idx := ⟨fun a b => funext fun d => d.elim0⟩
  exact Host.reduce_andi_all _ _ _ _ _ e i

end

section
open Cert.Reference7Ideal Cert.Reference7Ideal.Gen
open Idealize.ShloMosaic hiding ix1 ix2 ix3
open Idealize.ShloMosaic.ValueIdx
open Idealize.ShloMosaic.TcCoe
open scoped BigOperators

section
variable (v : S65536x8.Idx → EReal) (r : Fin 65536)

/-- A place among the eight. -/
abbrev place (p : Fin 2) : Fin 8 := ⟨p.val, by omega⟩

theorem along_row (k q : Fin 8) : (ix2 r q : S65536x8.Idx).along (1 : Fin 2) k = ix2 r k := funext fun b => match b with
  | ⟨0, _⟩ => rfl
  | ⟨1, _⟩ => rfl

theorem order_row (q : Fin 8) :
    (fun k k' : Fin 8 => Ideal.cmp .ogt (v ((ix2 r q : S65536x8.Idx).along (1 : Fin 2) k)) (v ((ix2 r q : S65536x8.Idx).along (1 : Fin 2) k')) == 1#1)
      = before fun i => v (ix2 r i) := by
  funext k k'
  rw [along_row, along_row]
  rfl

theorem values_apply (p : Fin 2) : (values v (ix2 r p) : EReal) = v (ix2 r (sortedFrom (before fun i => v (ix2 r i)) (place p))) := by
  unfold values Host.topK
  dsimp only
  refine (extractStridedSlice_apply (s := S65536x8) (t := S65536x2) (fun _ => 0) _ _ (ix2 r p) (ix2 r (place p)) fun a => match a with
    | ⟨0, _⟩ => (Nat.zero_add _).symm
    | ⟨1, _⟩ => (Nat.zero_add _).symm).trans ?_
  refine Eq.trans (b := v ((ix2 r (place p) : S65536x8.Idx).along (1 : Fin 2) (sortedFrom (fun k k' : Fin 8 =>
    Ideal.cmp .ogt (v ((ix2 r (place p) : S65536x8.Idx).along (1 : Fin 2) k)) (v ((ix2 r (place p) : S65536x8.Idx).along (1 : Fin 2) k')) == 1#1) (place p)))) rfl ?_
  rw [order_row]
  exact congrArg v (along_row r _ _)

theorem positions_apply (p : Fin 2) : positions v (ix2 r p) = BitVec.ofNat 32 (sortedFrom (before fun i => v (ix2 r i)) (place p)).val := by
  unfold positions Host.topK
  dsimp only
  refine (extractStridedSlice_apply (s := S65536x8) (t := S65536x2) (fun _ => 0) _ _ (ix2 r p) (ix2 r (place p)) fun a => match a with
    | ⟨0, _⟩ => (Nat.zero_add _).symm
    | ⟨1, _⟩ => (Nat.zero_add _).symm).trans ?_
  refine Eq.trans (b := BitVec.ofNat 32 (sortedFrom (fun k k' : Fin 8 =>
    Ideal.cmp .ogt (v ((ix2 r (place p) : S65536x8.Idx).along (1 : Fin 2) k)) (v ((ix2 r (place p) : S65536x8.Idx).along (1 : Fin 2) k')) == 1#1) (place p)).val) rfl ?_
  rw [order_row]

end

section
variable (a : S65536x2.Idx → EReal) (r : Fin 65536)

theorem reduces_two : S65536x2.Reduces [1] S65536 := by decide

theorem lifted_two (k : Fin 2) : reduces_two.lift (ix1 r) k = ix2 r k := funext fun b => match b with
  | ⟨0, _⟩ => rfl
  | ⟨1, _⟩ => rfl

theorem topRow_apply (h : a (ix2 r 1) ≤ a (ix2 r 0)) : (topRow a leastS (ix1 r) : EReal) = a (ix2 r 0) := by
  refine (Host.reduce_eq_fold_single (FloatOps.maximumf (F := Ideal) (φ := .f32)) a leastS reducesTo_S65536x2_S65536_d1 reduces_two h_S_ (ix1 r)).trans ?_
  refine Eq.trans (b := (Finset.univ : Finset (Fin 2)).fold max (Ideal.ofBits .f32 0xFF800000#32) fun k => a (reduces_two.lift (ix1 r) k)) rfl ?_
  rw [ofBits_least]
  refine (congrArg (Finset.fold max ⊥ · Finset.univ) (funext fun k => congrArg a (lifted_two r k))).trans ?_
  refine max_fin (fun k : Fin 2 => a (ix2 r k)) 0 fun k => ?_
  match k with
  | ⟨0, _⟩ => exact le_rfl
  | ⟨1, _⟩ => exact h

theorem tops_apply (h : a (ix2 r 1) ≤ a (ix2 r 0)) : (tops a (ix1 r) : EReal) = a (ix2 r 0) :=
  (congrArg₂ (fun y z : EReal => max y z) ofBits_least (topRow_apply a r h)).trans (max_eq_right bot_le)

theorem twice_apply (b : S65536.Idx → EReal) (p : Fin 2) : (twice b (ix2 r p) : EReal) = b (ix1 r) := by
  unfold twice doubled upright
  refine (broadcastInDim_apply (s := S65536x1) (t := S65536x2) _ _ _ (ix2 r p) (ix2 r 0) fun a => match a with | ⟨0, _⟩ => rfl | ⟨1, _⟩ => rfl).trans ?_
  exact broadcastInDim_apply (s := S65536) (t := S65536x1) _ _ b (ix2 r 0) (ix1 r) fun a => match a with | ⟨0, _⟩ => rfl

theorem over_apply (b : S65536x2.Idx → EReal) (i : S65536x2.Idx) : (over a b i : EReal) = Ideal.div (a i) (b i) := rfl

theorem sumRow_apply : (sumRow a zeroS (ix1 r) : EReal) = a (ix2 r 0) + a (ix2 r 1) := by
  refine (hostReduceAdd_apply a _ reducesTo_S65536x2_S65536_d1 h_S_ (ix1 r)).trans ?_
  refine (Ideal.hostReduceAdd_r2_a1 (n0 := 65536) (n1 := 2) reducesTo_S65536x2_S65536_d1 a _ (ix1 r)).trans ?_
  refine (congrArg (fun z : EReal => z + ∑ k : Fin 2, a (ix2 r k)) Ideal.ofBits_zero_f32).trans ?_
  rw [zero_add, Fin.sum_univ_two]

theorem refGrown_apply (b : S65536.Idx → EReal) (p : Fin 2) : (refGrown a b (ix2 r p) : EReal) = Ideal.exp (a (ix2 r p) - b (ix1 r)) :=
  congrArg (fun z : EReal => Ideal.exp (a (ix2 r p) - z)) (twice_apply r b p)

theorem refShares_apply (p : Fin 2) : (refShares a (ix2 r p) : EReal) = Ideal.div (a (ix2 r p)) (a (ix2 r 0) + a (ix2 r 1)) :=
  (over_apply a (twice (sumRow a zeroS)) (ix2 r p)).trans (congrArg (Ideal.div (a (ix2 r p))) ((twice_apply r (sumRow a zeroS) p).trans (sumRow_apply a r)))

end

section
variable (p : S65536x2.Idx → BitVec 32) (g : S65536x2.Idx → EReal) (r : Fin 65536)

theorem joined_first (k : Fin 2) : (joined p g (ix2 r ⟨k.val, by omega⟩) : EReal) = (((p (ix2 r k)).toInt : ℝ) : EReal) := by
  unfold joined beside
  exact concatenate_apply_piece (t := S65536x128) 1 _ _ (ix2 r ⟨k.val, by omega⟩) 0 (by simp) S65536x2 (asFloat p) rfl rfl 0 rfl (ix2 r k)
    (fun b => match b with
      | ⟨0, _⟩ => fun _ => rfl
      | ⟨1, _⟩ => fun h => absurd rfl h)
    (Nat.zero_add _)

theorem joined_second (k : Fin 2) : (joined p g (ix2 r ⟨2 + k.val, by omega⟩) : EReal) = g (ix2 r k) := by
  unfold joined beside
  exact concatenate_apply_piece (t := S65536x128) 1 _ _ (ix2 r ⟨2 + k.val, by omega⟩) 1 (by simp) S65536x2 g rfl rfl 2 rfl (ix2 r k)
    (fun b => match b with
      | ⟨0, _⟩ => fun _ => rfl
      | ⟨1, _⟩ => fun h => absurd rfl h)
    rfl

theorem joined_third (k : Fin 124) : (joined p g (ix2 r ⟨4 + k.val, by omega⟩) : EReal) = 0 := by
  unfold joined beside
  exact (concatenate_apply_piece (t := S65536x128) 1 _ _ (ix2 r ⟨4 + k.val, by omega⟩) 2 (by simp) S65536x124 (blanks zeroS) rfl rfl 4 rfl (ix2 r k)
    (fun b => match b with
      | ⟨0, _⟩ => fun _ => rfl
      | ⟨1, _⟩ => fun h => absurd rfl h)
    rfl).trans Ideal.ofBits_zero_f32

end

theorem exp_zero' : Ideal.exp 0 = 1 := by
  show ((Real.exp 0 : ℝ) : EReal) = 1
  rw [Real.exp_zero, EReal.coe_one]

variable (X : S65536x1024.Idx → EReal) (W : S1024x8.Idx → EReal)

theorem refScores_apply (r : Fin 65536) (i : Fin 8) : (refScores X W (ix2 r i) : EReal) = scores X W r i :=
  Idealize.ShloMosaic.StackMember.dotGeneral_plain_apply (m := 65536) (n := 8) none X W r i

/-- The reference's rows of scores, two greatest values and all, from one row of scores. -/
theorem routes_row (v : S65536x8.Idx → EReal) (r : Fin 65536) (f : Fin 8 → EReal) (hv : (fun i => v (ix2 r i)) = f) (hf : ∀ i, Fin' (f i)) (k : Fin 128) :
    (joined (positions v) (refShares (refGrown (values v) (tops (values v)))) (ix2 r k) : EReal) = routeAt f k := by
  have p0 := positions_apply v r 0
  have p1 := positions_apply v r 1
  have v0 : (values v (ix2 r 0) : EReal) = f (fst f) := (values_apply v r 0).trans ((congrFun hv _).trans (by rw [hv]; rfl))
  have v1 : (values v (ix2 r 1) : EReal) = f (snd f) := (values_apply v r 1).trans ((congrFun hv _).trans (by rw [hv]; rfl))
  rw [hv] at p0 p1
  have ht : (tops (values v) (ix1 r) : EReal) = f (fst f) := (tops_apply (values v) r ((v1.trans_le (snd_le_fst f)).trans_eq v0.symm)).trans v0
  have g0 : (refGrown (values v) (tops (values v)) (ix2 r 0) : EReal) = 1 := by
    refine (refGrown_apply (values v) r (tops (values v)) 0).trans ((congrArg₂ (fun y z : EReal => Ideal.exp (y - z)) v0 ht).trans ?_)
    exact (congrArg Ideal.exp (hf _).sub_self).trans exp_zero'
  have g1 : (refGrown (values v) (tops (values v)) (ix2 r 1) : EReal) = odds f :=
    (refGrown_apply (values v) r (tops (values v)) 1).trans (congrArg₂ (fun y z : EReal => Ideal.exp (y - z)) v1 ht)
  have s0 := (refShares_apply (refGrown (values v) (tops (values v))) r 0).trans (congrArg₂ Ideal.div g0 (congrArg₂ (fun y z : EReal => y + z) g0 g1))
  have s1 := (refShares_apply (refGrown (values v) (tops (values v))) r 1).trans (congrArg₂ Ideal.div g1 (congrArg₂ (fun y z : EReal => y + z) g0 g1))
  generalize refShares (refGrown (values v) (tops (values v))) = G at s0 s1 ⊢
  generalize positions v = P at p0 p1 ⊢
  unfold routeAt
  by_cases h3 : k.val = 3
  · rw [if_pos h3, show k = ⟨2 + (1 : Fin 2).val, by decide⟩ from Fin.ext h3]
    exact (joined_second P G r 1).trans s1
  rw [if_neg h3]
  by_cases h2 : k.val = 2
  · rw [if_pos h2, show k = ⟨2 + (0 : Fin 2).val, by decide⟩ from Fin.ext h2]
    exact (joined_second P G r 0).trans s0
  rw [if_neg h2]
  by_cases h1 : k.val = 1
  · rw [if_pos h1, show k = ⟨(1 : Fin 2).val, by decide⟩ from Fin.ext h1]
    exact (joined_first P G r 1).trans (congrArg (fun z : BitVec 32 => ((z.toInt : ℝ) : EReal)) p1)
  rw [if_neg h1]
  by_cases h0 : k.val = 0
  · rw [if_pos h0, show k = ⟨(0 : Fin 2).val, by decide⟩ from Fin.ext h0]
    exact (joined_first P G r 0).trans (congrArg (fun z : BitVec 32 => ((z.toInt : ℝ) : EReal)) p0)
  rw [if_neg h0, show k = ⟨4 + (⟨k.val - 4, by omega⟩ : Fin 124).val, by show 4 + (k.val - 4) < 128; omega⟩ from Fin.ext (by show k.val = 4 + (k.val - 4); omega)]
  exact joined_third P G r _

/-- The reference's first result is the kernel's. -/
theorem routes_eq (hX : ∀ i, Fin' (X i)) (hW : ∀ i, Fin' (W i)) : (refRoutes X W : S65536x128.Idx → EReal) = routes X W := by
  funext y
  obtain ⟨r, k, rfl⟩ : ∃ (r : Fin 65536) (k : Fin 128), y = ix2 r k :=
    ⟨y (0 : Fin 2), y (1 : Fin 2), funext fun b => match b with | ⟨0, _⟩ => rfl | ⟨1, _⟩ => rfl⟩
  exact routes_row (refScores X W) r (scores X W r) (funext fun i => refScores_apply X W r i) (fun i => Fin'.dot _ _ (fun a => hX _) fun a => hW _) k

theorem paired_upper (r : Fin 65536) (c : Fin 512) : (paired X (ix3 r 0 c) : EReal) = X (ix2 r ⟨512 + c.val, by omega⟩) := by
  unfold paired couple single upper lower
  refine (concatenate_pair_apply_left (s₁ := S65536x1x512) (s₂ := S65536x1x512) (t := S65536x2x512) 1 _ _ _ _ rfl (ix3 r 0 c) fun a => match a with
    | ⟨0, _⟩ => rfl
    | ⟨1, _⟩ => rfl
    | ⟨2, _⟩ => rfl).trans ?_
  refine (broadcastInDim_apply (s := S65536x512) (t := S65536x1x512) _ _ _ (ix3 r 0 c) (ix2 r c) fun a => match a with | ⟨0, _⟩ => rfl | ⟨1, _⟩ => rfl).trans ?_
  exact extractStridedSlice_apply (s := S65536x1024) (t := S65536x512) _ X _ (ix2 r c) _ fun a => match a with
    | ⟨0, _⟩ => (Nat.zero_add _).symm
    | ⟨1, _⟩ => rfl

theorem paired_lower (r : Fin 65536) (c : Fin 512) : (paired X (ix3 r 1 c) : EReal) = X (ix2 r ⟨c.val, by omega⟩) := by
  unfold paired couple single upper lower
  refine (concatenate_pair_apply_right (s₁ := S65536x1x512) (s₂ := S65536x1x512) (t := S65536x2x512) 1 _ _ _ _ rfl rfl (ix3 r 0 c)
    (fun a => match a with
      | ⟨0, _⟩ => fun _ => rfl
      | ⟨1, _⟩ => fun h => absurd rfl h
      | ⟨2, _⟩ => fun _ => rfl) rfl).trans ?_
  refine (broadcastInDim_apply (s := S65536x512) (t := S65536x1x512) _ _ _ (ix3 r 0 c) (ix2 r c) fun a => match a with | ⟨0, _⟩ => rfl | ⟨1, _⟩ => rfl).trans ?_
  exact extractStridedSlice_apply (s := S65536x1024) (t := S65536x512) _ X _ (ix2 r c) _ fun a => match a with
    | ⟨0, _⟩ => (Nat.zero_add _).symm
    | ⟨1, _⟩ => (Nat.zero_add _).symm

/-- The reference's second result is the kernel's. -/
theorem halves_eq : (refHalves X : S131072x512.Idx → EReal) = halves X := by
  funext y
  obtain ⟨q, c, rfl⟩ : ∃ (q : Fin 131072) (c : Fin 512), y = ix2 q c :=
    ⟨y (0 : Fin 2), y (1 : Fin 2), funext fun b => match b with | ⟨0, _⟩ => rfl | ⟨1, _⟩ => rfl⟩
  refine Eq.trans (b := shapeCast S131072x512 (paired X) shapeCasts_S65536x2x512_S131072x512 (ix2 q c)) rfl ?_
  refine (shapeCast_apply (s := S65536x2x512) (t := S131072x512) (paired X) _ (ix2 q c) (ix3 ⟨q.val / 2, by omega⟩ ⟨q.val % 2, by omega⟩ c) ?_).trans ?_
  · rw [Shape.rowMajor_val_three, Shape.rowMajor_val_two]
    show (q.val / 2 * 2 + q.val % 2) * 512 + c.val = q.val * 512 + c.val
    omega
  · refine Eq.trans ?_ (rfl : halvesAt X q c = _)
    unfold halvesAt
    by_cases h : q.val % 2 = 0
    · rw [if_pos h, show (⟨q.val % 2, by omega⟩ : Fin 2) = 0 from Fin.ext h]
      exact paired_upper X _ c
    · rw [if_neg h, show (⟨q.val % 2, by omega⟩ : Fin 2) = 1 from Fin.ext (by show q.val % 2 = 1; omega)]
      exact paired_lower X _ c

end

open Cert.Kernel7Ideal Cert.Kernel7Ideal.Gen
open Idealize.ShloMosaic Idealize.SL.Sem
open Idealize.ShloMosaic.TcCoe

theorem preserves7 : Cert.preserves_Kernel7_Kernel7Ideal := ⟨IdealRules.bf16_pair.statement _ _, IdealRules.bf16_pack.statement _⟩

theorem frame7_bits : Cert.quiescent_Kernel7 := fun m g _ => Cert.Kernel7.Gen.frame m g

theorem frame7_ideal : Cert.quiescent_Kernel7Ideal := fun m g _ => Cert.Kernel7Ideal.Gen.frame m g

/-- The reference ends with its arguments unchanged; it declares no semaphore. -/
theorem frame7_ref : Cert.quiescent_Reference7Ideal := fun m g _ =>
  (θ_run (Cert.Reference7Ideal.defs (F := Ideal)) _ _).mono (fun _ r => ⟨fun c => (r c).2.2, sem_eq_zero_of_no_sems (by decide) _⟩)
    (ref_run m g)

theorem frame7_ideal_pre : Cert.quiescent_Kernel7Ideal_pre_finite_rows := fun m g _ => frame7_ideal m g trivial

theorem frame7_ref_pre : Cert.quiescent_Reference7Ideal_pre_finite_rows := fun m g _ => frame7_ref m g trivial

/-- Over the extended reals the call's results are the reference's. -/
theorem algebraic7 : Cert.algebraic_Kernel7Ideal_Reference7Ideal_pre_finite_rows := fun m g m' g' h hag =>
  ⟨fun c => routes (m ((c : Thread nD τ).loc main_arg0)) (m ((c : Thread nD τ).loc main_arg1)),
    fun c => halves (m ((c : Thread nD τ).loc main_arg0)),
    (θ_run (defs (F := Ideal)) _ _).mono (fun _ r c => ⟨(r c).1.trans (final_routes m _ _ c rfl rfl (fin_of_pre _ _ (h c)).1 (fin_of_pre _ _ (h c)).2),
        (r c).2.1.trans (final_halves m _ c rfl), (r c).2.2⟩)
      (Cert.Kernel7Ideal.Value.run_blocks m g),
    (θ_run (Cert.Reference7Ideal.defs (F := Ideal)) _ _).mono (fun _ r c => ⟨(r c).1.trans (by
        obtain ⟨a0, a1⟩ := hag c
        rw [a0, a1]
        exact routes_eq _ _ (fin_of_pre _ _ (h c)).1 (fin_of_pre _ _ (h c)).2),
        (r c).2.1.trans (by
          rw [(hag c).1]
          exact halves_eq _), (r c).2.2⟩)
      (ref_run m' g')⟩

end Cert.Proof.Router
-- ==== Proof.lean ====
/-
  The proof of `Cert.Claim`: the gather runs to its end with its arguments unchanged and its result the rows that the
  list names (Proof/Launch.lean), as printed and idealized; the reference's result is the same array (Proof/Value.lean).
  The experts' call runs to its end (Proof/Experts/Launch.lean, Proof/ExpertsBits/Launch.lean), and over the extended
  reals its result is the reference's (Proof/Experts/Claims.lean). So for the calls of the dense feed-forward
  (Proof/Dense/Claims.lean), of the output projection (Proof/OutProj/Claims.lean), of the input projection
  (Proof/InProj/Claims.lean), of the weighted combination (Proof/Combine/Claims.lean) and of the router
  (Proof/Router/Claims.lean, its reference's run in Proof/Router/Reference.lean).
-/
module

public import proofs.«01_k».proof.Defs
public import proofs.«01_k».proof.Proof.Value
public import proofs.«01_k».proof.Proof.Gen.Kernel
public import proofs.«01_k».proof.Proof.Gen.Reference
public import proofs.«01_k».proof.Proof.Gen.Reference.Run
public import proofs.«01_k».proof.Proof.Gen.ReferenceIdeal.Run
public import proofs.«01_k».proof.Proof.Gen.Kernel2
public import proofs.«01_k».proof.Proof.Gen.Kernel2Ideal
public import proofs.«01_k».proof.Proof.Gen.Reference2Ideal
public import proofs.«01_k».proof.Proof.Gen.Reference2Ideal.Run
public import proofs.«01_k».proof.Proof.Gen.Pre_blocks_in_range
public import proofs.«01_k».proof.Proof.ExpertsBits.Claims
public import proofs.«01_k».proof.Proof.Experts.Claims
public import proofs.«01_k».proof.Proof.Dense.Claims
public import proofs.«01_k».proof.Proof.OutProj.Claims
public import proofs.«01_k».proof.Proof.InProj.Claims
public import proofs.«01_k».proof.Proof.Combine.Claims
public import proofs.«01_k».proof.Proof.Router.Claims
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Value
public import proofs.«01_k».proof.Proof.Gen.Reference6Ideal
public import proofs.«01_k».proof.Proof.Gen.Reference6Ideal.Run
public import proofs.«01_k».proof.Proof.Gen.Pre_finite_rows
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Value
public import proofs.«01_k».proof.Proof.Gen.Reference7Ideal
public import Idealize.ShloMosaic.Lib.Bf16Pair
public import Idealize.ShloMosaic.Adequacy
public import Idealize.ShloMosaic.Init

@[expose] public section

noncomputable section

namespace Cert.Proof

open Idealize.ShloMosaic Idealize.SL.Sem
open Cert.Proof.Gather

/-- The run of the idealized kernel under its precondition. -/
theorem run_ideal (m : (ℓ : Loc Cert.KernelIdeal.nD Cert.KernelIdeal.τ Cert.KernelIdeal.sig) → Buf (Elt Ideal) ℓ) (g : Dev Cert.KernelIdeal.nD → PrngReg)
    (h : Cert.Pre_KernelIdeal m) : θ_run (Cert.KernelIdeal.defs (F := Ideal)) (Cert.KernelIdeal.threads (F := Ideal)) ⟨m, fun _ => 0, g⟩ (QC (F := Ideal) m) :=
  run_main (F := Ideal) m g fun d => table_ok _ (lt_of_pre (F := Ideal) _ _ (h d))

/-- The run of the kernel under its precondition: the programs are one text, read at the two arithmetics. -/
theorem run_bits (m : (ℓ : Loc Cert.Kernel.nD Cert.Kernel.τ Cert.Kernel.sig) → Buf (Elt Bits) ℓ) (g : Dev Cert.Kernel.nD → PrngReg)
    (h : Cert.Pre_Kernel m) : θ_run (Cert.Kernel.defs (F := Bits)) (Cert.Kernel.threads (F := Bits)) ⟨m, fun _ => 0, g⟩ (QC (F := Bits) m) :=
  run_main (F := Bits) m g fun d => table_ok _ (lt_of_pre (F := Bits) _ _ (h d))

theorem frame_kernel : Cert.quiescent_Kernel := fun m g h =>
  (θ_run Cert.Kernel.defs _ _).mono (fun _ r => ⟨fun c => ⟨(r.1 c).1, (r.1 c).2.1⟩, r.2⟩) (run_bits m g h)

theorem frame_ideal : Cert.quiescent_KernelIdeal := fun m g h =>
  (θ_run Cert.KernelIdeal.defs _ _).mono (fun _ r => ⟨fun c => ⟨(r.1 c).1, (r.1 c).2.1⟩, r.2⟩) (run_ideal m g h)

/-- The reference ends with its arguments unchanged; it declares no semaphore. -/
theorem frame_refIdeal : Cert.quiescent_ReferenceIdeal := fun m g _ =>
  (θ_run Cert.ReferenceIdeal.defs _ _).mono (fun _ r => ⟨fun c => (r c).2, sem_eq_zero_of_no_sems (by decide) _⟩) (Cert.ReferenceIdeal.Value.run m g)

theorem frame_ref : Cert.quiescent_Reference := fun m g _ =>
  (θ_run Cert.Reference.defs _ _).mono (fun _ r => ⟨fun c => (r c).2, sem_eq_zero_of_no_sems (by decide) _⟩) (Cert.Reference.Value.run m g)

/-- Over the extended reals the kernel's result is the reference's. -/
theorem algebraic : Cert.algebraic_KernelIdeal_ReferenceIdeal := fun m g m' g' h hag =>
  ⟨fun c => resVal (Yd m c) (Id m c),
    (θ_run Cert.KernelIdeal.defs _ _).mono (fun _ r c => ⟨(r.1 c).2.2, (r.1 c).1, (r.1 c).2.1⟩) (run_ideal m g h),
    (θ_run Cert.ReferenceIdeal.defs _ _).mono (fun _ r c => ⟨(r c).1.trans (by
        rw [(hag c).1, (hag c).2]
        exact (value_eq _ _ (lt_of_pre (F := Ideal) _ _ (h c))).symm), (r c).2.1, (r c).2.2⟩)
      (Cert.ReferenceIdeal.Value.run m' g')⟩

/-- Bit for bit the kernel's result is the reference's. -/
theorem bitexact : Cert.bitexact_Kernel_Reference := fun m g m' g' h hag =>
  ⟨fun c => resVal (Yd m c) (Id m c),
    (θ_run Cert.Kernel.defs _ _).mono (fun _ r c => ⟨(r.1 c).2.2, (r.1 c).1, (r.1 c).2.1⟩) (run_bits m g h),
    (θ_run Cert.Reference.defs _ _).mono (fun _ r c => ⟨(r c).1.trans (by
        rw [(hag c).1, (hag c).2]
        exact (value_eq _ _ (lt_of_pre (F := Bits) _ _ (h c))).symm), (r c).2.1, (r c).2.2⟩)
      (Cert.Reference.Value.run m' g')⟩

theorem preserves2 : Cert.preserves_Kernel2_Kernel2Ideal :=
  ⟨IdealRules.bf16_pair.statement _ _, IdealRules.bf16_pair.selectZeroStatement _, IdealRules.bf16_pack.statement _⟩

theorem claim : Cert.Claim := ⟨Cert.Kernel.Gen.facts, Cert.KernelIdeal.Gen.facts, Cert.ReferenceIdeal.Gen.facts, Cert.Reference.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Pre_slots_in_range.Gen.facts, Cert.Pre_blocks_in_range.Gen.facts, Cert.Pre_finite_rows.Gen.facts,
  frame_kernel, frame_ideal, frame_refIdeal, frame_ref, ExpertsBits.frame2_bits, Experts.frame2_ideal, Experts.frame2_ref,
  Dense.frame3_bits, Dense.frame3_ideal, Dense.frame3_ref,
  OutProj.frame4_bits, OutProj.frame4_ideal, OutProj.frame4_ref, InProj.frame5_bits, InProj.frame5_ideal, InProj.frame5_ref,
  Combine.frame6_bits, Combine.frame6_ideal, Combine.frame6_ref,
  Router.frame7_bits, Router.frame7_ideal, Router.frame7_ideal_pre, Router.frame7_ref, Router.frame7_ref_pre,
  trivial, algebraic, bitexact, preserves2, Experts.algebraic2, trivial, Dense.algebraic3,
  trivial, OutProj.algebraic4, trivial, InProj.algebraic5, trivial, Combine.algebraic6,
  Router.preserves7, Router.algebraic7⟩

end Cert.Proof

end
